-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_FinalKernel (m : (ℓ : Loc Cert.FinalKernel.nD Cert.FinalKernel.τ Cert.FinalKernel.sig) → Buf (Elt Bits) ℓ) : Prop :=
  True

def Pre_FinalKernelIdeal (m : (ℓ : Loc Cert.FinalKernelIdeal.nD Cert.FinalKernelIdeal.τ Cert.FinalKernelIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_MemProjKernel (m : (ℓ : Loc Cert.MemProjKernel.nD Cert.MemProjKernel.τ Cert.MemProjKernel.sig) → Buf (Elt Bits) ℓ) : Prop :=
  True

def Pre_MemProjKernelIdeal (m : (ℓ : Loc Cert.MemProjKernelIdeal.nD Cert.MemProjKernelIdeal.τ Cert.MemProjKernelIdeal.sig) → Buf (Elt Ideal) ℓ) : Prop :=
  True

def Pre_MemProjReferenceIdeal (m : (ℓ : Loc Cert.MemProjReferenceIdeal.nD Cert.MemProjReferenceIdeal.τ Cert.MemProjReferenceIdeal.sig) → Buf (Elt Ideal) ℓ) : Prop :=
  True

def Pre_RowsProjKernel (m : (ℓ : Loc Cert.RowsProjKernel.nD Cert.RowsProjKernel.τ Cert.RowsProjKernel.sig) → Buf (Elt Bits) ℓ) : Prop :=
  True

def Pre_RowsProjKernelIdeal (m : (ℓ : Loc Cert.RowsProjKernelIdeal.nD Cert.RowsProjKernelIdeal.τ Cert.RowsProjKernelIdeal.sig) → Buf (Elt Ideal) ℓ) : Prop :=
  True

def Pre_RowsProjReferenceIdeal (m : (ℓ : Loc Cert.RowsProjReferenceIdeal.nD Cert.RowsProjReferenceIdeal.τ Cert.RowsProjReferenceIdeal.sig) → Buf (Elt Ideal) ℓ) : Prop :=
  True

def Pre_RowsFinalKernel (m : (ℓ : Loc Cert.RowsFinalKernel.nD Cert.RowsFinalKernel.τ Cert.RowsFinalKernel.sig) → Buf (Elt Bits) ℓ) : Prop :=
  True

def Pre_RowsFinalKernelIdeal (m : (ℓ : Loc Cert.RowsFinalKernelIdeal.nD Cert.RowsFinalKernelIdeal.τ Cert.RowsFinalKernelIdeal.sig) → Buf (Elt Ideal) ℓ) : Prop :=
  True

def Pre_RowsFinalReferenceIdeal (m : (ℓ : Loc Cert.RowsFinalReferenceIdeal.nD Cert.RowsFinalReferenceIdeal.τ Cert.RowsFinalReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjKernelIdeal_proj_finite [hPre_proj_finite : Cert.Pre_proj_finite.Facts] (m : (ℓ : Loc Cert.ProjKernelIdeal.nD Cert.ProjKernelIdeal.τ Cert.ProjKernelIdeal.sig) → Buf (Elt Ideal) ℓ) : Prop :=
  ∀ c : Dev Cert.ProjKernelIdeal.nD,
    (Cert.Pre_proj_finite.fn (F := Ideal) (m ((c.tc : Thread Cert.ProjKernelIdeal.nD Cert.ProjKernelIdeal.τ).loc Cert.ProjKernelIdeal.main_arg0)) (m ((c.tc : Thread Cert.ProjKernelIdeal.nD Cert.ProjKernelIdeal.τ).loc Cert.ProjKernelIdeal.main_arg1)) (m ((c.tc : Thread Cert.ProjKernelIdeal.nD Cert.ProjKernelIdeal.τ).loc Cert.ProjKernelIdeal.main_arg2)) (m ((c.tc : Thread Cert.ProjKernelIdeal.nD Cert.ProjKernelIdeal.τ).loc Cert.ProjKernelIdeal.main_arg3)) (m ((c.tc : Thread Cert.ProjKernelIdeal.nD Cert.ProjKernelIdeal.τ).loc Cert.ProjKernelIdeal.main_arg4))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_proj_finite [hPre_proj_finite : Cert.Pre_proj_finite.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_proj_finite.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4))) = (fun _ => 1#1)

def Pre_StepKernel (m : (ℓ : Loc Cert.StepKernel.nD Cert.StepKernel.τ Cert.StepKernel.sig) → Buf (Elt Bits) ℓ) : Prop :=
  True

def Pre_StepKernelIdeal (m : (ℓ : Loc Cert.StepKernelIdeal.nD Cert.StepKernelIdeal.τ Cert.StepKernelIdeal.sig) → Buf (Elt Ideal) ℓ) : Prop :=
  True

def Pre_StepKernelIdeal_step_finite [hPre_step_finite : Cert.Pre_step_finite.Facts] (m : (ℓ : Loc Cert.StepKernelIdeal.nD Cert.StepKernelIdeal.τ Cert.StepKernelIdeal.sig) → Buf (Elt Ideal) ℓ) : Prop :=
  ∀ c : Dev Cert.StepKernelIdeal.nD,
    (Cert.Pre_step_finite.fn (F := Ideal) (m ((c.tc : Thread Cert.StepKernelIdeal.nD Cert.StepKernelIdeal.τ).loc Cert.StepKernelIdeal.main_arg0)) (m ((c.tc : Thread Cert.StepKernelIdeal.nD Cert.StepKernelIdeal.τ).loc Cert.StepKernelIdeal.main_arg1)) (m ((c.tc : Thread Cert.StepKernelIdeal.nD Cert.StepKernelIdeal.τ).loc Cert.StepKernelIdeal.main_arg2)) (m ((c.tc : Thread Cert.StepKernelIdeal.nD Cert.StepKernelIdeal.τ).loc Cert.StepKernelIdeal.main_arg3)) (m ((c.tc : Thread Cert.StepKernelIdeal.nD Cert.StepKernelIdeal.τ).loc Cert.StepKernelIdeal.main_arg4)) (m ((c.tc : Thread Cert.StepKernelIdeal.nD Cert.StepKernelIdeal.τ).loc Cert.StepKernelIdeal.main_arg5)) (m ((c.tc : Thread Cert.StepKernelIdeal.nD Cert.StepKernelIdeal.τ).loc Cert.StepKernelIdeal.main_arg6)) (m ((c.tc : Thread Cert.StepKernelIdeal.nD Cert.StepKernelIdeal.τ).loc Cert.StepKernelIdeal.main_arg7)) (m ((c.tc : Thread Cert.StepKernelIdeal.nD Cert.StepKernelIdeal.τ).loc Cert.StepKernelIdeal.main_arg8))) = (fun _ => 1#1)

def Pre_StepReferenceIdeal (m : (ℓ : Loc Cert.StepReferenceIdeal.nD Cert.StepReferenceIdeal.τ Cert.StepReferenceIdeal.sig) → Buf (Elt Ideal) ℓ) : Prop :=
  True

def Pre_StepReferenceIdeal_step_finite [hPre_step_finite : Cert.Pre_step_finite.Facts] (m : (ℓ : Loc Cert.StepReferenceIdeal.nD Cert.StepReferenceIdeal.τ Cert.StepReferenceIdeal.sig) → Buf (Elt Ideal) ℓ) : Prop :=
  ∀ c : Dev Cert.StepReferenceIdeal.nD,
    (Cert.Pre_step_finite.fn (F := Ideal) (m ((c.tc : Thread Cert.StepReferenceIdeal.nD Cert.StepReferenceIdeal.τ).loc Cert.StepReferenceIdeal.main_arg0)) (m ((c.tc : Thread Cert.StepReferenceIdeal.nD Cert.StepReferenceIdeal.τ).loc Cert.StepReferenceIdeal.main_arg1)) (m ((c.tc : Thread Cert.StepReferenceIdeal.nD Cert.StepReferenceIdeal.τ).loc Cert.StepReferenceIdeal.main_arg2)) (m ((c.tc : Thread Cert.StepReferenceIdeal.nD Cert.StepReferenceIdeal.τ).loc Cert.StepReferenceIdeal.main_arg3)) (m ((c.tc : Thread Cert.StepReferenceIdeal.nD Cert.StepReferenceIdeal.τ).loc Cert.StepReferenceIdeal.main_arg4)) (m ((c.tc : Thread Cert.StepReferenceIdeal.nD Cert.StepReferenceIdeal.τ).loc Cert.StepReferenceIdeal.main_arg5)) (m ((c.tc : Thread Cert.StepReferenceIdeal.nD Cert.StepReferenceIdeal.τ).loc Cert.StepReferenceIdeal.main_arg6)) (m ((c.tc : Thread Cert.StepReferenceIdeal.nD Cert.StepReferenceIdeal.τ).loc Cert.StepReferenceIdeal.main_arg7)) (m ((c.tc : Thread Cert.StepReferenceIdeal.nD Cert.StepReferenceIdeal.τ).loc Cert.StepReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_FinalKernel [hFinalKernel : Cert.FinalKernel.Facts] : Prop :=
  ∀ (m : (ℓ : Loc Cert.FinalKernel.nD Cert.FinalKernel.τ Cert.FinalKernel.sig) → Buf (Elt Bits) ℓ) (g : Dev Cert.FinalKernel.nD → PrngReg), Pre_FinalKernel m →
    θ_run (Cert.FinalKernel.defs (F := Bits)) (onTc (τ := Cert.FinalKernel.τ) (Cert.FinalKernel.main (F := Bits))) ⟨m, fun _ => 0, g⟩ (fun r => (∀ c : Dev Cert.FinalKernel.nD,
      r.2.mem ((c.tc : Thread Cert.FinalKernel.nD Cert.FinalKernel.τ).loc Cert.FinalKernel.main_arg0) = m ((c.tc : Thread Cert.FinalKernel.nD Cert.FinalKernel.τ).loc Cert.FinalKernel.main_arg0)
      ∧ r.2.mem ((c.tc : Thread Cert.FinalKernel.nD Cert.FinalKernel.τ).loc Cert.FinalKernel.main_arg1) = m ((c.tc : Thread Cert.FinalKernel.nD Cert.FinalKernel.τ).loc Cert.FinalKernel.main_arg1)
      ∧ r.2.mem ((c.tc : Thread Cert.FinalKernel.nD Cert.FinalKernel.τ).loc Cert.FinalKernel.main_arg2) = m ((c.tc : Thread Cert.FinalKernel.nD Cert.FinalKernel.τ).loc Cert.FinalKernel.main_arg2)
      ∧ r.2.mem ((c.tc : Thread Cert.FinalKernel.nD Cert.FinalKernel.τ).loc Cert.FinalKernel.main_arg3) = m ((c.tc : Thread Cert.FinalKernel.nD Cert.FinalKernel.τ).loc Cert.FinalKernel.main_arg3))
      ∧ r.2.sem = fun _ => 0)

def quiescent_FinalKernelIdeal [hFinalKernelIdeal : Cert.FinalKernelIdeal.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg), Pre_FinalKernelIdeal m →
    θ_run (Cert.FinalKernelIdeal.defs (F := Ideal)) (onTc (τ := Cert.FinalKernelIdeal.τ) (Cert.FinalKernelIdeal.main (F := Ideal))) ⟨m, fun _ => 0, g⟩ (fun r => (∀ c : Dev Cert.FinalKernelIdeal.nD,
      r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
      ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1)
      ∧ r.2.mem ((c.tc : Thread Cert.FinalKernelIdeal.nD Cert.FinalKernelIdeal.τ).loc Cert.FinalKernelIdeal.main_arg2) = m ((c.tc : Thread Cert.FinalKernelIdeal.nD Cert.FinalKernelIdeal.τ).loc Cert.FinalKernelIdeal.main_arg2)
      ∧ r.2.mem ((c.tc : Thread Cert.FinalKernelIdeal.nD Cert.FinalKernelIdeal.τ).loc Cert.FinalKernelIdeal.main_arg3) = m ((c.tc : Thread Cert.FinalKernelIdeal.nD Cert.FinalKernelIdeal.τ).loc Cert.FinalKernelIdeal.main_arg3))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3))
      ∧ r.2.sem = fun _ => 0)

def quiescent_MemProjKernel [hMemProjKernel : Cert.MemProjKernel.Facts] : Prop :=
  ∀ (m : (ℓ : Loc Cert.MemProjKernel.nD Cert.MemProjKernel.τ Cert.MemProjKernel.sig) → Buf (Elt Bits) ℓ) (g : Dev Cert.MemProjKernel.nD → PrngReg), Pre_MemProjKernel m →
    θ_run (Cert.MemProjKernel.defs (F := Bits)) (onTc (τ := Cert.MemProjKernel.τ) (Cert.MemProjKernel.main (F := Bits))) ⟨m, fun _ => 0, g⟩ (fun r => (∀ c : Dev Cert.MemProjKernel.nD,
      r.2.mem ((c.tc : Thread Cert.MemProjKernel.nD Cert.MemProjKernel.τ).loc Cert.MemProjKernel.main_arg0) = m ((c.tc : Thread Cert.MemProjKernel.nD Cert.MemProjKernel.τ).loc Cert.MemProjKernel.main_arg0)
      ∧ r.2.mem ((c.tc : Thread Cert.MemProjKernel.nD Cert.MemProjKernel.τ).loc Cert.MemProjKernel.main_arg1) = m ((c.tc : Thread Cert.MemProjKernel.nD Cert.MemProjKernel.τ).loc Cert.MemProjKernel.main_arg1)
      ∧ r.2.mem ((c.tc : Thread Cert.MemProjKernel.nD Cert.MemProjKernel.τ).loc Cert.MemProjKernel.main_arg2) = m ((c.tc : Thread Cert.MemProjKernel.nD Cert.MemProjKernel.τ).loc Cert.MemProjKernel.main_arg2))
      ∧ r.2.sem = fun _ => 0)

def quiescent_MemProjKernelIdeal [hMemProjKernelIdeal : Cert.MemProjKernelIdeal.Facts] : Prop :=
  ∀ (m : (ℓ : Loc Cert.MemProjKernelIdeal.nD Cert.MemProjKernelIdeal.τ Cert.MemProjKernelIdeal.sig) → Buf (Elt Ideal) ℓ) (g : Dev Cert.MemProjKernelIdeal.nD → PrngReg), Pre_MemProjKernelIdeal m →
    θ_run (Cert.MemProjKernelIdeal.defs (F := Ideal)) (onTc (τ := Cert.MemProjKernelIdeal.τ) (Cert.MemProjKernelIdeal.main (F := Ideal))) ⟨m, fun _ => 0, g⟩ (fun r => (∀ c : Dev Cert.MemProjKernelIdeal.nD,
      r.2.mem ((c.tc : Thread Cert.MemProjKernelIdeal.nD Cert.MemProjKernelIdeal.τ).loc Cert.MemProjKernelIdeal.main_arg0) = m ((c.tc : Thread Cert.MemProjKernelIdeal.nD Cert.MemProjKernelIdeal.τ).loc Cert.MemProjKernelIdeal.main_arg0)
      ∧ r.2.mem ((c.tc : Thread Cert.MemProjKernelIdeal.nD Cert.MemProjKernelIdeal.τ).loc Cert.MemProjKernelIdeal.main_arg1) = m ((c.tc : Thread Cert.MemProjKernelIdeal.nD Cert.MemProjKernelIdeal.τ).loc Cert.MemProjKernelIdeal.main_arg1)
      ∧ r.2.mem ((c.tc : Thread Cert.MemProjKernelIdeal.nD Cert.MemProjKernelIdeal.τ).loc Cert.MemProjKernelIdeal.main_arg2) = m ((c.tc : Thread Cert.MemProjKernelIdeal.nD Cert.MemProjKernelIdeal.τ).loc Cert.MemProjKernelIdeal.main_arg2))
      ∧ r.2.sem = fun _ => 0)

def quiescent_MemProjReferenceIdeal [hMemProjReferenceIdeal : Cert.MemProjReferenceIdeal.Facts] : Prop :=
  ∀ (m : (ℓ : Loc Cert.MemProjReferenceIdeal.nD Cert.MemProjReferenceIdeal.τ Cert.MemProjReferenceIdeal.sig) → Buf (Elt Ideal) ℓ) (g : Dev Cert.MemProjReferenceIdeal.nD → PrngReg), Pre_MemProjReferenceIdeal m →
    θ_run (Cert.MemProjReferenceIdeal.defs (F := Ideal)) (onTc (τ := Cert.MemProjReferenceIdeal.τ) (Cert.MemProjReferenceIdeal.main (F := Ideal))) ⟨m, fun _ => 0, g⟩ (fun r => (∀ c : Dev Cert.MemProjReferenceIdeal.nD,
      r.2.mem ((c.tc : Thread Cert.MemProjReferenceIdeal.nD Cert.MemProjReferenceIdeal.τ).loc Cert.MemProjReferenceIdeal.main_arg0) = m ((c.tc : Thread Cert.MemProjReferenceIdeal.nD Cert.MemProjReferenceIdeal.τ).loc Cert.MemProjReferenceIdeal.main_arg0)
      ∧ r.2.mem ((c.tc : Thread Cert.MemProjReferenceIdeal.nD Cert.MemProjReferenceIdeal.τ).loc Cert.MemProjReferenceIdeal.main_arg1) = m ((c.tc : Thread Cert.MemProjReferenceIdeal.nD Cert.MemProjReferenceIdeal.τ).loc Cert.MemProjReferenceIdeal.main_arg1)
      ∧ r.2.mem ((c.tc : Thread Cert.MemProjReferenceIdeal.nD Cert.MemProjReferenceIdeal.τ).loc Cert.MemProjReferenceIdeal.main_arg2) = m ((c.tc : Thread Cert.MemProjReferenceIdeal.nD Cert.MemProjReferenceIdeal.τ).loc Cert.MemProjReferenceIdeal.main_arg2))
      ∧ r.2.sem = fun _ => 0)

def quiescent_RowsProjKernel [hRowsProjKernel : Cert.RowsProjKernel.Facts] : Prop :=
  ∀ (m : (ℓ : Loc Cert.RowsProjKernel.nD Cert.RowsProjKernel.τ Cert.RowsProjKernel.sig) → Buf (Elt Bits) ℓ) (g : Dev Cert.RowsProjKernel.nD → PrngReg), Pre_RowsProjKernel m →
    θ_run (Cert.RowsProjKernel.defs (F := Bits)) (onTc (τ := Cert.RowsProjKernel.τ) (Cert.RowsProjKernel.main (F := Bits))) ⟨m, fun _ => 0, g⟩ (fun r => (∀ c : Dev Cert.RowsProjKernel.nD,
      r.2.mem ((c.tc : Thread Cert.RowsProjKernel.nD Cert.RowsProjKernel.τ).loc Cert.RowsProjKernel.main_arg0) = m ((c.tc : Thread Cert.RowsProjKernel.nD Cert.RowsProjKernel.τ).loc Cert.RowsProjKernel.main_arg0)
      ∧ r.2.mem ((c.tc : Thread Cert.RowsProjKernel.nD Cert.RowsProjKernel.τ).loc Cert.RowsProjKernel.main_arg1) = m ((c.tc : Thread Cert.RowsProjKernel.nD Cert.RowsProjKernel.τ).loc Cert.RowsProjKernel.main_arg1)
      ∧ r.2.mem ((c.tc : Thread Cert.RowsProjKernel.nD Cert.RowsProjKernel.τ).loc Cert.RowsProjKernel.main_arg2) = m ((c.tc : Thread Cert.RowsProjKernel.nD Cert.RowsProjKernel.τ).loc Cert.RowsProjKernel.main_arg2))
      ∧ r.2.sem = fun _ => 0)

def quiescent_RowsProjKernelIdeal [hRowsProjKernelIdeal : Cert.RowsProjKernelIdeal.Facts] : Prop :=
  ∀ (m : (ℓ : Loc Cert.RowsProjKernelIdeal.nD Cert.RowsProjKernelIdeal.τ Cert.RowsProjKernelIdeal.sig) → Buf (Elt Ideal) ℓ) (g : Dev Cert.RowsProjKernelIdeal.nD → PrngReg), Pre_RowsProjKernelIdeal m →
    θ_run (Cert.RowsProjKernelIdeal.defs (F := Ideal)) (onTc (τ := Cert.RowsProjKernelIdeal.τ) (Cert.RowsProjKernelIdeal.main (F := Ideal))) ⟨m, fun _ => 0, g⟩ (fun r => (∀ c : Dev Cert.RowsProjKernelIdeal.nD,
      r.2.mem ((c.tc : Thread Cert.RowsProjKernelIdeal.nD Cert.RowsProjKernelIdeal.τ).loc Cert.RowsProjKernelIdeal.main_arg0) = m ((c.tc : Thread Cert.RowsProjKernelIdeal.nD Cert.RowsProjKernelIdeal.τ).loc Cert.RowsProjKernelIdeal.main_arg0)
      ∧ r.2.mem ((c.tc : Thread Cert.RowsProjKernelIdeal.nD Cert.RowsProjKernelIdeal.τ).loc Cert.RowsProjKernelIdeal.main_arg1) = m ((c.tc : Thread Cert.RowsProjKernelIdeal.nD Cert.RowsProjKernelIdeal.τ).loc Cert.RowsProjKernelIdeal.main_arg1)
      ∧ r.2.mem ((c.tc : Thread Cert.RowsProjKernelIdeal.nD Cert.RowsProjKernelIdeal.τ).loc Cert.RowsProjKernelIdeal.main_arg2) = m ((c.tc : Thread Cert.RowsProjKernelIdeal.nD Cert.RowsProjKernelIdeal.τ).loc Cert.RowsProjKernelIdeal.main_arg2))
      ∧ r.2.sem = fun _ => 0)

def quiescent_RowsProjReferenceIdeal [hRowsProjReferenceIdeal : Cert.RowsProjReferenceIdeal.Facts] : Prop :=
  ∀ (m : (ℓ : Loc Cert.RowsProjReferenceIdeal.nD Cert.RowsProjReferenceIdeal.τ Cert.RowsProjReferenceIdeal.sig) → Buf (Elt Ideal) ℓ) (g : Dev Cert.RowsProjReferenceIdeal.nD → PrngReg), Pre_RowsProjReferenceIdeal m →
    θ_run (Cert.RowsProjReferenceIdeal.defs (F := Ideal)) (onTc (τ := Cert.RowsProjReferenceIdeal.τ) (Cert.RowsProjReferenceIdeal.main (F := Ideal))) ⟨m, fun _ => 0, g⟩ (fun r => (∀ c : Dev Cert.RowsProjReferenceIdeal.nD,
      r.2.mem ((c.tc : Thread Cert.RowsProjReferenceIdeal.nD Cert.RowsProjReferenceIdeal.τ).loc Cert.RowsProjReferenceIdeal.main_arg0) = m ((c.tc : Thread Cert.RowsProjReferenceIdeal.nD Cert.RowsProjReferenceIdeal.τ).loc Cert.RowsProjReferenceIdeal.main_arg0)
      ∧ r.2.mem ((c.tc : Thread Cert.RowsProjReferenceIdeal.nD Cert.RowsProjReferenceIdeal.τ).loc Cert.RowsProjReferenceIdeal.main_arg1) = m ((c.tc : Thread Cert.RowsProjReferenceIdeal.nD Cert.RowsProjReferenceIdeal.τ).loc Cert.RowsProjReferenceIdeal.main_arg1)
      ∧ r.2.mem ((c.tc : Thread Cert.RowsProjReferenceIdeal.nD Cert.RowsProjReferenceIdeal.τ).loc Cert.RowsProjReferenceIdeal.main_arg2) = m ((c.tc : Thread Cert.RowsProjReferenceIdeal.nD Cert.RowsProjReferenceIdeal.τ).loc Cert.RowsProjReferenceIdeal.main_arg2))
      ∧ r.2.sem = fun _ => 0)

def quiescent_RowsFinalKernel [hRowsFinalKernel : Cert.RowsFinalKernel.Facts] : Prop :=
  ∀ (m : (ℓ : Loc Cert.RowsFinalKernel.nD Cert.RowsFinalKernel.τ Cert.RowsFinalKernel.sig) → Buf (Elt Bits) ℓ) (g : Dev Cert.RowsFinalKernel.nD → PrngReg), Pre_RowsFinalKernel m →
    θ_run (Cert.RowsFinalKernel.defs (F := Bits)) (onTc (τ := Cert.RowsFinalKernel.τ) (Cert.RowsFinalKernel.main (F := Bits))) ⟨m, fun _ => 0, g⟩ (fun r => (∀ c : Dev Cert.RowsFinalKernel.nD,
      r.2.mem ((c.tc : Thread Cert.RowsFinalKernel.nD Cert.RowsFinalKernel.τ).loc Cert.RowsFinalKernel.main_arg0) = m ((c.tc : Thread Cert.RowsFinalKernel.nD Cert.RowsFinalKernel.τ).loc Cert.RowsFinalKernel.main_arg0)
      ∧ r.2.mem ((c.tc : Thread Cert.RowsFinalKernel.nD Cert.RowsFinalKernel.τ).loc Cert.RowsFinalKernel.main_arg1) = m ((c.tc : Thread Cert.RowsFinalKernel.nD Cert.RowsFinalKernel.τ).loc Cert.RowsFinalKernel.main_arg1)
      ∧ r.2.mem ((c.tc : Thread Cert.RowsFinalKernel.nD Cert.RowsFinalKernel.τ).loc Cert.RowsFinalKernel.main_arg2) = m ((c.tc : Thread Cert.RowsFinalKernel.nD Cert.RowsFinalKernel.τ).loc Cert.RowsFinalKernel.main_arg2)
      ∧ r.2.mem ((c.tc : Thread Cert.RowsFinalKernel.nD Cert.RowsFinalKernel.τ).loc Cert.RowsFinalKernel.main_arg3) = m ((c.tc : Thread Cert.RowsFinalKernel.nD Cert.RowsFinalKernel.τ).loc Cert.RowsFinalKernel.main_arg3))
      ∧ r.2.sem = fun _ => 0)

def quiescent_RowsFinalKernelIdeal [hRowsFinalKernelIdeal : Cert.RowsFinalKernelIdeal.Facts] : Prop :=
  ∀ (m : (ℓ : Loc Cert.RowsFinalKernelIdeal.nD Cert.RowsFinalKernelIdeal.τ Cert.RowsFinalKernelIdeal.sig) → Buf (Elt Ideal) ℓ) (g : Dev Cert.RowsFinalKernelIdeal.nD → PrngReg), Pre_RowsFinalKernelIdeal m →
    θ_run (Cert.RowsFinalKernelIdeal.defs (F := Ideal)) (onTc (τ := Cert.RowsFinalKernelIdeal.τ) (Cert.RowsFinalKernelIdeal.main (F := Ideal))) ⟨m, fun _ => 0, g⟩ (fun r => (∀ c : Dev Cert.RowsFinalKernelIdeal.nD,
      r.2.mem ((c.tc : Thread Cert.RowsFinalKernelIdeal.nD Cert.RowsFinalKernelIdeal.τ).loc Cert.RowsFinalKernelIdeal.main_arg0) = m ((c.tc : Thread Cert.RowsFinalKernelIdeal.nD Cert.RowsFinalKernelIdeal.τ).loc Cert.RowsFinalKernelIdeal.main_arg0)
      ∧ r.2.mem ((c.tc : Thread Cert.RowsFinalKernelIdeal.nD Cert.RowsFinalKernelIdeal.τ).loc Cert.RowsFinalKernelIdeal.main_arg1) = m ((c.tc : Thread Cert.RowsFinalKernelIdeal.nD Cert.RowsFinalKernelIdeal.τ).loc Cert.RowsFinalKernelIdeal.main_arg1)
      ∧ r.2.mem ((c.tc : Thread Cert.RowsFinalKernelIdeal.nD Cert.RowsFinalKernelIdeal.τ).loc Cert.RowsFinalKernelIdeal.main_arg2) = m ((c.tc : Thread Cert.RowsFinalKernelIdeal.nD Cert.RowsFinalKernelIdeal.τ).loc Cert.RowsFinalKernelIdeal.main_arg2)
      ∧ r.2.mem ((c.tc : Thread Cert.RowsFinalKernelIdeal.nD Cert.RowsFinalKernelIdeal.τ).loc Cert.RowsFinalKernelIdeal.main_arg3) = m ((c.tc : Thread Cert.RowsFinalKernelIdeal.nD Cert.RowsFinalKernelIdeal.τ).loc Cert.RowsFinalKernelIdeal.main_arg3))
      ∧ r.2.sem = fun _ => 0)

def quiescent_RowsFinalReferenceIdeal [hRowsFinalReferenceIdeal : Cert.RowsFinalReferenceIdeal.Facts] : Prop :=
  ∀ (m : (ℓ : Loc Cert.RowsFinalReferenceIdeal.nD Cert.RowsFinalReferenceIdeal.τ Cert.RowsFinalReferenceIdeal.sig) → Buf (Elt Ideal) ℓ) (g : Dev Cert.RowsFinalReferenceIdeal.nD → PrngReg), Pre_RowsFinalReferenceIdeal m →
    θ_run (Cert.RowsFinalReferenceIdeal.defs (F := Ideal)) (onTc (τ := Cert.RowsFinalReferenceIdeal.τ) (Cert.RowsFinalReferenceIdeal.main (F := Ideal))) ⟨m, fun _ => 0, g⟩ (fun r => (∀ c : Dev Cert.RowsFinalReferenceIdeal.nD,
      r.2.mem ((c.tc : Thread Cert.RowsFinalReferenceIdeal.nD Cert.RowsFinalReferenceIdeal.τ).loc Cert.RowsFinalReferenceIdeal.main_arg0) = m ((c.tc : Thread Cert.RowsFinalReferenceIdeal.nD Cert.RowsFinalReferenceIdeal.τ).loc Cert.RowsFinalReferenceIdeal.main_arg0)
      ∧ r.2.mem ((c.tc : Thread Cert.RowsFinalReferenceIdeal.nD Cert.RowsFinalReferenceIdeal.τ).loc Cert.RowsFinalReferenceIdeal.main_arg1) = m ((c.tc : Thread Cert.RowsFinalReferenceIdeal.nD Cert.RowsFinalReferenceIdeal.τ).loc Cert.RowsFinalReferenceIdeal.main_arg1)
      ∧ r.2.mem ((c.tc : Thread Cert.RowsFinalReferenceIdeal.nD Cert.RowsFinalReferenceIdeal.τ).loc Cert.RowsFinalReferenceIdeal.main_arg2) = m ((c.tc : Thread Cert.RowsFinalReferenceIdeal.nD Cert.RowsFinalReferenceIdeal.τ).loc Cert.RowsFinalReferenceIdeal.main_arg2)
      ∧ r.2.mem ((c.tc : Thread Cert.RowsFinalReferenceIdeal.nD Cert.RowsFinalReferenceIdeal.τ).loc Cert.RowsFinalReferenceIdeal.main_arg3) = m ((c.tc : Thread Cert.RowsFinalReferenceIdeal.nD Cert.RowsFinalReferenceIdeal.τ).loc Cert.RowsFinalReferenceIdeal.main_arg3))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ r.2.sem = fun _ => 0)

def quiescent_ProjKernelIdeal_pre_proj_finite [hProjKernelIdeal : Cert.ProjKernelIdeal.Facts] [hPre_proj_finite : Cert.Pre_proj_finite.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal_proj_finite m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_ProjReferenceIdeal_pre_proj_finite [hProjReferenceIdeal : Cert.ProjReferenceIdeal.Facts] [hPre_proj_finite : Cert.Pre_proj_finite.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_proj_finite m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_StepKernel [hStepKernel : Cert.StepKernel.Facts] : Prop :=
  ∀ (m : (ℓ : Loc Cert.StepKernel.nD Cert.StepKernel.τ Cert.StepKernel.sig) → Buf (Elt Bits) ℓ) (g : Dev Cert.StepKernel.nD → PrngReg), Pre_StepKernel m →
    θ_run (Cert.StepKernel.defs (F := Bits)) (onTc (τ := Cert.StepKernel.τ) (Cert.StepKernel.main (F := Bits))) ⟨m, fun _ => 0, g⟩ (fun r => (∀ c : Dev Cert.StepKernel.nD,
      r.2.mem ((c.tc : Thread Cert.StepKernel.nD Cert.StepKernel.τ).loc Cert.StepKernel.main_arg0) = m ((c.tc : Thread Cert.StepKernel.nD Cert.StepKernel.τ).loc Cert.StepKernel.main_arg0)
      ∧ r.2.mem ((c.tc : Thread Cert.StepKernel.nD Cert.StepKernel.τ).loc Cert.StepKernel.main_arg1) = m ((c.tc : Thread Cert.StepKernel.nD Cert.StepKernel.τ).loc Cert.StepKernel.main_arg1)
      ∧ r.2.mem ((c.tc : Thread Cert.StepKernel.nD Cert.StepKernel.τ).loc Cert.StepKernel.main_arg2) = m ((c.tc : Thread Cert.StepKernel.nD Cert.StepKernel.τ).loc Cert.StepKernel.main_arg2)
      ∧ r.2.mem ((c.tc : Thread Cert.StepKernel.nD Cert.StepKernel.τ).loc Cert.StepKernel.main_arg3) = m ((c.tc : Thread Cert.StepKernel.nD Cert.StepKernel.τ).loc Cert.StepKernel.main_arg3)
      ∧ r.2.mem ((c.tc : Thread Cert.StepKernel.nD Cert.StepKernel.τ).loc Cert.StepKernel.main_arg4) = m ((c.tc : Thread Cert.StepKernel.nD Cert.StepKernel.τ).loc Cert.StepKernel.main_arg4)
      ∧ r.2.mem ((c.tc : Thread Cert.StepKernel.nD Cert.StepKernel.τ).loc Cert.StepKernel.main_arg5) = m ((c.tc : Thread Cert.StepKernel.nD Cert.StepKernel.τ).loc Cert.StepKernel.main_arg5)
      ∧ r.2.mem ((c.tc : Thread Cert.StepKernel.nD Cert.StepKernel.τ).loc Cert.StepKernel.main_arg6) = m ((c.tc : Thread Cert.StepKernel.nD Cert.StepKernel.τ).loc Cert.StepKernel.main_arg6)
      ∧ r.2.mem ((c.tc : Thread Cert.StepKernel.nD Cert.StepKernel.τ).loc Cert.StepKernel.main_arg7) = m ((c.tc : Thread Cert.StepKernel.nD Cert.StepKernel.τ).loc Cert.StepKernel.main_arg7)
      ∧ r.2.mem ((c.tc : Thread Cert.StepKernel.nD Cert.StepKernel.τ).loc Cert.StepKernel.main_arg8) = m ((c.tc : Thread Cert.StepKernel.nD Cert.StepKernel.τ).loc Cert.StepKernel.main_arg8))
      ∧ r.2.sem = fun _ => 0)

def quiescent_StepKernelIdeal [hStepKernelIdeal : Cert.StepKernelIdeal.Facts] : Prop :=
  ∀ (m : (ℓ : Loc Cert.StepKernelIdeal.nD Cert.StepKernelIdeal.τ Cert.StepKernelIdeal.sig) → Buf (Elt Ideal) ℓ) (g : Dev Cert.StepKernelIdeal.nD → PrngReg), Pre_StepKernelIdeal m →
    θ_run (Cert.StepKernelIdeal.defs (F := Ideal)) (onTc (τ := Cert.StepKernelIdeal.τ) (Cert.StepKernelIdeal.main (F := Ideal))) ⟨m, fun _ => 0, g⟩ (fun r => (∀ c : Dev Cert.StepKernelIdeal.nD,
      r.2.mem ((c.tc : Thread Cert.StepKernelIdeal.nD Cert.StepKernelIdeal.τ).loc Cert.StepKernelIdeal.main_arg0) = m ((c.tc : Thread Cert.StepKernelIdeal.nD Cert.StepKernelIdeal.τ).loc Cert.StepKernelIdeal.main_arg0)
      ∧ r.2.mem ((c.tc : Thread Cert.StepKernelIdeal.nD Cert.StepKernelIdeal.τ).loc Cert.StepKernelIdeal.main_arg1) = m ((c.tc : Thread Cert.StepKernelIdeal.nD Cert.StepKernelIdeal.τ).loc Cert.StepKernelIdeal.main_arg1)
      ∧ r.2.mem ((c.tc : Thread Cert.StepKernelIdeal.nD Cert.StepKernelIdeal.τ).loc Cert.StepKernelIdeal.main_arg2) = m ((c.tc : Thread Cert.StepKernelIdeal.nD Cert.StepKernelIdeal.τ).loc Cert.StepKernelIdeal.main_arg2)
      ∧ r.2.mem ((c.tc : Thread Cert.StepKernelIdeal.nD Cert.StepKernelIdeal.τ).loc Cert.StepKernelIdeal.main_arg3) = m ((c.tc : Thread Cert.StepKernelIdeal.nD Cert.StepKernelIdeal.τ).loc Cert.StepKernelIdeal.main_arg3)
      ∧ r.2.mem ((c.tc : Thread Cert.StepKernelIdeal.nD Cert.StepKernelIdeal.τ).loc Cert.StepKernelIdeal.main_arg4) = m ((c.tc : Thread Cert.StepKernelIdeal.nD Cert.StepKernelIdeal.τ).loc Cert.StepKernelIdeal.main_arg4)
      ∧ r.2.mem ((c.tc : Thread Cert.StepKernelIdeal.nD Cert.StepKernelIdeal.τ).loc Cert.StepKernelIdeal.main_arg5) = m ((c.tc : Thread Cert.StepKernelIdeal.nD Cert.StepKernelIdeal.τ).loc Cert.StepKernelIdeal.main_arg5)
      ∧ r.2.mem ((c.tc : Thread Cert.StepKernelIdeal.nD Cert.StepKernelIdeal.τ).loc Cert.StepKernelIdeal.main_arg6) = m ((c.tc : Thread Cert.StepKernelIdeal.nD Cert.StepKernelIdeal.τ).loc Cert.StepKernelIdeal.main_arg6)
      ∧ r.2.mem ((c.tc : Thread Cert.StepKernelIdeal.nD Cert.StepKernelIdeal.τ).loc Cert.StepKernelIdeal.main_arg7) = m ((c.tc : Thread Cert.StepKernelIdeal.nD Cert.StepKernelIdeal.τ).loc Cert.StepKernelIdeal.main_arg7)
      ∧ r.2.mem ((c.tc : Thread Cert.StepKernelIdeal.nD Cert.StepKernelIdeal.τ).loc Cert.StepKernelIdeal.main_arg8) = m ((c.tc : Thread Cert.StepKernelIdeal.nD Cert.StepKernelIdeal.τ).loc Cert.StepKernelIdeal.main_arg8))
      ∧ r.2.sem = fun _ => 0)

def quiescent_StepKernelIdeal_pre_step_finite [hStepKernelIdeal : Cert.StepKernelIdeal.Facts] [hPre_step_finite : Cert.Pre_step_finite.Facts] : Prop :=
  ∀ (m : (ℓ : Loc Cert.StepKernelIdeal.nD Cert.StepKernelIdeal.τ Cert.StepKernelIdeal.sig) → Buf (Elt Ideal) ℓ) (g : Dev Cert.StepKernelIdeal.nD → PrngReg), Pre_StepKernelIdeal_step_finite m →
    θ_run (Cert.StepKernelIdeal.defs (F := Ideal)) (onTc (τ := Cert.StepKernelIdeal.τ) (Cert.StepKernelIdeal.main (F := Ideal))) ⟨m, fun _ => 0, g⟩ (fun r => (∀ c : Dev Cert.StepKernelIdeal.nD,
      r.2.mem ((c.tc : Thread Cert.StepKernelIdeal.nD Cert.StepKernelIdeal.τ).loc Cert.StepKernelIdeal.main_arg0) = m ((c.tc : Thread Cert.StepKernelIdeal.nD Cert.StepKernelIdeal.τ).loc Cert.StepKernelIdeal.main_arg0)
      ∧ r.2.mem ((c.tc : Thread Cert.StepKernelIdeal.nD Cert.StepKernelIdeal.τ).loc Cert.StepKernelIdeal.main_arg1) = m ((c.tc : Thread Cert.StepKernelIdeal.nD Cert.StepKernelIdeal.τ).loc Cert.StepKernelIdeal.main_arg1)
      ∧ r.2.mem ((c.tc : Thread Cert.StepKernelIdeal.nD Cert.StepKernelIdeal.τ).loc Cert.StepKernelIdeal.main_arg2) = m ((c.tc : Thread Cert.StepKernelIdeal.nD Cert.StepKernelIdeal.τ).loc Cert.StepKernelIdeal.main_arg2)
      ∧ r.2.mem ((c.tc : Thread Cert.StepKernelIdeal.nD Cert.StepKernelIdeal.τ).loc Cert.StepKernelIdeal.main_arg3) = m ((c.tc : Thread Cert.StepKernelIdeal.nD Cert.StepKernelIdeal.τ).loc Cert.StepKernelIdeal.main_arg3)
      ∧ r.2.mem ((c.tc : Thread Cert.StepKernelIdeal.nD Cert.StepKernelIdeal.τ).loc Cert.StepKernelIdeal.main_arg4) = m ((c.tc : Thread Cert.StepKernelIdeal.nD Cert.StepKernelIdeal.τ).loc Cert.StepKernelIdeal.main_arg4)
      ∧ r.2.mem ((c.tc : Thread Cert.StepKernelIdeal.nD Cert.StepKernelIdeal.τ).loc Cert.StepKernelIdeal.main_arg5) = m ((c.tc : Thread Cert.StepKernelIdeal.nD Cert.StepKernelIdeal.τ).loc Cert.StepKernelIdeal.main_arg5)
      ∧ r.2.mem ((c.tc : Thread Cert.StepKernelIdeal.nD Cert.StepKernelIdeal.τ).loc Cert.StepKernelIdeal.main_arg6) = m ((c.tc : Thread Cert.StepKernelIdeal.nD Cert.StepKernelIdeal.τ).loc Cert.StepKernelIdeal.main_arg6)
      ∧ r.2.mem ((c.tc : Thread Cert.StepKernelIdeal.nD Cert.StepKernelIdeal.τ).loc Cert.StepKernelIdeal.main_arg7) = m ((c.tc : Thread Cert.StepKernelIdeal.nD Cert.StepKernelIdeal.τ).loc Cert.StepKernelIdeal.main_arg7)
      ∧ r.2.mem ((c.tc : Thread Cert.StepKernelIdeal.nD Cert.StepKernelIdeal.τ).loc Cert.StepKernelIdeal.main_arg8) = m ((c.tc : Thread Cert.StepKernelIdeal.nD Cert.StepKernelIdeal.τ).loc Cert.StepKernelIdeal.main_arg8))
      ∧ r.2.sem = fun _ => 0)

def quiescent_StepReferenceIdeal [hStepReferenceIdeal : Cert.StepReferenceIdeal.Facts] : Prop :=
  ∀ (m : (ℓ : Loc Cert.StepReferenceIdeal.nD Cert.StepReferenceIdeal.τ Cert.StepReferenceIdeal.sig) → Buf (Elt Ideal) ℓ) (g : Dev Cert.StepReferenceIdeal.nD → PrngReg), Pre_StepReferenceIdeal m →
    θ_run (Cert.StepReferenceIdeal.defs (F := Ideal)) (onTc (τ := Cert.StepReferenceIdeal.τ) (Cert.StepReferenceIdeal.main (F := Ideal))) ⟨m, fun _ => 0, g⟩ (fun r => (∀ c : Dev Cert.StepReferenceIdeal.nD,
      r.2.mem ((c.tc : Thread Cert.StepReferenceIdeal.nD Cert.StepReferenceIdeal.τ).loc Cert.StepReferenceIdeal.main_arg0) = m ((c.tc : Thread Cert.StepReferenceIdeal.nD Cert.StepReferenceIdeal.τ).loc Cert.StepReferenceIdeal.main_arg0)
      ∧ r.2.mem ((c.tc : Thread Cert.StepReferenceIdeal.nD Cert.StepReferenceIdeal.τ).loc Cert.StepReferenceIdeal.main_arg1) = m ((c.tc : Thread Cert.StepReferenceIdeal.nD Cert.StepReferenceIdeal.τ).loc Cert.StepReferenceIdeal.main_arg1)
      ∧ r.2.mem ((c.tc : Thread Cert.StepReferenceIdeal.nD Cert.StepReferenceIdeal.τ).loc Cert.StepReferenceIdeal.main_arg2) = m ((c.tc : Thread Cert.StepReferenceIdeal.nD Cert.StepReferenceIdeal.τ).loc Cert.StepReferenceIdeal.main_arg2)
      ∧ r.2.mem ((c.tc : Thread Cert.StepReferenceIdeal.nD Cert.StepReferenceIdeal.τ).loc Cert.StepReferenceIdeal.main_arg3) = m ((c.tc : Thread Cert.StepReferenceIdeal.nD Cert.StepReferenceIdeal.τ).loc Cert.StepReferenceIdeal.main_arg3)
      ∧ r.2.mem ((c.tc : Thread Cert.StepReferenceIdeal.nD Cert.StepReferenceIdeal.τ).loc Cert.StepReferenceIdeal.main_arg4) = m ((c.tc : Thread Cert.StepReferenceIdeal.nD Cert.StepReferenceIdeal.τ).loc Cert.StepReferenceIdeal.main_arg4)
      ∧ r.2.mem ((c.tc : Thread Cert.StepReferenceIdeal.nD Cert.StepReferenceIdeal.τ).loc Cert.StepReferenceIdeal.main_arg5) = m ((c.tc : Thread Cert.StepReferenceIdeal.nD Cert.StepReferenceIdeal.τ).loc Cert.StepReferenceIdeal.main_arg5)
      ∧ r.2.mem ((c.tc : Thread Cert.StepReferenceIdeal.nD Cert.StepReferenceIdeal.τ).loc Cert.StepReferenceIdeal.main_arg6) = m ((c.tc : Thread Cert.StepReferenceIdeal.nD Cert.StepReferenceIdeal.τ).loc Cert.StepReferenceIdeal.main_arg6)
      ∧ r.2.mem ((c.tc : Thread Cert.StepReferenceIdeal.nD Cert.StepReferenceIdeal.τ).loc Cert.StepReferenceIdeal.main_arg7) = m ((c.tc : Thread Cert.StepReferenceIdeal.nD Cert.StepReferenceIdeal.τ).loc Cert.StepReferenceIdeal.main_arg7)
      ∧ r.2.mem ((c.tc : Thread Cert.StepReferenceIdeal.nD Cert.StepReferenceIdeal.τ).loc Cert.StepReferenceIdeal.main_arg8) = m ((c.tc : Thread Cert.StepReferenceIdeal.nD Cert.StepReferenceIdeal.τ).loc Cert.StepReferenceIdeal.main_arg8))
      ∧ r.2.sem = fun _ => 0)

def quiescent_StepReferenceIdeal_pre_step_finite [hStepReferenceIdeal : Cert.StepReferenceIdeal.Facts] [hPre_step_finite : Cert.Pre_step_finite.Facts] : Prop :=
  ∀ (m : (ℓ : Loc Cert.StepReferenceIdeal.nD Cert.StepReferenceIdeal.τ Cert.StepReferenceIdeal.sig) → Buf (Elt Ideal) ℓ) (g : Dev Cert.StepReferenceIdeal.nD → PrngReg), Pre_StepReferenceIdeal_step_finite m →
    θ_run (Cert.StepReferenceIdeal.defs (F := Ideal)) (onTc (τ := Cert.StepReferenceIdeal.τ) (Cert.StepReferenceIdeal.main (F := Ideal))) ⟨m, fun _ => 0, g⟩ (fun r => (∀ c : Dev Cert.StepReferenceIdeal.nD,
      r.2.mem ((c.tc : Thread Cert.StepReferenceIdeal.nD Cert.StepReferenceIdeal.τ).loc Cert.StepReferenceIdeal.main_arg0) = m ((c.tc : Thread Cert.StepReferenceIdeal.nD Cert.StepReferenceIdeal.τ).loc Cert.StepReferenceIdeal.main_arg0)
      ∧ r.2.mem ((c.tc : Thread Cert.StepReferenceIdeal.nD Cert.StepReferenceIdeal.τ).loc Cert.StepReferenceIdeal.main_arg1) = m ((c.tc : Thread Cert.StepReferenceIdeal.nD Cert.StepReferenceIdeal.τ).loc Cert.StepReferenceIdeal.main_arg1)
      ∧ r.2.mem ((c.tc : Thread Cert.StepReferenceIdeal.nD Cert.StepReferenceIdeal.τ).loc Cert.StepReferenceIdeal.main_arg2) = m ((c.tc : Thread Cert.StepReferenceIdeal.nD Cert.StepReferenceIdeal.τ).loc Cert.StepReferenceIdeal.main_arg2)
      ∧ r.2.mem ((c.tc : Thread Cert.StepReferenceIdeal.nD Cert.StepReferenceIdeal.τ).loc Cert.StepReferenceIdeal.main_arg3) = m ((c.tc : Thread Cert.StepReferenceIdeal.nD Cert.StepReferenceIdeal.τ).loc Cert.StepReferenceIdeal.main_arg3)
      ∧ r.2.mem ((c.tc : Thread Cert.StepReferenceIdeal.nD Cert.StepReferenceIdeal.τ).loc Cert.StepReferenceIdeal.main_arg4) = m ((c.tc : Thread Cert.StepReferenceIdeal.nD Cert.StepReferenceIdeal.τ).loc Cert.StepReferenceIdeal.main_arg4)
      ∧ r.2.mem ((c.tc : Thread Cert.StepReferenceIdeal.nD Cert.StepReferenceIdeal.τ).loc Cert.StepReferenceIdeal.main_arg5) = m ((c.tc : Thread Cert.StepReferenceIdeal.nD Cert.StepReferenceIdeal.τ).loc Cert.StepReferenceIdeal.main_arg5)
      ∧ r.2.mem ((c.tc : Thread Cert.StepReferenceIdeal.nD Cert.StepReferenceIdeal.τ).loc Cert.StepReferenceIdeal.main_arg6) = m ((c.tc : Thread Cert.StepReferenceIdeal.nD Cert.StepReferenceIdeal.τ).loc Cert.StepReferenceIdeal.main_arg6)
      ∧ r.2.mem ((c.tc : Thread Cert.StepReferenceIdeal.nD Cert.StepReferenceIdeal.τ).loc Cert.StepReferenceIdeal.main_arg7) = m ((c.tc : Thread Cert.StepReferenceIdeal.nD Cert.StepReferenceIdeal.τ).loc Cert.StepReferenceIdeal.main_arg7)
      ∧ r.2.mem ((c.tc : Thread Cert.StepReferenceIdeal.nD Cert.StepReferenceIdeal.τ).loc Cert.StepReferenceIdeal.main_arg8) = m ((c.tc : Thread Cert.StepReferenceIdeal.nD Cert.StepReferenceIdeal.τ).loc Cert.StepReferenceIdeal.main_arg8))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)) →
    ∃ (v0 : (c : Dev Cert.MergeKernelIdeal.nD) → Buf (Elt Ideal) ((c.tc : Thread Cert.MergeKernelIdeal.nD Cert.MergeKernelIdeal.τ).loc Cert.MergeKernelIdeal.main_v0)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v0) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v24) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_FinalKernel_FinalKernelIdeal : Prop :=
  True

def algebraic_FinalKernelIdeal_FinalReferenceIdeal [hFinalKernelIdeal : Cert.FinalKernelIdeal.Facts] [hFinalReferenceIdeal : Cert.FinalReferenceIdeal.Facts] : Prop :=
  ∀ (m : (ℓ : Loc Cert.FinalKernelIdeal.nD Cert.FinalKernelIdeal.τ Cert.FinalKernelIdeal.sig) → Buf (Elt Ideal) ℓ) (g : Dev Cert.FinalKernelIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalKernelIdeal m →
    (∀ c : Dev Cert.FinalKernelIdeal.nD,
      m' ((c.tc : Thread Cert.FinalReferenceIdeal.nD Cert.FinalReferenceIdeal.τ).loc Cert.FinalReferenceIdeal.main_arg0) = m ((c.tc : Thread Cert.FinalKernelIdeal.nD Cert.FinalKernelIdeal.τ).loc Cert.FinalKernelIdeal.main_arg0)
      ∧ m' ((c.tc : Thread Cert.FinalReferenceIdeal.nD Cert.FinalReferenceIdeal.τ).loc Cert.FinalReferenceIdeal.main_arg1) = m ((c.tc : Thread Cert.FinalKernelIdeal.nD Cert.FinalKernelIdeal.τ).loc Cert.FinalKernelIdeal.main_arg1)
      ∧ m' ((c.tc : Thread Cert.FinalReferenceIdeal.nD Cert.FinalReferenceIdeal.τ).loc Cert.FinalReferenceIdeal.main_arg2) = m ((c.tc : Thread Cert.FinalKernelIdeal.nD Cert.FinalKernelIdeal.τ).loc Cert.FinalKernelIdeal.main_arg2)
      ∧ m' ((c.tc : Thread Cert.FinalReferenceIdeal.nD Cert.FinalReferenceIdeal.τ).loc Cert.FinalReferenceIdeal.main_arg3) = m ((c.tc : Thread Cert.FinalKernelIdeal.nD Cert.FinalKernelIdeal.τ).loc Cert.FinalKernelIdeal.main_arg3)) →
    ∃ (v0 : (c : Dev Cert.FinalKernelIdeal.nD) → Buf (Elt Ideal) ((c.tc : Thread Cert.FinalKernelIdeal.nD Cert.FinalKernelIdeal.τ).loc Cert.FinalKernelIdeal.main_v1)),
      θ_run (Cert.FinalKernelIdeal.defs (F := Ideal)) (onTc (τ := Cert.FinalKernelIdeal.τ) (Cert.FinalKernelIdeal.main (F := Ideal))) ⟨m, fun _ => 0, g⟩ (fun r => ∀ c : Dev Cert.FinalKernelIdeal.nD,
          r.2.mem ((c.tc : Thread Cert.FinalKernelIdeal.nD Cert.FinalKernelIdeal.τ).loc Cert.FinalKernelIdeal.main_v1) = v0 c
          ∧ r.2.mem ((c.tc : Thread Cert.FinalKernelIdeal.nD Cert.FinalKernelIdeal.τ).loc Cert.FinalKernelIdeal.main_arg0) = m ((c.tc : Thread Cert.FinalKernelIdeal.nD Cert.FinalKernelIdeal.τ).loc Cert.FinalKernelIdeal.main_arg0)
          ∧ r.2.mem ((c.tc : Thread Cert.FinalKernelIdeal.nD Cert.FinalKernelIdeal.τ).loc Cert.FinalKernelIdeal.main_arg1) = m ((c.tc : Thread Cert.FinalKernelIdeal.nD Cert.FinalKernelIdeal.τ).loc Cert.FinalKernelIdeal.main_arg1)
          ∧ r.2.mem ((c.tc : Thread Cert.FinalKernelIdeal.nD Cert.FinalKernelIdeal.τ).loc Cert.FinalKernelIdeal.main_arg2) = m ((c.tc : Thread Cert.FinalKernelIdeal.nD Cert.FinalKernelIdeal.τ).loc Cert.FinalKernelIdeal.main_arg2)
          ∧ r.2.mem ((c.tc : Thread Cert.FinalKernelIdeal.nD Cert.FinalKernelIdeal.τ).loc Cert.FinalKernelIdeal.main_arg3) = m ((c.tc : Thread Cert.FinalKernelIdeal.nD Cert.FinalKernelIdeal.τ).loc Cert.FinalKernelIdeal.main_arg3))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v16) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3))

def preserves_MemProjKernel_MemProjKernelIdeal : Prop :=
  True

def algebraic_MemProjKernelIdeal_MemProjReferenceIdeal [hMemProjKernelIdeal : Cert.MemProjKernelIdeal.Facts] [hMemProjReferenceIdeal : Cert.MemProjReferenceIdeal.Facts] : Prop :=
  ∀ (m : (ℓ : Loc Cert.MemProjKernelIdeal.nD Cert.MemProjKernelIdeal.τ Cert.MemProjKernelIdeal.sig) → Buf (Elt Ideal) ℓ) (g : Dev Cert.MemProjKernelIdeal.nD → PrngReg)
    (m' : (ℓ : Loc Cert.MemProjReferenceIdeal.nD Cert.MemProjReferenceIdeal.τ Cert.MemProjReferenceIdeal.sig) → Buf (Elt Ideal) ℓ) (g' : Dev Cert.MemProjReferenceIdeal.nD → PrngReg), Pre_MemProjKernelIdeal m →
    (∀ c : Dev Cert.MemProjKernelIdeal.nD,
      m' ((c.tc : Thread Cert.MemProjReferenceIdeal.nD Cert.MemProjReferenceIdeal.τ).loc Cert.MemProjReferenceIdeal.main_arg0) = m ((c.tc : Thread Cert.MemProjKernelIdeal.nD Cert.MemProjKernelIdeal.τ).loc Cert.MemProjKernelIdeal.main_arg0)
      ∧ m' ((c.tc : Thread Cert.MemProjReferenceIdeal.nD Cert.MemProjReferenceIdeal.τ).loc Cert.MemProjReferenceIdeal.main_arg1) = m ((c.tc : Thread Cert.MemProjKernelIdeal.nD Cert.MemProjKernelIdeal.τ).loc Cert.MemProjKernelIdeal.main_arg1)
      ∧ m' ((c.tc : Thread Cert.MemProjReferenceIdeal.nD Cert.MemProjReferenceIdeal.τ).loc Cert.MemProjReferenceIdeal.main_arg2) = m ((c.tc : Thread Cert.MemProjKernelIdeal.nD Cert.MemProjKernelIdeal.τ).loc Cert.MemProjKernelIdeal.main_arg2)) →
    ∃ (v0 : (c : Dev Cert.MemProjKernelIdeal.nD) → Buf (Elt Ideal) ((c.tc : Thread Cert.MemProjKernelIdeal.nD Cert.MemProjKernelIdeal.τ).loc Cert.MemProjKernelIdeal.main_v1)),
      θ_run (Cert.MemProjKernelIdeal.defs (F := Ideal)) (onTc (τ := Cert.MemProjKernelIdeal.τ) (Cert.MemProjKernelIdeal.main (F := Ideal))) ⟨m, fun _ => 0, g⟩ (fun r => ∀ c : Dev Cert.MemProjKernelIdeal.nD,
          r.2.mem ((c.tc : Thread Cert.MemProjKernelIdeal.nD Cert.MemProjKernelIdeal.τ).loc Cert.MemProjKernelIdeal.main_v1) = v0 c
          ∧ r.2.mem ((c.tc : Thread Cert.MemProjKernelIdeal.nD Cert.MemProjKernelIdeal.τ).loc Cert.MemProjKernelIdeal.main_arg0) = m ((c.tc : Thread Cert.MemProjKernelIdeal.nD Cert.MemProjKernelIdeal.τ).loc Cert.MemProjKernelIdeal.main_arg0)
          ∧ r.2.mem ((c.tc : Thread Cert.MemProjKernelIdeal.nD Cert.MemProjKernelIdeal.τ).loc Cert.MemProjKernelIdeal.main_arg1) = m ((c.tc : Thread Cert.MemProjKernelIdeal.nD Cert.MemProjKernelIdeal.τ).loc Cert.MemProjKernelIdeal.main_arg1)
          ∧ r.2.mem ((c.tc : Thread Cert.MemProjKernelIdeal.nD Cert.MemProjKernelIdeal.τ).loc Cert.MemProjKernelIdeal.main_arg2) = m ((c.tc : Thread Cert.MemProjKernelIdeal.nD Cert.MemProjKernelIdeal.τ).loc Cert.MemProjKernelIdeal.main_arg2))
      ∧ θ_run (Cert.MemProjReferenceIdeal.defs (F := Ideal)) (onTc (τ := Cert.MemProjReferenceIdeal.τ) (Cert.MemProjReferenceIdeal.main (F := Ideal))) ⟨m', fun _ => 0, g'⟩ (fun r => ∀ c : Dev Cert.MemProjReferenceIdeal.nD,
          r.2.mem ((c.tc : Thread Cert.MemProjReferenceIdeal.nD Cert.MemProjReferenceIdeal.τ).loc Cert.MemProjReferenceIdeal.main_v14) = v0 c
          ∧ r.2.mem ((c.tc : Thread Cert.MemProjReferenceIdeal.nD Cert.MemProjReferenceIdeal.τ).loc Cert.MemProjReferenceIdeal.main_arg0) = m' ((c.tc : Thread Cert.MemProjReferenceIdeal.nD Cert.MemProjReferenceIdeal.τ).loc Cert.MemProjReferenceIdeal.main_arg0)
          ∧ r.2.mem ((c.tc : Thread Cert.MemProjReferenceIdeal.nD Cert.MemProjReferenceIdeal.τ).loc Cert.MemProjReferenceIdeal.main_arg1) = m' ((c.tc : Thread Cert.MemProjReferenceIdeal.nD Cert.MemProjReferenceIdeal.τ).loc Cert.MemProjReferenceIdeal.main_arg1)
          ∧ r.2.mem ((c.tc : Thread Cert.MemProjReferenceIdeal.nD Cert.MemProjReferenceIdeal.τ).loc Cert.MemProjReferenceIdeal.main_arg2) = m' ((c.tc : Thread Cert.MemProjReferenceIdeal.nD Cert.MemProjReferenceIdeal.τ).loc Cert.MemProjReferenceIdeal.main_arg2))

def preserves_RowsProjKernel_RowsProjKernelIdeal : Prop :=
  True

def algebraic_RowsProjKernelIdeal_RowsProjReferenceIdeal [hRowsProjKernelIdeal : Cert.RowsProjKernelIdeal.Facts] [hRowsProjReferenceIdeal : Cert.RowsProjReferenceIdeal.Facts] : Prop :=
  ∀ (m : (ℓ : Loc Cert.RowsProjKernelIdeal.nD Cert.RowsProjKernelIdeal.τ Cert.RowsProjKernelIdeal.sig) → Buf (Elt Ideal) ℓ) (g : Dev Cert.RowsProjKernelIdeal.nD → PrngReg)
    (m' : (ℓ : Loc Cert.RowsProjReferenceIdeal.nD Cert.RowsProjReferenceIdeal.τ Cert.RowsProjReferenceIdeal.sig) → Buf (Elt Ideal) ℓ) (g' : Dev Cert.RowsProjReferenceIdeal.nD → PrngReg), Pre_RowsProjKernelIdeal m →
    (∀ c : Dev Cert.RowsProjKernelIdeal.nD,
      m' ((c.tc : Thread Cert.RowsProjReferenceIdeal.nD Cert.RowsProjReferenceIdeal.τ).loc Cert.RowsProjReferenceIdeal.main_arg0) = m ((c.tc : Thread Cert.RowsProjKernelIdeal.nD Cert.RowsProjKernelIdeal.τ).loc Cert.RowsProjKernelIdeal.main_arg0)
      ∧ m' ((c.tc : Thread Cert.RowsProjReferenceIdeal.nD Cert.RowsProjReferenceIdeal.τ).loc Cert.RowsProjReferenceIdeal.main_arg1) = m ((c.tc : Thread Cert.RowsProjKernelIdeal.nD Cert.RowsProjKernelIdeal.τ).loc Cert.RowsProjKernelIdeal.main_arg1)
      ∧ m' ((c.tc : Thread Cert.RowsProjReferenceIdeal.nD Cert.RowsProjReferenceIdeal.τ).loc Cert.RowsProjReferenceIdeal.main_arg2) = m ((c.tc : Thread Cert.RowsProjKernelIdeal.nD Cert.RowsProjKernelIdeal.τ).loc Cert.RowsProjKernelIdeal.main_arg2)) →
    ∃ (v0 : (c : Dev Cert.RowsProjKernelIdeal.nD) → Buf (Elt Ideal) ((c.tc : Thread Cert.RowsProjKernelIdeal.nD Cert.RowsProjKernelIdeal.τ).loc Cert.RowsProjKernelIdeal.main_v1)),
      θ_run (Cert.RowsProjKernelIdeal.defs (F := Ideal)) (onTc (τ := Cert.RowsProjKernelIdeal.τ) (Cert.RowsProjKernelIdeal.main (F := Ideal))) ⟨m, fun _ => 0, g⟩ (fun r => ∀ c : Dev Cert.RowsProjKernelIdeal.nD,
          r.2.mem ((c.tc : Thread Cert.RowsProjKernelIdeal.nD Cert.RowsProjKernelIdeal.τ).loc Cert.RowsProjKernelIdeal.main_v1) = v0 c
          ∧ r.2.mem ((c.tc : Thread Cert.RowsProjKernelIdeal.nD Cert.RowsProjKernelIdeal.τ).loc Cert.RowsProjKernelIdeal.main_arg0) = m ((c.tc : Thread Cert.RowsProjKernelIdeal.nD Cert.RowsProjKernelIdeal.τ).loc Cert.RowsProjKernelIdeal.main_arg0)
          ∧ r.2.mem ((c.tc : Thread Cert.RowsProjKernelIdeal.nD Cert.RowsProjKernelIdeal.τ).loc Cert.RowsProjKernelIdeal.main_arg1) = m ((c.tc : Thread Cert.RowsProjKernelIdeal.nD Cert.RowsProjKernelIdeal.τ).loc Cert.RowsProjKernelIdeal.main_arg1)
          ∧ r.2.mem ((c.tc : Thread Cert.RowsProjKernelIdeal.nD Cert.RowsProjKernelIdeal.τ).loc Cert.RowsProjKernelIdeal.main_arg2) = m ((c.tc : Thread Cert.RowsProjKernelIdeal.nD Cert.RowsProjKernelIdeal.τ).loc Cert.RowsProjKernelIdeal.main_arg2))
      ∧ θ_run (Cert.RowsProjReferenceIdeal.defs (F := Ideal)) (onTc (τ := Cert.RowsProjReferenceIdeal.τ) (Cert.RowsProjReferenceIdeal.main (F := Ideal))) ⟨m', fun _ => 0, g'⟩ (fun r => ∀ c : Dev Cert.RowsProjReferenceIdeal.nD,
          r.2.mem ((c.tc : Thread Cert.RowsProjReferenceIdeal.nD Cert.RowsProjReferenceIdeal.τ).loc Cert.RowsProjReferenceIdeal.main_v14) = v0 c
          ∧ r.2.mem ((c.tc : Thread Cert.RowsProjReferenceIdeal.nD Cert.RowsProjReferenceIdeal.τ).loc Cert.RowsProjReferenceIdeal.main_arg0) = m' ((c.tc : Thread Cert.RowsProjReferenceIdeal.nD Cert.RowsProjReferenceIdeal.τ).loc Cert.RowsProjReferenceIdeal.main_arg0)
          ∧ r.2.mem ((c.tc : Thread Cert.RowsProjReferenceIdeal.nD Cert.RowsProjReferenceIdeal.τ).loc Cert.RowsProjReferenceIdeal.main_arg1) = m' ((c.tc : Thread Cert.RowsProjReferenceIdeal.nD Cert.RowsProjReferenceIdeal.τ).loc Cert.RowsProjReferenceIdeal.main_arg1)
          ∧ r.2.mem ((c.tc : Thread Cert.RowsProjReferenceIdeal.nD Cert.RowsProjReferenceIdeal.τ).loc Cert.RowsProjReferenceIdeal.main_arg2) = m' ((c.tc : Thread Cert.RowsProjReferenceIdeal.nD Cert.RowsProjReferenceIdeal.τ).loc Cert.RowsProjReferenceIdeal.main_arg2))

def preserves_RowsFinalKernel_RowsFinalKernelIdeal : Prop :=
  True

def algebraic_RowsFinalKernelIdeal_RowsFinalReferenceIdeal [hRowsFinalKernelIdeal : Cert.RowsFinalKernelIdeal.Facts] [hRowsFinalReferenceIdeal : Cert.RowsFinalReferenceIdeal.Facts] : Prop :=
  ∀ (m : (ℓ : Loc Cert.RowsFinalKernelIdeal.nD Cert.RowsFinalKernelIdeal.τ Cert.RowsFinalKernelIdeal.sig) → Buf (Elt Ideal) ℓ) (g : Dev Cert.RowsFinalKernelIdeal.nD → PrngReg)
    (m' : (ℓ : Loc Cert.RowsFinalReferenceIdeal.nD Cert.RowsFinalReferenceIdeal.τ Cert.RowsFinalReferenceIdeal.sig) → Buf (Elt Ideal) ℓ) (g' : Dev Cert.RowsFinalReferenceIdeal.nD → PrngReg), Pre_RowsFinalKernelIdeal m →
    (∀ c : Dev Cert.RowsFinalKernelIdeal.nD,
      m' ((c.tc : Thread Cert.RowsFinalReferenceIdeal.nD Cert.RowsFinalReferenceIdeal.τ).loc Cert.RowsFinalReferenceIdeal.main_arg0) = m ((c.tc : Thread Cert.RowsFinalKernelIdeal.nD Cert.RowsFinalKernelIdeal.τ).loc Cert.RowsFinalKernelIdeal.main_arg0)
      ∧ m' ((c.tc : Thread Cert.RowsFinalReferenceIdeal.nD Cert.RowsFinalReferenceIdeal.τ).loc Cert.RowsFinalReferenceIdeal.main_arg1) = m ((c.tc : Thread Cert.RowsFinalKernelIdeal.nD Cert.RowsFinalKernelIdeal.τ).loc Cert.RowsFinalKernelIdeal.main_arg1)
      ∧ m' ((c.tc : Thread Cert.RowsFinalReferenceIdeal.nD Cert.RowsFinalReferenceIdeal.τ).loc Cert.RowsFinalReferenceIdeal.main_arg2) = m ((c.tc : Thread Cert.RowsFinalKernelIdeal.nD Cert.RowsFinalKernelIdeal.τ).loc Cert.RowsFinalKernelIdeal.main_arg2)
      ∧ m' ((c.tc : Thread Cert.RowsFinalReferenceIdeal.nD Cert.RowsFinalReferenceIdeal.τ).loc Cert.RowsFinalReferenceIdeal.main_arg3) = m ((c.tc : Thread Cert.RowsFinalKernelIdeal.nD Cert.RowsFinalKernelIdeal.τ).loc Cert.RowsFinalKernelIdeal.main_arg3)) →
    ∃ (v0 : (c : Dev Cert.RowsFinalKernelIdeal.nD) → Buf (Elt Ideal) ((c.tc : Thread Cert.RowsFinalKernelIdeal.nD Cert.RowsFinalKernelIdeal.τ).loc Cert.RowsFinalKernelIdeal.main_v1)),
      θ_run (Cert.RowsFinalKernelIdeal.defs (F := Ideal)) (onTc (τ := Cert.RowsFinalKernelIdeal.τ) (Cert.RowsFinalKernelIdeal.main (F := Ideal))) ⟨m, fun _ => 0, g⟩ (fun r => ∀ c : Dev Cert.RowsFinalKernelIdeal.nD,
          r.2.mem ((c.tc : Thread Cert.RowsFinalKernelIdeal.nD Cert.RowsFinalKernelIdeal.τ).loc Cert.RowsFinalKernelIdeal.main_v1) = v0 c
          ∧ r.2.mem ((c.tc : Thread Cert.RowsFinalKernelIdeal.nD Cert.RowsFinalKernelIdeal.τ).loc Cert.RowsFinalKernelIdeal.main_arg0) = m ((c.tc : Thread Cert.RowsFinalKernelIdeal.nD Cert.RowsFinalKernelIdeal.τ).loc Cert.RowsFinalKernelIdeal.main_arg0)
          ∧ r.2.mem ((c.tc : Thread Cert.RowsFinalKernelIdeal.nD Cert.RowsFinalKernelIdeal.τ).loc Cert.RowsFinalKernelIdeal.main_arg1) = m ((c.tc : Thread Cert.RowsFinalKernelIdeal.nD Cert.RowsFinalKernelIdeal.τ).loc Cert.RowsFinalKernelIdeal.main_arg1)
          ∧ r.2.mem ((c.tc : Thread Cert.RowsFinalKernelIdeal.nD Cert.RowsFinalKernelIdeal.τ).loc Cert.RowsFinalKernelIdeal.main_arg2) = m ((c.tc : Thread Cert.RowsFinalKernelIdeal.nD Cert.RowsFinalKernelIdeal.τ).loc Cert.RowsFinalKernelIdeal.main_arg2)
          ∧ r.2.mem ((c.tc : Thread Cert.RowsFinalKernelIdeal.nD Cert.RowsFinalKernelIdeal.τ).loc Cert.RowsFinalKernelIdeal.main_arg3) = m ((c.tc : Thread Cert.RowsFinalKernelIdeal.nD Cert.RowsFinalKernelIdeal.τ).loc Cert.RowsFinalKernelIdeal.main_arg3))
      ∧ θ_run (Cert.RowsFinalReferenceIdeal.defs (F := Ideal)) (onTc (τ := Cert.RowsFinalReferenceIdeal.τ) (Cert.RowsFinalReferenceIdeal.main (F := Ideal))) ⟨m', fun _ => 0, g'⟩ (fun r => ∀ c : Dev Cert.RowsFinalReferenceIdeal.nD,
          r.2.mem ((c.tc : Thread Cert.RowsFinalReferenceIdeal.nD Cert.RowsFinalReferenceIdeal.τ).loc Cert.RowsFinalReferenceIdeal.main_v16) = v0 c
          ∧ r.2.mem ((c.tc : Thread Cert.RowsFinalReferenceIdeal.nD Cert.RowsFinalReferenceIdeal.τ).loc Cert.RowsFinalReferenceIdeal.main_arg0) = m' ((c.tc : Thread Cert.RowsFinalReferenceIdeal.nD Cert.RowsFinalReferenceIdeal.τ).loc Cert.RowsFinalReferenceIdeal.main_arg0)
          ∧ r.2.mem ((c.tc : Thread Cert.RowsFinalReferenceIdeal.nD Cert.RowsFinalReferenceIdeal.τ).loc Cert.RowsFinalReferenceIdeal.main_arg1) = m' ((c.tc : Thread Cert.RowsFinalReferenceIdeal.nD Cert.RowsFinalReferenceIdeal.τ).loc Cert.RowsFinalReferenceIdeal.main_arg1)
          ∧ r.2.mem ((c.tc : Thread Cert.RowsFinalReferenceIdeal.nD Cert.RowsFinalReferenceIdeal.τ).loc Cert.RowsFinalReferenceIdeal.main_arg2) = m' ((c.tc : Thread Cert.RowsFinalReferenceIdeal.nD Cert.RowsFinalReferenceIdeal.τ).loc Cert.RowsFinalReferenceIdeal.main_arg2)
          ∧ r.2.mem ((c.tc : Thread Cert.RowsFinalReferenceIdeal.nD Cert.RowsFinalReferenceIdeal.τ).loc Cert.RowsFinalReferenceIdeal.main_arg3) = m' ((c.tc : Thread Cert.RowsFinalReferenceIdeal.nD Cert.RowsFinalReferenceIdeal.τ).loc Cert.RowsFinalReferenceIdeal.main_arg3))

def preserves_ProjKernel_ProjKernelIdeal : Prop :=
  True

def algebraic_ProjKernelIdeal_ProjReferenceIdeal_pre_proj_finite [hProjKernelIdeal : Cert.ProjKernelIdeal.Facts] [hProjReferenceIdeal : Cert.ProjReferenceIdeal.Facts] [hPre_proj_finite : Cert.Pre_proj_finite.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal_proj_finite m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)) →
    ∃ (v0 : (c : Dev Cert.ProjKernelIdeal.nD) → Buf (Elt Ideal) ((c.tc : Thread Cert.ProjKernelIdeal.nD Cert.ProjKernelIdeal.τ).loc Cert.ProjKernelIdeal.main_v2_0)) (v1 : (c : Dev Cert.ProjKernelIdeal.nD) → Buf (Elt Ideal) ((c.tc : Thread Cert.ProjKernelIdeal.nD Cert.ProjKernelIdeal.τ).loc Cert.ProjKernelIdeal.main_v2_1)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v2_0) = v0 c
          ∧ r.2.mem ((c.tc : Thread Cert.ProjKernelIdeal.nD Cert.ProjKernelIdeal.τ).loc Cert.ProjKernelIdeal.main_v2_1) = v1 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v55) = v0 c
          ∧ r.2.mem ((c.tc : Thread Cert.ProjReferenceIdeal.nD Cert.ProjReferenceIdeal.τ).loc Cert.ProjReferenceIdeal.main_v51) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_StepKernel_StepKernelIdeal : Prop :=
  IdealRules.named_const.Statement Cert.StepKernelIdeal.κ "log2e" .f32 0x3FB8AA3B#32 (((Real.log 2)⁻¹ : ℝ) : EReal)
  ∧ IdealRules.named_const.Statement Cert.StepKernelIdeal.κ "mask" .f32 0xF149F2CA#32 ⊥

def algebraic_StepKernelIdeal_StepReferenceIdeal_pre_step_finite [hStepKernelIdeal : Cert.StepKernelIdeal.Facts] [hStepReferenceIdeal : Cert.StepReferenceIdeal.Facts] [hPre_step_finite : Cert.Pre_step_finite.Facts] : Prop :=
  ∀ (m : (ℓ : Loc Cert.StepKernelIdeal.nD Cert.StepKernelIdeal.τ Cert.StepKernelIdeal.sig) → Buf (Elt Ideal) ℓ) (g : Dev Cert.StepKernelIdeal.nD → PrngReg)
    (m' : (ℓ : Loc Cert.StepReferenceIdeal.nD Cert.StepReferenceIdeal.τ Cert.StepReferenceIdeal.sig) → Buf (Elt Ideal) ℓ) (g' : Dev Cert.StepReferenceIdeal.nD → PrngReg), Pre_StepKernelIdeal_step_finite m →
    (∀ c : Dev Cert.StepKernelIdeal.nD,
      m' ((c.tc : Thread Cert.StepReferenceIdeal.nD Cert.StepReferenceIdeal.τ).loc Cert.StepReferenceIdeal.main_arg0) = m ((c.tc : Thread Cert.StepKernelIdeal.nD Cert.StepKernelIdeal.τ).loc Cert.StepKernelIdeal.main_arg0)
      ∧ m' ((c.tc : Thread Cert.StepReferenceIdeal.nD Cert.StepReferenceIdeal.τ).loc Cert.StepReferenceIdeal.main_arg1) = m ((c.tc : Thread Cert.StepKernelIdeal.nD Cert.StepKernelIdeal.τ).loc Cert.StepKernelIdeal.main_arg1)
      ∧ m' ((c.tc : Thread Cert.StepReferenceIdeal.nD Cert.StepReferenceIdeal.τ).loc Cert.StepReferenceIdeal.main_arg2) = m ((c.tc : Thread Cert.StepKernelIdeal.nD Cert.StepKernelIdeal.τ).loc Cert.StepKernelIdeal.main_arg2)
      ∧ m' ((c.tc : Thread Cert.StepReferenceIdeal.nD Cert.StepReferenceIdeal.τ).loc Cert.StepReferenceIdeal.main_arg3) = m ((c.tc : Thread Cert.StepKernelIdeal.nD Cert.StepKernelIdeal.τ).loc Cert.StepKernelIdeal.main_arg3)
      ∧ m' ((c.tc : Thread Cert.StepReferenceIdeal.nD Cert.StepReferenceIdeal.τ).loc Cert.StepReferenceIdeal.main_arg4) = m ((c.tc : Thread Cert.StepKernelIdeal.nD Cert.StepKernelIdeal.τ).loc Cert.StepKernelIdeal.main_arg4)
      ∧ m' ((c.tc : Thread Cert.StepReferenceIdeal.nD Cert.StepReferenceIdeal.τ).loc Cert.StepReferenceIdeal.main_arg5) = m ((c.tc : Thread Cert.StepKernelIdeal.nD Cert.StepKernelIdeal.τ).loc Cert.StepKernelIdeal.main_arg5)
      ∧ m' ((c.tc : Thread Cert.StepReferenceIdeal.nD Cert.StepReferenceIdeal.τ).loc Cert.StepReferenceIdeal.main_arg6) = m ((c.tc : Thread Cert.StepKernelIdeal.nD Cert.StepKernelIdeal.τ).loc Cert.StepKernelIdeal.main_arg6)
      ∧ m' ((c.tc : Thread Cert.StepReferenceIdeal.nD Cert.StepReferenceIdeal.τ).loc Cert.StepReferenceIdeal.main_arg7) = m ((c.tc : Thread Cert.StepKernelIdeal.nD Cert.StepKernelIdeal.τ).loc Cert.StepKernelIdeal.main_arg7)
      ∧ m' ((c.tc : Thread Cert.StepReferenceIdeal.nD Cert.StepReferenceIdeal.τ).loc Cert.StepReferenceIdeal.main_arg8) = m ((c.tc : Thread Cert.StepKernelIdeal.nD Cert.StepKernelIdeal.τ).loc Cert.StepKernelIdeal.main_arg8)) →
    ∃ (v0 : (c : Dev Cert.StepKernelIdeal.nD) → Buf (Elt Ideal) ((c.tc : Thread Cert.StepKernelIdeal.nD Cert.StepKernelIdeal.τ).loc Cert.StepKernelIdeal.main_v23_0)) (v1 : (c : Dev Cert.StepKernelIdeal.nD) → Buf (Elt Ideal) ((c.tc : Thread Cert.StepKernelIdeal.nD Cert.StepKernelIdeal.τ).loc Cert.StepKernelIdeal.main_v23_1)) (v2 : (c : Dev Cert.StepKernelIdeal.nD) → Buf (Elt Ideal) ((c.tc : Thread Cert.StepKernelIdeal.nD Cert.StepKernelIdeal.τ).loc Cert.StepKernelIdeal.main_v23_2)),
      θ_run (Cert.StepKernelIdeal.defs (F := Ideal)) (onTc (τ := Cert.StepKernelIdeal.τ) (Cert.StepKernelIdeal.main (F := Ideal))) ⟨m, fun _ => 0, g⟩ (fun r => ∀ c : Dev Cert.StepKernelIdeal.nD,
          r.2.mem ((c.tc : Thread Cert.StepKernelIdeal.nD Cert.StepKernelIdeal.τ).loc Cert.StepKernelIdeal.main_v23_0) = v0 c
          ∧ r.2.mem ((c.tc : Thread Cert.StepKernelIdeal.nD Cert.StepKernelIdeal.τ).loc Cert.StepKernelIdeal.main_v23_1) = v1 c
          ∧ r.2.mem ((c.tc : Thread Cert.StepKernelIdeal.nD Cert.StepKernelIdeal.τ).loc Cert.StepKernelIdeal.main_v23_2) = v2 c
          ∧ r.2.mem ((c.tc : Thread Cert.StepKernelIdeal.nD Cert.StepKernelIdeal.τ).loc Cert.StepKernelIdeal.main_arg0) = m ((c.tc : Thread Cert.StepKernelIdeal.nD Cert.StepKernelIdeal.τ).loc Cert.StepKernelIdeal.main_arg0)
          ∧ r.2.mem ((c.tc : Thread Cert.StepKernelIdeal.nD Cert.StepKernelIdeal.τ).loc Cert.StepKernelIdeal.main_arg1) = m ((c.tc : Thread Cert.StepKernelIdeal.nD Cert.StepKernelIdeal.τ).loc Cert.StepKernelIdeal.main_arg1)
          ∧ r.2.mem ((c.tc : Thread Cert.StepKernelIdeal.nD Cert.StepKernelIdeal.τ).loc Cert.StepKernelIdeal.main_arg2) = m ((c.tc : Thread Cert.StepKernelIdeal.nD Cert.StepKernelIdeal.τ).loc Cert.StepKernelIdeal.main_arg2)
          ∧ r.2.mem ((c.tc : Thread Cert.StepKernelIdeal.nD Cert.StepKernelIdeal.τ).loc Cert.StepKernelIdeal.main_arg3) = m ((c.tc : Thread Cert.StepKernelIdeal.nD Cert.StepKernelIdeal.τ).loc Cert.StepKernelIdeal.main_arg3)
          ∧ r.2.mem ((c.tc : Thread Cert.StepKernelIdeal.nD Cert.StepKernelIdeal.τ).loc Cert.StepKernelIdeal.main_arg4) = m ((c.tc : Thread Cert.StepKernelIdeal.nD Cert.StepKernelIdeal.τ).loc Cert.StepKernelIdeal.main_arg4)
          ∧ r.2.mem ((c.tc : Thread Cert.StepKernelIdeal.nD Cert.StepKernelIdeal.τ).loc Cert.StepKernelIdeal.main_arg5) = m ((c.tc : Thread Cert.StepKernelIdeal.nD Cert.StepKernelIdeal.τ).loc Cert.StepKernelIdeal.main_arg5)
          ∧ r.2.mem ((c.tc : Thread Cert.StepKernelIdeal.nD Cert.StepKernelIdeal.τ).loc Cert.StepKernelIdeal.main_arg6) = m ((c.tc : Thread Cert.StepKernelIdeal.nD Cert.StepKernelIdeal.τ).loc Cert.StepKernelIdeal.main_arg6)
          ∧ r.2.mem ((c.tc : Thread Cert.StepKernelIdeal.nD Cert.StepKernelIdeal.τ).loc Cert.StepKernelIdeal.main_arg7) = m ((c.tc : Thread Cert.StepKernelIdeal.nD Cert.StepKernelIdeal.τ).loc Cert.StepKernelIdeal.main_arg7)
          ∧ r.2.mem ((c.tc : Thread Cert.StepKernelIdeal.nD Cert.StepKernelIdeal.τ).loc Cert.StepKernelIdeal.main_arg8) = m ((c.tc : Thread Cert.StepKernelIdeal.nD Cert.StepKernelIdeal.τ).loc Cert.StepKernelIdeal.main_arg8))
      ∧ θ_run (Cert.StepReferenceIdeal.defs (F := Ideal)) (onTc (τ := Cert.StepReferenceIdeal.τ) (Cert.StepReferenceIdeal.main (F := Ideal))) ⟨m', fun _ => 0, g'⟩ (fun r => ∀ c : Dev Cert.StepReferenceIdeal.nD,
          r.2.mem ((c.tc : Thread Cert.StepReferenceIdeal.nD Cert.StepReferenceIdeal.τ).loc Cert.StepReferenceIdeal.main_v127) = v0 c
          ∧ r.2.mem ((c.tc : Thread Cert.StepReferenceIdeal.nD Cert.StepReferenceIdeal.τ).loc Cert.StepReferenceIdeal.main_v34) = v1 c
          ∧ r.2.mem ((c.tc : Thread Cert.StepReferenceIdeal.nD Cert.StepReferenceIdeal.τ).loc Cert.StepReferenceIdeal.main_v128) = v2 c
          ∧ r.2.mem ((c.tc : Thread Cert.StepReferenceIdeal.nD Cert.StepReferenceIdeal.τ).loc Cert.StepReferenceIdeal.main_arg0) = m' ((c.tc : Thread Cert.StepReferenceIdeal.nD Cert.StepReferenceIdeal.τ).loc Cert.StepReferenceIdeal.main_arg0)
          ∧ r.2.mem ((c.tc : Thread Cert.StepReferenceIdeal.nD Cert.StepReferenceIdeal.τ).loc Cert.StepReferenceIdeal.main_arg1) = m' ((c.tc : Thread Cert.StepReferenceIdeal.nD Cert.StepReferenceIdeal.τ).loc Cert.StepReferenceIdeal.main_arg1)
          ∧ r.2.mem ((c.tc : Thread Cert.StepReferenceIdeal.nD Cert.StepReferenceIdeal.τ).loc Cert.StepReferenceIdeal.main_arg2) = m' ((c.tc : Thread Cert.StepReferenceIdeal.nD Cert.StepReferenceIdeal.τ).loc Cert.StepReferenceIdeal.main_arg2)
          ∧ r.2.mem ((c.tc : Thread Cert.StepReferenceIdeal.nD Cert.StepReferenceIdeal.τ).loc Cert.StepReferenceIdeal.main_arg3) = m' ((c.tc : Thread Cert.StepReferenceIdeal.nD Cert.StepReferenceIdeal.τ).loc Cert.StepReferenceIdeal.main_arg3)
          ∧ r.2.mem ((c.tc : Thread Cert.StepReferenceIdeal.nD Cert.StepReferenceIdeal.τ).loc Cert.StepReferenceIdeal.main_arg4) = m' ((c.tc : Thread Cert.StepReferenceIdeal.nD Cert.StepReferenceIdeal.τ).loc Cert.StepReferenceIdeal.main_arg4)
          ∧ r.2.mem ((c.tc : Thread Cert.StepReferenceIdeal.nD Cert.StepReferenceIdeal.τ).loc Cert.StepReferenceIdeal.main_arg5) = m' ((c.tc : Thread Cert.StepReferenceIdeal.nD Cert.StepReferenceIdeal.τ).loc Cert.StepReferenceIdeal.main_arg5)
          ∧ r.2.mem ((c.tc : Thread Cert.StepReferenceIdeal.nD Cert.StepReferenceIdeal.τ).loc Cert.StepReferenceIdeal.main_arg6) = m' ((c.tc : Thread Cert.StepReferenceIdeal.nD Cert.StepReferenceIdeal.τ).loc Cert.StepReferenceIdeal.main_arg6)
          ∧ r.2.mem ((c.tc : Thread Cert.StepReferenceIdeal.nD Cert.StepReferenceIdeal.τ).loc Cert.StepReferenceIdeal.main_arg7) = m' ((c.tc : Thread Cert.StepReferenceIdeal.nD Cert.StepReferenceIdeal.τ).loc Cert.StepReferenceIdeal.main_arg7)
          ∧ r.2.mem ((c.tc : Thread Cert.StepReferenceIdeal.nD Cert.StepReferenceIdeal.τ).loc Cert.StepReferenceIdeal.main_arg8) = m' ((c.tc : Thread Cert.StepReferenceIdeal.nD Cert.StepReferenceIdeal.τ).loc Cert.StepReferenceIdeal.main_arg8))

def Claim : Prop :=
  ∃ (hKernel : Cert.Kernel.Facts) (hKernelIdeal : Cert.KernelIdeal.Facts) (hReferenceIdeal : Cert.ReferenceIdeal.Facts) (hMergeKernel : Cert.MergeKernel.Facts) (hMergeKernelIdeal : Cert.MergeKernelIdeal.Facts) (hMergeReferenceIdeal : Cert.MergeReferenceIdeal.Facts) (hFinalKernel : Cert.FinalKernel.Facts) (hFinalKernelIdeal : Cert.FinalKernelIdeal.Facts) (hFinalReferenceIdeal : Cert.FinalReferenceIdeal.Facts) (hMemProjKernel : Cert.MemProjKernel.Facts) (hMemProjKernelIdeal : Cert.MemProjKernelIdeal.Facts) (hMemProjReferenceIdeal : Cert.MemProjReferenceIdeal.Facts) (hRowsProjKernel : Cert.RowsProjKernel.Facts) (hRowsProjKernelIdeal : Cert.RowsProjKernelIdeal.Facts) (hRowsProjReferenceIdeal : Cert.RowsProjReferenceIdeal.Facts) (hRowsFinalKernel : Cert.RowsFinalKernel.Facts) (hRowsFinalKernelIdeal : Cert.RowsFinalKernelIdeal.Facts) (hRowsFinalReferenceIdeal : Cert.RowsFinalReferenceIdeal.Facts) (hProjKernel : Cert.ProjKernel.Facts) (hProjKernelIdeal : Cert.ProjKernelIdeal.Facts) (hProjReferenceIdeal : Cert.ProjReferenceIdeal.Facts) (hStepKernel : Cert.StepKernel.Facts) (hStepKernelIdeal : Cert.StepKernelIdeal.Facts) (hStepReferenceIdeal : Cert.StepReferenceIdeal.Facts) (hPre_finite : Cert.Pre_finite.Facts) (hPre_proj_finite : Cert.Pre_proj_finite.Facts) (hPre_step_finite : Cert.Pre_step_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_FinalKernel (hFinalKernel := hFinalKernel)
    ∧ quiescent_FinalKernelIdeal (hFinalKernelIdeal := hFinalKernelIdeal)
    ∧ quiescent_FinalReferenceIdeal (hFinalReferenceIdeal := hFinalReferenceIdeal)
    ∧ quiescent_MemProjKernel (hMemProjKernel := hMemProjKernel)
    ∧ quiescent_MemProjKernelIdeal (hMemProjKernelIdeal := hMemProjKernelIdeal)
    ∧ quiescent_MemProjReferenceIdeal (hMemProjReferenceIdeal := hMemProjReferenceIdeal)
    ∧ quiescent_RowsProjKernel (hRowsProjKernel := hRowsProjKernel)
    ∧ quiescent_RowsProjKernelIdeal (hRowsProjKernelIdeal := hRowsProjKernelIdeal)
    ∧ quiescent_RowsProjReferenceIdeal (hRowsProjReferenceIdeal := hRowsProjReferenceIdeal)
    ∧ quiescent_RowsFinalKernel (hRowsFinalKernel := hRowsFinalKernel)
    ∧ quiescent_RowsFinalKernelIdeal (hRowsFinalKernelIdeal := hRowsFinalKernelIdeal)
    ∧ quiescent_RowsFinalReferenceIdeal (hRowsFinalReferenceIdeal := hRowsFinalReferenceIdeal)
    ∧ quiescent_ProjKernel (hProjKernel := hProjKernel)
    ∧ quiescent_ProjKernelIdeal (hProjKernelIdeal := hProjKernelIdeal)
    ∧ quiescent_ProjKernelIdeal_pre_proj_finite (hProjKernelIdeal := hProjKernelIdeal) (hPre_proj_finite := hPre_proj_finite)
    ∧ quiescent_ProjReferenceIdeal (hProjReferenceIdeal := hProjReferenceIdeal)
    ∧ quiescent_ProjReferenceIdeal_pre_proj_finite (hProjReferenceIdeal := hProjReferenceIdeal) (hPre_proj_finite := hPre_proj_finite)
    ∧ quiescent_StepKernel (hStepKernel := hStepKernel)
    ∧ quiescent_StepKernelIdeal (hStepKernelIdeal := hStepKernelIdeal)
    ∧ quiescent_StepKernelIdeal_pre_step_finite (hStepKernelIdeal := hStepKernelIdeal) (hPre_step_finite := hPre_step_finite)
    ∧ quiescent_StepReferenceIdeal (hStepReferenceIdeal := hStepReferenceIdeal)
    ∧ quiescent_StepReferenceIdeal_pre_step_finite (hStepReferenceIdeal := hStepReferenceIdeal) (hPre_step_finite := hPre_step_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_MergeKernel_MergeKernelIdeal
    ∧ algebraic_MergeKernelIdeal_MergeReferenceIdeal (hMergeKernelIdeal := hMergeKernelIdeal) (hMergeReferenceIdeal := hMergeReferenceIdeal)
    ∧ preserves_FinalKernel_FinalKernelIdeal
    ∧ algebraic_FinalKernelIdeal_FinalReferenceIdeal (hFinalKernelIdeal := hFinalKernelIdeal) (hFinalReferenceIdeal := hFinalReferenceIdeal)
    ∧ preserves_MemProjKernel_MemProjKernelIdeal
    ∧ algebraic_MemProjKernelIdeal_MemProjReferenceIdeal (hMemProjKernelIdeal := hMemProjKernelIdeal) (hMemProjReferenceIdeal := hMemProjReferenceIdeal)
    ∧ preserves_RowsProjKernel_RowsProjKernelIdeal
    ∧ algebraic_RowsProjKernelIdeal_RowsProjReferenceIdeal (hRowsProjKernelIdeal := hRowsProjKernelIdeal) (hRowsProjReferenceIdeal := hRowsProjReferenceIdeal)
    ∧ preserves_RowsFinalKernel_RowsFinalKernelIdeal
    ∧ algebraic_RowsFinalKernelIdeal_RowsFinalReferenceIdeal (hRowsFinalKernelIdeal := hRowsFinalKernelIdeal) (hRowsFinalReferenceIdeal := hRowsFinalReferenceIdeal)
    ∧ preserves_ProjKernel_ProjKernelIdeal
    ∧ algebraic_ProjKernelIdeal_ProjReferenceIdeal_pre_proj_finite (hProjKernelIdeal := hProjKernelIdeal) (hProjReferenceIdeal := hProjReferenceIdeal) (hPre_proj_finite := hPre_proj_finite)
    ∧ preserves_StepKernel_StepKernelIdeal
    ∧ algebraic_StepKernelIdeal_StepReferenceIdeal_pre_step_finite (hStepKernelIdeal := hStepKernelIdeal) (hStepReferenceIdeal := hStepReferenceIdeal) (hPre_step_finite := hPre_step_finite)
-- ==== Pre_finite.lean ====
abbrev S8192x17408 : Shape := ⟨2, ![8192, 17408]⟩
abbrev S8x8x3072 : Shape := ⟨3, ![8, 8, 3072]⟩
abbrev S32 : Shape := ⟨1, ![32]⟩
abbrev S2048 : Shape := ⟨1, ![2048]⟩
abbrev S_ : Shape := ⟨0, ![]⟩

class Facts : Prop where
  bcast_S_S8192x17408 : S_.BroadcastsInDim S8192x17408 (![] : Fin 0 → Fin S8192x17408.rank)
  reducesTo_S8192x17408_S_d0_1 : S8192x17408.ReducesTo [0, 1] S_
  h_S_ : 0 < S_.numel
  bcast_S_S32 : S_.BroadcastsInDim S32 (![] : Fin 0 → Fin S32.rank)
  reducesTo_S32_S_d0 : S32.ReducesTo [0] S_

variable [Facts]

def fn {F : FTy → Type} [FloatOps F] (main_arg0 : FVec F S8192x17408 .f32) (main_arg1 : FVec F S8x8x3072 .f32) (main_arg2 : FVec F S32 .f32) (main_arg3 : FVec F S32 .f32) (main_arg4 : FVec F S32 .f32) (main_arg5 : FVec F S2048 .f32) : IVec S_ 1 :=
  let main_v0 : FVec F S8192x17408 .f32 := Host.absf main_arg0
  let main_cst : FVec F S_ .f32 := constant S_ .f32 0x7F800000#32
  let main_v1 : FVec F S8192x17408 .f32 := broadcastInDim S8192x17408 ![] bcast_S_S8192x17408 main_cst
  let main_v2 : IVec S8192x17408 1 := cmpf .olt main_v0 main_v1
  let main_c : IVec S_ 1 := constantI S_ 1 1#1
  let main_v3 : IVec S_ 1 := (fun x v => Host.reduce IntOp.andi x v reducesTo_S8192x17408_S_d0_1 h_S_) main_v2 main_c
  let main_v4 : FVec F S32 .f32 := Host.absf main_arg2
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Pre_proj_finite.lean ====
abbrev S8192x2048 : Shape := ⟨2, ![8192, 2048]⟩
abbrev S2048 : Shape := ⟨1, ![2048]⟩
abbrev S2048x17408 : Shape := ⟨2, ![2048, 17408]⟩
abbrev S4x3072 : Shape := ⟨2, ![4, 3072]⟩
abbrev S3072 : Shape := ⟨1, ![3072]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_
  bitsLt_bf16_f32 : FTy.bits .bf16 < FTy.bits .f32
  bcast_S_S2048x17408 : S_.BroadcastsInDim S2048x17408 (![] : Fin 0 → Fin S2048x17408.rank)
  reducesTo_S2048x17408_S_d0_1 : S2048x17408.ReducesTo [0, 1] S_
  bcast_S_S4x3072 : S_.BroadcastsInDim S4x3072 (![] : Fin 0 → Fin S4x3072.rank)
  reducesTo_S4x3072_S_d0_1 : S4x3072.ReducesTo [0, 1] S_
  bcast_S_S3072 : S_.BroadcastsInDim S3072 (![] : Fin 0 → Fin S3072.rank)
  reducesTo_S3072_S_d0 : S3072.ReducesTo [0] S_

variable [Facts]

def fn_part1 {F : FTy → Type} [FloatOps F] (main_arg4 : FVec F S3072 .f32) (main_v14 : IVec S_ 1) (main_v15 : FVec F S4x3072 .f32) (main_v16 : FVec F S4x3072 .f32) : IVec S_ 1 :=
  let main_v17 : IVec S4x3072 1 := cmpf .olt main_v15 main_v16
  let main_c_5 : IVec S_ 1 := constantI S_ 1 1#1
  let main_v18 : IVec S_ 1 := (fun x v => Host.reduce IntOp.andi x v reducesTo_S4x3072_S_d0_1 h_S_) main_v17 main_c_5
  let main_v19 : IVec S_ 1 := andi main_v14 main_v18
  let main_v20 : FVec F S3072 .f32 := Host.absf main_arg4
  let main_cst_6 : FVec F S_ .f32 := constant S_ .f32 0x7F800000#32
  let main_v21 : FVec F S3072 .f32 := broadcastInDim S3072 ![] bcast_S_S3072 main_cst_6
  let main_v22 : IVec S3072 1 := cmpf .olt main_v20 main_v21
  let main_c_7 : IVec S_ 1 := constantI S_ 1 1#1
  let main_v23 : IVec S_ 1 := (fun x v => Host.reduce IntOp.andi x v reducesTo_S3072_S_d0 h_S_) main_v22 main_c_7
  let main_v24 : IVec S_ 1 := andi main_v19 main_v23
  main_v24

def fn {F : FTy → Type} [FloatOps F] (main_arg0 : FVec F S8192x2048 .f32) (main_arg1 : FVec F S2048 .f32) (main_arg2 : FVec F S2048x17408 .bf16) (main_arg3 : FVec F S4x3072 .f32) (main_arg4 : FVec F S3072 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048x17408 .f32 := (extf .f32 · bitsLt_bf16_f32) main_arg2
  let main_v10 : FVec F S2048x17408 .f32 := Host.absf main_v9
  let main_cst_2 : FVec F S_ .f32 := constant S_ .f32 0x7F800000#32
  let main_v11 : FVec F S2048x17408 .f32 := broadcastInDim S2048x17408 ![] bcast_S_S2048x17408 main_cst_2
  let main_v12 : IVec S2048x17408 1 := cmpf .olt main_v10 main_v11
  let main_c_3 : IVec S_ 1 := constantI S_ 1 1#1
  let main_v13 : IVec S_ 1 := (fun x v => Host.reduce IntOp.andi x v reducesTo_S2048x17408_S_d0_1 h_S_) main_v12 main_c_3
  let main_v14 : IVec S_ 1 := andi main_v8 main_v13
  let main_v15 : FVec F S4x3072 .f32 := Host.absf main_arg3
  let main_cst_4 : FVec F S_ .f32 := constant S_ .f32 0x7F800000#32
  let main_v16 : FVec F S4x3072 .f32 := broadcastInDim S4x3072 ![] bcast_S_S4x3072 main_cst_4
  fn_part1 (F := F) main_arg4 main_v14 main_v15 main_v16
-- ==== Pre_step_finite.lean ====
abbrev S256x17408 : Shape := ⟨2, ![256, 17408]⟩
abbrev S8x3x3072 : Shape := ⟨3, ![8, 3, 3072]⟩
abbrev S8x32x64x128 : Shape := ⟨4, ![8, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S_ : Shape := ⟨0, ![]⟩

class Facts : Prop where
  bcast_S_S256x17408 : S_.BroadcastsInDim S256x17408 (![] : Fin 0 → Fin S256x17408.rank)
  reducesTo_S256x17408_S_d0_1 : S256x17408.ReducesTo [0, 1] S_
  h_S_ : 0 < S_.numel
  bcast_S_S8x3x3072 : S_.BroadcastsInDim S8x3x3072 (![] : Fin 0 → Fin S8x3x3072.rank)
  reducesTo_S8x3x3072_S_d0_1_2 : S8x3x3072.ReducesTo [0, 1, 2] S_
  bcast_S_S4x3072 : S_.BroadcastsInDim S4x3072 (![] : Fin 0 → Fin S4x3072.rank)
  reducesTo_S4x3072_S_d0_1 : S4x3072.ReducesTo [0, 1] S_
  bcast_S_S3072 : S_.BroadcastsInDim S3072 (![] : Fin 0 → Fin S3072.rank)
  reducesTo_S3072_S_d0 : S3072.ReducesTo [0] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_arg6 : FVec F S32 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S256x17408 .f32) (main_arg1 : FVec F S8x3x3072 .f32) (main_arg2 : FVec F S8x32x64x128 .f32) (main_arg3 : FVec F S4x3072 .f32) (main_arg4 : FVec F S3072 .f32) (main_arg5 : FVec F S32 .f32) (main_arg6 : FVec F S32 .f32) (main_arg7 : FVec F S32 .f32) (main_arg8 : FVec F S2048 .f32) : IVec S_ 1 :=
  let main_v0 : FVec F S256x17408 .f32 := Host.absf main_arg0
  let main_cst : FVec F S_ .f32 := constant S_ .f32 0x7F800000#32
  let main_v1 : FVec F S256x17408 .f32 := broadcastInDim S256x17408 ![] bcast_S_S256x17408 main_cst
  let main_v2 : IVec S256x17408 1 := cmpf .olt main_v0 main_v1
  let main_c : IVec S_ 1 := constantI S_ 1 1#1
  let main_v3 : IVec S_ 1 := (fun x v => Host.reduce IntOp.andi x v reducesTo_S256x17408_S_d0_1 h_S_) main_v2 main_c
  let main_v4 : FVec F S8x3x3072 .f32 := Host.absf main_arg1
  let main_cst_0 : FVec F S_ .f32 := constant S_ .f32 0x7F800000#32
  let main_v5 : FVec F S8x3x3072 .f32 := broadcastInDim S8x3x3072 ![] bcast_S_S8x3x3072 main_cst_0
  let main_v6 : IVec S8x3x3072 1 := cmpf .olt main_v4 main_v5
  let main_c_1 : IVec S_ 1 := constantI S_ 1 1#1
  let main_v7 : IVec S_ 1 := (fun x v => Host.reduce IntOp.andi x v reducesTo_S8x3x3072_S_d0_1_2 h_S_) main_v6 main_c_1
  let main_v8 : IVec S_ 1 := andi main_v3 main_v7
  let main_v9 : FVec F S4x3072 .f32 := Host.absf main_arg3
  let main_cst_2 : FVec F S_ .f32 := constant S_ .f32 0x7F800000#32
  let main_v10 : FVec F S4x3072 .f32 := broadcastInDim S4x3072 ![] bcast_S_S4x3072 main_cst_2
  let main_v11 : IVec S4x3072 1 := cmpf .olt main_v9 main_v10
  let main_c_3 : IVec S_ 1 := constantI S_ 1 1#1
  let main_v12 : IVec S_ 1 := (fun x v => Host.reduce IntOp.andi x v reducesTo_S4x3072_S_d0_1 h_S_) main_v11 main_c_3
  let main_v13 : IVec S_ 1 := andi main_v8 main_v12
  let main_v14 : FVec F S3072 .f32 := Host.absf main_arg4
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg5 main_arg6 main_v13 main_v16
-- ==== Kernel.lean ====
abbrev S8192x17408 : Shape := ⟨2, ![8192, 17408]⟩
abbrev S8x8x3072 : Shape := ⟨3, ![8, 8, 3072]⟩
abbrev S32 : Shape := ⟨1, ![32]⟩
abbrev S2048 : Shape := ⟨1, ![2048]⟩
abbrev S_ : Shape := ⟨0, ![]⟩
abbrev S128 : Shape := ⟨1, ![128]⟩
abbrev S128x1 : Shape := ⟨2, ![128, 1]⟩
abbrev S1x2048 : Shape := ⟨2, ![1, 2048]⟩
abbrev S128x2048 : Shape := ⟨2, ![128, 2048]⟩
abbrev S32x64 : Shape := ⟨2, ![32, 64]⟩
abbrev S96 : Shape := ⟨1, ![96]⟩
abbrev S1x128 : Shape := ⟨2, ![1, 128]⟩
abbrev S8192x2048 : Shape := ⟨2, ![8192, 2048]⟩
abbrev S4x3x3072 : Shape := ⟨3, ![4, 3, 3072]⟩
abbrev S4x2048x128 : Shape := ⟨3, ![4, 2048, 128]⟩
abbrev S128x3072 : Shape := ⟨2, ![128, 3072]⟩
abbrev S128x128 : Shape := ⟨2, ![128, 128]⟩
abbrev S1x8x3072 : Shape := ⟨3, ![1, 8, 3072]⟩
abbrev S1x3x3072 : Shape := ⟨3, ![1, 3, 3072]⟩
abbrev S1x2048x128 : Shape := ⟨3, ![1, 2048, 128]⟩
abbrev S136x3072 : Shape := ⟨2, ![136, 3072]⟩
abbrev S4x128x512 : Shape := ⟨3, ![4, 128, 512]⟩
abbrev S3x3072 : Shape := ⟨2, ![3, 3072]⟩
abbrev S8x128 : Shape := ⟨2, ![8, 128]⟩
abbrev S8x2048 : Shape := ⟨2, ![8, 2048]⟩
abbrev S1x128x512 : Shape := ⟨3, ![1, 128, 512]⟩
abbrev S128x512 : Shape := ⟨2, ![128, 512]⟩
abbrev S1x512 : Shape := ⟨2, ![1, 512]⟩
abbrev S512x128 : Shape := ⟨2, ![512, 128]⟩
abbrev S1x512x128 : Shape := ⟨3, ![1, 512, 128]⟩

abbrev nBuf : Space → Nat
  | .hbm => 47
  | .vmem => 25
  | .smem => 0
  | _ => 0

abbrev bufTy : (tb : Table) → Fin (tcTables nBuf tb) → BufTy
  | .hbm, ⟨0, _⟩ => ⟨S8192x17408, .f32⟩
  | .hbm, ⟨1, _⟩ => ⟨S8x8x3072, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S2048, .f32⟩
  | .hbm, ⟨6, _⟩ => ⟨S2048, .i32⟩
  | .hbm, ⟨7, _⟩ => ⟨S_, .i32⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S128, .i32⟩
  | .hbm, ⟨26, _⟩ => ⟨S128x1, .i32⟩
  | .hbm, ⟨27, _⟩ => ⟨S1x2048, .i32⟩
  | .hbm, ⟨28, _⟩ => ⟨S128x2048, .i32⟩
  | .hbm, ⟨29, _⟩ => ⟨S128x2048, .i32⟩
  | .hbm, ⟨30, _⟩ => ⟨S128x2048, .i1⟩
  | .hbm, ⟨31, _⟩ => ⟨S128x2048, .bf16⟩
  | .hbm, ⟨32, _⟩ => ⟨S32x64, .f32⟩
  | .hbm, ⟨33, _⟩ => ⟨S2048, .f32⟩
  | .hbm, ⟨34, _⟩ => ⟨S1x2048, .f32⟩
  | .hbm, ⟨35, _⟩ => ⟨S_, .f32⟩
  | .hbm, ⟨36, _⟩ => ⟨S96, .f32⟩
  | .hbm, ⟨37, _⟩ => ⟨S128, .f32⟩
  | .hbm, ⟨38, _⟩ => ⟨S1x128, .f32⟩
  | .hbm, ⟨39, _⟩ => ⟨S_, .f32⟩
  | .hbm, ⟨40, _⟩ => ⟨S96, .f32⟩
  | .hbm, ⟨41, _⟩ => ⟨S128, .f32⟩
  | .hbm, ⟨42, _⟩ => ⟨S1x128, .f32⟩
  | .hbm, ⟨43, _⟩ => ⟨S1x2048, .f32⟩
  | .hbm, ⟨44, _⟩ => ⟨S8192x2048, .bf16⟩
  | .hbm, ⟨45, _⟩ => ⟨S4x3x3072, .f32⟩
  | .hbm, ⟨46, _⟩ => ⟨S4x2048x128, .f32⟩
  | .local _ .vmem, ⟨0, _⟩ => ⟨S128x2048, .f32⟩
  | .local _ .vmem, ⟨1, _⟩ => ⟨S128x2048, .f32⟩
  | .local _ .vmem, ⟨2, _⟩ => ⟨S128x3072, .f32⟩
  | .local _ .vmem, ⟨3, _⟩ => ⟨S128x3072, .f32⟩
  | .local _ .vmem, ⟨4, _⟩ => ⟨S128x128, .f32⟩
  | .local _ .vmem, ⟨5, _⟩ => ⟨S128x128, .f32⟩
  | .local _ .vmem, ⟨6, _⟩ => ⟨S1x8x3072, .f32⟩
  | .local _ .vmem, ⟨7, _⟩ => ⟨S1x8x3072, .f32⟩
  | .local _ .vmem, ⟨8, _⟩ => ⟨S1x128, .f32⟩
  | .local _ .vmem, ⟨9, _⟩ => ⟨S1x128, .f32⟩
  | .local _ .vmem, ⟨10, _⟩ => ⟨S1x2048, .f32⟩
  | .local _ .vmem, ⟨11, _⟩ => ⟨S1x2048, .f32⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S1x3x3072, .f32⟩
  | .local _ .vmem, ⟨16, _⟩ => ⟨S1x3x3072, .f32⟩
  | .local _ .vmem, ⟨17, _⟩ => ⟨S1x2048x128, .f32⟩
  | .local _ .vmem, ⟨18, _⟩ => ⟨S1x2048x128, .f32⟩
  | .local _ .vmem, ⟨19, _⟩ => ⟨S136x3072, .f32⟩
  | .local _ .vmem, ⟨20, _⟩ => ⟨S4x128x512, .f32⟩
  | .local _ .vmem, ⟨21, _⟩ => ⟨S128x2048, .f32⟩
  | .local _ .vmem, ⟨22, _⟩ => ⟨S128x3072, .f32⟩
  | .local _ .vmem, ⟨23, _⟩ => ⟨S128x2048, .f32⟩
  | .local _ .vmem, ⟨24, _⟩ => ⟨S128x2048, .bf16⟩
  | _, _ => ⟨S8192x17408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_0 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19_0 : Ref sig .tc := ⟨.hbm, 44, rfl⟩
abbrev main_v19_1 : Ref sig .tc := ⟨.hbm, 45, rfl⟩
abbrev main_v19_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v3 : BitVec 1 := Scalar.cmpi .eq arg1 c15_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c15_i32_276 : BitVec 32 := 15#32
  let v982 : BitVec 1 := Scalar.cmpi .eq arg1 c15_i32_276
  let v983 : BitVec 32 := Scalar.extui v982
  let c0_i32_277 : BitVec 32 := 0#32
  let v984 : BitVec 1 := Scalar.cmpi .ne v983 c0_i32_277
  v984

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c7_i32 : BitVec 32 := 7#32
  let c0_i32 : BitVec 32 := 0#32
  ![v1.toNat, c7_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c134_i32 : BitVec 32 := 134#32
  let c0_i32 : BitVec 32 := 0#32
  ![v1.toNat, c134_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c2_i32 : BitVec 32 := 2#32
  let v1 : BitVec 32 := Scalar.muli v0 c2_i32
  let c1_i32_0 : BitVec 32 := 1#32
  let v2 : BitVec 32 := Scalar.subi v1 c1_i32_0
  let c0_i32 : BitVec 32 := 0#32
  let c0_i32_1 : BitVec 32 := 0#32
  let c0_i32_2 : BitVec 32 := 0#32
  ![v2.toNat, c0_i32.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x3x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8192x17408 : Shape := ⟨2, ![8192, 17408]⟩
abbrev S8x8x3072 : Shape := ⟨3, ![8, 8, 3072]⟩
abbrev S32 : Shape := ⟨1, ![32]⟩
abbrev S2048 : Shape := ⟨1, ![2048]⟩
abbrev S8192x3072 : Shape := ⟨2, ![8192, 3072]⟩
abbrev S4x2048x3072 : Shape := ⟨3, ![4, 2048, 3072]⟩
abbrev S8192x32 : Shape := ⟨2, ![8192, 32]⟩
abbrev S4x2048x32 : Shape := ⟨3, ![4, 2048, 32]⟩
abbrev S4x2048x2048 : Shape := ⟨3, ![4, 2048, 2048]⟩
abbrev S4x2048x512 : Shape := ⟨3, ![4, 2048, 512]⟩
abbrev S4x2048x4x128 : Shape := ⟨4, ![4, 2048, 4, 128]⟩
abbrev S1x1x32 : Shape := ⟨3, ![1, 1, 32]⟩
abbrev S_ : Shape := ⟨0, ![]⟩
abbrev S4x2048x32x64 : Shape := ⟨4, ![4, 2048, 32, 64]⟩
abbrev S4x32x64x128 : Shape := ⟨4, ![4, 32, 64, 128]⟩
abbrev S4x32x64x4x8x64 : Shape := ⟨6, ![4, 32, 64, 4, 8, 64]⟩
abbrev S4x32x64x4x8 : Shape := ⟨5, ![4, 32, 64, 4, 8]⟩
abbrev S4x32x64x4x128 : Shape := ⟨5, ![4, 32, 64, 4, 128]⟩
abbrev S4x8 : Shape := ⟨2, ![4, 8]⟩
abbrev S4x4x8x64x128 : Shape := ⟨5, ![4, 4, 8, 64, 128]⟩
abbrev S32x4x64x4x8x64 : Shape := ⟨6, ![32, 4, 64, 4, 8, 64]⟩
abbrev S32x4x64x4x8 : Shape := ⟨5, ![32, 4, 64, 4, 8]⟩
abbrev S32x4x64x4x128 : Shape := ⟨5, ![32, 4, 64, 4, 128]⟩
abbrev S1x4x64x4x8x64 : Shape := ⟨6, ![1, 4, 64, 4, 8, 64]⟩
abbrev S4x64x4x8x64 : Shape := ⟨5, ![4, 64, 4, 8, 64]⟩
abbrev S1x4x64x4x8 : Shape := ⟨5, ![1, 4, 64, 4, 8]⟩
abbrev S4x64x4x8 : Shape := ⟨4, ![4, 64, 4, 8]⟩
abbrev S1x4x64x4x128 : Shape := ⟨5, ![1, 4, 64, 4, 128]⟩
abbrev S4x64x4x128 : Shape := ⟨4, ![4, 64, 4, 128]⟩
abbrev S1x1x4x8 : Shape := ⟨4, ![1, 1, 4, 8]⟩
abbrev S64x64 : Shape := ⟨2, ![64, 64]⟩
abbrev S64x64x1x1 : Shape := ⟨4, ![64, 64, 1, 1]⟩
abbrev S4x64x1x4x8 : Shape := ⟨5, ![4, 64, 1, 4, 8]⟩
abbrev S4x1x64x4x8 : Shape := ⟨5, ![4, 1, 64, 4, 8]⟩
abbrev S4x64x64x4x8 : Shape := ⟨5, ![4, 64, 64, 4, 8]⟩
abbrev S4x4x64x64 : Shape := ⟨4, ![4, 4, 64, 64]⟩
abbrev S4x64x64x4 : Shape := ⟨4, ![4, 64, 64, 4]⟩
abbrev S4x64x64x4x1 : Shape := ⟨5, ![4, 64, 64, 4, 1]⟩
abbrev S4x4x8x64x64 : Shape := ⟨5, ![4, 4, 8, 64, 64]⟩
abbrev S4x1x4x8 : Shape := ⟨4, ![4, 1, 4, 8]⟩
abbrev S4x64x4x8x1 : Shape := ⟨5, ![4, 64, 4, 8, 1]⟩
abbrev S4x4x8 : Shape := ⟨3, ![4, 4, 8]⟩
abbrev S4x4x8x1x1 : Shape := ⟨5, ![4, 4, 8, 1, 1]⟩
abbrev S8192x2048 : Shape := ⟨2, ![8192, 2048]⟩
abbrev S32x1 : Shape := ⟨2, ![32, 1]⟩
abbrev S1x1x32x1 : Shape := ⟨4, ![1, 1, 32, 1]⟩
abbrev S4x2048x4x512 : Shape := ⟨4, ![4, 2048, 4, 512]⟩
abbrev S4x2048x4 : Shape := ⟨3, ![4, 2048, 4]⟩
abbrev S4x2048x4x1 : Shape := ⟨4, ![4, 2048, 4, 1]⟩
abbrev S1x1x2048 : Shape := ⟨3, ![1, 1, 2048]⟩
abbrev S4x2x8x3072 : Shape := ⟨4, ![4, 2, 8, 3072]⟩
abbrev S4x1x3x3072 : Shape := ⟨4, ![4, 1, 3, 3072]⟩
abbrev S4x3x3072 : Shape := ⟨3, ![4, 3, 3072]⟩
abbrev S4x2048x128 : Shape := ⟨3, ![4, 2048, 128]⟩

abbrev nBuf : Space → Nat
  | .hbm => 202
  | .vmem => 0
  | .smem => 0
  | _ => 0

abbrev hbmTy0_0 (i : Nat) : BufTy := match i % 128 with
  | 0 => ⟨S8192x17408, .f32⟩
  | 1 => ⟨S8x8x3072, .f32⟩
  | 2 => ⟨S32, .f32⟩
  | 3 => ⟨S32, .f32⟩
  | 4 => ⟨S32, .f32⟩
  | 5 => ⟨S2048, .f32⟩
  | 6 => ⟨S8192x3072, .f32⟩
  | 7 => ⟨S4x2048x3072, .f32⟩
  | 8 => ⟨S8192x32, .f32⟩
  | 9 => ⟨S4x2048x32, .f32⟩
  | 10 => ⟨S4x2048x2048, .f32⟩
  | 11 => ⟨S4x2048x512, .f32⟩
  | 12 => ⟨S4x2048x4x128, .f32⟩
  | 13 => ⟨S4x2048x512, .f32⟩
  | 14 => ⟨S4x2048x4x128, .f32⟩
  | 15 => ⟨S1x1x32, .f32⟩
  | 16 => ⟨S4x2048x32, .f32⟩
  | 17 => ⟨S4x2048x32, .f32⟩
  | 18 => ⟨S_, .f32⟩
  | 19 => ⟨S4x2048x32, .f32⟩
  | 20 => ⟨S4x2048x32, .f32⟩
  | 21 => ⟨S4x2048x32, .f32⟩
  | 22 => ⟨S4x2048x32, .f32⟩
  | 23 => ⟨S4x2048x32, .i1⟩
  | 24 => ⟨S4x2048x32, .f32⟩
  | 25 => ⟨S4x2048x32, .f32⟩
  | 26 => ⟨S4x2048x32, .f32⟩
  | 27 => ⟨S4x2048x32, .f32⟩
  | 28 => ⟨S4x2048x32, .f32⟩
  | 29 => ⟨S4x2048x32, .f32⟩
  | 30 => ⟨S4x2048x32, .f32⟩
  | 31 => ⟨S4x2048x32, .f32⟩
  | 32 => ⟨S32, .f32⟩
  | 33 => ⟨S32, .f32⟩
  | 34 => ⟨S4x2048x32x64, .f32⟩
  | 35 => ⟨S_, .f32⟩
  | 36 => ⟨S4x32x64x128, .f32⟩
  | 37 => ⟨S4x32x64x4x8x64, .f32⟩
  | 38 => ⟨S4x32x64x4x8, .f32⟩
  | 39 => ⟨S4x32x64x4x128, .f32⟩
  | 40 => ⟨S4x32x64x4x128, .f32⟩
  | 41 => ⟨S4x8, .f32⟩
  | 42 => ⟨S4x4x8x64x128, .f32⟩
  | 43 => ⟨S32x4x64x4x8x64, .f32⟩
  | 44 => ⟨S32x4x64x4x8, .f32⟩
  | 45 => ⟨S32x4x64x4x128, .f32⟩
  | 46 => ⟨S32x4x64x4x128, .f32⟩
  | 47 => ⟨S_, .f32⟩
  | 48 => ⟨S32x4x64x4x8x64, .f32⟩
  | 49 => ⟨S_, .i32⟩
  | 50 => ⟨S32x4x64x4x8x64, .f32⟩
  | 51 => ⟨S32x4x64x4x8, .f32⟩
  | 52 => ⟨S32x4x64x4x128, .f32⟩
  | 53 => ⟨S32x4x64x4x128, .f32⟩
  | 54 => ⟨S4x8, .f32⟩
  | 55 => ⟨S_, .i32⟩
  | 56 => ⟨S4x4x8x64x128, .f32⟩
  | 57 => ⟨S32x4x64x4x8x64, .f32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S1x4x64x4x8x64, .f32⟩
  | 66 => ⟨S4x64x4x8x64, .f32⟩
  | 67 => ⟨S_, .i32⟩
  | 68 => ⟨S_, .i32⟩
  | 69 => ⟨S_, .i32⟩
  | 70 => ⟨S_, .i32⟩
  | 71 => ⟨S1x4x64x4x8, .f32⟩
  | 72 => ⟨S4x64x4x8, .f32⟩
  | 73 => ⟨S_, .i32⟩
  | 74 => ⟨S_, .i32⟩
  | 75 => ⟨S_, .i32⟩
  | 76 => ⟨S_, .i32⟩
  | 77 => ⟨S1x4x64x4x128, .f32⟩
  | 78 => ⟨S4x64x4x128, .f32⟩
  | 79 => ⟨S_, .i32⟩
  | 80 => ⟨S_, .i32⟩
  | 81 => ⟨S_, .i32⟩
  | 82 => ⟨S_, .i32⟩
  | 83 => ⟨S1x4x64x4x128, .f32⟩
  | 84 => ⟨S4x64x4x128, .f32⟩
  | 85 => ⟨S1x1x4x8, .f32⟩
  | 86 => ⟨S4x64x4x8, .f32⟩
  | 87 => ⟨S4x64x4x8, .f32⟩
  | 88 => ⟨S_, .f32⟩
  | 89 => ⟨S_, .f32⟩
  | 90 => ⟨S4x64x4x8, .f32⟩
  | 91 => ⟨S_, .i1⟩
  | 92 => ⟨S64x64, .i1⟩
  | 93 => ⟨S64x64, .i32⟩
  | 94 => ⟨S_, .i32⟩
  | 95 => ⟨S64x64, .i32⟩
  | 96 => ⟨S64x64, .i32⟩
  | 97 => ⟨S64x64, .i32⟩
  | 98 => ⟨S64x64, .i1⟩
  | 99 => ⟨S_, .i1⟩
  | 100 => ⟨S64x64, .i1⟩
  | 101 => ⟨S64x64, .i1⟩
  | 102 => ⟨S64x64x1x1, .i1⟩
  | 103 => ⟨S4x64x1x4x8, .f32⟩
  | 104 => ⟨S4x1x64x4x8, .f32⟩
  | 105 => ⟨S4x64x64x4x8, .f32⟩
  | 106 => ⟨S4x64x64x4x8, .f32⟩
  | 107 => ⟨S4x64x64x4x8, .f32⟩
  | 108 => ⟨S_, .f32⟩
  | 109 => ⟨S_, .f32⟩
  | 110 => ⟨S4x64x64x4x8, .i1⟩
  | 111 => ⟨S4x64x64x4x8, .f32⟩
  | 112 => ⟨S4x64x64x4x8, .f32⟩
  | 113 => ⟨S4x4x64x64, .f32⟩
  | 114 => ⟨S4x64x64x4, .f32⟩
  | 115 => ⟨S4x64x64x4x1, .f32⟩
  | 116 => ⟨S4x64x64x4x8, .f32⟩
  | 117 => ⟨S4x64x64x4x8, .f32⟩
  | 118 => ⟨S4x64x64x4x8, .f32⟩
  | 119 => ⟨S4x1x64x4x8, .f32⟩
  | 120 => ⟨S4x64x64x4x8, .f32⟩
  | 121 => ⟨S4x64x64x4x8, .f32⟩
  | 122 => ⟨S4x4x8x64x64, .f32⟩
  | 123 => ⟨S4x64x4x8x64, .f32⟩
  | 124 => ⟨S4x1x4x8, .f32⟩
  | 125 => ⟨S4x64x4x8, .f32⟩
  | 126 => ⟨S4x64x4x8, .f32⟩
  | 127 => ⟨S4x64x4x8, .f32⟩
  | _ => ⟨S8192x17408, .f32⟩

abbrev hbmTy0_1 (i : Nat) : BufTy := match i % 128 with
  | 0 => ⟨S4x64x4x8, .f32⟩
  | 1 => ⟨S4x64x4x8x1, .f32⟩
  | 2 => ⟨S4x64x4x8x64, .f32⟩
  | 3 => ⟨S4x64x4x8x64, .f32⟩
  | 4 => ⟨S4x4x8x64x128, .f32⟩
  | 5 => ⟨S4x1x4x8, .f32⟩
  | 6 => ⟨S4x4x8, .f32⟩
  | 7 => ⟨S4x4x8, .f32⟩
  | 8 => ⟨S4x4x8x64x64, .f32⟩
  | 9 => ⟨S4x64x4x8x64, .f32⟩
  | 10 => ⟨S4x64x4x8, .f32⟩
  | 11 => ⟨S4x64x4x8x1, .f32⟩
  | 12 => ⟨S4x64x4x8x64, .f32⟩
  | 13 => ⟨S4x64x4x8x64, .f32⟩
  | 14 => ⟨S4x4x8x1x1, .f32⟩
  | 15 => ⟨S4x4x8x64x128, .f32⟩
  | 16 => ⟨S4x4x8x64x128, .f32⟩
  | 17 => ⟨S4x4x8x64x128, .f32⟩
  | 18 => ⟨S4x64x4x8x64, .f32⟩
  | 19 => ⟨S1x4x64x4x8x64, .f32⟩
  | 20 => ⟨S_, .i32⟩
  | 21 => ⟨S_, .i32⟩
  | 22 => ⟨S_, .i32⟩
  | 23 => ⟨S_, .i32⟩
  | 24 => ⟨S_, .i32⟩
  | 25 => ⟨S32x4x64x4x8x64, .f32⟩
  | 26 => ⟨S_, .i32⟩
  | 27 => ⟨S_, .i32⟩
  | 28 => ⟨S4x32x64x4x8x64, .f32⟩
  | 29 => ⟨S4x2048x32x64, .f32⟩
  | 30 => ⟨S8192x2048, .f32⟩
  | 31 => ⟨S4x2048x32x64, .f32⟩
  | 32 => ⟨S8192x2048, .f32⟩
  | 33 => ⟨S4x2048x2048, .f32⟩
  | 34 => ⟨S32x1, .f32⟩
  | 35 => ⟨S1x1x32x1, .f32⟩
  | 36 => ⟨S4x2048x32x64, .f32⟩
  | 37 => ⟨S4x2048x32x64, .f32⟩
  | 38 => ⟨S4x2048x32x64, .f32⟩
  | 39 => ⟨S4x2048x4x512, .f32⟩
  | 40 => ⟨S4x2048x2048, .f32⟩
  | 41 => ⟨S4x2048x2048, .f32⟩
  | 42 => ⟨S_, .f32⟩
  | 43 => ⟨S4x2048x2048, .f32⟩
  | 44 => ⟨S4x2048x2048, .f32⟩
  | 45 => ⟨S_, .f32⟩
  | 46 => ⟨S4x2048x2048, .f32⟩
  | 47 => ⟨S4x2048x2048, .f32⟩
  | 48 => ⟨S4x2048x2048, .f32⟩
  | 49 => ⟨S4x2048x4x512, .f32⟩
  | 50 => ⟨S4x2048x4x512, .f32⟩
  | 51 => ⟨S4x2048x4x512, .f32⟩
  | 52 => ⟨S_, .f32⟩
  | 53 => ⟨S4x2048x4, .f32⟩
  | 54 => ⟨S4x2048x4x1, .f32⟩
  | 55 => ⟨S_, .f32⟩
  | 56 => ⟨S4x2048x4x1, .f32⟩
  | 57 => ⟨S4x2048x4x1, .f32⟩
  | 58 => ⟨S_, .f32⟩
  | 59 => ⟨S4x2048x4x1, .f32⟩
  | 60 => ⟨S4x2048x4x1, .f32⟩
  | 61 => ⟨S4x2048x4x1, .f32⟩
  | 62 => ⟨S4x2048x4x512, .f32⟩
  | 63 => ⟨S4x2048x4x512, .f32⟩
  | 64 => ⟨S4x2048x2048, .f32⟩
  | 65 => ⟨S1x1x2048, .f32⟩
  | 66 => ⟨S4x2048x2048, .f32⟩
  | 67 => ⟨S4x2048x2048, .f32⟩
  | 68 => ⟨S4x2x8x3072, .f32⟩
  | 69 => ⟨S4x1x3x3072, .f32⟩
  | 70 => ⟨S4x3x3072, .f32⟩
  | 71 => ⟨S8192x2048, .f32⟩
  | 72 => ⟨S8192x2048, .bf16⟩
  | 73 => ⟨S4x2048x128, .f32⟩
  | _ => ⟨S8192x17408, .f32⟩

abbrev hbmTy (i : Nat) : BufTy := match i / 128 with
  | 0 => hbmTy0_0 i
  | 1 => hbmTy0_1 i
  | _ => ⟨S8192x17408, .f32⟩

abbrev bufTy : (tb : Table) → Fin (tcTables nBuf tb) → BufTy
  | .hbm, ⟨i, _⟩ => hbmTy i
  | _, _ => ⟨S8192x17408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_0 : Ref sig .tc := ⟨.hbm, 47, rfl⟩
abbrev main_v27 : Ref sig .tc := ⟨.hbm, 48, rfl⟩
abbrev main_c : Ref sig .tc := ⟨.hbm, 49, rfl⟩
abbrev main_v28_0 : Ref sig .tc := ⟨.hbm, 50, rfl⟩
abbrev main_v28_1 : Ref sig .tc := ⟨.hbm, 51, rfl⟩
abbrev main_v28_2 : Ref sig .tc := ⟨.hbm, 52, rfl⟩
abbrev main_v28_3 : Ref sig .tc := ⟨.hbm, 53, rfl⟩
abbrev main_v28_4 : Ref sig .tc := ⟨.hbm, 54, rfl⟩
abbrev main_v28_5 : Ref sig .tc := ⟨.hbm, 55, rfl⟩
abbrev main_v28_6 : Ref sig .tc := ⟨.hbm, 56, rfl⟩
abbrev main_v28_7 : Ref sig .tc := ⟨.hbm, 57, rfl⟩
abbrev main_while0c_c_11 : Ref sig .tc := ⟨.hbm, 58, rfl⟩
abbrev main_while0c_v64 : Ref sig .tc := ⟨.hbm, 59, rfl⟩
abbrev main_while0b_call1_c : Ref sig .tc := ⟨.hbm, 60, rfl⟩
abbrev main_while0b_call1_c_0 : Ref sig .tc := ⟨.hbm, 61, rfl⟩
abbrev main_while0b_call1_c_1 : Ref sig .tc := ⟨.hbm, 62, rfl⟩
abbrev main_while0b_call1_c_2 : Ref sig .tc := ⟨.hbm, 63, rfl⟩
abbrev main_while0b_call1_c_3 : Ref sig .tc := ⟨.hbm, 64, rfl⟩
abbrev main_while0b_call1_v0 : Ref sig .tc := ⟨.hbm, 65, rfl⟩
abbrev main_while0b_v64 : Ref sig .tc := ⟨.hbm, 66, rfl⟩
abbrev main_while0b_call2_c : Ref sig .tc := ⟨.hbm, 67, rfl⟩
abbrev main_while0b_call2_c_0 : Ref sig .tc := ⟨.hbm, 68, rfl⟩
abbrev main_while0b_call2_c_1 : Ref sig .tc := ⟨.hbm, 69, rfl⟩
abbrev main_while0b_call2_c_2 : Ref sig .tc := ⟨.hbm, 70, rfl⟩
abbrev main_while0b_call2_v0 : Ref sig .tc := ⟨.hbm, 71, rfl⟩
abbrev main_while0b_v65 : Ref sig .tc := ⟨.hbm, 72, rfl⟩
abbrev main_while0b_call3_c : Ref sig .tc := ⟨.hbm, 73, rfl⟩
abbrev main_while0b_call3_c_0 : Ref sig .tc := ⟨.hbm, 74, rfl⟩
abbrev main_while0b_call3_c_1 : Ref sig .tc := ⟨.hbm, 75, rfl⟩
abbrev main_while0b_call3_c_2 : Ref sig .tc := ⟨.hbm, 76, rfl⟩
abbrev main_while0b_call3_v0 : Ref sig .tc := ⟨.hbm, 77, rfl⟩
abbrev main_while0b_v66 : Ref sig .tc := ⟨.hbm, 78, rfl⟩
abbrev main_while0b_call4_c : Ref sig .tc := ⟨.hbm, 79, rfl⟩
abbrev main_while0b_call4_c_0 : Ref sig .tc := ⟨.hbm, 80, rfl⟩
abbrev main_while0b_call4_c_1 : Ref sig .tc := ⟨.hbm, 81, rfl⟩
abbrev main_while0b_call4_c_2 : Ref sig .tc := ⟨.hbm, 82, rfl⟩
abbrev main_while0b_call4_v0 : Ref sig .tc := ⟨.hbm, 83, rfl⟩
abbrev main_while0b_v67 : Ref sig .tc := ⟨.hbm, 84, rfl⟩
abbrev main_while0b_v68 : Ref sig .tc := ⟨.hbm, 85, rfl⟩
abbrev main_while0b_v69 : Ref sig .tc := ⟨.hbm, 86, rfl⟩
abbrev main_while0b_v70 : Ref sig .tc := ⟨.hbm, 87, rfl⟩
abbrev main_while0b_call5_call0_cst : Ref sig .tc := ⟨.hbm, 88, rfl⟩
abbrev main_while0b_call5_call0_v0 : Ref sig .tc := ⟨.hbm, 89, rfl⟩
abbrev main_while0b_v71 : Ref sig .tc := ⟨.hbm, 90, rfl⟩
abbrev main_while0b_c_11 : Ref sig .tc := ⟨.hbm, 91, rfl⟩
abbrev main_while0b_v72 : Ref sig .tc := ⟨.hbm, 92, rfl⟩
abbrev main_while0b_call6_v0 : Ref sig .tc := ⟨.hbm, 93, rfl⟩
abbrev main_while0b_call6_c : Ref sig .tc := ⟨.hbm, 94, rfl⟩
abbrev main_while0b_call6_v1 : Ref sig .tc := ⟨.hbm, 95, rfl⟩
abbrev main_while0b_call6_v2 : Ref sig .tc := ⟨.hbm, 96, rfl⟩
abbrev main_while0b_call6_v3 : Ref sig .tc := ⟨.hbm, 97, rfl⟩
abbrev main_while0b_call6_v4 : Ref sig .tc := ⟨.hbm, 98, rfl⟩
abbrev main_while0b_call6_c_0 : Ref sig .tc := ⟨.hbm, 99, rfl⟩
abbrev main_while0b_call6_v5 : Ref sig .tc := ⟨.hbm, 100, rfl⟩
abbrev main_while0b_v73 : Ref sig .tc := ⟨.hbm, 101, rfl⟩
abbrev main_while0b_v74 : Ref sig .tc := ⟨.hbm, 102, rfl⟩
abbrev main_while0b_v75 : Ref sig .tc := ⟨.hbm, 103, rfl⟩
abbrev main_while0b_v76 : Ref sig .tc := ⟨.hbm, 104, rfl⟩
abbrev main_while0b_v77 : Ref sig .tc := ⟨.hbm, 105, rfl⟩
abbrev main_while0b_v78 : Ref sig .tc := ⟨.hbm, 106, rfl⟩
abbrev main_while0b_v79 : Ref sig .tc := ⟨.hbm, 107, rfl⟩
abbrev main_while0b_cst_12 : Ref sig .tc := ⟨.hbm, 108, rfl⟩
abbrev main_while0b_call7_v0 : Ref sig .tc := ⟨.hbm, 109, rfl⟩
abbrev main_while0b_call7_v1 : Ref sig .tc := ⟨.hbm, 110, rfl⟩
abbrev main_while0b_call7_v2 : Ref sig .tc := ⟨.hbm, 111, rfl⟩
abbrev main_while0b_v80 : Ref sig .tc := ⟨.hbm, 112, rfl⟩
abbrev main_while0b_v81 : Ref sig .tc := ⟨.hbm, 113, rfl⟩
abbrev main_while0b_v82 : Ref sig .tc := ⟨.hbm, 114, rfl⟩
abbrev main_while0b_v83 : Ref sig .tc := ⟨.hbm, 115, rfl⟩
abbrev main_while0b_v84 : Ref sig .tc := ⟨.hbm, 116, rfl⟩
abbrev main_while0b_v85 : Ref sig .tc := ⟨.hbm, 117, rfl⟩
abbrev main_while0b_v86 : Ref sig .tc := ⟨.hbm, 118, rfl⟩
abbrev main_while0b_v87 : Ref sig .tc := ⟨.hbm, 119, rfl⟩
abbrev main_while0b_v88 : Ref sig .tc := ⟨.hbm, 120, rfl⟩
abbrev main_while0b_v89 : Ref sig .tc := ⟨.hbm, 121, rfl⟩
abbrev main_while0b_v90 : Ref sig .tc := ⟨.hbm, 122, rfl⟩
abbrev main_while0b_v91 : Ref sig .tc := ⟨.hbm, 123, rfl⟩
abbrev main_while0b_v92 : Ref sig .tc := ⟨.hbm, 124, rfl⟩
abbrev main_while0b_v93 : Ref sig .tc := ⟨.hbm, 125, rfl⟩
abbrev main_while0b_v94 : Ref sig .tc := ⟨.hbm, 126, rfl⟩
abbrev main_while0b_v95 : Ref sig .tc := ⟨.hbm, 127, rfl⟩
abbrev main_while0b_v96 : Ref sig .tc := ⟨.hbm, 128, rfl⟩
abbrev main_while0b_v97 : Ref sig .tc := ⟨.hbm, 129, rfl⟩
abbrev main_while0b_v98 : Ref sig .tc := ⟨.hbm, 130, rfl⟩
abbrev main_while0b_v99 : Ref sig .tc := ⟨.hbm, 131, rfl⟩
abbrev main_while0b_v100 : Ref sig .tc := ⟨.hbm, 132, rfl⟩
abbrev main_while0b_v101 : Ref sig .tc := ⟨.hbm, 133, rfl⟩
abbrev main_while0b_v102 : Ref sig .tc := ⟨.hbm, 134, rfl⟩
abbrev main_while0b_v103 : Ref sig .tc := ⟨.hbm, 135, rfl⟩
abbrev main_while0b_v104 : Ref sig .tc := ⟨.hbm, 136, rfl⟩
abbrev main_while0b_v105 : Ref sig .tc := ⟨.hbm, 137, rfl⟩
abbrev main_while0b_v106 : Ref sig .tc := ⟨.hbm, 138, rfl⟩
abbrev main_while0b_v107 : Ref sig .tc := ⟨.hbm, 139, rfl⟩
abbrev main_while0b_v108 : Ref sig .tc := ⟨.hbm, 140, rfl⟩
abbrev main_while0b_v109 : Ref sig .tc := ⟨.hbm, 141, rfl⟩
abbrev main_while0b_v110 : Ref sig .tc := ⟨.hbm, 142, rfl⟩
abbrev main_while0b_v111 : Ref sig .tc := ⟨.hbm, 143, rfl⟩
abbrev main_while0b_v112 : Ref sig .tc := ⟨.hbm, 144, rfl⟩
abbrev main_while0b_v113 : Ref sig .tc := ⟨.hbm, 145, rfl⟩
abbrev main_while0b_v114 : Ref sig .tc := ⟨.hbm, 146, rfl⟩
abbrev main_while0b_call8_v0 : Ref sig .tc := ⟨.hbm, 147, rfl⟩
abbrev main_while0b_call8_c : Ref sig .tc := ⟨.hbm, 148, rfl⟩
abbrev main_while0b_call8_c_0 : Ref sig .tc := ⟨.hbm, 149, rfl⟩
abbrev main_while0b_call8_c_1 : Ref sig .tc := ⟨.hbm, 150, rfl⟩
abbrev main_while0b_call8_c_2 : Ref sig .tc := ⟨.hbm, 151, rfl⟩
abbrev main_while0b_call8_c_3 : Ref sig .tc := ⟨.hbm, 152, rfl⟩
abbrev main_while0b_v115 : Ref sig .tc := ⟨.hbm, 153, rfl⟩
abbrev main_while0b_c_13 : Ref sig .tc := ⟨.hbm, 154, rfl⟩
abbrev main_while0b_v116 : Ref sig .tc := ⟨.hbm, 155, rfl⟩
abbrev main_v29 : Ref sig .tc := ⟨.hbm, 156, rfl⟩
abbrev main_v30 : Ref sig .tc := ⟨.hbm, 157, rfl⟩
abbrev main_v31 : Ref sig .tc := ⟨.hbm, 158, rfl⟩
abbrev main_v32 : Ref sig .tc := ⟨.hbm, 159, rfl⟩
abbrev main_v33 : Ref sig .tc := ⟨.hbm, 160, rfl⟩
abbrev main_v34 : Ref sig .tc := ⟨.hbm, 161, rfl⟩
abbrev main_v35 : Ref sig .tc := ⟨.hbm, 162, rfl⟩
abbrev main_v36 : Ref sig .tc := ⟨.hbm, 163, rfl⟩
abbrev main_v37 : Ref sig .tc := ⟨.hbm, 164, rfl⟩
abbrev main_v38 : Ref sig .tc := ⟨.hbm, 165, rfl⟩
abbrev main_v39 : Ref sig .tc := ⟨.hbm, 166, rfl⟩
abbrev main_v40 : Ref sig .tc := ⟨.hbm, 167, rfl⟩
abbrev main_call9_v0 : Ref sig .tc := ⟨.hbm, 168, rfl⟩
abbrev main_call9_v1 : Ref sig .tc := ⟨.hbm, 169, rfl⟩
abbrev main_call9_cst : Ref sig .tc := ⟨.hbm, 170, rfl⟩
abbrev main_call9_v2 : Ref sig .tc := ⟨.hbm, 171, rfl⟩
abbrev main_call9_v3 : Ref sig .tc := ⟨.hbm, 172, rfl⟩
abbrev main_call9_cst_0 : Ref sig .tc := ⟨.hbm, 173, rfl⟩
abbrev main_call9_v4 : Ref sig .tc := ⟨.hbm, 174, rfl⟩
abbrev main_call9_v5 : Ref sig .tc := ⟨.hbm, 175, rfl⟩
abbrev main_v41 : Ref sig .tc := ⟨.hbm, 176, rfl⟩
abbrev main_v42 : Ref sig .tc := ⟨.hbm, 177, rfl⟩
abbrev main_v43 : Ref sig .tc := ⟨.hbm, 178, rfl⟩
abbrev main_v44 : Ref sig .tc := ⟨.hbm, 179, rfl⟩
abbrev main_cst_1 : Ref sig .tc := ⟨.hbm, 180, rfl⟩
abbrev main_v45 : Ref sig .tc := ⟨.hbm, 181, rfl⟩
abbrev main_v46 : Ref sig .tc := ⟨.hbm, 182, rfl⟩
abbrev main_cst_2 : Ref sig .tc := ⟨.hbm, 183, rfl⟩
abbrev main_v47 : Ref sig .tc := ⟨.hbm, 184, rfl⟩
abbrev main_v48 : Ref sig .tc := ⟨.hbm, 185, rfl⟩
abbrev main_cst_3 : Ref sig .tc := ⟨.hbm, 186, rfl⟩
abbrev main_v49 : Ref sig .tc := ⟨.hbm, 187, rfl⟩
abbrev main_v50 : Ref sig .tc := ⟨.hbm, 188, rfl⟩
abbrev main_v51 : Ref sig .tc := ⟨.hbm, 189, rfl⟩
abbrev main_v52 : Ref sig .tc := ⟨.hbm, 190, rfl⟩
abbrev main_v53 : Ref sig .tc := ⟨.hbm, 191, rfl⟩
abbrev main_v54 : Ref sig .tc := ⟨.hbm, 192, rfl⟩
abbrev main_v55 : Ref sig .tc := ⟨.hbm, 193, rfl⟩
abbrev main_v56 : Ref sig .tc := ⟨.hbm, 194, rfl⟩
abbrev main_v57 : Ref sig .tc := ⟨.hbm, 195, rfl⟩
abbrev main_v58 : Ref sig .tc := ⟨.hbm, 196, rfl⟩
abbrev main_v59 : Ref sig .tc := ⟨.hbm, 197, rfl⟩
abbrev main_v60 : Ref sig .tc := ⟨.hbm, 198, rfl⟩
abbrev main_v61 : Ref sig .tc := ⟨.hbm, 199, rfl⟩
abbrev main_v62 : Ref sig .tc := ⟨.hbm, 200, rfl⟩
abbrev main_v63 : Ref sig .tc := ⟨.hbm, 201, rfl⟩

abbrev nD : Nat := 1
abbrev τ : Topo := Topo.v7x

variable {F : FTy → Type} [FloatOps F]

abbrev main_while0_count : Scf.Loop 32 := ⟨0#32, 32#32, 1#32⟩
-- ==== MergeKernel.lean ====
abbrev S8192x1024 : Shape := ⟨2, ![8192, 1024]⟩
abbrev S8192x2048 : Shape := ⟨2, ![8192, 2048]⟩
abbrev S8192x17408 : Shape := ⟨2, ![8192, 17408]⟩
abbrev S1024x2048 : Shape := ⟨2, ![1024, 2048]⟩
abbrev S2048x2048 : Shape := ⟨2, ![2048, 2048]⟩
abbrev S256x1024 : Shape := ⟨2, ![256, 1024]⟩
abbrev S256x2048 : Shape := ⟨2, ![256, 2048]⟩

abbrev nBuf : Space → Nat
  | .hbm => 8
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .bf16⟩
  | .hbm, ⟨3, _⟩ => ⟨S8192x17408, .f32⟩
  | .hbm, ⟨4, _⟩ => ⟨S1024x2048, .bf16⟩
  | .hbm, ⟨5, _⟩ => ⟨S2048x2048, .bf16⟩
  | .hbm, ⟨6, _⟩ => ⟨S1024x2048, .bf16⟩
  | .hbm, ⟨7, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S256x2048, .bf16⟩
  | .local _ .vmem, ⟨3, _⟩ => ⟨S256x2048, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S1024x2048, .bf16⟩
  | .local _ .vmem, ⟨13, _⟩ => ⟨S2048x2048, .bf16⟩
  | .local _ .vmem, ⟨14, _⟩ => ⟨S1024x2048, .bf16⟩
  | .local _ .vmem, ⟨15, _⟩ => ⟨S256x2048, .bf16⟩
  | .local _ .vmem, ⟨16, _⟩ => ⟨S256x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeReferenceIdeal.lean ====
abbrev S8192x1024 : Shape := ⟨2, ![8192, 1024]⟩
abbrev S8192x2048 : Shape := ⟨2, ![8192, 2048]⟩
abbrev S8192x17408 : Shape := ⟨2, ![8192, 17408]⟩
abbrev S1024x2048 : Shape := ⟨2, ![1024, 2048]⟩
abbrev S2048x2048 : Shape := ⟨2, ![2048, 2048]⟩
abbrev S8192x6144 : Shape := ⟨2, ![8192, 6144]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .bf16⟩
  | .hbm, ⟨3, _⟩ => ⟨S8192x17408, .f32⟩
  | .hbm, ⟨4, _⟩ => ⟨S1024x2048, .bf16⟩
  | .hbm, ⟨5, _⟩ => ⟨S2048x2048, .bf16⟩
  | .hbm, ⟨6, _⟩ => ⟨S1024x2048, .bf16⟩
  | .hbm, ⟨7, _⟩ => ⟨S8192x6144, .f32⟩
  | .hbm, ⟨8, _⟩ => ⟨S8192x6144, .f32⟩
  | .hbm, ⟨9, _⟩ => ⟨S8192x6144, .f32⟩
  | .hbm, ⟨10, _⟩ => ⟨S_, .f32⟩
  | .hbm, ⟨11, _⟩ => ⟨S8192x6144, .f32⟩
  | .hbm, ⟨12, _⟩ => ⟨S8192x6144, .f32⟩
  | .hbm, ⟨13, _⟩ => ⟨S_, .f32⟩
  | .hbm, ⟨14, _⟩ => ⟨S8192x6144, .f32⟩
  | .hbm, ⟨15, _⟩ => ⟨S8192x6144, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x1024, .f32⟩
  | .hbm, ⟨20, _⟩ => ⟨S1024x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S2048x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x1024, .f32⟩
  | .hbm, ⟨29, _⟩ => ⟨S1024x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== FinalKernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .hbm, ⟨3, _⟩ => ⟨S2048, .f32⟩
  | .hbm, ⟨4, _⟩ => ⟨S1x2048, .f32⟩
  | .hbm, ⟨5, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalReferenceIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .hbm, ⟨3, _⟩ => ⟨S2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== MemProjKernel.lean ====
abbrev S1024x2048 : Shape := ⟨2, ![1024, 2048]⟩
abbrev S2048 : Shape := ⟨1, ![2048]⟩
abbrev S2048x2048 : Shape := ⟨2, ![2048, 2048]⟩
abbrev S1x2048 : Shape := ⟨2, ![1, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩
abbrev S512x2048 : Shape := ⟨2, ![512, 2048]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2048x2048, .bf16⟩
  | .hbm, ⟨3, _⟩ => ⟨S1x2048, .f32⟩
  | .hbm, ⟨4, _⟩ => ⟨S1024x2048, .f32⟩
  | .local _ .vmem, ⟨0, _⟩ => ⟨S1024x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemProjReferenceIdeal.lean ====
abbrev S1024x2048 : Shape := ⟨2, ![1024, 2048]⟩
abbrev S2048 : Shape := ⟨1, ![2048]⟩
abbrev S2048x2048 : Shape := ⟨2, ![2048, 2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S2048x2048, .bf16⟩
  | .hbm, ⟨3, _⟩ => ⟨S1024x2048, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x2048, .f32⟩
  | .hbm, ⟨15, _⟩ => ⟨S1024x2048, .f32⟩
  | .hbm, ⟨16, _⟩ => ⟨S1x2048, .f32⟩
  | .hbm, ⟨17, _⟩ => ⟨S1024x2048, .f32⟩
  | .hbm, ⟨18, _⟩ => ⟨S1024x2048, .f32⟩
  | .hbm, ⟨19, _⟩ => ⟨S2048x2048, .f32⟩
  | .hbm, ⟨20, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== RowsProjKernel.lean ====
abbrev S256x2048 : Shape := ⟨2, ![256, 2048]⟩
abbrev S2048 : Shape := ⟨1, ![2048]⟩
abbrev S2048x17408 : Shape := ⟨2, ![2048, 17408]⟩
abbrev S1x2048 : Shape := ⟨2, ![1, 2048]⟩
abbrev S256x17408 : Shape := ⟨2, ![256, 17408]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048x17408, .bf16⟩
  | .hbm, ⟨3, _⟩ => ⟨S1x2048, .f32⟩
  | .hbm, ⟨4, _⟩ => ⟨S256x17408, .f32⟩
  | .local _ .vmem, ⟨0, _⟩ => ⟨S256x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | .local _ .vmem, ⟨6, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RowsProjReferenceIdeal.lean ====
abbrev S256x2048 : Shape := ⟨2, ![256, 2048]⟩
abbrev S2048 : Shape := ⟨1, ![2048]⟩
abbrev S2048x17408 : Shape := ⟨2, ![2048, 17408]⟩
abbrev S_ : Shape := ⟨0, ![]⟩
abbrev S256 : Shape := ⟨1, ![256]⟩
abbrev S256x1 : Shape := ⟨2, ![256, 1]⟩
abbrev S1x2048 : Shape := ⟨2, ![1, 2048]⟩
abbrev S256x17408 : Shape := ⟨2, ![256, 17408]⟩

abbrev nBuf : Space → Nat
  | .hbm => 21
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048x17408, .bf16⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S1x2048, .f32⟩
  | .hbm, ⟨17, _⟩ => ⟨S256x2048, .f32⟩
  | .hbm, ⟨18, _⟩ => ⟨S256x2048, .f32⟩
  | .hbm, ⟨19, _⟩ => ⟨S2048x17408, .f32⟩
  | .hbm, ⟨20, _⟩ => ⟨S256x17408, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== RowsFinalKernel.lean ====
abbrev S256x2048 : Shape := ⟨2, ![256, 2048]⟩
abbrev S2048x2048 : Shape := ⟨2, ![2048, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S2048x2048, .bf16⟩
  | .hbm, ⟨3, _⟩ => ⟨S2048, .f32⟩
  | .hbm, ⟨4, _⟩ => ⟨S1x2048, .f32⟩
  | .hbm, ⟨5, _⟩ => ⟨S256x2048, .f32⟩
  | .local _ .vmem, ⟨0, _⟩ => ⟨S256x2048, .bf16⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S256x2048, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== RowsFinalReferenceIdeal.lean ====
abbrev S256x2048 : Shape := ⟨2, ![256, 2048]⟩
abbrev S2048x2048 : Shape := ⟨2, ![2048, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S2048x2048, .bf16⟩
  | .hbm, ⟨3, _⟩ => ⟨S2048, .f32⟩
  | .hbm, ⟨4, _⟩ => ⟨S256x2048, .f32⟩
  | .hbm, ⟨5, _⟩ => ⟨S2048x2048, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S256x2048, .f32⟩
  | .hbm, ⟨20, _⟩ => ⟨S256x2048, .f32⟩
  | .hbm, ⟨21, _⟩ => ⟨S1x2048, .f32⟩
  | .hbm, ⟨22, _⟩ => ⟨S256x2048, .f32⟩
  | .hbm, ⟨23, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== ProjKernel.lean ====
abbrev S8192x2048 : Shape := ⟨2, ![8192, 2048]⟩
abbrev S2048 : Shape := ⟨1, ![2048]⟩
abbrev S2048x17408 : Shape := ⟨2, ![2048, 17408]⟩
abbrev S4x3072 : Shape := ⟨2, ![4, 3072]⟩
abbrev S3072 : Shape := ⟨1, ![3072]⟩
abbrev S1x2048 : Shape := ⟨2, ![1, 2048]⟩
abbrev S1x3072 : Shape := ⟨2, ![1, 3072]⟩
abbrev S8192x17408 : Shape := ⟨2, ![8192, 17408]⟩
abbrev S8x8x3072 : Shape := ⟨3, ![8, 8, 3072]⟩
abbrev S1024x2048 : Shape := ⟨2, ![1024, 2048]⟩
abbrev S2048x1024 : Shape := ⟨2, ![2048, 1024]⟩
abbrev S4x1024 : Shape := ⟨2, ![4, 1024]⟩
abbrev S1x1024 : Shape := ⟨2, ![1, 1024]⟩
abbrev S1024x1024 : Shape := ⟨2, ![1024, 1024]⟩
abbrev S1x8x1024 : Shape := ⟨3, ![1, 8, 1024]⟩
abbrev S2x520x1024 : Shape := ⟨3, ![2, 520, 1024]⟩
abbrev S3x8x1024 : Shape := ⟨3, ![3, 8, 1024]⟩
abbrev S1024 : Shape := ⟨1, ![1024]⟩
abbrev S1024x1 : Shape := ⟨2, ![1024, 1]⟩
abbrev S512x2048 : Shape := ⟨2, ![512, 2048]⟩
abbrev S512x1024 : Shape := ⟨2, ![512, 1024]⟩
abbrev S8x1024 : Shape := ⟨2, ![8, 1024]⟩
abbrev S1x512x1024 : Shape := ⟨3, ![1, 512, 1024]⟩
abbrev S1x520x1024 : Shape := ⟨3, ![1, 520, 1024]⟩
abbrev S520x1024 : Shape := ⟨2, ![520, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x17408, .bf16⟩
  | .hbm, ⟨3, _⟩ => ⟨S4x3072, .f32⟩
  | .hbm, ⟨4, _⟩ => ⟨S3072, .f32⟩
  | .hbm, ⟨5, _⟩ => ⟨S1x2048, .f32⟩
  | .hbm, ⟨6, _⟩ => ⟨S1x3072, .f32⟩
  | .hbm, ⟨7, _⟩ => ⟨S8192x17408, .f32⟩
  | .hbm, ⟨8, _⟩ => ⟨S8x8x3072, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S4x1024, .f32⟩
  | .local _ .vmem, ⟨6, _⟩ => ⟨S4x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x8x1024, .f32⟩
  | .local _ .vmem, ⟨12, _⟩ => ⟨S1x8x1024, .f32⟩
  | .local _ .vmem, ⟨13, _⟩ => ⟨S1024x2048, .bf16⟩
  | .local _ .vmem, ⟨14, _⟩ => ⟨S2x520x1024, .f32⟩
  | .local _ .vmem, ⟨15, _⟩ => ⟨S3x8x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 17], ![false, false]⟩

def k0_cond4 (i : grid0.Coords) : BitVec 1 :=
  let arg1 : BitVec 32 := BitVec.ofNat 32 (i 1).val
  let c6_i32 : BitVec 32 := 6#32
  let v8 : BitVec 1 := Scalar.cmpi .sge arg1 c6_i32
  let c9_i32 : BitVec 32 := 9#32
  let v9 : BitVec 1 := Scalar.cmpi .slt arg1 c9_i32
  let v10 : BitVec 1 := Scalar.andi v8 v9
  let true_5 : BitVec 1 := 1#1
  let v14 : BitVec 1 := Scalar.xori v10 true_5
  let v15 : BitVec 32 := Scalar.extui v14
  let c0_i32_6 : BitVec 32 := 0#32
  let v16 : BitVec 1 := Scalar.cmpi .ne v15 c0_i32_6
  v16

def k0_off1 (i : grid0.Coords) : Fin 3 → Nat :=
  let c8_i32 : BitVec 32 := 8#32
  let c6_i32_8 : BitVec 32 := 6#32
  let arg1 : BitVec 32 := BitVec.ofNat 32 (i 1).val
  let v19 : BitVec 32 := Scalar.maxsi c6_i32_8 arg1
  let v20 : BitVec 32 := Scalar.minsi c8_i32 v19
  let c6_i32_9 : BitVec 32 := 6#32
  let v21 : BitVec 32 := Scalar.subi v20 c6_i32_9
  let v22 : Index := Scalar.indexCast v21
  let c0 : Index := 0#32
  let c0_10 : Index := 0#32
  ![v22.toNat, 0, 0]
def k0_cond5 (i : grid0.Coords) : BitVec 1 :=
  let arg1 : BitVec 32 := BitVec.ofNat 32 (i 1).val
  let c6_i32 : BitVec 32 := 6#32
  let v8 : BitVec 1 := Scalar.cmpi .sge arg1 c6_i32
  let c9_i32 : BitVec 32 := 9#32
  let v9 : BitVec 1 := Scalar.cmpi .slt arg1 c9_i32
  let v10 : BitVec 1 := Scalar.andi v8 v9
  let v17 : BitVec 32 := Scalar.extui v10
  let c0_i32_7 : BitVec 32 := 0#32
  let v18 : BitVec 1 := Scalar.cmpi .ne v17 c0_i32_7
  v18

def k0_off2 (i : grid0.Coords) : Fin 3 → Nat :=
  let arg1 : BitVec 32 := BitVec.ofNat 32 (i 1).val
  let c6_i32_8 : BitVec 32 := 6#32
  let v19 : BitVec 32 := Scalar.maxsi arg1 c6_i32_8
  let c6_i32_9 : BitVec 32 := 6#32
  let v20 : BitVec 32 := Scalar.subi v19 c6_i32_9
  let v32 : Index := Scalar.indexCast v20
  let c0 : Index := 0#32
  let c0_15 : Index := 0#32
  ![v32.toNat, 0, 0]
def k0_cond3 (i : grid0.Coords) : BitVec 1 :=
  let arg1 : BitVec 32 := BitVec.ofNat 32 (i 1).val
  let c6_i32 : BitVec 32 := 6#32
  let v8 : BitVec 1 := Scalar.cmpi .sge arg1 c6_i32
  let c9_i32 : BitVec 32 := 9#32
  let v9 : BitVec 1 := Scalar.cmpi .slt arg1 c9_i32
  let v10 : BitVec 1 := Scalar.andi v8 v9
  let v_true : BitVec 1 := 1#1
  let v11 : BitVec 1 := Scalar.xori v10 v_true
  let v12 : BitVec 32 := Scalar.extui v11
  let c0_i32_4 : BitVec 32 := 0#32
  let v13 : BitVec 1 := Scalar.cmpi .ne v12 c0_i32_4
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  ![arg0.toNat, c0_i32_0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjReferenceIdeal.lean ====
abbrev S8192x2048 : Shape := ⟨2, ![8192, 2048]⟩
abbrev S2048 : Shape := ⟨1, ![2048]⟩
abbrev S2048x17408 : Shape := ⟨2, ![2048, 17408]⟩
abbrev S4x3072 : Shape := ⟨2, ![4, 3072]⟩
abbrev S3072 : Shape := ⟨1, ![3072]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x17408 : Shape := ⟨2, ![8192, 17408]⟩
abbrev S8192x3072 : Shape := ⟨2, ![8192, 3072]⟩
abbrev S4x2048x3072 : Shape := ⟨3, ![4, 2048, 3072]⟩
abbrev S4x3x3072 : Shape := ⟨3, ![4, 3, 3072]⟩
abbrev S4x2051x3072 : Shape := ⟨3, ![4, 2051, 3072]⟩
abbrev S1x3072 : Shape := ⟨2, ![1, 3072]⟩
abbrev S1x1x3072 : Shape := ⟨3, ![1, 1, 3072]⟩
abbrev S8x1024x3072 : Shape := ⟨3, ![8, 1024, 3072]⟩
abbrev S8x8x3072 : Shape := ⟨3, ![8, 8, 3072]⟩
abbrev S8192x6144 : Shape := ⟨2, ![8192, 6144]⟩
abbrev S8192x8192 : Shape := ⟨2, ![8192, 8192]⟩

abbrev nBuf : Space → Nat
  | .hbm => 73
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x17408, .bf16⟩
  | .hbm, ⟨3, _⟩ => ⟨S4x3072, .f32⟩
  | .hbm, ⟨4, _⟩ => ⟨S3072, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S2048x17408, .f32⟩
  | .hbm, ⟨22, _⟩ => ⟨S8192x17408, .f32⟩
  | .hbm, ⟨23, _⟩ => ⟨S8192x3072, .f32⟩
  | .hbm, ⟨24, _⟩ => ⟨S4x2048x3072, .f32⟩
  | .hbm, ⟨25, _⟩ => ⟨S_, .f32⟩
  | .hbm, ⟨26, _⟩ => ⟨S4x3x3072, .f32⟩
  | .hbm, ⟨27, _⟩ => ⟨S4x2051x3072, .f32⟩
  | .hbm, ⟨28, _⟩ => ⟨S1x3072, .f32⟩
  | .hbm, ⟨29, _⟩ => ⟨S3072, .f32⟩
  | .hbm, ⟨30, _⟩ => ⟨S4x2048x3072, .f32⟩
  | .hbm, ⟨31, _⟩ => ⟨S1x1x3072, .f32⟩
  | .hbm, ⟨32, _⟩ => ⟨S4x2048x3072, .f32⟩
  | .hbm, ⟨33, _⟩ => ⟨S4x2048x3072, .f32⟩
  | .hbm, ⟨34, _⟩ => ⟨S1x3072, .f32⟩
  | .hbm, ⟨35, _⟩ => ⟨S3072, .f32⟩
  | .hbm, ⟨36, _⟩ => ⟨S4x2048x3072, .f32⟩
  | .hbm, ⟨37, _⟩ => ⟨S1x1x3072, .f32⟩
  | .hbm, ⟨38, _⟩ => ⟨S4x2048x3072, .f32⟩
  | .hbm, ⟨39, _⟩ => ⟨S4x2048x3072, .f32⟩
  | .hbm, ⟨40, _⟩ => ⟨S4x2048x3072, .f32⟩
  | .hbm, ⟨41, _⟩ => ⟨S1x3072, .f32⟩
  | .hbm, ⟨42, _⟩ => ⟨S3072, .f32⟩
  | .hbm, ⟨43, _⟩ => ⟨S4x2048x3072, .f32⟩
  | .hbm, ⟨44, _⟩ => ⟨S1x1x3072, .f32⟩
  | .hbm, ⟨45, _⟩ => ⟨S4x2048x3072, .f32⟩
  | .hbm, ⟨46, _⟩ => ⟨S4x2048x3072, .f32⟩
  | .hbm, ⟨47, _⟩ => ⟨S4x2048x3072, .f32⟩
  | .hbm, ⟨48, _⟩ => ⟨S1x3072, .f32⟩
  | .hbm, ⟨49, _⟩ => ⟨S3072, .f32⟩
  | .hbm, ⟨50, _⟩ => ⟨S4x2048x3072, .f32⟩
  | .hbm, ⟨51, _⟩ => ⟨S1x1x3072, .f32⟩
  | .hbm, ⟨52, _⟩ => ⟨S4x2048x3072, .f32⟩
  | .hbm, ⟨53, _⟩ => ⟨S4x2048x3072, .f32⟩
  | .hbm, ⟨54, _⟩ => ⟨S4x2048x3072, .f32⟩
  | .hbm, ⟨55, _⟩ => ⟨S1x1x3072, .f32⟩
  | .hbm, ⟨56, _⟩ => ⟨S4x2048x3072, .f32⟩
  | .hbm, ⟨57, _⟩ => ⟨S4x2048x3072, .f32⟩
  | .hbm, ⟨58, _⟩ => ⟨S4x2048x3072, .f32⟩
  | .hbm, ⟨59, _⟩ => ⟨S4x2048x3072, .f32⟩
  | .hbm, ⟨60, _⟩ => ⟨S_, .f32⟩
  | .hbm, ⟨61, _⟩ => ⟨S4x2048x3072, .f32⟩
  | .hbm, ⟨62, _⟩ => ⟨S4x2048x3072, .f32⟩
  | .hbm, ⟨63, _⟩ => ⟨S_, .f32⟩
  | .hbm, ⟨64, _⟩ => ⟨S4x2048x3072, .f32⟩
  | .hbm, ⟨65, _⟩ => ⟨S4x2048x3072, .f32⟩
  | .hbm, ⟨66, _⟩ => ⟨S4x2048x3072, .f32⟩
  | .hbm, ⟨67, _⟩ => ⟨S8x1024x3072, .f32⟩
  | .hbm, ⟨68, _⟩ => ⟨S8x8x3072, .f32⟩
  | .hbm, ⟨69, _⟩ => ⟨S8192x6144, .f32⟩
  | .hbm, ⟨70, _⟩ => ⟨S8192x3072, .f32⟩
  | .hbm, ⟨71, _⟩ => ⟨S8192x8192, .f32⟩
  | .hbm, ⟨72, _⟩ => ⟨S8192x17408, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== StepKernel.lean ====
abbrev S256x17408 : Shape := ⟨2, ![256, 17408]⟩
abbrev S8x3x3072 : Shape := ⟨3, ![8, 3, 3072]⟩
abbrev S8x32x64x128 : Shape := ⟨4, ![8, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S_ : Shape := ⟨0, ![]⟩
abbrev S128 : Shape := ⟨1, ![128]⟩
abbrev S128x1 : Shape := ⟨2, ![128, 1]⟩
abbrev S1x2048 : Shape := ⟨2, ![1, 2048]⟩
abbrev S128x2048 : Shape := ⟨2, ![128, 2048]⟩
abbrev S32x64 : Shape := ⟨2, ![32, 64]⟩
abbrev S1x3072 : Shape := ⟨2, ![1, 3072]⟩
abbrev S96 : Shape := ⟨1, ![96]⟩
abbrev S1x128 : Shape := ⟨2, ![1, 128]⟩
abbrev S8x5x3072 : Shape := ⟨3, ![8, 5, 3072]⟩
abbrev S8x8x3072 : Shape := ⟨3, ![8, 8, 3072]⟩
abbrev S8x2048x128 : Shape := ⟨3, ![8, 2048, 128]⟩
abbrev S256x2048 : Shape := ⟨2, ![256, 2048]⟩
abbrev S32x2048 : Shape := ⟨2, ![32, 2048]⟩
abbrev S32x3072 : Shape := ⟨2, ![32, 3072]⟩
abbrev S32x128 : Shape := ⟨2, ![32, 128]⟩
abbrev S1x8x3072 : Shape := ⟨3, ![1, 8, 3072]⟩
abbrev S1x2048x128 : Shape := ⟨3, ![1, 2048, 128]⟩
abbrev S1x3x3072 : Shape := ⟨3, ![1, 3, 3072]⟩
abbrev S136x3072 : Shape := ⟨2, ![136, 3072]⟩
abbrev S4x128x512 : Shape := ⟨3, ![4, 128, 512]⟩
abbrev S128x3072 : Shape := ⟨2, ![128, 3072]⟩
abbrev S128x128 : Shape := ⟨2, ![128, 128]⟩
abbrev S8x3072 : Shape := ⟨2, ![8, 3072]⟩
abbrev S1x512x128 : Shape := ⟨3, ![1, 512, 128]⟩
abbrev S512x128 : Shape := ⟨2, ![512, 128]⟩
abbrev S128x512 : Shape := ⟨2, ![128, 512]⟩
abbrev S1x128x512 : Shape := ⟨3, ![1, 128, 512]⟩
abbrev S3x3072 : Shape := ⟨2, ![3, 3072]⟩
abbrev S8x128 : Shape := ⟨2, ![8, 128]⟩
abbrev S8x2048 : Shape := ⟨2, ![8, 2048]⟩
abbrev S1x512 : Shape := ⟨2, ![1, 512]⟩
abbrev S32x512 : Shape := ⟨2, ![32, 512]⟩

abbrev nBuf : Space → Nat
  | .hbm => 55
  | .vmem => 31
  | .smem => 0
  | _ => 0

abbrev bufTy : (tb : Table) → Fin (tcTables nBuf tb) → BufTy
  | .hbm, ⟨0, _⟩ => ⟨S256x17408, .f32⟩
  | .hbm, ⟨1, _⟩ => ⟨S8x3x3072, .f32⟩
  | .hbm, ⟨2, _⟩ => ⟨S8x32x64x128, .f32⟩
  | .hbm, ⟨3, _⟩ => ⟨S4x3072, .f32⟩
  | .hbm, ⟨4, _⟩ => ⟨S3072, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S2048, .f32⟩
  | .hbm, ⟨9, _⟩ => ⟨S2048, .i32⟩
  | .hbm, ⟨10, _⟩ => ⟨S_, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S128, .i32⟩
  | .hbm, ⟨29, _⟩ => ⟨S128x1, .i32⟩
  | .hbm, ⟨30, _⟩ => ⟨S1x2048, .i32⟩
  | .hbm, ⟨31, _⟩ => ⟨S128x2048, .i32⟩
  | .hbm, ⟨32, _⟩ => ⟨S128x2048, .i32⟩
  | .hbm, ⟨33, _⟩ => ⟨S128x2048, .i1⟩
  | .hbm, ⟨34, _⟩ => ⟨S128x2048, .bf16⟩
  | .hbm, ⟨35, _⟩ => ⟨S32x64, .f32⟩
  | .hbm, ⟨36, _⟩ => ⟨S2048, .f32⟩
  | .hbm, ⟨37, _⟩ => ⟨S1x2048, .f32⟩
  | .hbm, ⟨38, _⟩ => ⟨S1x3072, .f32⟩
  | .hbm, ⟨39, _⟩ => ⟨S_, .f32⟩
  | .hbm, ⟨40, _⟩ => ⟨S96, .f32⟩
  | .hbm, ⟨41, _⟩ => ⟨S128, .f32⟩
  | .hbm, ⟨42, _⟩ => ⟨S1x128, .f32⟩
  | .hbm, ⟨43, _⟩ => ⟨S_, .f32⟩
  | .hbm, ⟨44, _⟩ => ⟨S96, .f32⟩
  | .hbm, ⟨45, _⟩ => ⟨S128, .f32⟩
  | .hbm, ⟨46, _⟩ => ⟨S1x128, .f32⟩
  | .hbm, ⟨47, _⟩ => ⟨S1x2048, .f32⟩
  | .hbm, ⟨48, _⟩ => ⟨S_, .f32⟩
  | .hbm, ⟨49, _⟩ => ⟨S8x5x3072, .f32⟩
  | .hbm, ⟨50, _⟩ => ⟨S8x8x3072, .f32⟩
  | .hbm, ⟨51, _⟩ => ⟨S8x2048x128, .f32⟩
  | .hbm, ⟨52, _⟩ => ⟨S256x2048, .bf16⟩
  | .hbm, ⟨53, _⟩ => ⟨S8x3x3072, .f32⟩
  | .hbm, ⟨54, _⟩ => ⟨S8x2048x128, .f32⟩
  | .local _ .vmem, ⟨0, _⟩ => ⟨S32x2048, .f32⟩
  | .local _ .vmem, ⟨1, _⟩ => ⟨S32x2048, .f32⟩
  | .local _ .vmem, ⟨2, _⟩ => ⟨S32x3072, .f32⟩
  | .local _ .vmem, ⟨3, _⟩ => ⟨S32x3072, .f32⟩
  | .local _ .vmem, ⟨4, _⟩ => ⟨S32x128, .f32⟩
  | .local _ .vmem, ⟨5, _⟩ => ⟨S32x128, .f32⟩
  | .local _ .vmem, ⟨6, _⟩ => ⟨S4x3072, .f32⟩
  | .local _ .vmem, ⟨7, _⟩ => ⟨S1x3072, .f32⟩
  | .local _ .vmem, ⟨8, _⟩ => ⟨S1x128, .f32⟩
  | .local _ .vmem, ⟨9, _⟩ => ⟨S1x128, .f32⟩
  | .local _ .vmem, ⟨10, _⟩ => ⟨S1x2048, .f32⟩
  | .local _ .vmem, ⟨11, _⟩ => ⟨S1x2048, .f32⟩
  | .local _ .vmem, ⟨12, _⟩ => ⟨S128x2048, .bf16⟩
  | .local _ .vmem, ⟨13, _⟩ => ⟨S1x8x3072, .f32⟩
  | .local _ .vmem, ⟨14, _⟩ => ⟨S1x8x3072, .f32⟩
  | .local _ .vmem, ⟨15, _⟩ => ⟨S1x2048x128, .f32⟩
  | .local _ .vmem, ⟨16, _⟩ => ⟨S1x2048x128, .f32⟩
  | .local _ .vmem, ⟨17, _⟩ => ⟨S32x2048, .bf16⟩
  | .local _ .vmem, ⟨18, _⟩ => ⟨S32x2048, .bf16⟩
  | .local _ .vmem, ⟨19, _⟩ => ⟨S1x3x3072, .f32⟩
  | .local _ .vmem, ⟨20, _⟩ => ⟨S1x3x3072, .f32⟩
  | .local _ .vmem, ⟨21, _⟩ => ⟨S1x2048x128, .f32⟩
  | .local _ .vmem, ⟨22, _⟩ => ⟨S1x2048x128, .f32⟩
  | .local _ .vmem, ⟨23, _⟩ => ⟨S136x3072, .f32⟩
  | .local _ .vmem, ⟨24, _⟩ => ⟨S4x128x512, .f32⟩
  | .local _ .vmem, ⟨25, _⟩ => ⟨S128x2048, .f32⟩
  | .local _ .vmem, ⟨26, _⟩ => ⟨S128x3072, .f32⟩
  | .local _ .vmem, ⟨27, _⟩ => ⟨S128x2048, .f32⟩
  | .local _ .vmem, ⟨28, _⟩ => ⟨S128x2048, .bf16⟩
  | .local _ .vmem, ⟨29, _⟩ => ⟨S128x128, .f32⟩
  | .local _ .vmem, ⟨30, _⟩ => ⟨S128x2048, .f32⟩
  | _, _ => ⟨S256x17408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_0 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_cst_1 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23_0 : Ref sig .tc := ⟨.hbm, 52, rfl⟩
abbrev main_v23_1 : Ref sig .tc := ⟨.hbm, 53, rfl⟩
abbrev main_v23_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_17 : BitVec 32 := 0#32
  let v38 : BitVec 1 := Scalar.cmpi .eq arg1 c0_i32_17
  let v39 : BitVec 32 := Scalar.extui v38
  let c0_i32_18 : BitVec 32 := 0#32
  let v40 : BitVec 1 := Scalar.cmpi .ne v39 c0_i32_18
  v40

def k0_cond3 (i : grid0.Coords) : BitVec 1 :=
  let arg1 : BitVec 32 := BitVec.ofNat 32 (i 1).val
  let c0_i32_318 : BitVec 32 := 0#32
  let v1045 : BitVec 1 := Scalar.cmpi .eq arg1 c0_i32_318
  let v1046 : BitVec 32 := Scalar.extui v1045
  let c0_i32_319 : BitVec 32 := 0#32
  let v1047 : BitVec 1 := Scalar.cmpi .ne v1046 c0_i32_319
  v1047

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c7_i32 : BitVec 32 := 7#32
  let c0_i32 : BitVec 32 := 0#32
  ![v1.toNat, c7_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c134_i32 : BitVec 32 := 134#32
  let c0_i32 : BitVec 32 := 0#32
  ![v1.toNat, c134_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S32x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x3x3072 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== StepKernelIdeal.lean ====
variable {F : FTy → Type} [FloatOps F] [Named F]
def κ : String → Option EReal := fun
  | "log2e" => some (((Real.log 2)⁻¹ : ℝ) : EReal)
  | "mask" => some ⊥
  | _ => none
-- ==== StepReferenceIdeal.lean ====
abbrev S256x17408 : Shape := ⟨2, ![256, 17408]⟩
abbrev S8x3x3072 : Shape := ⟨3, ![8, 3, 3072]⟩
abbrev S8x32x64x128 : Shape := ⟨4, ![8, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S256x2048 : Shape := ⟨2, ![256, 2048]⟩
abbrev S8x32x2048 : Shape := ⟨3, ![8, 32, 2048]⟩
abbrev S256x32 : Shape := ⟨2, ![256, 32]⟩
abbrev S8x32x32 : Shape := ⟨3, ![8, 32, 32]⟩
abbrev S256x3072 : Shape := ⟨2, ![256, 3072]⟩
abbrev S8x32x3072 : Shape := ⟨3, ![8, 32, 3072]⟩
abbrev S8x35x3072 : Shape := ⟨3, ![8, 35, 3072]⟩
abbrev S1x3072 : Shape := ⟨2, ![1, 3072]⟩
abbrev S1x1x3072 : Shape := ⟨3, ![1, 1, 3072]⟩
abbrev S_ : Shape := ⟨0, ![]⟩
abbrev S8x32x4x8x64 : Shape := ⟨5, ![8, 32, 4, 8, 64]⟩
abbrev S8x32x512 : Shape := ⟨3, ![8, 32, 512]⟩
abbrev S8x32x4x128 : Shape := ⟨4, ![8, 32, 4, 128]⟩
abbrev S1x1x32 : Shape := ⟨3, ![1, 1, 32]⟩
abbrev S8x32x4x8 : Shape := ⟨4, ![8, 32, 4, 8]⟩
abbrev S4x8 : Shape := ⟨2, ![4, 8]⟩
abbrev S1x1x4x8 : Shape := ⟨4, ![1, 1, 4, 8]⟩
abbrev S32x32 : Shape := ⟨2, ![32, 32]⟩
abbrev S32x32x1x1 : Shape := ⟨4, ![32, 32, 1, 1]⟩
abbrev S8x32x1x4x8 : Shape := ⟨5, ![8, 32, 1, 4, 8]⟩
abbrev S8x1x32x4x8 : Shape := ⟨5, ![8, 1, 32, 4, 8]⟩
abbrev S8x32x32x4x8 : Shape := ⟨5, ![8, 32, 32, 4, 8]⟩
abbrev S8x4x32x32 : Shape := ⟨4, ![8, 4, 32, 32]⟩
abbrev S8x32x32x4 : Shape := ⟨4, ![8, 32, 32, 4]⟩
abbrev S8x32x32x4x1 : Shape := ⟨5, ![8, 32, 32, 4, 1]⟩
abbrev S8x4x8x64x32 : Shape := ⟨5, ![8, 4, 8, 64, 32]⟩
abbrev S8x1x4x8 : Shape := ⟨4, ![8, 1, 4, 8]⟩
abbrev S8x32x4x8x1 : Shape := ⟨5, ![8, 32, 4, 8, 1]⟩
abbrev S8x4x8x64x128 : Shape := ⟨5, ![8, 4, 8, 64, 128]⟩
abbrev S8x4x8 : Shape := ⟨3, ![8, 4, 8]⟩
abbrev S8x4x8x1x1 : Shape := ⟨5, ![8, 4, 8, 1, 1]⟩
abbrev S8x32x32x64 : Shape := ⟨4, ![8, 32, 32, 64]⟩
abbrev S32x1 : Shape := ⟨2, ![32, 1]⟩
abbrev S1x1x32x1 : Shape := ⟨4, ![1, 1, 32, 1]⟩
abbrev S8x32x4x512 : Shape := ⟨4, ![8, 32, 4, 512]⟩
abbrev S8x32x4 : Shape := ⟨3, ![8, 32, 4]⟩
abbrev S8x32x4x1 : Shape := ⟨4, ![8, 32, 4, 1]⟩
abbrev S1x1x2048 : Shape := ⟨3, ![1, 1, 2048]⟩
abbrev S8x2048x128 : Shape := ⟨3, ![8, 2048, 128]⟩

abbrev nBuf : Space → Nat
  | .hbm => 185
  | .vmem => 0
  | .smem => 0
  | _ => 0

abbrev hbmTy0_0 (i : Nat) : BufTy := match i % 128 with
  | 0 => ⟨S256x17408, .f32⟩
  | 1 => ⟨S8x3x3072, .f32⟩
  | 2 => ⟨S8x32x64x128, .f32⟩
  | 3 => ⟨S4x3072, .f32⟩
  | 4 => ⟨S3072, .f32⟩
  | 5 => ⟨S32, .f32⟩
  | 6 => ⟨S32, .f32⟩
  | 7 => ⟨S32, .f32⟩
  | 8 => ⟨S2048, .f32⟩
  | 9 => ⟨S256x2048, .f32⟩
  | 10 => ⟨S8x32x2048, .f32⟩
  | 11 => ⟨S256x32, .f32⟩
  | 12 => ⟨S8x32x32, .f32⟩
  | 13 => ⟨S256x3072, .f32⟩
  | 14 => ⟨S8x32x3072, .f32⟩
  | 15 => ⟨S8x35x3072, .f32⟩
  | 16 => ⟨S1x3072, .f32⟩
  | 17 => ⟨S3072, .f32⟩
  | 18 => ⟨S8x32x3072, .f32⟩
  | 19 => ⟨S1x1x3072, .f32⟩
  | 20 => ⟨S8x32x3072, .f32⟩
  | 21 => ⟨S8x32x3072, .f32⟩
  | 22 => ⟨S1x3072, .f32⟩
  | 23 => ⟨S3072, .f32⟩
  | 24 => ⟨S8x32x3072, .f32⟩
  | 25 => ⟨S1x1x3072, .f32⟩
  | 26 => ⟨S8x32x3072, .f32⟩
  | 27 => ⟨S8x32x3072, .f32⟩
  | 28 => ⟨S8x32x3072, .f32⟩
  | 29 => ⟨S1x3072, .f32⟩
  | 30 => ⟨S3072, .f32⟩
  | 31 => ⟨S8x32x3072, .f32⟩
  | 32 => ⟨S1x1x3072, .f32⟩
  | 33 => ⟨S8x32x3072, .f32⟩
  | 34 => ⟨S8x32x3072, .f32⟩
  | 35 => ⟨S8x32x3072, .f32⟩
  | 36 => ⟨S1x3072, .f32⟩
  | 37 => ⟨S3072, .f32⟩
  | 38 => ⟨S8x32x3072, .f32⟩
  | 39 => ⟨S1x1x3072, .f32⟩
  | 40 => ⟨S8x32x3072, .f32⟩
  | 41 => ⟨S8x32x3072, .f32⟩
  | 42 => ⟨S8x32x3072, .f32⟩
  | 43 => ⟨S8x3x3072, .f32⟩
  | 44 => ⟨S1x1x3072, .f32⟩
  | 45 => ⟨S8x32x3072, .f32⟩
  | 46 => ⟨S8x32x3072, .f32⟩
  | 47 => ⟨S8x32x3072, .f32⟩
  | 48 => ⟨S8x32x3072, .f32⟩
  | 49 => ⟨S_, .f32⟩
  | 50 => ⟨S8x32x3072, .f32⟩
  | 51 => ⟨S8x32x3072, .f32⟩
  | 52 => ⟨S_, .f32⟩
  | 53 => ⟨S8x32x3072, .f32⟩
  | 54 => ⟨S8x32x3072, .f32⟩
  | 55 => ⟨S8x32x3072, .f32⟩
  | 56 => ⟨S8x32x2048, .f32⟩
  | 57 => ⟨S8x32x4x8x64, .f32⟩
  | 58 => ⟨S8x32x512, .f32⟩
  | 59 => ⟨S8x32x4x128, .f32⟩
  | 60 => ⟨S8x32x512, .f32⟩
  | 61 => ⟨S8x32x4x128, .f32⟩
  | 62 => ⟨S1x1x32, .f32⟩
  | 63 => ⟨S8x32x32, .f32⟩
  | 64 => ⟨S8x32x32, .f32⟩
  | 65 => ⟨S_, .f32⟩
  | 66 => ⟨S8x32x32, .f32⟩
  | 67 => ⟨S8x32x32, .f32⟩
  | 68 => ⟨S8x32x32, .f32⟩
  | 69 => ⟨S8x32x32, .f32⟩
  | 70 => ⟨S8x32x32, .i1⟩
  | 71 => ⟨S8x32x32, .f32⟩
  | 72 => ⟨S8x32x32, .f32⟩
  | 73 => ⟨S8x32x32, .f32⟩
  | 74 => ⟨S8x32x32, .f32⟩
  | 75 => ⟨S8x32x32, .f32⟩
  | 76 => ⟨S8x32x32, .f32⟩
  | 77 => ⟨S8x32x32, .f32⟩
  | 78 => ⟨S8x32x32, .f32⟩
  | 79 => ⟨S8x32x4x8, .f32⟩
  | 80 => ⟨S32, .f32⟩
  | 81 => ⟨S32, .f32⟩
  | 82 => ⟨S4x8, .f32⟩
  | 83 => ⟨S1x1x4x8, .f32⟩
  | 84 => ⟨S8x32x4x8, .f32⟩
  | 85 => ⟨S8x32x4x8, .f32⟩
  | 86 => ⟨S_, .f32⟩
  | 87 => ⟨S_, .f32⟩
  | 88 => ⟨S8x32x4x8, .f32⟩
  | 89 => ⟨S_, .i1⟩
  | 90 => ⟨S32x32, .i1⟩
  | 91 => ⟨S32x32, .i32⟩
  | 92 => ⟨S_, .i32⟩
  | 93 => ⟨S32x32, .i32⟩
  | 94 => ⟨S32x32, .i32⟩
  | 95 => ⟨S32x32, .i32⟩
  | 96 => ⟨S32x32, .i1⟩
  | 97 => ⟨S_, .i1⟩
  | 98 => ⟨S32x32, .i1⟩
  | 99 => ⟨S32x32, .i1⟩
  | 100 => ⟨S32x32x1x1, .i1⟩
  | 101 => ⟨S8x32x1x4x8, .f32⟩
  | 102 => ⟨S8x1x32x4x8, .f32⟩
  | 103 => ⟨S8x32x32x4x8, .f32⟩
  | 104 => ⟨S8x32x32x4x8, .f32⟩
  | 105 => ⟨S8x32x32x4x8, .f32⟩
  | 106 => ⟨S_, .f32⟩
  | 107 => ⟨S_, .f32⟩
  | 108 => ⟨S8x32x32x4x8, .i1⟩
  | 109 => ⟨S8x32x32x4x8, .f32⟩
  | 110 => ⟨S8x32x32x4x8, .f32⟩
  | 111 => ⟨S8x4x32x32, .f32⟩
  | 112 => ⟨S8x32x32x4, .f32⟩
  | 113 => ⟨S8x32x32x4x1, .f32⟩
  | 114 => ⟨S8x32x32x4x8, .f32⟩
  | 115 => ⟨S8x32x32x4x8, .f32⟩
  | 116 => ⟨S8x32x32x4x8, .f32⟩
  | 117 => ⟨S8x1x32x4x8, .f32⟩
  | 118 => ⟨S8x32x32x4x8, .f32⟩
  | 119 => ⟨S8x32x32x4x8, .f32⟩
  | 120 => ⟨S8x4x8x64x32, .f32⟩
  | 121 => ⟨S8x32x4x8x64, .f32⟩
  | 122 => ⟨S8x1x4x8, .f32⟩
  | 123 => ⟨S8x32x4x8, .f32⟩
  | 124 => ⟨S8x32x4x8, .f32⟩
  | 125 => ⟨S8x32x4x8, .f32⟩
  | 126 => ⟨S8x32x4x8, .f32⟩
  | 127 => ⟨S8x32x4x8x1, .f32⟩
  | _ => ⟨S256x17408, .f32⟩

abbrev hbmTy0_1 (i : Nat) : BufTy := match i % 128 with
  | 0 => ⟨S8x32x4x8x64, .f32⟩
  | 1 => ⟨S8x32x4x8x64, .f32⟩
  | 2 => ⟨S8x4x8x64x128, .f32⟩
  | 3 => ⟨S8x1x4x8, .f32⟩
  | 4 => ⟨S8x4x8, .f32⟩
  | 5 => ⟨S8x4x8, .f32⟩
  | 6 => ⟨S8x4x8x64x128, .f32⟩
  | 7 => ⟨S8x4x8x64x32, .f32⟩
  | 8 => ⟨S8x32x4x8x64, .f32⟩
  | 9 => ⟨S8x32x4x8, .f32⟩
  | 10 => ⟨S8x32x4x8x1, .f32⟩
  | 11 => ⟨S8x32x4x8x64, .f32⟩
  | 12 => ⟨S8x32x4x8x64, .f32⟩
  | 13 => ⟨S8x4x8x1x1, .f32⟩
  | 14 => ⟨S8x4x8x64x128, .f32⟩
  | 15 => ⟨S8x4x8x64x128, .f32⟩
  | 16 => ⟨S8x4x8x64x128, .f32⟩
  | 17 => ⟨S8x32x4x8x64, .f32⟩
  | 18 => ⟨S8x32x32x64, .f32⟩
  | 19 => ⟨S32x1, .f32⟩
  | 20 => ⟨S8x32x32x64, .f32⟩
  | 21 => ⟨S1x1x32x1, .f32⟩
  | 22 => ⟨S8x32x32x64, .f32⟩
  | 23 => ⟨S8x32x32x64, .f32⟩
  | 24 => ⟨S8x32x32x64, .f32⟩
  | 25 => ⟨S8x32x4x512, .f32⟩
  | 26 => ⟨S8x32x2048, .f32⟩
  | 27 => ⟨S8x32x2048, .f32⟩
  | 28 => ⟨S_, .f32⟩
  | 29 => ⟨S8x32x2048, .f32⟩
  | 30 => ⟨S8x32x2048, .f32⟩
  | 31 => ⟨S_, .f32⟩
  | 32 => ⟨S8x32x2048, .f32⟩
  | 33 => ⟨S8x32x2048, .f32⟩
  | 34 => ⟨S8x32x2048, .f32⟩
  | 35 => ⟨S8x32x4x512, .f32⟩
  | 36 => ⟨S8x32x4x512, .f32⟩
  | 37 => ⟨S8x32x4x512, .f32⟩
  | 38 => ⟨S_, .f32⟩
  | 39 => ⟨S8x32x4, .f32⟩
  | 40 => ⟨S8x32x4x1, .f32⟩
  | 41 => ⟨S_, .f32⟩
  | 42 => ⟨S8x32x4x1, .f32⟩
  | 43 => ⟨S8x32x4x1, .f32⟩
  | 44 => ⟨S_, .f32⟩
  | 45 => ⟨S8x32x4x1, .f32⟩
  | 46 => ⟨S8x32x4x1, .f32⟩
  | 47 => ⟨S8x32x4x1, .f32⟩
  | 48 => ⟨S8x32x4x512, .f32⟩
  | 49 => ⟨S8x32x4x512, .f32⟩
  | 50 => ⟨S8x32x2048, .f32⟩
  | 51 => ⟨S1x1x2048, .f32⟩
  | 52 => ⟨S8x32x2048, .f32⟩
  | 53 => ⟨S8x32x2048, .f32⟩
  | 54 => ⟨S256x2048, .f32⟩
  | 55 => ⟨S256x2048, .bf16⟩
  | 56 => ⟨S8x2048x128, .f32⟩
  | _ => ⟨S256x17408, .f32⟩

abbrev hbmTy (i : Nat) : BufTy := match i / 128 with
  | 0 => hbmTy0_0 i
  | 1 => hbmTy0_1 i
  | _ => ⟨S256x17408, .f32⟩

abbrev bufTy : (tb : Table) → Fin (tcTables nBuf tb) → BufTy
  | .hbm, ⟨i, _⟩ => hbmTy i
  | _, _ => ⟨S256x17408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call2_call0_cst : Ref sig .tc := ⟨.hbm, 86, rfl⟩
abbrev main_call2_call0_v0 : Ref sig .tc := ⟨.hbm, 87, rfl⟩
abbrev main_v56 : Ref sig .tc := ⟨.hbm, 88, rfl⟩
abbrev main_c : Ref sig .tc := ⟨.hbm, 89, rfl⟩
abbrev main_v57 : Ref sig .tc := ⟨.hbm, 90, rfl⟩
abbrev main_call3_v0 : Ref sig .tc := ⟨.hbm, 91, rfl⟩
abbrev main_call3_c : Ref sig .tc := ⟨.hbm, 92, rfl⟩
abbrev main_call3_v1 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_c_0 : Ref sig .tc := ⟨.hbm, 97, rfl⟩
abbrev main_call3_v5 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_call5_v0 : Ref sig .tc := ⟨.hbm, 154, rfl⟩
abbrev main_call5_v1 : Ref sig .tc := ⟨.hbm, 155, rfl⟩
abbrev main_call5_cst : Ref sig .tc := ⟨.hbm, 156, rfl⟩
abbrev main_call5_v2 : Ref sig .tc := ⟨.hbm, 157, rfl⟩
abbrev main_call5_v3 : Ref sig .tc := ⟨.hbm, 158, rfl⟩
abbrev main_call5_cst_0 : Ref sig .tc := ⟨.hbm, 159, rfl⟩
abbrev main_call5_v4 : Ref sig .tc := ⟨.hbm, 160, rfl⟩
abbrev main_call5_v5 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_cst_0 : Ref sig .tc := ⟨.hbm, 166, rfl⟩
abbrev main_v113 : Ref sig .tc := ⟨.hbm, 167, rfl⟩
abbrev main_v114 : Ref sig .tc := ⟨.hbm, 168, rfl⟩
abbrev main_cst_1 : Ref sig .tc := ⟨.hbm, 169, rfl⟩
abbrev main_v115 : Ref sig .tc := ⟨.hbm, 170, rfl⟩
abbrev main_v116 : Ref sig .tc := ⟨.hbm, 171, rfl⟩
abbrev main_cst_2 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩

abbrev nD : Nat := 1
abbrev τ : Topo := Topo.v7x

variable {F : FTy → Type} [FloatOps F]
-- ==== Proof.Frames.lean ====
/- The claims that say nothing about values: the three runs end with their arguments unchanged and every semaphore at
   zero, and the idealized scan is the printed one with its two named constants. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

@[expose] public section

set_option maxRecDepth 16384

noncomputable section

namespace Cert.ScanFrames

open Idealize.ShloMosaic Idealize.ShloMosaic.TcCoe Idealize.SL.Sem

/-- The scan kernel's frame. -/
theorem frame_p : Cert.quiescent_Kernel := fun m ρ _ => Cert.Kernel.Gen.frame m ρ

/-- The idealized scan kernel's frame. -/
theorem frame_pi : Cert.quiescent_KernelIdeal := fun m ρ _ => Cert.KernelIdeal.Gen.frame m ρ

/-- The reference's frame: it holds no semaphore at all. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The two named constants stand for `1 / log 2` and for minus infinity. -/
theorem preserves : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "mask" .f32 0xF149F2CA#32 ⊥ rfl⟩

end Cert.ScanFrames

end
-- ==== Proof.ScanMath.lean ====
/- The algebra of the selective scan over the real numbers, with no program in sight: the step recurrence, its closed
   form over a chunk, and the doubling prefix sum. -/
module

public import Idealize.ShloMosaic.Init
public import Idealize.ShloMosaic.PureOps.Ideal
public import Mathlib.Analysis.SpecialFunctions.Exp
public import Mathlib.Algebra.BigOperators.Intervals

@[expose] public section

noncomputable section

namespace Cert.ScanMath

open Finset

/-- The state after `k` steps of `H ↦ exp (w k) * H + v k`, from `h`. -/
def st (w v : ℕ → ℝ) (h : ℝ) : ℕ → ℝ
  | 0 => h
  | k + 1 => Real.exp (w k) * st w v h k + v k

/-- The recurrence over a chunk in closed form: the incoming state decayed by the whole prefix, and every step's update
    decayed by what follows it. -/
theorem st_closed (w v : ℕ → ℝ) (h : ℝ) (k : ℕ) :
    st w v h k = h * Real.exp (∑ j ∈ range k, w j)
      + ∑ s ∈ range k, Real.exp ((∑ j ∈ range k, w j) - ∑ j ∈ range (s + 1), w j) * v s := by
  induction k with
  | zero => simp [st]
  | succ k ih =>
    rw [st, ih, Finset.sum_range_succ _ k, Finset.sum_range_succ (fun s => Real.exp _ * v s) k]
    rw [show (∑ j ∈ range k, w j) + w k - ∑ j ∈ range (k + 1), w j = 0 by rw [Finset.sum_range_succ]; ring]
    rw [Real.exp_zero, Real.exp_add]
    have : ∀ s, Real.exp ((∑ j ∈ range k, w j) + w k - ∑ j ∈ range (s + 1), w j) * v s
        = Real.exp (w k) * (Real.exp ((∑ j ∈ range k, w j) - ∑ j ∈ range (s + 1), w j) * v s) := by
      intro s
      rw [← mul_assoc, ← Real.exp_add]
      congr 2; ring
    simp only [this]
    rw [← Finset.mul_sum]
    ring

/-- Running on from the state after `a` steps is running `a + k` steps. -/
theorem st_add (w v : ℕ → ℝ) (h : ℝ) (a k : ℕ) :
    st (fun j => w (a + j)) (fun j => v (a + j)) (st w v h a) k = st w v h (a + k) := by
  induction k with
  | zero => rfl
  | succ k ih => rw [st, ih]; rfl

/-- A sum over a chunk's rows restricted to those up to row `i`. -/
theorem sum_causal (l i : ℕ) (hi : i < l) (f : ℕ → ℝ) :
    ∑ s : Fin l, (if s.val ≤ i then f s.val else 0) = ∑ s ∈ range (i + 1), f s := by
  rw [Fin.sum_univ_eq_sum_range (fun s => if s ≤ i then f s else 0) l, ← Finset.sum_filter]
  congr 1
  ext s
  simp only [mem_filter, mem_range]
  omega

/-- Row `i` of a chunk of `l` rows: the chunk's own masked product and the incoming state's part add to the read-out
    `C i` of the state after row `i`. `wt` the log decay, `d` the step, `x` the input, `B` and `C` the projections. -/
theorem chunk_row (l N i : ℕ) (hi : i < l) (wt d x : ℕ → ℝ) (B C : ℕ → Fin N → ℝ) (h : Fin N → ℝ) :
    (∑ s : Fin l, ((∑ n : Fin N, C i n * B s.val n)
        * (if s.val ≤ i then Real.exp ((∑ j ∈ range (i + 1), wt j) - ∑ j ∈ range (s.val + 1), wt j) else 0)
        * d s.val) * x s.val)
      + (∑ n : Fin N, C i n * h n) * Real.exp (∑ j ∈ range (i + 1), wt j)
    = ∑ n : Fin N, C i n * st wt (fun s => d s * x s * B s n) (h n) (i + 1) := by
  have e : ∀ s : Fin l, ((∑ n : Fin N, C i n * B s.val n)
        * (if s.val ≤ i then Real.exp ((∑ j ∈ range (i + 1), wt j) - ∑ j ∈ range (s.val + 1), wt j) else 0)
        * d s.val) * x s.val
      = if s.val ≤ i then (fun s : ℕ => ((∑ n : Fin N, C i n * B s n)
        * Real.exp ((∑ j ∈ range (i + 1), wt j) - ∑ j ∈ range (s + 1), wt j) * d s) * x s) s.val else 0 := by
    intro s
    split <;> simp
  rw [Finset.sum_congr rfl fun s _ => e s, sum_causal l i hi (fun s : ℕ => ((∑ n : Fin N, C i n * B s n)
        * Real.exp ((∑ j ∈ range (i + 1), wt j) - ∑ j ∈ range (s + 1), wt j) * d s) * x s)]
  simp only [st_closed, mul_add, Finset.sum_add_distrib, Finset.mul_sum, Finset.sum_mul]
  rw [Finset.sum_comm, add_comm]
  congr 1
  · refine Finset.sum_congr rfl fun n _ => ?_
    ring
  · refine Finset.sum_congr rfl fun n _ => Finset.sum_congr rfl fun s _ => ?_
    ring

/-- The state after a whole chunk of `l + 1` rows. -/
theorem chunk_state (l : ℕ) (wt d x B : ℕ → ℝ) (h : ℝ) :
    h * Real.exp (∑ j ∈ range (l + 1), wt j)
      + ∑ s : Fin (l + 1), B s.val
          * (x s.val * (Real.exp ((∑ j ∈ range (l + 1), wt j) - ∑ j ∈ range (s.val + 1), wt j) * d s.val))
    = st wt (fun s => d s * x s * B s) h (l + 1) := by
  rw [st_closed, Fin.sum_univ_eq_sum_range (fun s => B s
          * (x s * (Real.exp ((∑ j ∈ range (l + 1), wt j) - ∑ j ∈ range (s + 1), wt j) * d s))) (l + 1)]
  congr 1
  refine Finset.sum_congr rfl fun s _ => ?_
  ring

/-- The sum of the `w` entries that end at `i`, as far as they exist. -/
def win (f : ℕ → ℝ) (w i : ℕ) : ℝ := ∑ j ∈ range w, if j ≤ i then f (i - j) else 0

theorem win_one (f : ℕ → ℝ) (i : ℕ) : win f 1 i = f i := by simp [win]

/-- One doubling step of the prefix sum. -/
theorem win_double (f : ℕ → ℝ) (w i : ℕ) :
    win f w i + (if w ≤ i then win f w (i - w) else 0) = win f (w + w) i := by
  unfold win
  rw [Finset.sum_range_add]
  congr 1
  split
  · rename_i h
    refine Finset.sum_congr rfl fun j _ => ?_
    by_cases hj : j ≤ i - w
    · rw [if_pos hj, if_pos (by omega)]; congr 1; omega
    · rw [if_neg hj, if_neg (by omega)]
  · rename_i h
    symm
    refine Finset.sum_eq_zero fun j _ => ?_
    rw [if_neg (by omega)]

/-- A window at least as long as the prefix is the prefix sum. -/
theorem win_all (f : ℕ → ℝ) (w i : ℕ) (h : i < w) : win f w i = ∑ j ∈ range (i + 1), f j := by
  unfold win
  rw [← Finset.sum_filter, show (range w).filter (fun j => j ≤ i) = range (i + 1) by
    ext s; simp only [mem_filter, mem_range]; omega]
  exact Finset.sum_range_reflect f (i + 1) |>.symm ▸ by
    refine Finset.sum_congr rfl fun j _ => ?_
    congr 1

end Cert.ScanMath

end
-- ==== Proof.ScanScalar.lean ====
/- The scalar operations of the scan, read at finite arguments: both programs compute the same real numbers. -/
module

public import proofs.«01_k».proof.KernelIdeal
public import proofs.«01_k».proof.Proof.ScanMath
public import Idealize.ShloMosaic.PureOps.IdealRules
public import Mathlib.Analysis.SpecialFunctions.Log.Basic
public import Mathlib.Analysis.SpecialFunctions.Pow.Real
public import Mathlib.Analysis.SpecialFunctions.Trigonometric.DerivHyp

@[expose] public section

noncomputable section

namespace Cert.ScanMath

open Idealize.ShloMosaic Finset

/-- The softplus. -/
def softplus (r : ℝ) : ℝ := max r 0 + Real.log (1 + Real.exp (-|r|))

/-- The logistic gate `z / (1 + exp (-z))`. -/
def silu (z : ℝ) : ℝ := z * (1 + Real.exp (-z))⁻¹

/-- A sum of finite values is finite. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem absf_coe (r : ℝ) : FloatOps.absf (F := Ideal) (φ := .f32) ((r : ℝ) : EReal) = ((|r| : ℝ) : EReal) := by
  show max ((r : ℝ) : EReal) (-((r : ℝ) : EReal)) = _
  rw [← EReal.coe_neg, ← EReal.coe_strictMono.monotone.map_max]
  rfl

theorem max_coe (a b : ℝ) : max ((a : ℝ) : EReal) (b : EReal) = ((max a b : ℝ) : EReal) :=
  (EReal.coe_strictMono.monotone.map_max).symm

theorem log1p_coe (r : ℝ) : Ideal.log1p ((Real.exp r : ℝ) : EReal) = ((Real.log (1 + Real.exp r) : ℝ) : EReal) := by
  unfold Ideal.log1p
  rw [← EReal.coe_one, ← EReal.coe_add, Ideal.log_coe, if_neg]
  have := Real.exp_pos r
  linarith

/-- The softplus as both programs write it. -/
theorem softplus_coe (r : ℝ) :
    max ((r : ℝ) : EReal) 0 + Ideal.log1p (Ideal.exp (0 - FloatOps.absf (F := Ideal) (φ := .f32) ((r : ℝ) : EReal))) = ((softplus r : ℝ) : EReal) := by
  rw [absf_coe, ← EReal.coe_zero, ← EReal.coe_sub, Ideal.exp_coe, log1p_coe, max_coe, ← EReal.coe_add, zero_sub]
  rfl

theorem log2e : Named.named (F := Ideal) (φ := .f32) Cert.KernelIdeal.κ "log2e" 0x3FB8AA3B#32 = (((Real.log 2)⁻¹ : ℝ) : EReal) :=
  IdealRules.named_const.ideal_named_scalar _ _ _ _ rfl

theorem mask : Named.named (F := Ideal) (φ := .f32) Cert.KernelIdeal.κ "mask" 0xF149F2CA#32 = (⊥ : EReal) :=
  IdealRules.named_const.ideal_named_scalar _ _ _ _ rfl

/-- A power of two whose exponent is scaled by `1 / log 2` is an exponential. -/
theorem exp2_coe (r : ℝ) : FloatOps.exp2 (F := Ideal) (φ := .f32) ((r * (Real.log 2)⁻¹ : ℝ) : EReal) = ((Real.exp r : ℝ) : EReal) := by
  show Ideal.exp2 _ = _
  rw [Ideal.exp2_coe]
  congr 1
  show (2 : ℝ) ^ (r * (Real.log 2)⁻¹) = _
  rw [Real.rpow_def_of_pos (by norm_num)]
  congr 1
  have : Real.log 2 ≠ 0 := (Real.log_pos (by norm_num)).ne'
  field_simp

theorem exp2_bot : FloatOps.exp2 (F := Ideal) (φ := .f32) (⊥ : EReal) = ((0 : ℝ) : EReal) := rfl

theorem half : Ideal.ofBits .f32 0x3F000000#32 = ((1 / 2 : ℝ) : EReal) := by
  simp [Ideal.ofBits, Ideal.ieee, -EReal.coe_mul]; norm_num

/-- The gate by a hyperbolic tangent is the logistic gate. -/
theorem silu_coe (z : ℝ) :
    ((1 / 2 : ℝ) : EReal) * (z : EReal) * Ideal.tanh (((1 / 2 : ℝ) : EReal) * (z : EReal)) + ((1 / 2 : ℝ) : EReal) * (z : EReal)
      = ((silu z : ℝ) : EReal) := by
  rw [← EReal.coe_mul, Ideal.tanh_coe, ← EReal.coe_mul, ← EReal.coe_add]
  congr 1
  unfold silu
  rw [Real.tanh_eq_sinh_div_cosh, Real.sinh_eq, Real.cosh_eq]
  have e1 : Real.exp (-z) = Real.exp (-(1 / 2 * z)) * Real.exp (-(1 / 2 * z)) := by rw [← Real.exp_add]; congr 1; ring
  have e2 : Real.exp (1 / 2 * z) * Real.exp (-(1 / 2 * z)) = 1 := by rw [← Real.exp_add]; simp
  have p1 := Real.exp_pos (1 / 2 * z)
  have p2 := Real.exp_pos (-(1 / 2 * z))
  rw [e1]
  generalize Real.exp (-(1 / 2 * z)) = q at *
  generalize Real.exp (1 / 2 * z) = p at *
  have h1 : p + q ≠ 0 := by positivity
  have h2 : 1 + q * q ≠ 0 := by positivity
  field_simp
  linear_combination (2 * z * q) * e2

/-- The gate by the logistic function. -/
theorem logistic_gate (z : ℝ) : ((z : ℝ) : EReal) * Ideal.logistic (z : EReal) = ((silu z : ℝ) : EReal) := by
  rw [Ideal.logistic_coe, ← EReal.coe_mul]; rfl

/-- A row of zeros and ones with a single one picks its entry. -/
theorem pick (n : ℕ) (f : ℕ → ℝ) (k : ℕ) (hk : k < n) :
    ∑ x : Fin n, f x.val * (if x.val = k then (1 : ℝ) else 0) = f k := by
  rw [Finset.sum_eq_single (⟨k, hk⟩ : Fin n)]
  · simp
  · intro b _ hb
    rw [if_neg (fun h => hb (Fin.ext h)), mul_zero]
  · intro h; exact absurd (Finset.mem_univ _) h

/-- The same with the remainder of a value split in two: the remainder is zero, and the whole row is the entry. -/
theorem pick_split (n : ℕ) (f : ℕ → ℝ) (k : ℕ) (hk : k < n) :
    ∑ x : Fin n, ((f x.val : ℝ) : EReal) * (((if x.val = k then (1 : ℝ) else 0) : ℝ) : EReal)
      + ∑ x : Fin n, (((f x.val : ℝ) : EReal) - ((f x.val : ℝ) : EReal)) * (((if x.val = k then (1 : ℝ) else 0) : ℝ) : EReal)
    = ((f k : ℝ) : EReal) := by
  simp only [← EReal.coe_mul, ← EReal.coe_sub, coe_sum, ← EReal.coe_add, sub_self, zero_mul, Finset.sum_const_zero, add_zero]
  rw [pick n f k hk]

end Cert.ScanMath

end
-- ==== Proof.ScanPays.lean ====
/- What one block of the scan kernel computes from finite operands, payload by payload: the steps, the prefix sums of the
   log decays, and their exponentials spread over the columns. -/
module

public import proofs.«01_k».proof.Proof.Gen.KernelIdeal.Skeleton
public import proofs.«01_k».proof.Proof.ScanScalar
public import Idealize.ShloMosaic.Lib.Pointwise
public import Idealize.ShloMosaic.Lib.WordCmp

@[expose] public section

set_option maxRecDepth 16384

noncomputable section

namespace Cert.KernelIdeal.Scan

open Idealize.ShloMosaic Idealize.ShloMosaic.TcCoe Cert.KernelIdeal.Gen Cert.KernelIdeal Cert.ScanMath

/-- The step of row `i`, head `h`: the softplus of the biased input on the 32 heads, zero on the other lanes. -/
def dtv (D : ℕ → ℕ → ℝ) (bi : ℕ → ℝ) (i h : ℕ) : ℝ := if h < 32 then softplus (D i h + bi h) else 0

/-- The log decay of row `i`, head `h`. -/
def wv (D : ℕ → ℕ → ℝ) (bi al : ℕ → ℝ) (i h : ℕ) : ℝ := dtv D bi i h * (-Real.exp (al h))

/-- The prefix sum of the log decays. -/
def cumv (D : ℕ → ℕ → ℝ) (bi al : ℕ → ℝ) (i h : ℕ) : ℝ := ∑ j ∈ Finset.range (i + 1), wv D bi al j h

/-- A selection by a lane's number. -/
theorem lane_lt (l : Fin 128) (k : ℕ) (hk : k < 128) (a b : EReal) :
    Scalar.select (IntOp.cmpi .slt (BitVec.ofNat 32 l.val) (BitVec.ofNat 32 k)) a b = if l.val < k then a else b := by
  have hl := l.isLt
  unfold Scalar.select
  exact if_congr (WordCmp.cmpi_slt_ofNat_eq_one_iff (by omega) (by omega)) rfl rfl

/-- A selection by a row's number. -/
theorem row_ge (l k : ℕ) (hl : l < 128) (hk : k < 128) (a b : EReal) :
    Scalar.select (IntOp.cmpi .sge (BitVec.ofNat 32 l) (BitVec.ofNat 32 k)) a b = if k ≤ l then a else b := by
  unfold Scalar.select
  exact if_congr (WordCmp.cmpi_sge_ofNat_eq_one_iff (by omega) (by omega)) rfl rfl

/-- The masked decay between two rows. -/
theorem decay (i x : Fin 128) (a b : ℝ) :
    FloatOps.exp2 (F := Ideal) (φ := .f32) (Scalar.select (IntOp.cmpi .sge (BitVec.ofNat 32 i.val) (BitVec.ofNat 32 x.val))
        (((a * (Real.log 2)⁻¹ : ℝ) : EReal) - ((b * (Real.log 2)⁻¹ : ℝ) : EReal)) (Named.named (F := Ideal) (φ := .f32) κ "mask" 0xF149F2CA#32))
      = (((if x.val ≤ i.val then Real.exp (a - b) else 0) : ℝ) : EReal) := by
  rw [row_ge _ _ i.isLt x.isLt, mask]
  split
  · rw [← EReal.coe_sub, ← sub_mul, exp2_coe]
  · exact exp2_bot

section
variable {x2 : Vec Ideal S128x128 .f32} {x4 x5 : Vec Ideal S1x128 .f32} {D : ℕ → ℕ → ℝ} {bi al : ℕ → ℝ}

theorem pay9_read (h2 : ∀ i l : Fin 128, x2 (ix2 i l) = ((D i l : ℝ) : EReal)) (h4 : ∀ l : Fin 128, x4 (ix2 0 l) = ((bi l : ℝ) : EReal))
    (i l : Fin 128) : k0_pay9 (F := Ideal) x2 x4 (ix2 i l) = ((dtv D bi i l : ℝ) : EReal) := by
  pointwise [k0_pay9]
  rw [h2, h4, ← EReal.coe_add, softplus_coe]
  rw [lane_lt l 32 (by norm_num)]
  unfold dtv
  split <;> simp

theorem pay10_read (h2 : ∀ i l : Fin 128, x2 (ix2 i l) = ((D i l : ℝ) : EReal)) (h4 : ∀ l : Fin 128, x4 (ix2 0 l) = ((bi l : ℝ) : EReal))
    (h5 : ∀ l : Fin 128, x5 (ix2 0 l) = ((al l : ℝ) : EReal)) (i l : Fin 128) :
    k0_pay10 (F := Ideal) x2 x4 x5 (ix2 i l) = ((wv D bi al i l * (Real.log 2)⁻¹ : ℝ) : EReal) := by
  pointwise [k0_pay10]
  rw [pay9_read h2 h4, h5, log2e, Ideal.exp_coe, ← EReal.coe_zero, ← EReal.coe_sub, ← EReal.coe_mul, ← EReal.coe_mul]
  unfold wv
  congr 1
  ring

end

/-- One doubling stage of the prefix sum. -/
def stage (k : BitVec 32) (v : Vec Ideal S128x128 .f32) : Vec Ideal S128x128 .f32 :=
  addf v (select (cmpi .sge (iota .tc S128x128 32 [0] iota_S128x128_d0_w32) (broadcast S128x128 k))
    (dynamicRotate 0 k none v rotates_S128x128_d0) (broadcast S128x128 (FloatOps.ofBits (F := Ideal) .f32 0x00000000#32)))

theorem pay13_stages (x2 : Vec Ideal S128x128 .f32) (x4 x5 : Vec Ideal S1x128 .f32) :
    k0_pay13 (F := Ideal) (iota Kind.tc S128x128 32 [0] iota_S128x128_d0_w32) (k0_pay10 x2 x4 x5) k0_pay11 (k0_pay12 x2 x4 x5) (FloatOps.ofBits FTy.f32 0#32)
      = stage 64#32 (stage 32#32 (stage 16#32 (stage 8#32 (stage 4#32 (stage 2#32 (stage 1#32 (k0_pay10 x2 x4 x5))))))) := rfl

/-- The stage that doubles windows of 1. -/
theorem stage_1 (f : ℕ → ℕ → ℝ) {v : Vec Ideal S128x128 .f32} (h : ∀ i l : Fin 128, v (ix2 i l) = ((win (fun j => f j l) 1 i : ℝ) : EReal))
    (i l : Fin 128) : stage 1#32 v (ix2 i l) = ((win (fun j => f j l) 2 i : ℝ) : EReal) := by
  pointwise [stage]
  rw [h, h, row_ge _ _ i.isLt (by norm_num)]
  have hi := i.isLt
  rw [← win_double _ 1 i, EReal.coe_add]
  congr 1
  split
  · congr 2
    show (i.val + 128 - 1) % 128 = i.val - 1
    omega
  · rfl

/-- The stage that doubles windows of 2. -/
theorem stage_2 (f : ℕ → ℕ → ℝ) {v : Vec Ideal S128x128 .f32} (h : ∀ i l : Fin 128, v (ix2 i l) = ((win (fun j => f j l) 2 i : ℝ) : EReal))
    (i l : Fin 128) : stage 2#32 v (ix2 i l) = ((win (fun j => f j l) 4 i : ℝ) : EReal) := by
  pointwise [stage]
  rw [h, h, row_ge _ _ i.isLt (by norm_num)]
  have hi := i.isLt
  rw [← win_double _ 2 i, EReal.coe_add]
  congr 1
  split
  · congr 2
    show (i.val + 128 - 2) % 128 = i.val - 2
    omega
  · rfl

/-- The stage that doubles windows of 4. -/
theorem stage_4 (f : ℕ → ℕ → ℝ) {v : Vec Ideal S128x128 .f32} (h : ∀ i l : Fin 128, v (ix2 i l) = ((win (fun j => f j l) 4 i : ℝ) : EReal))
    (i l : Fin 128) : stage 4#32 v (ix2 i l) = ((win (fun j => f j l) 8 i : ℝ) : EReal) := by
  pointwise [stage]
  rw [h, h, row_ge _ _ i.isLt (by norm_num)]
  have hi := i.isLt
  rw [← win_double _ 4 i, EReal.coe_add]
  congr 1
  split
  · congr 2
    show (i.val + 128 - 4) % 128 = i.val - 4
    omega
  · rfl

/-- The stage that doubles windows of 8. -/
theorem stage_8 (f : ℕ → ℕ → ℝ) {v : Vec Ideal S128x128 .f32} (h : ∀ i l : Fin 128, v (ix2 i l) = ((win (fun j => f j l) 8 i : ℝ) : EReal))
    (i l : Fin 128) : stage 8#32 v (ix2 i l) = ((win (fun j => f j l) 16 i : ℝ) : EReal) := by
  pointwise [stage]
  rw [h, h, row_ge _ _ i.isLt (by norm_num)]
  have hi := i.isLt
  rw [← win_double _ 8 i, EReal.coe_add]
  congr 1
  split
  · congr 2
    show (i.val + 128 - 8) % 128 = i.val - 8
    omega
  · rfl

/-- The stage that doubles windows of 16. -/
theorem stage_16 (f : ℕ → ℕ → ℝ) {v : Vec Ideal S128x128 .f32} (h : ∀ i l : Fin 128, v (ix2 i l) = ((win (fun j => f j l) 16 i : ℝ) : EReal))
    (i l : Fin 128) : stage 16#32 v (ix2 i l) = ((win (fun j => f j l) 32 i : ℝ) : EReal) := by
  pointwise [stage]
  rw [h, h, row_ge _ _ i.isLt (by norm_num)]
  have hi := i.isLt
  rw [← win_double _ 16 i, EReal.coe_add]
  congr 1
  split
  · congr 2
    show (i.val + 128 - 16) % 128 = i.val - 16
    omega
  · rfl

/-- The stage that doubles windows of 32. -/
theorem stage_32 (f : ℕ → ℕ → ℝ) {v : Vec Ideal S128x128 .f32} (h : ∀ i l : Fin 128, v (ix2 i l) = ((win (fun j => f j l) 32 i : ℝ) : EReal))
    (i l : Fin 128) : stage 32#32 v (ix2 i l) = ((win (fun j => f j l) 64 i : ℝ) : EReal) := by
  pointwise [stage]
  rw [h, h, row_ge _ _ i.isLt (by norm_num)]
  have hi := i.isLt
  rw [← win_double _ 32 i, EReal.coe_add]
  congr 1
  split
  · congr 2
    show (i.val + 128 - 32) % 128 = i.val - 32
    omega
  · rfl

/-- The stage that doubles windows of 64. -/
theorem stage_64 (f : ℕ → ℕ → ℝ) {v : Vec Ideal S128x128 .f32} (h : ∀ i l : Fin 128, v (ix2 i l) = ((win (fun j => f j l) 64 i : ℝ) : EReal))
    (i l : Fin 128) : stage 64#32 v (ix2 i l) = ((win (fun j => f j l) 128 i : ℝ) : EReal) := by
  pointwise [stage]
  rw [h, h, row_ge _ _ i.isLt (by norm_num)]
  have hi := i.isLt
  rw [← win_double _ 64 i, EReal.coe_add]
  congr 1
  split
  · congr 2
    show (i.val + 128 - 64) % 128 = i.val - 64
    omega
  · rfl

section
variable {x2 : Vec Ideal S128x128 .f32} {x4 x5 : Vec Ideal S1x128 .f32} {D : ℕ → ℕ → ℝ} {bi al : ℕ → ℝ}

/-- The prefix sums of the log decays, in powers of two. -/
theorem cum_read (h2 : ∀ i l : Fin 128, x2 (ix2 i l) = ((D i l : ℝ) : EReal)) (h4 : ∀ l : Fin 128, x4 (ix2 0 l) = ((bi l : ℝ) : EReal))
    (h5 : ∀ l : Fin 128, x5 (ix2 0 l) = ((al l : ℝ) : EReal)) (i l : Fin 128) :
    k0_pay13 (F := Ideal) (iota Kind.tc S128x128 32 [0] iota_S128x128_d0_w32) (k0_pay10 x2 x4 x5) k0_pay11 (k0_pay12 x2 x4 x5) (FloatOps.ofBits FTy.f32 0#32) (ix2 i l)
      = ((cumv D bi al i l * (Real.log 2)⁻¹ : ℝ) : EReal) := by
  have h1 : ∀ i l : Fin 128, k0_pay10 (F := Ideal) x2 x4 x5 (ix2 i l) = ((win (fun j => wv D bi al j l * (Real.log 2)⁻¹) 1 i : ℝ) : EReal) :=
    fun i l => by rw [pay10_read h2 h4 h5, win_one]
  let f : ℕ → ℕ → ℝ := fun j h => wv D bi al j h * (Real.log 2)⁻¹
  have s1 := stage_1 f h1
  have s2 := stage_2 f s1
  have s3 := stage_4 f s2
  have s4 := stage_8 f s3
  have s5 := stage_16 f s4
  have s6 := stage_32 f s5
  rw [pay13_stages, stage_64 f s6,
    win_all _ _ _ (by have := i.isLt; omega), cumv, Finset.sum_mul]

end

section
variable {cu dt : Vec Ideal S128x128 .f32} {cl : Vec Ideal S1x128 .f32} {x8 : Vec Ideal S128x2048 .bf16} {xb : Vec Ideal S128x2048 .f32}
  {c d X : ℕ → ℕ → ℝ}

/-- The decay from the block's start, spread over the columns. -/
theorem pay18_read (hc : ∀ i l : Fin 128, cu (ix2 i l) = ((c i l * (Real.log 2)⁻¹ : ℝ) : EReal))
    (h8 : ∀ (h : Fin 128) (l : Fin 2048), x8 (ix2 h l) = (((if h.val = l.val / 64 then 1 else 0 : ℝ)) : EReal)) (i : Fin 128) (l : Fin 2048) :
    k0_pay18 (F := Ideal) cu x8 (ix2 i l) = ((Real.exp (c i (l / 64)) : ℝ) : EReal) := by
  have hl := l.isLt
  pointwise [k0_pay18, k0_pay17]
  simp only [hc, h8, exp2_coe]
  exact pick_split 128 (fun h => Real.exp (c i h)) (l / 64) (by omega)

/-- The decay of the whole block, spread over the columns. -/
theorem pay19_read (hc : ∀ l : Fin 128, cl (ix2 0 l) = ((c 127 l * (Real.log 2)⁻¹ : ℝ) : EReal))
    (h8 : ∀ (h : Fin 128) (l : Fin 2048), x8 (ix2 h l) = (((if h.val = l.val / 64 then 1 else 0 : ℝ)) : EReal)) (l : Fin 2048) :
    k0_pay19 (F := Ideal) cl x8 (ix2 0 l) = ((Real.exp (c 127 (l / 64)) : ℝ) : EReal) := by
  have hl := l.isLt
  pointwise [k0_pay19, k0_pay17]
  simp only [hc, h8, exp2_coe]
  exact pick_split 128 (fun h => Real.exp (c 127 h)) (l / 64) (by omega)

/-- The input weighted by its step and its decay to the block's end. -/
theorem pay20_read (hd : ∀ i l : Fin 128, dt (ix2 i l) = ((d i l : ℝ) : EReal)) (hc : ∀ i l : Fin 128, cu (ix2 i l) = ((c i l * (Real.log 2)⁻¹ : ℝ) : EReal))
    (hcl : ∀ l : Fin 128, cl (ix2 0 l) = ((c 127 l * (Real.log 2)⁻¹ : ℝ) : EReal))
    (h8 : ∀ (h : Fin 128) (l : Fin 2048), x8 (ix2 h l) = (((if h.val = l.val / 64 then 1 else 0 : ℝ)) : EReal))
    (hx : ∀ (i : Fin 128) (l : Fin 2048), xb (ix2 i l) = ((X i l : ℝ) : EReal)) (i : Fin 128) (l : Fin 2048) :
    k0_pay20 (F := Ideal) dt cu cl x8 xb (ix2 i l) = ((X i l * (Real.exp (c 127 (l / 64) - c i (l / 64)) * d i (l / 64)) : ℝ) : EReal) := by
  have hl := l.isLt
  pointwise [k0_pay20, k0_pay17]
  have e : ∀ x : Fin 128, FloatOps.exp2 (F := Ideal) (φ := .f32) (cl (ix2 0 x) - cu (ix2 i x)) * dt (ix2 i x)
      = ((Real.exp (c 127 x - c i x) * d i x : ℝ) : EReal) := fun x => by
    rw [hc, hcl, hd, ← EReal.coe_sub, ← sub_mul, exp2_coe, EReal.coe_mul]
  simp only [e, h8, hx]
  rw [pick_split 128 (fun h => Real.exp (c 127 h - c i h) * d i h) (l / 64) (by omega), ← EReal.coe_mul]

end

end Cert.KernelIdeal.Scan

end
-- ==== Proof.ScanPairs.lean ====
/- The sixteen column blocks of the scan kernel's output accumulator: every one is the carried state's read-out, the skip
   term and the block's own masked product, whichever way its payloads are cut. -/
module

public import proofs.«01_k».proof.Proof.ScanPays

@[expose] public section

set_option maxRecDepth 16384

noncomputable section

namespace Cert.KernelIdeal.Scan

open Idealize.ShloMosaic Idealize.ShloMosaic.TcCoe Cert.KernelIdeal.Gen Cert.KernelIdeal Cert.ScanMath

/-- The carried state `H` read out by row `i`, column `l` of group `g`. -/
def offv (c X : ℕ → ℕ → ℝ) (H : ℕ → ℕ → ℕ → EReal) (g i l : ℕ) : EReal :=
  (∑ n : Fin 128, ((X i (2560 + 128 * g + n) : ℝ) : EReal) * H g n l) * ((Real.exp (c i (8 * g + l / 64)) : ℝ) : EReal)

/-- Over a finite state the read-out is a real number. -/
theorem offv_coe (c X : ℕ → ℕ → ℝ) (H : ℕ → ℕ → ℕ → ℝ) (g i l : ℕ) :
    offv c X (fun g n p => ((H g n p : ℝ) : EReal)) g i l
      = (((∑ n : Fin 128, X i (2560 + 128 * g + n) * H g n l) * Real.exp (c i (8 * g + l / 64)) : ℝ) : EReal) := by
  unfold offv
  simp only [← EReal.coe_mul, coe_sum]

/-- The block's own part at row `i`: group `g`, head `h`, column `l` of the input. -/
def diagv (c d X : ℕ → ℕ → ℝ) (g h i l : ℕ) : ℝ :=
  ∑ s : Fin 128, ((∑ n : Fin 128, X i (2560 + 128 * g + n) * X s (2048 + 128 * g + n))
    * (if s.val ≤ i then Real.exp (c i h - c s h) else 0) * d s h) * X s l

/-- Row `i`, column `p` of group `g` of the accumulator: the carried state's read-out, the skip term, the block's own part. -/
def accv (c d X : ℕ → ℕ → ℝ) (H : ℕ → ℕ → ℕ → EReal) (w : ℕ → EReal) (g i p : ℕ) : EReal :=
  offv c X H g i p + w (512 * g + p) * ((X i (512 * g + p) : ℝ) : EReal) + ((diagv c d X g ((512 * g + p) / 64) i (512 * g + p) : ℝ) : EReal)

section
variable {cu cuT dT Bm Cm xs : Vec Ideal S128x128 .f32} {S : Vec Ideal S1x128x512 .f32} {X1 : Vec Ideal S128x512 .f32} {x6 : Vec Ideal S1x2048 .f32}
  {c d X : ℕ → ℕ → ℝ} {H : ℕ → ℕ → ℕ → EReal} {w : ℕ → EReal}

/-- Column block 0. -/
theorem pair_0 (hcu : ∀ i l : Fin 128, cu (ix2 i l) = ((c i l * (Real.log 2)⁻¹ : ℝ) : EReal))
    (hcuT : ∀ l i : Fin 128, cuT (ix2 l i) = ((c i l * (Real.log 2)⁻¹ : ℝ) : EReal)) (hdT : ∀ l i : Fin 128, dT (ix2 l i) = ((d i l : ℝ) : EReal))
    (hB : ∀ i n : Fin 128, Bm (ix2 i n) = ((X i (2048 + n) : ℝ) : EReal)) (hC : ∀ i n : Fin 128, Cm (ix2 i n) = ((X i (2560 + n) : ℝ) : EReal))
    (hx : ∀ i l : Fin 128, xs (ix2 i l) = ((X i (0 + l) : ℝ) : EReal)) (hS : ∀ (n : Fin 128) (p : Fin 512), S (ix3 0 n p) = H 0 n p)
    (hX1 : ∀ (i : Fin 128) (p : Fin 512), X1 (ix2 i p) = ((Real.exp (c i (0 + p / 64)) : ℝ) : EReal)) (hw : ∀ l : Fin 2048, x6 (ix2 0 l) = w l) (i l : Fin 128) :
    k0_pay31 dT (iota Kind.tc S128x128 32 [1] iota_S128x128_d1_w32) (k0_pay24 Bm Cm) (k0_pay27 x6 Cm S X1 xs) (k0_pay28 xs) (k0_pay29 cu cuT dT k0_pay21 Bm Cm xs) (k0_pay30 cu cuT k0_pay21) (ix2 i l) = accv c d X H w 0 i (0 + l) := by
  have hl' := l.isLt
  have e0 : ((0 : Fin 128) : ℕ) = 0 := rfl
  pointwise [k0_pay31, k0_pay30, k0_pay29, k0_pay28, k0_pay27, k0_pay26, k0_pay25, k0_pay24, k0_pay23, k0_pay22, k0_pay21]
  simp only [hB, hC, hx, hS, hX1, hcu, hcuT, hdT, decay, ← EReal.coe_mul, coe_sum, lane_lt _ 64 (by norm_num)]
  unfold accv offv diagv
  simp only [Nat.zero_add]
  rw [hw]
  dsimp only
  rw [show 512 * 0 + l.val = l.val by omega]
  by_cases h : l.val < 64
  · rw [if_pos h, show l.val / 64 = 0 by omega]
    rfl
  · rw [if_neg h, show l.val / 64 = 1 by omega]
    rfl

/-- Column block 1. -/
theorem pair_1 (hcu : ∀ i l : Fin 128, cu (ix2 i l) = ((c i l * (Real.log 2)⁻¹ : ℝ) : EReal))
    (hcuT : ∀ l i : Fin 128, cuT (ix2 l i) = ((c i l * (Real.log 2)⁻¹ : ℝ) : EReal)) (hdT : ∀ l i : Fin 128, dT (ix2 l i) = ((d i l : ℝ) : EReal))
    (hB : ∀ i n : Fin 128, Bm (ix2 i n) = ((X i (2048 + n) : ℝ) : EReal)) (hC : ∀ i n : Fin 128, Cm (ix2 i n) = ((X i (2560 + n) : ℝ) : EReal))
    (hx : ∀ i l : Fin 128, xs (ix2 i l) = ((X i (128 + l) : ℝ) : EReal)) (hS : ∀ (n : Fin 128) (p : Fin 512), S (ix3 0 n p) = H 0 n p)
    (hX1 : ∀ (i : Fin 128) (p : Fin 512), X1 (ix2 i p) = ((Real.exp (c i (0 + p / 64)) : ℝ) : EReal)) (hw : ∀ l : Fin 2048, x6 (ix2 0 l) = w l) (i l : Fin 128) :
    k0_pay36 (iota Kind.tc S128x128 32 [1] iota_S128x128_d1_w32) (k0_pay32 (k0_pay22 (F := Ideal) x6) (k0_pay26 Cm S X1) xs) (k0_pay34 cu cuT dT k0_pay21 (k0_pay24 Bm Cm) xs) (k0_pay35 cu cuT dT k0_pay21 (k0_pay24 Bm Cm) xs) (ix2 i l) = accv c d X H w 0 i (128 + l) := by
  have hl' := l.isLt
  have e0 : ((0 : Fin 128) : ℕ) = 0 := rfl
  pointwise [k0_pay36, k0_pay35, k0_pay34, k0_pay33, k0_pay32, k0_pay26, k0_pay25, k0_pay24, k0_pay23, k0_pay22, k0_pay21]
  simp only [hB, hC, hx, hS, hX1, hcu, hcuT, hdT, decay, ← EReal.coe_mul, coe_sum, lane_lt _ 64 (by norm_num)]
  unfold accv offv diagv
  rw [hw]
  dsimp only
  rw [show 512 * 0 + (128 + l.val) = 128 + l.val by omega]
  by_cases h : l.val < 64
  · rw [if_pos h, show (128 + l.val) / 64 = 2 by omega]
    rfl
  · rw [if_neg h, show (128 + l.val) / 64 = 3 by omega]
    rfl

/-- Column block 2. -/
theorem pair_2 (hcu : ∀ i l : Fin 128, cu (ix2 i l) = ((c i l * (Real.log 2)⁻¹ : ℝ) : EReal))
    (hcuT : ∀ l i : Fin 128, cuT (ix2 l i) = ((c i l * (Real.log 2)⁻¹ : ℝ) : EReal)) (hdT : ∀ l i : Fin 128, dT (ix2 l i) = ((d i l : ℝ) : EReal))
    (hB : ∀ i n : Fin 128, Bm (ix2 i n) = ((X i (2048 + n) : ℝ) : EReal)) (hC : ∀ i n : Fin 128, Cm (ix2 i n) = ((X i (2560 + n) : ℝ) : EReal))
    (hx : ∀ i l : Fin 128, xs (ix2 i l) = ((X i (256 + l) : ℝ) : EReal)) (hS : ∀ (n : Fin 128) (p : Fin 512), S (ix3 0 n p) = H 0 n p)
    (hX1 : ∀ (i : Fin 128) (p : Fin 512), X1 (ix2 i p) = ((Real.exp (c i (0 + p / 64)) : ℝ) : EReal)) (hw : ∀ l : Fin 2048, x6 (ix2 0 l) = w l) (i l : Fin 128) :
    k0_pay38 (k0_pay37 cu cuT dT k0_pay21 (iota Kind.tc S128x128 32 [1] iota_S128x128_d1_w32) (k0_pay22 (F := Ideal) x6) (k0_pay24 Bm Cm) (k0_pay26 Cm S X1) xs) (ix2 i l) = accv c d X H w 0 i (256 + l) := by
  have hl' := l.isLt
  have e0 : ((0 : Fin 128) : ℕ) = 0 := rfl
  pointwise [k0_pay38, k0_pay37, k0_pay26, k0_pay25, k0_pay24, k0_pay23, k0_pay22, k0_pay21]
  simp only [hB, hC, hx, hS, hX1, hcu, hcuT, hdT, decay, ← EReal.coe_mul, coe_sum, lane_lt _ 64 (by norm_num)]
  unfold accv offv diagv
  rw [hw]
  dsimp only
  rw [show 512 * 0 + (256 + l.val) = 256 + l.val by omega]
  by_cases h : l.val < 64
  · rw [if_pos h, show (256 + l.val) / 64 = 4 by omega]
    rfl
  · rw [if_neg h, show (256 + l.val) / 64 = 5 by omega]
    rfl

/-- Column block 3. -/
theorem pair_3 (hcu : ∀ i l : Fin 128, cu (ix2 i l) = ((c i l * (Real.log 2)⁻¹ : ℝ) : EReal))
    (hcuT : ∀ l i : Fin 128, cuT (ix2 l i) = ((c i l * (Real.log 2)⁻¹ : ℝ) : EReal)) (hdT : ∀ l i : Fin 128, dT (ix2 l i) = ((d i l : ℝ) : EReal))
    (hB : ∀ i n : Fin 128, Bm (ix2 i n) = ((X i (2048 + n) : ℝ) : EReal)) (hC : ∀ i n : Fin 128, Cm (ix2 i n) = ((X i (2560 + n) : ℝ) : EReal))
    (hx : ∀ i l : Fin 128, xs (ix2 i l) = ((X i (384 + l) : ℝ) : EReal)) (hS : ∀ (n : Fin 128) (p : Fin 512), S (ix3 0 n p) = H 0 n p)
    (hX1 : ∀ (i : Fin 128) (p : Fin 512), X1 (ix2 i p) = ((Real.exp (c i (0 + p / 64)) : ℝ) : EReal)) (hw : ∀ l : Fin 2048, x6 (ix2 0 l) = w l) (i l : Fin 128) :
    k0_pay39 cu cuT dT k0_pay21 (iota Kind.tc S128x128 32 [1] iota_S128x128_d1_w32) (k0_pay22 (F := Ideal) x6) (k0_pay24 Bm Cm) (k0_pay26 Cm S X1) xs (ix2 i l) = accv c d X H w 0 i (384 + l) := by
  have hl' := l.isLt
  have e0 : ((0 : Fin 128) : ℕ) = 0 := rfl
  pointwise [k0_pay39, k0_pay26, k0_pay25, k0_pay24, k0_pay23, k0_pay22, k0_pay21]
  simp only [hB, hC, hx, hS, hX1, hcu, hcuT, hdT, decay, ← EReal.coe_mul, coe_sum, lane_lt _ 64 (by norm_num)]
  unfold accv offv diagv
  rw [hw]
  dsimp only
  rw [show 512 * 0 + (384 + l.val) = 384 + l.val by omega]
  by_cases h : l.val < 64
  · rw [if_pos h, show (384 + l.val) / 64 = 6 by omega]
    rfl
  · rw [if_neg h, show (384 + l.val) / 64 = 7 by omega]
    rfl

/-- Column block 4. -/
theorem pair_4 (hcu : ∀ i l : Fin 128, cu (ix2 i l) = ((c i l * (Real.log 2)⁻¹ : ℝ) : EReal))
    (hcuT : ∀ l i : Fin 128, cuT (ix2 l i) = ((c i l * (Real.log 2)⁻¹ : ℝ) : EReal)) (hdT : ∀ l i : Fin 128, dT (ix2 l i) = ((d i l : ℝ) : EReal))
    (hB : ∀ i n : Fin 128, Bm (ix2 i n) = ((X i (2176 + n) : ℝ) : EReal)) (hC : ∀ i n : Fin 128, Cm (ix2 i n) = ((X i (2688 + n) : ℝ) : EReal))
    (hx : ∀ i l : Fin 128, xs (ix2 i l) = ((X i (512 + l) : ℝ) : EReal)) (hS : ∀ (n : Fin 128) (p : Fin 512), S (ix3 0 n p) = H 1 n p)
    (hX1 : ∀ (i : Fin 128) (p : Fin 512), X1 (ix2 i p) = ((Real.exp (c i (8 + p / 64)) : ℝ) : EReal)) (hw : ∀ l : Fin 2048, x6 (ix2 0 l) = w l) (i l : Fin 128) :
    k0_pay50 cu cuT dT k0_pay21 (iota Kind.tc S128x128 32 [1] iota_S128x128_d1_w32) (k0_pay44 Bm Cm) (k0_pay47 (k0_pay22 (F := Ideal) x6) Cm S X1 xs) (k0_pay48 xs) (k0_pay49 cu cuT dT k0_pay21 Bm Cm xs) (ix2 i l) = accv c d X H w 1 i (0 + l) := by
  have hl' := l.isLt
  have e0 : ((0 : Fin 128) : ℕ) = 0 := rfl
  pointwise [k0_pay50, k0_pay49, k0_pay48, k0_pay47, k0_pay46, k0_pay45, k0_pay44, k0_pay43, k0_pay22, k0_pay21]
  simp only [hB, hC, hx, hS, hX1, hcu, hcuT, hdT, decay, ← EReal.coe_mul, coe_sum, lane_lt _ 64 (by norm_num)]
  unfold accv offv diagv
  rw [hw]
  dsimp only
  rw [show 512 * 1 + l.val = 512 + l.val by omega]
  by_cases h : l.val < 64
  · rw [if_pos h, show (512 + l.val) / 64 = 8 by omega]
    rfl
  · rw [if_neg h, show (512 + l.val) / 64 = 9 by omega]
    rfl

/-- Column block 5. -/
theorem pair_5 (hcu : ∀ i l : Fin 128, cu (ix2 i l) = ((c i l * (Real.log 2)⁻¹ : ℝ) : EReal))
    (hcuT : ∀ l i : Fin 128, cuT (ix2 l i) = ((c i l * (Real.log 2)⁻¹ : ℝ) : EReal)) (hdT : ∀ l i : Fin 128, dT (ix2 l i) = ((d i l : ℝ) : EReal))
    (hB : ∀ i n : Fin 128, Bm (ix2 i n) = ((X i (2176 + n) : ℝ) : EReal)) (hC : ∀ i n : Fin 128, Cm (ix2 i n) = ((X i (2688 + n) : ℝ) : EReal))
    (hx : ∀ i l : Fin 128, xs (ix2 i l) = ((X i (640 + l) : ℝ) : EReal)) (hS : ∀ (n : Fin 128) (p : Fin 512), S (ix3 0 n p) = H 1 n p)
    (hX1 : ∀ (i : Fin 128) (p : Fin 512), X1 (ix2 i p) = ((Real.exp (c i (8 + p / 64)) : ℝ) : EReal)) (hw : ∀ l : Fin 2048, x6 (ix2 0 l) = w l) (i l : Fin 128) :
    k0_pay55 dT (iota Kind.tc S128x128 32 [1] iota_S128x128_d1_w32) (k0_pay44 Bm Cm) (k0_pay51 (k0_pay22 (F := Ideal) x6) (k0_pay46 Cm S X1) xs) (k0_pay52 xs) (k0_pay53 cu cuT dT k0_pay21 (k0_pay44 Bm Cm) xs) (k0_pay54 cu cuT k0_pay21) (ix2 i l) = accv c d X H w 1 i (128 + l) := by
  have hl' := l.isLt
  have e0 : ((0 : Fin 128) : ℕ) = 0 := rfl
  pointwise [k0_pay55, k0_pay54, k0_pay53, k0_pay52, k0_pay51, k0_pay46, k0_pay45, k0_pay44, k0_pay43, k0_pay22, k0_pay21]
  simp only [hB, hC, hx, hS, hX1, hcu, hcuT, hdT, decay, ← EReal.coe_mul, coe_sum, lane_lt _ 64 (by norm_num)]
  unfold accv offv diagv
  rw [hw]
  dsimp only
  rw [show 512 * 1 + (128 + l.val) = 640 + l.val by omega]
  by_cases h : l.val < 64
  · rw [if_pos h, show (640 + l.val) / 64 = 10 by omega]
    rfl
  · rw [if_neg h, show (640 + l.val) / 64 = 11 by omega]
    rfl

/-- Column block 6. -/
theorem pair_6 (hcu : ∀ i l : Fin 128, cu (ix2 i l) = ((c i l * (Real.log 2)⁻¹ : ℝ) : EReal))
    (hcuT : ∀ l i : Fin 128, cuT (ix2 l i) = ((c i l * (Real.log 2)⁻¹ : ℝ) : EReal)) (hdT : ∀ l i : Fin 128, dT (ix2 l i) = ((d i l : ℝ) : EReal))
    (hB : ∀ i n : Fin 128, Bm (ix2 i n) = ((X i (2176 + n) : ℝ) : EReal)) (hC : ∀ i n : Fin 128, Cm (ix2 i n) = ((X i (2688 + n) : ℝ) : EReal))
    (hx : ∀ i l : Fin 128, xs (ix2 i l) = ((X i (768 + l) : ℝ) : EReal)) (hS : ∀ (n : Fin 128) (p : Fin 512), S (ix3 0 n p) = H 1 n p)
    (hX1 : ∀ (i : Fin 128) (p : Fin 512), X1 (ix2 i p) = ((Real.exp (c i (8 + p / 64)) : ℝ) : EReal)) (hw : ∀ l : Fin 2048, x6 (ix2 0 l) = w l) (i l : Fin 128) :
    k0_pay60 (iota Kind.tc S128x128 32 [1] iota_S128x128_d1_w32) (k0_pay56 (k0_pay22 (F := Ideal) x6) (k0_pay46 Cm S X1) xs) (k0_pay58 cu cuT dT k0_pay21 (k0_pay44 Bm Cm) xs) (k0_pay59 cu cuT dT k0_pay21 (k0_pay44 Bm Cm) xs) (ix2 i l) = accv c d X H w 1 i (256 + l) := by
  have hl' := l.isLt
  have e0 : ((0 : Fin 128) : ℕ) = 0 := rfl
  pointwise [k0_pay60, k0_pay59, k0_pay58, k0_pay57, k0_pay56, k0_pay46, k0_pay45, k0_pay44, k0_pay43, k0_pay22, k0_pay21]
  simp only [hB, hC, hx, hS, hX1, hcu, hcuT, hdT, decay, ← EReal.coe_mul, coe_sum, lane_lt _ 64 (by norm_num)]
  unfold accv offv diagv
  rw [hw]
  dsimp only
  rw [show 512 * 1 + (256 + l.val) = 768 + l.val by omega]
  by_cases h : l.val < 64
  · rw [if_pos h, show (768 + l.val) / 64 = 12 by omega]
    rfl
  · rw [if_neg h, show (768 + l.val) / 64 = 13 by omega]
    rfl

/-- Column block 7. -/
theorem pair_7 (hcu : ∀ i l : Fin 128, cu (ix2 i l) = ((c i l * (Real.log 2)⁻¹ : ℝ) : EReal))
    (hcuT : ∀ l i : Fin 128, cuT (ix2 l i) = ((c i l * (Real.log 2)⁻¹ : ℝ) : EReal)) (hdT : ∀ l i : Fin 128, dT (ix2 l i) = ((d i l : ℝ) : EReal))
    (hB : ∀ i n : Fin 128, Bm (ix2 i n) = ((X i (2176 + n) : ℝ) : EReal)) (hC : ∀ i n : Fin 128, Cm (ix2 i n) = ((X i (2688 + n) : ℝ) : EReal))
    (hx : ∀ i l : Fin 128, xs (ix2 i l) = ((X i (896 + l) : ℝ) : EReal)) (hS : ∀ (n : Fin 128) (p : Fin 512), S (ix3 0 n p) = H 1 n p)
    (hX1 : ∀ (i : Fin 128) (p : Fin 512), X1 (ix2 i p) = ((Real.exp (c i (8 + p / 64)) : ℝ) : EReal)) (hw : ∀ l : Fin 2048, x6 (ix2 0 l) = w l) (i l : Fin 128) :
    k0_pay62 (k0_pay61 cu cuT dT k0_pay21 (iota Kind.tc S128x128 32 [1] iota_S128x128_d1_w32) (k0_pay22 (F := Ideal) x6) (k0_pay44 Bm Cm) (k0_pay46 Cm S X1) xs) (ix2 i l) = accv c d X H w 1 i (384 + l) := by
  have hl' := l.isLt
  have e0 : ((0 : Fin 128) : ℕ) = 0 := rfl
  pointwise [k0_pay62, k0_pay61, k0_pay46, k0_pay45, k0_pay44, k0_pay43, k0_pay22, k0_pay21]
  simp only [hB, hC, hx, hS, hX1, hcu, hcuT, hdT, decay, ← EReal.coe_mul, coe_sum, lane_lt _ 64 (by norm_num)]
  unfold accv offv diagv
  rw [hw]
  dsimp only
  rw [show 512 * 1 + (384 + l.val) = 896 + l.val by omega]
  by_cases h : l.val < 64
  · rw [if_pos h, show (896 + l.val) / 64 = 14 by omega]
    rfl
  · rw [if_neg h, show (896 + l.val) / 64 = 15 by omega]
    rfl

/-- Column block 8. -/
theorem pair_8 (hcu : ∀ i l : Fin 128, cu (ix2 i l) = ((c i l * (Real.log 2)⁻¹ : ℝ) : EReal))
    (hcuT : ∀ l i : Fin 128, cuT (ix2 l i) = ((c i l * (Real.log 2)⁻¹ : ℝ) : EReal)) (hdT : ∀ l i : Fin 128, dT (ix2 l i) = ((d i l : ℝ) : EReal))
    (hB : ∀ i n : Fin 128, Bm (ix2 i n) = ((X i (2304 + n) : ℝ) : EReal)) (hC : ∀ i n : Fin 128, Cm (ix2 i n) = ((X i (2816 + n) : ℝ) : EReal))
    (hx : ∀ i l : Fin 128, xs (ix2 i l) = ((X i (1024 + l) : ℝ) : EReal)) (hS : ∀ (n : Fin 128) (p : Fin 512), S (ix3 0 n p) = H 2 n p)
    (hX1 : ∀ (i : Fin 128) (p : Fin 512), X1 (ix2 i p) = ((Real.exp (c i (16 + p / 64)) : ℝ) : EReal)) (hw : ∀ l : Fin 2048, x6 (ix2 0 l) = w l) (i l : Fin 128) :
    k0_pay71 cu cuT dT k0_pay21 (iota Kind.tc S128x128 32 [1] iota_S128x128_d1_w32) (k0_pay65 Bm Cm) (k0_pay68 (k0_pay22 (F := Ideal) x6) Cm S X1 xs) (k0_pay69 xs) (k0_pay70 cu cuT k0_pay21) (ix2 i l) = accv c d X H w 2 i (0 + l) := by
  have hl' := l.isLt
  have e0 : ((0 : Fin 128) : ℕ) = 0 := rfl
  pointwise [k0_pay71, k0_pay70, k0_pay69, k0_pay68, k0_pay67, k0_pay66, k0_pay65, k0_pay64, k0_pay22, k0_pay21]
  simp only [hB, hC, hx, hS, hX1, hcu, hcuT, hdT, decay, ← EReal.coe_mul, coe_sum, lane_lt _ 64 (by norm_num)]
  unfold accv offv diagv
  rw [hw]
  dsimp only
  rw [show 512 * 2 + l.val = 1024 + l.val by omega]
  by_cases h : l.val < 64
  · rw [if_pos h, show (1024 + l.val) / 64 = 16 by omega]
    rfl
  · rw [if_neg h, show (1024 + l.val) / 64 = 17 by omega]
    rfl

/-- Column block 9. -/
theorem pair_9 (hcu : ∀ i l : Fin 128, cu (ix2 i l) = ((c i l * (Real.log 2)⁻¹ : ℝ) : EReal))
    (hcuT : ∀ l i : Fin 128, cuT (ix2 l i) = ((c i l * (Real.log 2)⁻¹ : ℝ) : EReal)) (hdT : ∀ l i : Fin 128, dT (ix2 l i) = ((d i l : ℝ) : EReal))
    (hB : ∀ i n : Fin 128, Bm (ix2 i n) = ((X i (2304 + n) : ℝ) : EReal)) (hC : ∀ i n : Fin 128, Cm (ix2 i n) = ((X i (2816 + n) : ℝ) : EReal))
    (hx : ∀ i l : Fin 128, xs (ix2 i l) = ((X i (1152 + l) : ℝ) : EReal)) (hS : ∀ (n : Fin 128) (p : Fin 512), S (ix3 0 n p) = H 2 n p)
    (hX1 : ∀ (i : Fin 128) (p : Fin 512), X1 (ix2 i p) = ((Real.exp (c i (16 + p / 64)) : ℝ) : EReal)) (hw : ∀ l : Fin 2048, x6 (ix2 0 l) = w l) (i l : Fin 128) :
    k0_pay75 cu cuT dT k0_pay21 (iota Kind.tc S128x128 32 [1] iota_S128x128_d1_w32) (k0_pay65 Bm Cm) (k0_pay72 (k0_pay22 (F := Ideal) x6) (k0_pay67 Cm S X1) xs) (k0_pay73 xs) (k0_pay74 cu cuT dT k0_pay21 (k0_pay65 Bm Cm) xs) (ix2 i l) = accv c d X H w 2 i (128 + l) := by
  have hl' := l.isLt
  have e0 : ((0 : Fin 128) : ℕ) = 0 := rfl
  pointwise [k0_pay75, k0_pay74, k0_pay73, k0_pay72, k0_pay67, k0_pay66, k0_pay65, k0_pay64, k0_pay22, k0_pay21]
  simp only [hB, hC, hx, hS, hX1, hcu, hcuT, hdT, decay, ← EReal.coe_mul, coe_sum, lane_lt _ 64 (by norm_num)]
  unfold accv offv diagv
  rw [hw]
  dsimp only
  rw [show 512 * 2 + (128 + l.val) = 1152 + l.val by omega]
  by_cases h : l.val < 64
  · rw [if_pos h, show (1152 + l.val) / 64 = 18 by omega]
    rfl
  · rw [if_neg h, show (1152 + l.val) / 64 = 19 by omega]
    rfl

/-- Column block 10. -/
theorem pair_10 (hcu : ∀ i l : Fin 128, cu (ix2 i l) = ((c i l * (Real.log 2)⁻¹ : ℝ) : EReal))
    (hcuT : ∀ l i : Fin 128, cuT (ix2 l i) = ((c i l * (Real.log 2)⁻¹ : ℝ) : EReal)) (hdT : ∀ l i : Fin 128, dT (ix2 l i) = ((d i l : ℝ) : EReal))
    (hB : ∀ i n : Fin 128, Bm (ix2 i n) = ((X i (2304 + n) : ℝ) : EReal)) (hC : ∀ i n : Fin 128, Cm (ix2 i n) = ((X i (2816 + n) : ℝ) : EReal))
    (hx : ∀ i l : Fin 128, xs (ix2 i l) = ((X i (1280 + l) : ℝ) : EReal)) (hS : ∀ (n : Fin 128) (p : Fin 512), S (ix3 0 n p) = H 2 n p)
    (hX1 : ∀ (i : Fin 128) (p : Fin 512), X1 (ix2 i p) = ((Real.exp (c i (16 + p / 64)) : ℝ) : EReal)) (hw : ∀ l : Fin 2048, x6 (ix2 0 l) = w l) (i l : Fin 128) :
    k0_pay80 dT (iota Kind.tc S128x128 32 [1] iota_S128x128_d1_w32) (k0_pay65 Bm Cm) (k0_pay76 (k0_pay22 (F := Ideal) x6) (k0_pay67 Cm S X1) xs) (k0_pay77 xs) (k0_pay78 cu cuT dT k0_pay21 (k0_pay65 Bm Cm) xs) (k0_pay79 cu cuT k0_pay21) (ix2 i l) = accv c d X H w 2 i (256 + l) := by
  have hl' := l.isLt
  have e0 : ((0 : Fin 128) : ℕ) = 0 := rfl
  pointwise [k0_pay80, k0_pay79, k0_pay78, k0_pay77, k0_pay76, k0_pay67, k0_pay66, k0_pay65, k0_pay64, k0_pay22, k0_pay21]
  simp only [hB, hC, hx, hS, hX1, hcu, hcuT, hdT, decay, ← EReal.coe_mul, coe_sum, lane_lt _ 64 (by norm_num)]
  unfold accv offv diagv
  rw [hw]
  dsimp only
  rw [show 512 * 2 + (256 + l.val) = 1280 + l.val by omega]
  by_cases h : l.val < 64
  · rw [if_pos h, show (1280 + l.val) / 64 = 20 by omega]
    rfl
  · rw [if_neg h, show (1280 + l.val) / 64 = 21 by omega]
    rfl

/-- Column block 11. -/
theorem pair_11 (hcu : ∀ i l : Fin 128, cu (ix2 i l) = ((c i l * (Real.log 2)⁻¹ : ℝ) : EReal))
    (hcuT : ∀ l i : Fin 128, cuT (ix2 l i) = ((c i l * (Real.log 2)⁻¹ : ℝ) : EReal)) (hdT : ∀ l i : Fin 128, dT (ix2 l i) = ((d i l : ℝ) : EReal))
    (hB : ∀ i n : Fin 128, Bm (ix2 i n) = ((X i (2304 + n) : ℝ) : EReal)) (hC : ∀ i n : Fin 128, Cm (ix2 i n) = ((X i (2816 + n) : ℝ) : EReal))
    (hx : ∀ i l : Fin 128, xs (ix2 i l) = ((X i (1408 + l) : ℝ) : EReal)) (hS : ∀ (n : Fin 128) (p : Fin 512), S (ix3 0 n p) = H 2 n p)
    (hX1 : ∀ (i : Fin 128) (p : Fin 512), X1 (ix2 i p) = ((Real.exp (c i (16 + p / 64)) : ℝ) : EReal)) (hw : ∀ l : Fin 2048, x6 (ix2 0 l) = w l) (i l : Fin 128) :
    k0_pay85 (iota Kind.tc S128x128 32 [1] iota_S128x128_d1_w32) (k0_pay81 (k0_pay22 (F := Ideal) x6) (k0_pay67 Cm S X1) xs) (k0_pay83 cu cuT dT k0_pay21 (k0_pay65 Bm Cm) xs) (k0_pay84 cu cuT dT k0_pay21 (k0_pay65 Bm Cm) xs) (ix2 i l) = accv c d X H w 2 i (384 + l) := by
  have hl' := l.isLt
  have e0 : ((0 : Fin 128) : ℕ) = 0 := rfl
  pointwise [k0_pay85, k0_pay84, k0_pay83, k0_pay82, k0_pay81, k0_pay67, k0_pay66, k0_pay65, k0_pay64, k0_pay22, k0_pay21]
  simp only [hB, hC, hx, hS, hX1, hcu, hcuT, hdT, decay, ← EReal.coe_mul, coe_sum, lane_lt _ 64 (by norm_num)]
  unfold accv offv diagv
  rw [hw]
  dsimp only
  rw [show 512 * 2 + (384 + l.val) = 1408 + l.val by omega]
  by_cases h : l.val < 64
  · rw [if_pos h, show (1408 + l.val) / 64 = 22 by omega]
    rfl
  · rw [if_neg h, show (1408 + l.val) / 64 = 23 by omega]
    rfl

/-- Column block 12. -/
theorem pair_12 (hcu : ∀ i l : Fin 128, cu (ix2 i l) = ((c i l * (Real.log 2)⁻¹ : ℝ) : EReal))
    (hcuT : ∀ l i : Fin 128, cuT (ix2 l i) = ((c i l * (Real.log 2)⁻¹ : ℝ) : EReal)) (hdT : ∀ l i : Fin 128, dT (ix2 l i) = ((d i l : ℝ) : EReal))
    (hB : ∀ i n : Fin 128, Bm (ix2 i n) = ((X i (2432 + n) : ℝ) : EReal)) (hC : ∀ i n : Fin 128, Cm (ix2 i n) = ((X i (2944 + n) : ℝ) : EReal))
    (hx : ∀ i l : Fin 128, xs (ix2 i l) = ((X i (1536 + l) : ℝ) : EReal)) (hS : ∀ (n : Fin 128) (p : Fin 512), S (ix3 0 n p) = H 3 n p)
    (hX1 : ∀ (i : Fin 128) (p : Fin 512), X1 (ix2 i p) = ((Real.exp (c i (24 + p / 64)) : ℝ) : EReal)) (hw : ∀ l : Fin 2048, x6 (ix2 0 l) = w l) (i l : Fin 128) :
    k0_pay93 cu cuT dT k0_pay21 (iota Kind.tc S128x128 32 [1] iota_S128x128_d1_w32) (k0_pay88 Bm Cm) (k0_pay91 (k0_pay22 (F := Ideal) x6) Cm S X1 xs) (k0_pay92 xs) (ix2 i l) = accv c d X H w 3 i (0 + l) := by
  have hl' := l.isLt
  have e0 : ((0 : Fin 128) : ℕ) = 0 := rfl
  pointwise [k0_pay93, k0_pay92, k0_pay91, k0_pay90, k0_pay89, k0_pay88, k0_pay87, k0_pay22, k0_pay21]
  simp only [hB, hC, hx, hS, hX1, hcu, hcuT, hdT, decay, ← EReal.coe_mul, coe_sum, lane_lt _ 64 (by norm_num)]
  unfold accv offv diagv
  rw [hw]
  dsimp only
  rw [show 512 * 3 + l.val = 1536 + l.val by omega]
  by_cases h : l.val < 64
  · rw [if_pos h, show (1536 + l.val) / 64 = 24 by omega]
    rfl
  · rw [if_neg h, show (1536 + l.val) / 64 = 25 by omega]
    rfl

/-- Column block 13. -/
theorem pair_13 (hcu : ∀ i l : Fin 128, cu (ix2 i l) = ((c i l * (Real.log 2)⁻¹ : ℝ) : EReal))
    (hcuT : ∀ l i : Fin 128, cuT (ix2 l i) = ((c i l * (Real.log 2)⁻¹ : ℝ) : EReal)) (hdT : ∀ l i : Fin 128, dT (ix2 l i) = ((d i l : ℝ) : EReal))
    (hB : ∀ i n : Fin 128, Bm (ix2 i n) = ((X i (2432 + n) : ℝ) : EReal)) (hC : ∀ i n : Fin 128, Cm (ix2 i n) = ((X i (2944 + n) : ℝ) : EReal))
    (hx : ∀ i l : Fin 128, xs (ix2 i l) = ((X i (1664 + l) : ℝ) : EReal)) (hS : ∀ (n : Fin 128) (p : Fin 512), S (ix3 0 n p) = H 3 n p)
    (hX1 : ∀ (i : Fin 128) (p : Fin 512), X1 (ix2 i p) = ((Real.exp (c i (24 + p / 64)) : ℝ) : EReal)) (hw : ∀ l : Fin 2048, x6 (ix2 0 l) = w l) (i l : Fin 128) :
    k0_pay97 cu cuT dT k0_pay21 (iota Kind.tc S128x128 32 [1] iota_S128x128_d1_w32) (k0_pay88 Bm Cm) (k0_pay94 (k0_pay22 (F := Ideal) x6) (k0_pay90 Cm S X1) xs) (k0_pay95 xs) (k0_pay96 cu cuT k0_pay21) (ix2 i l) = accv c d X H w 3 i (128 + l) := by
  have hl' := l.isLt
  have e0 : ((0 : Fin 128) : ℕ) = 0 := rfl
  pointwise [k0_pay97, k0_pay96, k0_pay95, k0_pay94, k0_pay90, k0_pay89, k0_pay88, k0_pay87, k0_pay22, k0_pay21]
  simp only [hB, hC, hx, hS, hX1, hcu, hcuT, hdT, decay, ← EReal.coe_mul, coe_sum, lane_lt _ 64 (by norm_num)]
  unfold accv offv diagv
  rw [hw]
  dsimp only
  rw [show 512 * 3 + (128 + l.val) = 1664 + l.val by omega]
  by_cases h : l.val < 64
  · rw [if_pos h, show (1664 + l.val) / 64 = 26 by omega]
    rfl
  · rw [if_neg h, show (1664 + l.val) / 64 = 27 by omega]
    rfl

/-- Column block 14. -/
theorem pair_14 (hcu : ∀ i l : Fin 128, cu (ix2 i l) = ((c i l * (Real.log 2)⁻¹ : ℝ) : EReal))
    (hcuT : ∀ l i : Fin 128, cuT (ix2 l i) = ((c i l * (Real.log 2)⁻¹ : ℝ) : EReal)) (hdT : ∀ l i : Fin 128, dT (ix2 l i) = ((d i l : ℝ) : EReal))
    (hB : ∀ i n : Fin 128, Bm (ix2 i n) = ((X i (2432 + n) : ℝ) : EReal)) (hC : ∀ i n : Fin 128, Cm (ix2 i n) = ((X i (2944 + n) : ℝ) : EReal))
    (hx : ∀ i l : Fin 128, xs (ix2 i l) = ((X i (1792 + l) : ℝ) : EReal)) (hS : ∀ (n : Fin 128) (p : Fin 512), S (ix3 0 n p) = H 3 n p)
    (hX1 : ∀ (i : Fin 128) (p : Fin 512), X1 (ix2 i p) = ((Real.exp (c i (24 + p / 64)) : ℝ) : EReal)) (hw : ∀ l : Fin 2048, x6 (ix2 0 l) = w l) (i l : Fin 128) :
    k0_pay101 cu cuT dT k0_pay21 (iota Kind.tc S128x128 32 [1] iota_S128x128_d1_w32) (k0_pay88 Bm Cm) (k0_pay98 (k0_pay22 (F := Ideal) x6) (k0_pay90 Cm S X1) xs) (k0_pay99 xs) (k0_pay100 cu cuT dT k0_pay21 (k0_pay88 Bm Cm) xs) (ix2 i l) = accv c d X H w 3 i (256 + l) := by
  have hl' := l.isLt
  have e0 : ((0 : Fin 128) : ℕ) = 0 := rfl
  pointwise [k0_pay101, k0_pay100, k0_pay99, k0_pay98, k0_pay90, k0_pay89, k0_pay88, k0_pay87, k0_pay22, k0_pay21]
  simp only [hB, hC, hx, hS, hX1, hcu, hcuT, hdT, decay, ← EReal.coe_mul, coe_sum, lane_lt _ 64 (by norm_num)]
  unfold accv offv diagv
  rw [hw]
  dsimp only
  rw [show 512 * 3 + (256 + l.val) = 1792 + l.val by omega]
  by_cases h : l.val < 64
  · rw [if_pos h, show (1792 + l.val) / 64 = 28 by omega]
    rfl
  · rw [if_neg h, show (1792 + l.val) / 64 = 29 by omega]
    rfl

/-- Column block 15. -/
theorem pair_15 (hcu : ∀ i l : Fin 128, cu (ix2 i l) = ((c i l * (Real.log 2)⁻¹ : ℝ) : EReal))
    (hcuT : ∀ l i : Fin 128, cuT (ix2 l i) = ((c i l * (Real.log 2)⁻¹ : ℝ) : EReal)) (hdT : ∀ l i : Fin 128, dT (ix2 l i) = ((d i l : ℝ) : EReal))
    (hB : ∀ i n : Fin 128, Bm (ix2 i n) = ((X i (2432 + n) : ℝ) : EReal)) (hC : ∀ i n : Fin 128, Cm (ix2 i n) = ((X i (2944 + n) : ℝ) : EReal))
    (hx : ∀ i l : Fin 128, xs (ix2 i l) = ((X i (1920 + l) : ℝ) : EReal)) (hS : ∀ (n : Fin 128) (p : Fin 512), S (ix3 0 n p) = H 3 n p)
    (hX1 : ∀ (i : Fin 128) (p : Fin 512), X1 (ix2 i p) = ((Real.exp (c i (24 + p / 64)) : ℝ) : EReal)) (hw : ∀ l : Fin 2048, x6 (ix2 0 l) = w l) (i l : Fin 128) :
    k0_pay106 dT (iota Kind.tc S128x128 32 [1] iota_S128x128_d1_w32) (k0_pay88 Bm Cm) (k0_pay102 (k0_pay22 (F := Ideal) x6) (k0_pay90 Cm S X1) xs) (k0_pay103 xs) (k0_pay104 cu cuT dT k0_pay21 (k0_pay88 Bm Cm) xs) (k0_pay105 cu cuT k0_pay21) (ix2 i l) = accv c d X H w 3 i (384 + l) := by
  have hl' := l.isLt
  have e0 : ((0 : Fin 128) : ℕ) = 0 := rfl
  pointwise [k0_pay106, k0_pay105, k0_pay104, k0_pay103, k0_pay102, k0_pay90, k0_pay89, k0_pay88, k0_pay87, k0_pay22, k0_pay21]
  simp only [hB, hC, hx, hS, hX1, hcu, hcuT, hdT, decay, ← EReal.coe_mul, coe_sum, lane_lt _ 64 (by norm_num)]
  unfold accv offv diagv
  rw [hw]
  dsimp only
  rw [show 512 * 3 + (384 + l.val) = 1920 + l.val by omega]
  by_cases h : l.val < 64
  · rw [if_pos h, show (1920 + l.val) / 64 = 30 by omega]
    rfl
  · rw [if_neg h, show (1920 + l.val) / 64 = 31 by omega]
    rfl

end

end Cert.KernelIdeal.Scan

end
-- ==== Proof.ScanState.lean ====
/- The rest of one block's payloads: the state carried out of the block, its transposed copy, and the gated, normalised rows. -/
module

public import proofs.«01_k».proof.Proof.ScanPairs

@[expose] public section

set_option maxRecDepth 16384

noncomputable section

namespace Cert.KernelIdeal.Scan

open Idealize.ShloMosaic Idealize.ShloMosaic.TcCoe Cert.KernelIdeal.Gen Cert.KernelIdeal Cert.ScanMath

section
variable {EL : Vec Ideal S1x2048 .f32} {Bm : Vec Ideal S128x128 .f32} {S : Vec Ideal S1x128x512 .f32} {U : Vec Ideal S128x512 .bf16}
  {E : ℕ → ℝ} {X V : ℕ → ℕ → ℝ} {H : ℕ → ℕ → ℕ → ℝ}

/-- The state of group 0 carried out of a block. -/
theorem state_0 (hE : ∀ l : Fin 2048, EL (ix2 0 l) = ((E l : ℝ) : EReal)) (hB : ∀ i n : Fin 128, Bm (ix2 i n) = ((X i (2048 + n) : ℝ) : EReal))
    (hS : ∀ (n : Fin 128) (p : Fin 512), S (ix3 0 n p) = ((H 0 n p : ℝ) : EReal))
    (hU : ∀ (i : Fin 128) (p : Fin 512), U (ix2 i p) = ((V i (0 + p) : ℝ) : EReal)) (n : Fin 128) (p : Fin 512) :
    k0_pay42 (k0_pay40 EL (k0_pay25 S)) (k0_pay41 Bm) U (ix3 0 n p)
      = ((H 0 n p * E (0 + p) + ∑ s : Fin 128, X s (2048 + n) * V s (0 + p) : ℝ) : EReal) := by
  pointwise [k0_pay42, k0_pay40, k0_pay41, k0_pay25]
  simp only [hE, hB, hS, hU, ← EReal.coe_mul, coe_sum, ← EReal.coe_add, Nat.zero_add]

/-- The state of group 1 carried out of a block. -/
theorem state_1 (hE : ∀ l : Fin 2048, EL (ix2 0 l) = ((E l : ℝ) : EReal)) (hB : ∀ i n : Fin 128, Bm (ix2 i n) = ((X i (2176 + n) : ℝ) : EReal))
    (hS : ∀ (n : Fin 128) (p : Fin 512), S (ix3 0 n p) = ((H 1 n p : ℝ) : EReal))
    (hU : ∀ (i : Fin 128) (p : Fin 512), U (ix2 i p) = ((V i (512 + p) : ℝ) : EReal)) (n : Fin 128) (p : Fin 512) :
    k0_pay63 EL Bm (k0_pay45 S) U (ix3 0 n p)
      = ((H 1 n p * E (512 + p) + ∑ s : Fin 128, X s (2176 + n) * V s (512 + p) : ℝ) : EReal) := by
  pointwise [k0_pay63, k0_pay45]
  simp only [hE, hB, hS, hU, ← EReal.coe_mul, coe_sum, ← EReal.coe_add]

/-- The state of group 2 carried out of a block. -/
theorem state_2 (hE : ∀ l : Fin 2048, EL (ix2 0 l) = ((E l : ℝ) : EReal)) (hB : ∀ i n : Fin 128, Bm (ix2 i n) = ((X i (2304 + n) : ℝ) : EReal))
    (hS : ∀ (n : Fin 128) (p : Fin 512), S (ix3 0 n p) = ((H 2 n p : ℝ) : EReal))
    (hU : ∀ (i : Fin 128) (p : Fin 512), U (ix2 i p) = ((V i (1024 + p) : ℝ) : EReal)) (n : Fin 128) (p : Fin 512) :
    k0_pay86 EL Bm (k0_pay66 S) U (ix3 0 n p)
      = ((H 2 n p * E (1024 + p) + ∑ s : Fin 128, X s (2304 + n) * V s (1024 + p) : ℝ) : EReal) := by
  pointwise [k0_pay86, k0_pay66]
  simp only [hE, hB, hS, hU, ← EReal.coe_mul, coe_sum, ← EReal.coe_add]

/-- The state of group 3 carried out of a block. -/
theorem state_3 (hE : ∀ l : Fin 2048, EL (ix2 0 l) = ((E l : ℝ) : EReal)) (hB : ∀ i n : Fin 128, Bm (ix2 i n) = ((X i (2432 + n) : ℝ) : EReal))
    (hS : ∀ (n : Fin 128) (p : Fin 512), S (ix3 0 n p) = ((H 3 n p : ℝ) : EReal))
    (hU : ∀ (i : Fin 128) (p : Fin 512), U (ix2 i p) = ((V i (1536 + p) : ℝ) : EReal)) (n : Fin 128) (p : Fin 512) :
    k0_pay107 EL Bm (k0_pay89 S) U (ix3 0 n p)
      = ((H 3 n p * E (1536 + p) + ∑ s : Fin 128, X s (2432 + n) * V s (1536 + p) : ℝ) : EReal) := by
  pointwise [k0_pay107, k0_pay89]
  simp only [hE, hB, hS, hU, ← EReal.coe_mul, coe_sum, ← EReal.coe_add]

end

theorem turn_0 (S : Vec Ideal S1x128x512 .f32) (p : Fin 512) (n : Fin 128) : k0_pay2 (F := Ideal) S (ix3 0 p n) = S (ix3 0 n p) := by
  pointwise [k0_pay2]

theorem turn_1 (S : Vec Ideal S1x128x512 .f32) (p : Fin 512) (n : Fin 128) : k0_pay3 (F := Ideal) S (ix3 0 p n) = S (ix3 0 n p) := by
  pointwise [k0_pay3]

theorem turn_2 (S : Vec Ideal S1x128x512 .f32) (p : Fin 512) (n : Fin 128) : k0_pay4 (F := Ideal) S (ix3 0 p n) = S (ix3 0 n p) := by
  pointwise [k0_pay4]

theorem turn_3 (S : Vec Ideal S1x128x512 .f32) (p : Fin 512) (n : Fin 128) : k0_pay5 (F := Ideal) S (ix3 0 p n) = S (ix3 0 n p) := by
  pointwise [k0_pay5]

/-- A gated entry times the reciprocal root of its group's mean square, times the weight. -/
def gated (y w : ℕ → EReal) (z : ℕ → ℝ) (p : ℕ) : EReal :=
  y p * ((silu (z p) : ℝ) : EReal)
    * Ideal.rsqrt (Ideal.div (∑ q : Fin 512, y q * ((silu (z q) : ℝ) : EReal) * (y q * ((silu (z q) : ℝ) : EReal))) (Ideal.ofBits .f32 0x44000000#32)
        + Ideal.ofBits .f32 0x358637BD#32) * w p

section
variable {Y Z : Vec Ideal S128x512 .f32} {W : Vec Ideal S1x512 .f32} {y : ℕ → ℕ → EReal} {w : ℕ → EReal} {z : ℕ → ℕ → ℝ}

theorem gate_0 (hY : ∀ (i : Fin 128) (p : Fin 512), Y (ix2 i p) = y i p) (hZ : ∀ (i : Fin 128) (p : Fin 512), Z (ix2 i p) = ((z i p : ℝ) : EReal))
    (hW : ∀ p : Fin 512, W (ix2 0 p) = w p) (i : Fin 128) (p : Fin 512) :
    k0_pay110 (k0_pay108 Y Z) (k0_pay109 Y Z) W (ix2 i p) = gated (y i) w (z i) p := by
  pointwise [k0_pay110, k0_pay109, k0_pay108]
  simp only [hY, hZ, hW, half, silu_coe]
  rfl

theorem gate_1 (hY : ∀ (i : Fin 128) (p : Fin 512), Y (ix2 i p) = y i p) (hZ : ∀ (i : Fin 128) (p : Fin 512), Z (ix2 i p) = ((z i p : ℝ) : EReal))
    (hW : ∀ p : Fin 512, W (ix2 0 p) = w p) (i : Fin 128) (p : Fin 512) :
    k0_pay111 Y Z W (ix2 i p) = gated (y i) w (z i) p := by
  pointwise [k0_pay111]
  simp only [hY, hZ, hW, half, silu_coe]
  rfl

theorem gate_2 (hY : ∀ (i : Fin 128) (p : Fin 512), Y (ix2 i p) = y i p) (hZ : ∀ (i : Fin 128) (p : Fin 512), Z (ix2 i p) = ((z i p : ℝ) : EReal))
    (hW : ∀ p : Fin 512, W (ix2 0 p) = w p) (i : Fin 128) (p : Fin 512) :
    k0_pay113 Y (k0_pay112 Z) W (ix2 i p) = gated (y i) w (z i) p := by
  pointwise [k0_pay113, k0_pay112]
  simp only [hY, hZ, hW, half, silu_coe]
  rfl

theorem gate_3 (hY : ∀ (i : Fin 128) (p : Fin 512), Y (ix2 i p) = y i p) (hZ : ∀ (i : Fin 128) (p : Fin 512), Z (ix2 i p) = ((z i p : ℝ) : EReal))
    (hW : ∀ p : Fin 512, W (ix2 0 p) = w p) (i : Fin 128) (p : Fin 512) :
    k0_pay1 (k0_pay114 Y Z W) (ix2 i p) = gated (y i) w (z i) p := by
  pointwise [k0_pay1, k0_pay114]
  simp only [hY, hZ, hW, half, silu_coe]
  rfl

end

end Cert.KernelIdeal.Scan

end
-- ==== Proof.ScanLayout.lean ====
/- Stores of column or row blocks read back: a buffer stored in four blocks holds at every index what its block holds. -/
module

public import proofs.«01_k».proof.Proof.Gen.KernelIdeal.Skeleton
public import Idealize.ShloMosaic.Lib.Pointwise
public import Idealize.ShloMosaic.Lib.Pipeline.Value
public import Idealize.ShloMosaic.Lib.Pipeline.ReadBack
public import Idealize.ShloMosaic.Lib.Pipeline.ValueKit.Tiles

@[expose] public section

set_option maxRecDepth 16384

noncomputable section

namespace Cert.KernelIdeal.Scan

open Idealize.ShloMosaic Idealize.ShloMosaic.TcCoe Cert.KernelIdeal.Gen Cert.KernelIdeal

/-- An index of a matrix with its column given as a number. -/
def at2 (i : Fin 128) (p : ℕ) (h : p < 2048) : S128x2048.Idx := ix2 i ⟨p, h⟩

/-- A block of columns whose entries are those of `G`, as a statement about the stored piece. -/
theorem cols_block {e : EltTy} {o w : ℕ} (inb) (G : S128x2048.Idx → Elt Ideal e) (P : (⟨2, ![128, w]⟩ : Shape).Idx → Elt Ideal e)
    (h : ∀ (i : Fin 128) (l : Fin w) (hl : o + l.val < 2048), P (ix2 i l) = G (at2 i (o + l) hl)) :
    ∀ x : (Rect.unit (s := S128x2048) ![0, o] ![128, w] inb).shape.Idx, P x = G ((Rect.unit (s := S128x2048) ![0, o] ![128, w] inb).emb x) := by
  intro x
  have hx1 : o + (x 1).val < 2048 := by
    have h1 := inb 1
    have h2 : (x 1).val < w := (x 1).isLt
    have h3 : o + w ≤ 2048 := h1
    omega
  have e := h (x 0) (x 1) hx1
  rw [show (ix2 (x 0) (x 1) : (⟨2, ![128, w]⟩ : Shape).Idx) = x from by funext a; match a with | ⟨0, _⟩ => rfl | ⟨1, _⟩ => rfl] at e
  rw [e]
  congr 1
  funext a
  apply Fin.ext
  match a with
  | ⟨0, _⟩ => show (x 0).val = 0 + 1 * (x 0).val; omega
  | ⟨1, _⟩ => show o + (x 1).val = o + 1 * (x 1).val; omega

/-- The index of a matrix lies in the block its column lies in. -/
theorem mem_cols {o w : ℕ} (inb) (i : Fin 128) (p : ℕ) (h : p < 2048) (h1 : o ≤ p) (h2 : p < o + w) :
    at2 i p h ∈ (Rect.unit (s := S128x2048) ![0, o] ![128, w] inb).set := by
  rw [Rect.mem_set_unit]
  intro a
  match a with
  | ⟨0, _⟩ => exact ⟨Nat.zero_le _, by show i.val < 0 + 128; have := i.isLt; omega⟩
  | ⟨1, _⟩ => exact ⟨h1, h2⟩

/-- Four blocks of 128 columns read back as one of 512. -/
theorem acc_read (v : View sig .tc .vmem S128x2048 .f32) (G : Fin 128 → ℕ → EReal) {o o1 o2 o3 : ℕ} (b3 b2 b1 b0 b)
    (P3 P2 P1 P0 : S128x128.Idx → EReal) (L : List (View.Piece (Elt Ideal) S128x2048 .f32)) (e1 : o1 = o + 128) (e2 : o2 = o + 256) (e3 : o3 = o + 384)
    (h0 : ∀ i l : Fin 128, P0 (ix2 i l) = G i (0 + l.val)) (h1 : ∀ i l : Fin 128, P1 (ix2 i l) = G i (128 + l.val))
    (h2 : ∀ i l : Fin 128, P2 (ix2 i l) = G i (256 + l.val)) (h3 : ∀ i l : Fin 128, P3 (ix2 i l) = G i (384 + l.val)) (i : Fin 128) (p : Fin 512) :
    v.readCov (Val := Elt Ideal) (⟨Rect.unit (s := S128x2048) ![0, o3] ![128, 128] b3, P3⟩ :: ⟨Rect.unit (s := S128x2048) ![0, o2] ![128, 128] b2, P2⟩
        :: ⟨Rect.unit (s := S128x2048) ![0, o1] ![128, 128] b1, P1⟩ :: ⟨Rect.unit (s := S128x2048) ![0, o] ![128, 128] b0, P0⟩ :: L)
      (Rect.unit (s := S128x2048) ![0, o] ![128, 512] b).toLoadRect (ix2 i p) = G i p := by
  subst e1 e2 e3
  have hb : o + 512 ≤ 2048 := b 1
  have hp := p.isLt
  rw [View.readCov_eq_canon']
  let G' : S128x2048.Idx → EReal := fun j => G (j 0) ((j 1).val - o)
  have hy : (Rect.unit (s := S128x2048) ![0, o] ![128, 512] b).toLoadRect.idx (ix2 i p) = at2 i (o + p.val) (by omega) := by
    funext a
    apply Fin.ext
    match a with
    | ⟨0, _⟩ => show 0 + 1 * i.val = i.val; omega
    | ⟨1, _⟩ => show o + 1 * p.val = o + p.val; omega
  show View.canon (Val := Elt Ideal) _ ((Rect.unit (s := S128x2048) ![0, o] ![128, 512] b).toLoadRect.idx (ix2 i p)) = _
  rw [hy]
  refine (View.canon_append_of_piecesOf (Val := Elt Ideal) (e := .f32) G' L [⟨Rect.unit (s := S128x2048) ![0, o + 384] ![128, 128] b3, P3⟩, ⟨Rect.unit (s := S128x2048) ![0, o + 256] ![128, 128] b2, P2⟩,
    ⟨Rect.unit (s := S128x2048) ![0, o + 128] ![128, 128] b1, P1⟩, ⟨Rect.unit (s := S128x2048) ![0, o] ![128, 128] b0, P0⟩] ⟨?_, ?_, ?_, ?_, trivial⟩ _ ?_).trans ?_
  · refine cols_block (e := .f32) b3 G' P3 fun i l hl => (h3 i l).trans ?_
    show _ = G i (o + 384 + l.val - o)
    congr 1; omega
  · refine cols_block (e := .f32) b2 G' P2 fun i l hl => (h2 i l).trans ?_
    show _ = G i (o + 256 + l.val - o)
    congr 1; omega
  · refine cols_block (e := .f32) b1 G' P1 fun i l hl => (h1 i l).trans ?_
    show _ = G i (o + 128 + l.val - o)
    congr 1; omega
  · refine cols_block (e := .f32) b0 G' P0 fun i l hl => (h0 i l).trans ?_
    show _ = G i (o + l.val - o)
    congr 1; omega
  · by_cases c3 : 384 ≤ p.val
    · exact ⟨_, List.mem_cons_self, mem_cols b3 i _ _ (by omega) (by omega)⟩
    by_cases c2 : 256 ≤ p.val
    · exact ⟨_, List.mem_cons_of_mem _ List.mem_cons_self, mem_cols b2 i _ _ (by omega) (by omega)⟩
    by_cases c1 : 128 ≤ p.val
    · exact ⟨_, List.mem_cons_of_mem _ (List.mem_cons_of_mem _ List.mem_cons_self), mem_cols b1 i _ _ (by omega) (by omega)⟩
    · exact ⟨_, List.mem_cons_of_mem _ (List.mem_cons_of_mem _ (List.mem_cons_of_mem _ List.mem_cons_self)), mem_cols b0 i _ _ (by omega) (by omega)⟩
  · show G i (o + p.val - o) = _
    congr 1; omega

/-- Four blocks of 512 columns are the matrix. -/
theorem out_read (G : ℕ → Fin 128 → ℕ → EReal) (b3 b2 b1 b0) (P3 P2 P1 P0 : S128x512.Idx → EReal)
    (h0 : ∀ (i : Fin 128) (l : Fin 512), P0 (ix2 i l) = G 0 i l) (h1 : ∀ (i : Fin 128) (l : Fin 512), P1 (ix2 i l) = G 1 i l)
    (h2 : ∀ (i : Fin 128) (l : Fin 512), P2 (ix2 i l) = G 2 i l) (h3 : ∀ (i : Fin 128) (l : Fin 512), P3 (ix2 i l) = G 3 i l)
    (i : Fin 128) (p : Fin 2048) :
    View.canon (Val := Elt Ideal) (s := S128x2048) (e := .bf16) [⟨Rect.unit (s := S128x2048) ![0, 1536] ![128, 512] b3, P3⟩, ⟨Rect.unit (s := S128x2048) ![0, 1024] ![128, 512] b2, P2⟩,
      ⟨Rect.unit (s := S128x2048) ![0, 512] ![128, 512] b1, P1⟩, ⟨Rect.unit (s := S128x2048) ![0, 0] ![128, 512] b0, P0⟩] (ix2 i p) = G (p.val / 512) i (p.val % 512) := by
  have hp := p.isLt
  let G' : S128x2048.Idx → EReal := fun j => G ((j 1).val / 512) (j 0) ((j 1).val % 512)
  refine (View.canon_append_of_piecesOf (Val := Elt Ideal) (e := .bf16) G' [] [⟨Rect.unit (s := S128x2048) ![0, 1536] ![128, 512] b3, P3⟩, ⟨Rect.unit (s := S128x2048) ![0, 1024] ![128, 512] b2, P2⟩,
      ⟨Rect.unit (s := S128x2048) ![0, 512] ![128, 512] b1, P1⟩, ⟨Rect.unit (s := S128x2048) ![0, 0] ![128, 512] b0, P0⟩] ⟨?_, ?_, ?_, ?_, trivial⟩ (at2 i p.val hp) ?_)
  · refine cols_block (e := .bf16) b3 G' P3 fun i l hl => (h3 i l).trans ?_
    have := l.isLt
    show _ = G ((1536 + l.val) / 512) i ((1536 + l.val) % 512)
    congr 1 <;> omega
  · refine cols_block (e := .bf16) b2 G' P2 fun i l hl => (h2 i l).trans ?_
    have := l.isLt
    show _ = G ((1024 + l.val) / 512) i ((1024 + l.val) % 512)
    congr 1 <;> omega
  · refine cols_block (e := .bf16) b1 G' P1 fun i l hl => (h1 i l).trans ?_
    have := l.isLt
    show _ = G ((512 + l.val) / 512) i ((512 + l.val) % 512)
    congr 1 <;> omega
  · refine cols_block (e := .bf16) b0 G' P0 fun i l hl => (h0 i l).trans ?_
    have := l.isLt
    show _ = G ((0 + l.val) / 512) i ((0 + l.val) % 512)
    congr 1 <;> omega
  · by_cases c3 : 1536 ≤ p.val
    · exact ⟨_, List.mem_cons_self, mem_cols b3 i _ _ (by omega) (by omega)⟩
    by_cases c2 : 1024 ≤ p.val
    · exact ⟨_, List.mem_cons_of_mem _ List.mem_cons_self, mem_cols b2 i _ _ (by omega) (by omega)⟩
    by_cases c1 : 512 ≤ p.val
    · exact ⟨_, List.mem_cons_of_mem _ (List.mem_cons_of_mem _ List.mem_cons_self), mem_cols b1 i _ _ (by omega) (by omega)⟩
    · exact ⟨_, List.mem_cons_of_mem _ (List.mem_cons_of_mem _ (List.mem_cons_of_mem _ List.mem_cons_self)), mem_cols b0 i _ _ (by omega) (by omega)⟩

/-- A layer of the state whose entries are those of `G`, as a statement about the stored piece. -/
theorem layer_block (g : ℕ) (hg : g < 4) (inb) (G : ℕ → ℕ → ℕ → EReal) (P : S1x128x512.Idx → EReal)
    (h : ∀ (n : Fin 128) (p : Fin 512), P (ix3 0 n p) = G g n p) :
    ∀ x : (Rect.unit (s := S4x128x512) ![g, 0, 0] ![1, 128, 512] inb).shape.Idx,
      P x = (fun j : S4x128x512.Idx => G (j 0).val (j 1).val (j 2).val) ((Rect.unit (s := S4x128x512) ![g, 0, 0] ![1, 128, 512] inb).emb x) := by
  intro x
  have e := h (x 1) (x 2)
  have h0 : (x 0).val < 1 := (x 0).isLt
  rw [show (ix3 0 (x 1) (x 2) : S1x128x512.Idx) = x from by
    funext a; match a with | ⟨0, _⟩ => exact Fin.ext (by show 0 = (x 0).val; omega) | ⟨1, _⟩ => rfl | ⟨2, _⟩ => rfl] at e
  rw [e]
  show _ = G (g + 1 * (x 0).val) (0 + 1 * (x 1).val) (0 + 1 * (x 2).val)
  congr 1 <;> omega

theorem mem_layer (g : Fin 4) (g' : ℕ) (inb) (n : Fin 128) (p : Fin 512) (h : g.val = g') :
    (ix3 g n p : S4x128x512.Idx) ∈ (Rect.unit (s := S4x128x512) ![g', 0, 0] ![1, 128, 512] inb).set := by
  rw [Rect.mem_set_unit]
  have := n.isLt
  have := p.isLt
  intro a
  match a with
  | ⟨0, _⟩ => exact ⟨by show g' ≤ g.val; omega, by show g.val < g' + 1; omega⟩
  | ⟨1, _⟩ => exact ⟨Nat.zero_le _, by show n.val < 0 + 128; omega⟩
  | ⟨2, _⟩ => exact ⟨Nat.zero_le _, by show p.val < 0 + 512; omega⟩

/-- Four layers are the state. -/
theorem state_read (G : ℕ → ℕ → ℕ → EReal) (b3 b2 b1 b0) (P3 P2 P1 P0 : S1x128x512.Idx → EReal)
    (h0 : ∀ (n : Fin 128) (p : Fin 512), P0 (ix3 0 n p) = G 0 n p) (h1 : ∀ (n : Fin 128) (p : Fin 512), P1 (ix3 0 n p) = G 1 n p)
    (h2 : ∀ (n : Fin 128) (p : Fin 512), P2 (ix3 0 n p) = G 2 n p) (h3 : ∀ (n : Fin 128) (p : Fin 512), P3 (ix3 0 n p) = G 3 n p)
    (L : List (View.Piece (Elt Ideal) S4x128x512 .f32)) (g : Fin 4) (n : Fin 128) (p : Fin 512) :
    View.canon (Val := Elt Ideal) (s := S4x128x512) (e := .f32) (⟨Rect.unit (s := S4x128x512) ![3, 0, 0] ![1, 128, 512] b3, P3⟩ :: ⟨Rect.unit (s := S4x128x512) ![2, 0, 0] ![1, 128, 512] b2, P2⟩
      :: ⟨Rect.unit (s := S4x128x512) ![1, 0, 0] ![1, 128, 512] b1, P1⟩ :: ⟨Rect.unit (s := S4x128x512) ![0, 0, 0] ![1, 128, 512] b0, P0⟩ :: L) (ix3 g n p) = G g n p := by
  refine (View.canon_append_of_piecesOf (Val := Elt Ideal) (e := .f32) (fun j : S4x128x512.Idx => G (j 0).val (j 1).val (j 2).val) L
    [⟨Rect.unit (s := S4x128x512) ![3, 0, 0] ![1, 128, 512] b3, P3⟩, ⟨Rect.unit (s := S4x128x512) ![2, 0, 0] ![1, 128, 512] b2, P2⟩,
      ⟨Rect.unit (s := S4x128x512) ![1, 0, 0] ![1, 128, 512] b1, P1⟩, ⟨Rect.unit (s := S4x128x512) ![0, 0, 0] ![1, 128, 512] b0, P0⟩]
    ⟨layer_block 3 (by norm_num) b3 G P3 h3, layer_block 2 (by norm_num) b2 G P2 h2, layer_block 1 (by norm_num) b1 G P1 h1,
      layer_block 0 (by norm_num) b0 G P0 h0, trivial⟩ (ix3 g n p) ?_)
  have hg := g.isLt
  by_cases c3 : g.val = 3
  · exact ⟨_, List.mem_cons_self, mem_layer g 3 b3 n p c3⟩
  by_cases c2 : g.val = 2
  · exact ⟨_, List.mem_cons_of_mem _ List.mem_cons_self, mem_layer g 2 b2 n p c2⟩
  by_cases c1 : g.val = 1
  · exact ⟨_, List.mem_cons_of_mem _ (List.mem_cons_of_mem _ List.mem_cons_self), mem_layer g 1 b1 n p c1⟩
  · exact ⟨_, List.mem_cons_of_mem _ (List.mem_cons_of_mem _ (List.mem_cons_of_mem _ List.mem_cons_self)), mem_layer g 0 b0 n p (by omega)⟩

/-- A block of rows of the transposed state. -/
theorem turned_block (o : ℕ) (inb) (G : ℕ → ℕ → EReal) (P : S1x512x128.Idx → EReal)
    (h : ∀ (p : Fin 512) (n : Fin 128), P (ix3 0 p n) = G (o + p) n) :
    ∀ x : (Rect.unit (s := S1x2048x128) ![0, o, 0] ![1, 512, 128] inb).shape.Idx,
      P x = (fun j : S1x2048x128.Idx => G (j 1).val (j 2).val) ((Rect.unit (s := S1x2048x128) ![0, o, 0] ![1, 512, 128] inb).emb x) := by
  intro x
  have e := h (x 1) (x 2)
  have h0 : (x 0).val < 1 := (x 0).isLt
  rw [show (ix3 0 (x 1) (x 2) : S1x512x128.Idx) = x from by
    funext a; match a with | ⟨0, _⟩ => exact Fin.ext (by show 0 = (x 0).val; omega) | ⟨1, _⟩ => rfl | ⟨2, _⟩ => rfl] at e
  rw [e]
  show _ = G (o + 1 * (x 1).val) (0 + 1 * (x 2).val)
  congr 1 <;> omega

theorem mem_turned (o : ℕ) (inb) (r : Fin 2048) (n : Fin 128) (h1 : o ≤ r.val) (h2 : r.val < o + 512) :
    (ix3 0 r n : S1x2048x128.Idx) ∈ (Rect.unit (s := S1x2048x128) ![0, o, 0] ![1, 512, 128] inb).set := by
  rw [Rect.mem_set_unit]
  have := n.isLt
  intro a
  match a with
  | ⟨0, _⟩ => exact ⟨Nat.zero_le _, by show 0 < 0 + 1; omega⟩
  | ⟨1, _⟩ => exact ⟨h1, h2⟩
  | ⟨2, _⟩ => exact ⟨Nat.zero_le _, by show n.val < 0 + 128; omega⟩

/-- Four blocks of 512 rows are the transposed state. -/
theorem turned_read (G : ℕ → ℕ → EReal) (b3 b2 b1 b0) (P3 P2 P1 P0 : S1x512x128.Idx → EReal)
    (h0 : ∀ (p : Fin 512) (n : Fin 128), P0 (ix3 0 p n) = G (0 + p) n) (h1 : ∀ (p : Fin 512) (n : Fin 128), P1 (ix3 0 p n) = G (512 + p) n)
    (h2 : ∀ (p : Fin 512) (n : Fin 128), P2 (ix3 0 p n) = G (1024 + p) n) (h3 : ∀ (p : Fin 512) (n : Fin 128), P3 (ix3 0 p n) = G (1536 + p) n)
    (r : Fin 2048) (n : Fin 128) :
    View.canon (Val := Elt Ideal) (s := S1x2048x128) (e := .f32) [⟨Rect.unit (s := S1x2048x128) ![0, 1536, 0] ![1, 512, 128] b3, P3⟩, ⟨Rect.unit (s := S1x2048x128) ![0, 1024, 0] ![1, 512, 128] b2, P2⟩,
      ⟨Rect.unit (s := S1x2048x128) ![0, 512, 0] ![1, 512, 128] b1, P1⟩, ⟨Rect.unit (s := S1x2048x128) ![0, 0, 0] ![1, 512, 128] b0, P0⟩] (ix3 0 r n) = G r n := by
  refine (View.canon_append_of_piecesOf (Val := Elt Ideal) (e := .f32) (fun j : S1x2048x128.Idx => G (j 1).val (j 2).val) []
    [⟨Rect.unit (s := S1x2048x128) ![0, 1536, 0] ![1, 512, 128] b3, P3⟩, ⟨Rect.unit (s := S1x2048x128) ![0, 1024, 0] ![1, 512, 128] b2, P2⟩,
      ⟨Rect.unit (s := S1x2048x128) ![0, 512, 0] ![1, 512, 128] b1, P1⟩, ⟨Rect.unit (s := S1x2048x128) ![0, 0, 0] ![1, 512, 128] b0, P0⟩]
    ⟨turned_block 1536 b3 G P3 h3, turned_block 1024 b2 G P2 h2, turned_block 512 b1 G P1 h1, turned_block 0 b0 G P0 h0, trivial⟩ (ix3 0 r n) ?_)
  have hr := r.isLt
  by_cases c3 : 1536 ≤ r.val
  · exact ⟨_, List.mem_cons_self, mem_turned 1536 b3 r n (by omega) (by omega)⟩
  by_cases c2 : 1024 ≤ r.val
  · exact ⟨_, List.mem_cons_of_mem _ List.mem_cons_self, mem_turned 1024 b2 r n (by omega) (by omega)⟩
  by_cases c1 : 512 ≤ r.val
  · exact ⟨_, List.mem_cons_of_mem _ (List.mem_cons_of_mem _ List.mem_cons_self), mem_turned 512 b1 r n (by omega) (by omega)⟩
  · exact ⟨_, List.mem_cons_of_mem _ (List.mem_cons_of_mem _ (List.mem_cons_of_mem _ List.mem_cons_self)), mem_turned 0 b0 r n (by omega) (by omega)⟩

end Cert.KernelIdeal.Scan

end
-- ==== Proof.ScanPoint.lean ====
/- One block of the scan kernel: what it stores, as functions of the block's rows and the state it starts from. -/
module

public import proofs.«01_k».proof.Proof.Gen.KernelIdeal.Frame
public import proofs.«01_k».proof.Proof.ScanState
public import proofs.«01_k».proof.Proof.ScanLayout
public import Idealize.ShloMosaic.Lib.Pipeline.ValueKit.Acc

@[expose] public section

set_option maxRecDepth 16384

noncomputable section

namespace Cert.KernelIdeal.Scan

open Idealize.ShloMosaic Idealize.ShloMosaic.TcCoe Cert.KernelIdeal.Gen Cert.KernelIdeal Cert.ScanMath View

/-- The decay of a whole block at column `p`. -/
def decayv (c : ℕ → ℕ → ℝ) (p : ℕ) : ℝ := Real.exp (c 127 (p / 64))

/-- Row `i`, column `p` of the input weighted by its step and its decay to the block's end. -/
def weightv (c d X : ℕ → ℕ → ℝ) (i p : ℕ) : ℝ := X i p * (Real.exp (c 127 (p / 64) - c i (p / 64)) * d i (p / 64))

/-- The state a block leaves. -/
def nextv (c d X : ℕ → ℕ → ℝ) (H : ℕ → ℕ → ℕ → ℝ) (g n p : ℕ) : ℝ :=
  H g n p * decayv c (512 * g + p) + ∑ s : Fin 128, X s (2048 + 128 * g + n) * weightv c d X s (512 * g + p)

/-- What the operands of a block hold: gate rows `Z`, input rows `X`, step inputs `D`, biases, decay exponents, skip and norm weights, the table that
    spreads a head over its columns, and the state the block starts from. -/
structure Blk (x0 : Vec Ideal S128x2048 .f32) (x1 : Vec Ideal S128x3072 .f32) (x2 : Vec Ideal S128x128 .f32) (x4 x5 : Vec Ideal S1x128 .f32)
    (x6 x7 : Vec Ideal S1x2048 .f32) (x8 : Vec Ideal S128x2048 .bf16) (S : Vec Ideal S4x128x512 .f32)
    (Z X D : ℕ → ℕ → ℝ) (bi al : ℕ → ℝ) (w6 w7 : ℕ → EReal) (H : ℕ → ℕ → ℕ → ℝ) : Prop where
  h0 : ∀ (i : Fin 128) (p : Fin 2048), x0 (ix2 i p) = ((Z i p : ℝ) : EReal)
  h1 : ∀ (i : Fin 128) (p : Fin 3072), x1 (ix2 i p) = ((X i p : ℝ) : EReal)
  h2 : ∀ i l : Fin 128, x2 (ix2 i l) = ((D i l : ℝ) : EReal)
  h4 : ∀ l : Fin 128, x4 (ix2 0 l) = ((bi l : ℝ) : EReal)
  h5 : ∀ l : Fin 128, x5 (ix2 0 l) = ((al l : ℝ) : EReal)
  h6 : ∀ l : Fin 2048, x6 (ix2 0 l) = w6 l
  h7 : ∀ l : Fin 2048, x7 (ix2 0 l) = w7 l
  h8 : ∀ (h : Fin 128) (l : Fin 2048), x8 (ix2 h l) = (((if h.val = l.val / 64 then 1 else 0 : ℝ)) : EReal)
  hS : ∀ (g : Fin 4) (n : Fin 128) (p : Fin 512), S (ix3 g n p) = ((H g n p : ℝ) : EReal)

namespace Blk

variable {x0 : Vec Ideal S128x2048 .f32} {x1 : Vec Ideal S128x3072 .f32} {x2 : Vec Ideal S128x128 .f32} {x4 x5 : Vec Ideal S1x128 .f32}
    {x6 x7 : Vec Ideal S1x2048 .f32} {x8 : Vec Ideal S128x2048 .bf16} {S : Vec Ideal S4x128x512 .f32}
    {Z X D : ℕ → ℕ → ℝ} {bi al : ℕ → ℝ} {w6 w7 : ℕ → EReal} {H : ℕ → ℕ → ℕ → ℝ} (b : Blk x0 x1 x2 x4 x5 x6 x7 x8 S Z X D bi al w6 w7 H)
include b

theorem cum (i l : Fin 128) : k0_pay13 (F := Ideal) (iota Kind.tc S128x128 32 [0] iota_S128x128_d0_w32) (k0_pay10 x2 x4 x5) k0_pay11 (k0_pay12 x2 x4 x5) (FloatOps.ofBits FTy.f32 0#32) (ix2 i l)
    = ((cumv D bi al i l * (Real.log 2)⁻¹ : ℝ) : EReal) := cum_read b.h2 b.h4 b.h5 i l

theorem cumT (l i : Fin 128) : k0_pay14 (F := Ideal) (iota Kind.tc S128x128 32 [0] iota_S128x128_d0_w32) (k0_pay10 x2 x4 x5) k0_pay11 (k0_pay12 x2 x4 x5) (FloatOps.ofBits FTy.f32 0#32) (ix2 l i)
    = ((cumv D bi al i l * (Real.log 2)⁻¹ : ℝ) : EReal) := by
  refine Eq.trans ?_ (b.cum i l)
  pointwise [k0_pay14]

theorem last (l : Fin 128) : k0_pay16 (F := Ideal) (iota Kind.tc S128x128 32 [0] iota_S128x128_d0_w32) (k0_pay10 x2 x4 x5) k0_pay11 (k0_pay12 x2 x4 x5) (FloatOps.ofBits FTy.f32 0#32) (ix2 0 l)
    = ((cumv D bi al 127 l * (Real.log 2)⁻¹ : ℝ) : EReal) := by
  refine Eq.trans ?_ (b.cum ⟨127, by norm_num⟩ l)
  pointwise [k0_pay16]

theorem dt (i l : Fin 128) : k0_pay9 (F := Ideal) x2 x4 (ix2 i l) = ((dtv D bi i l : ℝ) : EReal) := pay9_read b.h2 b.h4 i l

theorem dtT (l i : Fin 128) : k0_pay15 (F := Ideal) (k0_pay9 x2 x4) (ix2 l i) = ((dtv D bi i l : ℝ) : EReal) := by
  refine Eq.trans ?_ (b.dt i l)
  pointwise [k0_pay15]

/-- 128 columns of the input. -/
theorem cols (o : ℕ) (inb) (i n : Fin 128) : ld (Val := Elt Ideal) (e' := .f32) x1 (Rect.unit (s := S128x3072) ![0, o] ![128, 128] inb) (ix2 i n) = ((X i (o + n) : ℝ) : EReal) := by
  have hb : o + 128 ≤ 3072 := inb 1
  have hn := n.isLt
  refine Eq.trans ?_ (b.h1 i ⟨o + n.val, by omega⟩)
  show x1 _ = x1 _
  congr 1
  funext a
  apply Fin.ext
  match a with
  | ⟨0, _⟩ => show 0 + 1 * i.val = i.val; omega
  | ⟨1, _⟩ => show o + 1 * n.val = o + n.val; omega

/-- The 2048 columns of the heads. -/
theorem heads (inb) (i : Fin 128) (p : Fin 2048) : ld (Val := Elt Ideal) (e' := .f32) x1 (Rect.unit (s := S128x3072) ![0, 0] ![128, 2048] inb) (ix2 i p) = ((X i p : ℝ) : EReal) := by
  have hp := p.isLt
  refine Eq.trans ?_ (b.h1 i ⟨p.val, by omega⟩)
  show x1 _ = x1 _
  congr 1
  funext a
  apply Fin.ext
  match a with
  | ⟨0, _⟩ => show 0 + 1 * i.val = i.val; omega
  | ⟨1, _⟩ => show 0 + 1 * p.val = p.val; omega

omit b in
/-- 512 columns of a matrix of 2048. -/
theorem ld_cols {e : EltTy} (x : S128x2048.Idx → Elt Ideal e) (o : ℕ) (inb) (i : Fin 128) (p : Fin 512) (h : o + p.val < 2048) :
    ld (Val := Elt Ideal) x (Rect.unit (s := S128x2048) ![0, o] ![128, 512] inb) (ix2 i p) = x (ix2 i ⟨o + p.val, h⟩) := by
  show x _ = x _
  congr 1
  funext a
  apply Fin.ext
  match a with
  | ⟨0, _⟩ => show 0 + 1 * i.val = i.val; omega
  | ⟨1, _⟩ => show o + 1 * p.val = o + p.val; omega

theorem gate (g : ℕ) (hg : g < 4) (o : ℕ) (ho : o = 512 * g) (inb) (i : Fin 128) (p : Fin 512) :
    ld (Val := Elt Ideal) (e' := .f32) x0 (Rect.unit (s := S128x2048) ![0, o] ![128, 512] inb) (ix2 i p) = ((Z i (512 * g + p) : ℝ) : EReal) := by
  subst ho
  have hp := p.isLt
  exact (ld_cols (e := .f32) x0 _ inb i p (by omega)).trans (b.h0 _ _)

theorem norm (g : ℕ) (hg : g < 4) (o : ℕ) (ho : o = 512 * g) (inb) (p : Fin 512) :
    ld (Val := Elt Ideal) (e' := .f32) x7 (Rect.unit (s := S1x2048) ![0, o] ![1, 512] inb) (ix2 0 p) = w7 (512 * g + p) := by
  subst ho
  have hp := p.isLt
  refine Eq.trans ?_ (b.h7 ⟨512 * g + p.val, by omega⟩)
  show x7 _ = x7 _
  congr 1
  funext a
  apply Fin.ext
  match a with
  | ⟨0, _⟩ => rfl
  | ⟨1, _⟩ => show 512 * g + 1 * p.val = 512 * g + p.val; omega

theorem layer (g : ℕ) (hg : g < 4) (inb) (n : Fin 128) (p : Fin 512) :
    ld (Val := Elt Ideal) (e' := .f32) S (Rect.unit (s := S4x128x512) ![g, 0, 0] ![1, 128, 512] inb) (ix3 0 n p) = ((H g n p : ℝ) : EReal) := by
  refine Eq.trans ?_ (b.hS ⟨g, hg⟩ n p)
  show S _ = S _
  congr 1
  funext a
  apply Fin.ext
  match a with
  | ⟨0, _⟩ => rfl
  | ⟨1, _⟩ => show 0 + 1 * n.val = n.val; omega
  | ⟨2, _⟩ => show 0 + 1 * p.val = p.val; omega

theorem spread (g : ℕ) (hg : g < 4) (o k : ℕ) (ho : o = 512 * g) (hk : k = 8 * g) (inb) (i : Fin 128) (p : Fin 512) :
    ld (Val := Elt Ideal) (e' := .f32) (k0_pay18 (F := Ideal) (k0_pay13 (F := Ideal) (iota Kind.tc S128x128 32 [0] iota_S128x128_d0_w32) (k0_pay10 x2 x4 x5) k0_pay11 (k0_pay12 x2 x4 x5) (FloatOps.ofBits FTy.f32 0#32)) x8)
      (Rect.unit (s := S128x2048) ![0, o] ![128, 512] inb) (ix2 i p) = ((Real.exp (cumv D bi al i (k + p / 64)) : ℝ) : EReal) := by
  subst ho hk
  have hp := p.isLt
  refine (ld_cols (e := .f32) _ _ inb i p (by omega)).trans ((pay18_read b.cum b.h8 i _).trans ?_)
  show ((Real.exp (cumv D bi al i ((512 * g + p.val) / 64)) : ℝ) : EReal) = _
  rw [show (512 * g + p.val) / 64 = 8 * g + p.val / 64 by omega]

theorem whole (l : Fin 2048) : k0_pay19 (F := Ideal) (k0_pay16 (F := Ideal) (iota Kind.tc S128x128 32 [0] iota_S128x128_d0_w32) (k0_pay10 x2 x4 x5) k0_pay11 (k0_pay12 x2 x4 x5) (FloatOps.ofBits FTy.f32 0#32)) x8 (ix2 0 l)
    = ((decayv (cumv D bi al) l : ℝ) : EReal) := pay19_read (c := cumv D bi al) b.last b.h8 l

theorem weight (o : ℕ) (inb inb') (i : Fin 128) (p : Fin 512) :
    ld (Val := Elt Ideal) (e' := .bf16) (k0_pay20 (F := Ideal) (k0_pay9 x2 x4) (k0_pay13 (F := Ideal) (iota Kind.tc S128x128 32 [0] iota_S128x128_d0_w32) (k0_pay10 x2 x4 x5) k0_pay11 (k0_pay12 x2 x4 x5) (FloatOps.ofBits FTy.f32 0#32))
        (k0_pay16 (F := Ideal) (iota Kind.tc S128x128 32 [0] iota_S128x128_d0_w32) (k0_pay10 x2 x4 x5) k0_pay11 (k0_pay12 x2 x4 x5) (FloatOps.ofBits FTy.f32 0#32)) x8
        (ld (Val := Elt Ideal) (e' := .f32) x1 (Rect.unit (s := S128x3072) ![0, 0] ![128, 2048] inb')))
      (Rect.unit (s := S128x2048) ![0, o] ![128, 512] inb) (ix2 i p) = ((weightv (cumv D bi al) (dtv D bi) X i (o + p) : ℝ) : EReal) := by
  have hb : o + 512 ≤ 2048 := inb 1
  have hp := p.isLt
  exact (ld_cols (e := .bf16) _ _ inb i p (by omega)).trans (pay20_read (c := cumv D bi al) (X := X) b.dt b.cum b.last b.h8 (b.heads inb') i _)

/-- The gated, normalised row of a block. -/
def rowv (_ : Blk x0 x1 x2 x4 x5 x6 x7 x8 S Z X D bi al w6 w7 H) (g : ℕ) (i : Fin 128) (p : ℕ) : EReal :=
  gated (fun p => accv (cumv D bi al) (dtv D bi) X (fun g n p => ((H g n p : ℝ) : EReal)) w6 g i p) (fun p => w7 (512 * g + p)) (fun p => Z i (512 * g + p)) p

end Blk

theorem zero_state (g : Fin 4) (n : Fin 128) (p : Fin 512) : k0_pay7 (F := Ideal) (ix3 g n p) = (((fun _ _ _ => 0 : ℕ → ℕ → ℕ → ℝ) g n p : ℝ) : EReal) := by
  pointwise [k0_pay7]
  simp

/-- The rows a block writes. -/
theorem rows_A (c : Dev nD) (i : grid0.Coords) (arg2 : Memref sig .tc .vmem S128x2048 .f32) (harg2 : arg2.IsWhole) (arg3 : Memref sig .tc .vmem S128x3072 .f32) (harg3 : arg3.IsWhole) (arg4 : Memref sig .tc .vmem S128x128 .f32) (harg4 : arg4.IsWhole) (arg5 : Memref sig .tc .vmem S1x8x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S1x3x3072 .f32) (harg12 : arg12.IsWhole) (arg13 : Memref sig .tc .vmem S1x2048x128 .f32) (harg13 : arg13.IsWhole) (arg14 : Memref sig .tc .vmem S136x3072 .f32) (harg14 : arg14.IsWhole) (arg15 : Memref sig .tc .vmem S4x128x512 .f32) (harg15 : arg15.IsWhole) (arg16 : Memref sig .tc .vmem S128x2048 .f32) (harg16 : arg16.IsWhole) (arg17 : Memref sig .tc .vmem S128x3072 .f32) (harg17 : arg17.IsWhole) (arg18 : Memref sig .tc .vmem S128x2048 .f32) (harg18 : arg18.IsWhole) (arg19 : Memref sig .tc .vmem S128x2048 .bf16) (harg19 : arg19.IsWhole) (hc0 : cond0_0 i) (hc1 : ¬cond0_1 i) (hc2 : ¬cond0_2 i)(x0 : Vec Ideal S128x2048 .f32) (x1 : Vec Ideal S128x3072 .f32) (x2 : Vec Ideal S128x128 .f32) (x3 : Vec Ideal S1x8x3072 .f32) (x4 : Vec Ideal S1x128 .f32) (x5 : Vec Ideal S1x128 .f32) (x6 : Vec Ideal S1x2048 .f32) (x7 : Vec Ideal S1x2048 .f32) (x8 : Vec Ideal S128x2048 .bf16)
    {Z X D : ℕ → ℕ → ℝ} {bi al : ℕ → ℝ} {w6 w7 : ℕ → EReal} {H : ℕ → ℕ → ℕ → ℝ} (b : Blk x0 x1 x2 x4 x5 x6 x7 x8 (k0_pay7 (F := Ideal)) Z X D bi al w6 w7 H) (a : Fin 128) (p : Fin 2048) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0  x1  x2  x3  x4  x5  x6  x7  x8  (ix2 a p) = b.rowv (p.val / 512) a (p.val % 512) := by
  frame_open
  simp (disch := decide) only [↓ View.readCov_skip, ↓ View.readCov_cons_toLoadRect, ↓ View.readCov_fill]
  frame_out
  refine out_read (fun g i p => b.rowv g i p) _ _ _ _ _ _ _ _ ?_ ?_ ?_ ?_ a p
  · refine gate_0 (y := fun i p => accv (cumv D bi al) (dtv D bi) X (fun g n p => ((H g n p : ℝ) : EReal)) w6 0 i p) (w := fun p => w7 (512 * 0 + p)) (z := fun i p => Z i (512 * 0 + p)) ?_
      (b.gate 0 (by norm_num) 0 rfl _) (b.norm 0 (by norm_num) 0 rfl _)
    exact acc_read arg16.view (fun i p => accv (cumv D bi al) (dtv D bi) X (fun g n p => ((H g n p : ℝ) : EReal)) w6 0 i p) _ _ _ _ _ _ _ _ _ _ rfl rfl rfl
      (pair_0 b.cum b.cumT b.dtT (b.cols 2048 _) (b.cols 2560 _) (b.cols 0 _) (b.layer 0 (by norm_num) _) (b.spread 0 (by norm_num) 0 0 rfl rfl _) b.h6)
      (pair_1 b.cum b.cumT b.dtT (b.cols 2048 _) (b.cols 2560 _) (b.cols 128 _) (b.layer 0 (by norm_num) _) (b.spread 0 (by norm_num) 0 0 rfl rfl _) b.h6)
      (pair_2 b.cum b.cumT b.dtT (b.cols 2048 _) (b.cols 2560 _) (b.cols 256 _) (b.layer 0 (by norm_num) _) (b.spread 0 (by norm_num) 0 0 rfl rfl _) b.h6)
      (pair_3 b.cum b.cumT b.dtT (b.cols 2048 _) (b.cols 2560 _) (b.cols 384 _) (b.layer 0 (by norm_num) _) (b.spread 0 (by norm_num) 0 0 rfl rfl _) b.h6)
  · refine gate_1 (y := fun i p => accv (cumv D bi al) (dtv D bi) X (fun g n p => ((H g n p : ℝ) : EReal)) w6 1 i p) (w := fun p => w7 (512 * 1 + p)) (z := fun i p => Z i (512 * 1 + p)) ?_
      (b.gate 1 (by norm_num) 512 rfl _) (b.norm 1 (by norm_num) 512 rfl _)
    exact acc_read arg16.view (fun i p => accv (cumv D bi al) (dtv D bi) X (fun g n p => ((H g n p : ℝ) : EReal)) w6 1 i p) _ _ _ _ _ _ _ _ _ _ rfl rfl rfl
      (pair_4 b.cum b.cumT b.dtT (b.cols 2176 _) (b.cols 2688 _) (b.cols 512 _) (b.layer 1 (by norm_num) _) (b.spread 1 (by norm_num) 512 8 rfl rfl _) b.h6)
      (pair_5 b.cum b.cumT b.dtT (b.cols 2176 _) (b.cols 2688 _) (b.cols 640 _) (b.layer 1 (by norm_num) _) (b.spread 1 (by norm_num) 512 8 rfl rfl _) b.h6)
      (pair_6 b.cum b.cumT b.dtT (b.cols 2176 _) (b.cols 2688 _) (b.cols 768 _) (b.layer 1 (by norm_num) _) (b.spread 1 (by norm_num) 512 8 rfl rfl _) b.h6)
      (pair_7 b.cum b.cumT b.dtT (b.cols 2176 _) (b.cols 2688 _) (b.cols 896 _) (b.layer 1 (by norm_num) _) (b.spread 1 (by norm_num) 512 8 rfl rfl _) b.h6)
  · refine gate_2 (y := fun i p => accv (cumv D bi al) (dtv D bi) X (fun g n p => ((H g n p : ℝ) : EReal)) w6 2 i p) (w := fun p => w7 (512 * 2 + p)) (z := fun i p => Z i (512 * 2 + p)) ?_
      (b.gate 2 (by norm_num) 1024 rfl _) (b.norm 2 (by norm_num) 1024 rfl _)
    exact acc_read arg16.view (fun i p => accv (cumv D bi al) (dtv D bi) X (fun g n p => ((H g n p : ℝ) : EReal)) w6 2 i p) _ _ _ _ _ _ _ _ _ _ rfl rfl rfl
      (pair_8 b.cum b.cumT b.dtT (b.cols 2304 _) (b.cols 2816 _) (b.cols 1024 _) (b.layer 2 (by norm_num) _) (b.spread 2 (by norm_num) 1024 16 rfl rfl _) b.h6)
      (pair_9 b.cum b.cumT b.dtT (b.cols 2304 _) (b.cols 2816 _) (b.cols 1152 _) (b.layer 2 (by norm_num) _) (b.spread 2 (by norm_num) 1024 16 rfl rfl _) b.h6)
      (pair_10 b.cum b.cumT b.dtT (b.cols 2304 _) (b.cols 2816 _) (b.cols 1280 _) (b.layer 2 (by norm_num) _) (b.spread 2 (by norm_num) 1024 16 rfl rfl _) b.h6)
      (pair_11 b.cum b.cumT b.dtT (b.cols 2304 _) (b.cols 2816 _) (b.cols 1408 _) (b.layer 2 (by norm_num) _) (b.spread 2 (by norm_num) 1024 16 rfl rfl _) b.h6)
  · refine gate_3 (y := fun i p => accv (cumv D bi al) (dtv D bi) X (fun g n p => ((H g n p : ℝ) : EReal)) w6 3 i p) (w := fun p => w7 (512 * 3 + p)) (z := fun i p => Z i (512 * 3 + p)) ?_
      (b.gate 3 (by norm_num) 1536 rfl _) (b.norm 3 (by norm_num) 1536 rfl _)
    exact acc_read arg16.view (fun i p => accv (cumv D bi al) (dtv D bi) X (fun g n p => ((H g n p : ℝ) : EReal)) w6 3 i p) _ _ _ _ _ _ _ _ _ _ rfl rfl rfl
      (pair_12 b.cum b.cumT b.dtT (b.cols 2432 _) (b.cols 2944 _) (b.cols 1536 _) (b.layer 3 (by norm_num) _) (b.spread 3 (by norm_num) 1536 24 rfl rfl _) b.h6)
      (pair_13 b.cum b.cumT b.dtT (b.cols 2432 _) (b.cols 2944 _) (b.cols 1664 _) (b.layer 3 (by norm_num) _) (b.spread 3 (by norm_num) 1536 24 rfl rfl _) b.h6)
      (pair_14 b.cum b.cumT b.dtT (b.cols 2432 _) (b.cols 2944 _) (b.cols 1792 _) (b.layer 3 (by norm_num) _) (b.spread 3 (by norm_num) 1536 24 rfl rfl _) b.h6)
      (pair_15 b.cum b.cumT b.dtT (b.cols 2432 _) (b.cols 2944 _) (b.cols 1920 _) (b.layer 3 (by norm_num) _) (b.spread 3 (by norm_num) 1536 24 rfl rfl _) b.h6)

/-- The state a block leaves. -/
theorem next_A (c : Dev nD) (i : grid0.Coords) (arg2 : Memref sig .tc .vmem S128x2048 .f32) (harg2 : arg2.IsWhole) (arg3 : Memref sig .tc .vmem S128x3072 .f32) (harg3 : arg3.IsWhole) (arg4 : Memref sig .tc .vmem S128x128 .f32) (harg4 : arg4.IsWhole) (arg5 : Memref sig .tc .vmem S1x8x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S1x3x3072 .f32) (harg12 : arg12.IsWhole) (arg13 : Memref sig .tc .vmem S1x2048x128 .f32) (harg13 : arg13.IsWhole) (arg14 : Memref sig .tc .vmem S136x3072 .f32) (harg14 : arg14.IsWhole) (arg15 : Memref sig .tc .vmem S4x128x512 .f32) (harg15 : arg15.IsWhole) (arg16 : Memref sig .tc .vmem S128x2048 .f32) (harg16 : arg16.IsWhole) (arg17 : Memref sig .tc .vmem S128x3072 .f32) (harg17 : arg17.IsWhole) (arg18 : Memref sig .tc .vmem S128x2048 .f32) (harg18 : arg18.IsWhole) (arg19 : Memref sig .tc .vmem S128x2048 .bf16) (harg19 : arg19.IsWhole) (hc0 : cond0_0 i) (hc1 : ¬cond0_1 i) (hc2 : ¬cond0_2 i)(x0 : Vec Ideal S128x2048 .f32) (x1 : Vec Ideal S128x3072 .f32) (x2 : Vec Ideal S128x128 .f32) (x3 : Vec Ideal S1x8x3072 .f32) (x4 : Vec Ideal S1x128 .f32) (x5 : Vec Ideal S1x128 .f32) (x6 : Vec Ideal S1x2048 .f32) (x7 : Vec Ideal S1x2048 .f32) (x8 : Vec Ideal S128x2048 .bf16)
    {Z X D : ℕ → ℕ → ℝ} {bi al : ℕ → ℝ} {w6 w7 : ℕ → EReal} {H : ℕ → ℕ → ℕ → ℝ} (b : Blk x0 x1 x2 x4 x5 x6 x7 x8 (k0_pay7 (F := Ideal)) Z X D bi al w6 w7 H) (g : Fin 4) (n : Fin 128) (p : Fin 512) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0  x1  x2  x3  x4  x5  x6  x7  x8  (ix3 g n p) = ((nextv (cumv D bi al) (dtv D bi) X H g n p : ℝ) : EReal) := by
  frame_open
  simp (disch := decide) only [↓ View.readCov_skip, ↓ View.readCov_cons_toLoadRect, ↓ View.readCov_fill]
  frame_out
  exact state_read (fun g n p => ((nextv (cumv D bi al) (dtv D bi) X H g n p : ℝ) : EReal)) _ _ _ _ _ _ _ _
    (fun n p => state_0 (E := decayv (cumv D bi al)) (V := weightv (cumv D bi al) (dtv D bi) X) b.whole (b.cols 2048 _) (b.layer 0 (by norm_num) _) (b.weight 0 _ _) n p)
    (fun n p => state_1 (E := decayv (cumv D bi al)) (V := weightv (cumv D bi al) (dtv D bi) X) b.whole (b.cols 2176 _) (b.layer 1 (by norm_num) _) (b.weight 512 _ _) n p)
    (fun n p => state_2 (E := decayv (cumv D bi al)) (V := weightv (cumv D bi al) (dtv D bi) X) b.whole (b.cols 2304 _) (b.layer 2 (by norm_num) _) (b.weight 1024 _ _) n p)
    (fun n p => state_3 (E := decayv (cumv D bi al)) (V := weightv (cumv D bi al) (dtv D bi) X) b.whole (b.cols 2432 _) (b.layer 3 (by norm_num) _) (b.weight 1536 _ _) n p) _ g n p

/-- The rows a block writes. -/
theorem rows_B (c : Dev nD) (i : grid0.Coords) (arg2 : Memref sig .tc .vmem S128x2048 .f32) (harg2 : arg2.IsWhole) (arg3 : Memref sig .tc .vmem S128x3072 .f32) (harg3 : arg3.IsWhole) (arg4 : Memref sig .tc .vmem S128x128 .f32) (harg4 : arg4.IsWhole) (arg5 : Memref sig .tc .vmem S1x8x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S1x3x3072 .f32) (harg12 : arg12.IsWhole) (arg13 : Memref sig .tc .vmem S1x2048x128 .f32) (harg13 : arg13.IsWhole) (arg14 : Memref sig .tc .vmem S136x3072 .f32) (harg14 : arg14.IsWhole) (arg15 : Memref sig .tc .vmem S4x128x512 .f32) (harg15 : arg15.IsWhole) (arg16 : Memref sig .tc .vmem S128x2048 .f32) (harg16 : arg16.IsWhole) (arg17 : Memref sig .tc .vmem S128x3072 .f32) (harg17 : arg17.IsWhole) (arg18 : Memref sig .tc .vmem S128x2048 .f32) (harg18 : arg18.IsWhole) (arg19 : Memref sig .tc .vmem S128x2048 .bf16) (harg19 : arg19.IsWhole) (hc0 : ¬cond0_0 i) (hc1 : ¬cond0_1 i) (hc2 : ¬cond0_2 i)(x0 : Vec Ideal S128x2048 .f32) (x1 : Vec Ideal S128x3072 .f32) (x2 : Vec Ideal S128x128 .f32) (x3 : Vec Ideal S1x8x3072 .f32) (x4 : Vec Ideal S1x128 .f32) (x5 : Vec Ideal S1x128 .f32) (x6 : Vec Ideal S1x2048 .f32) (x7 : Vec Ideal S1x2048 .f32) (x8 : Vec Ideal S128x2048 .bf16) (xs1 : Vec Ideal S4x128x512 .f32)
    {Z X D : ℕ → ℕ → ℝ} {bi al : ℕ → ℝ} {w6 w7 : ℕ → EReal} {H : ℕ → ℕ → ℕ → ℝ} (b : Blk x0 x1 x2 x4 x5 x6 x7 x8 xs1 Z X D bi al w6 w7 H) (a : Fin 128) (p : Fin 2048) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0  x1  x2  x3  x4  x5  x6  x7  x8  xs1  (ix2 a p) = b.rowv (p.val / 512) a (p.val % 512) := by
  frame_open
  simp (disch := decide) only [↓ View.readCov_skip, ↓ View.readCov_cons_toLoadRect, ↓ View.readCov_fill]
  frame_out
  refine out_read (fun g i p => b.rowv g i p) _ _ _ _ _ _ _ _ ?_ ?_ ?_ ?_ a p
  · refine gate_0 (y := fun i p => accv (cumv D bi al) (dtv D bi) X (fun g n p => ((H g n p : ℝ) : EReal)) w6 0 i p) (w := fun p => w7 (512 * 0 + p)) (z := fun i p => Z i (512 * 0 + p)) ?_
      (b.gate 0 (by norm_num) 0 rfl _) (b.norm 0 (by norm_num) 0 rfl _)
    exact acc_read arg16.view (fun i p => accv (cumv D bi al) (dtv D bi) X (fun g n p => ((H g n p : ℝ) : EReal)) w6 0 i p) _ _ _ _ _ _ _ _ _ _ rfl rfl rfl
      (pair_0 b.cum b.cumT b.dtT (b.cols 2048 _) (b.cols 2560 _) (b.cols 0 _) (b.layer 0 (by norm_num) _) (b.spread 0 (by norm_num) 0 0 rfl rfl _) b.h6)
      (pair_1 b.cum b.cumT b.dtT (b.cols 2048 _) (b.cols 2560 _) (b.cols 128 _) (b.layer 0 (by norm_num) _) (b.spread 0 (by norm_num) 0 0 rfl rfl _) b.h6)
      (pair_2 b.cum b.cumT b.dtT (b.cols 2048 _) (b.cols 2560 _) (b.cols 256 _) (b.layer 0 (by norm_num) _) (b.spread 0 (by norm_num) 0 0 rfl rfl _) b.h6)
      (pair_3 b.cum b.cumT b.dtT (b.cols 2048 _) (b.cols 2560 _) (b.cols 384 _) (b.layer 0 (by norm_num) _) (b.spread 0 (by norm_num) 0 0 rfl rfl _) b.h6)
  · refine gate_1 (y := fun i p => accv (cumv D bi al) (dtv D bi) X (fun g n p => ((H g n p : ℝ) : EReal)) w6 1 i p) (w := fun p => w7 (512 * 1 + p)) (z := fun i p => Z i (512 * 1 + p)) ?_
      (b.gate 1 (by norm_num) 512 rfl _) (b.norm 1 (by norm_num) 512 rfl _)
    exact acc_read arg16.view (fun i p => accv (cumv D bi al) (dtv D bi) X (fun g n p => ((H g n p : ℝ) : EReal)) w6 1 i p) _ _ _ _ _ _ _ _ _ _ rfl rfl rfl
      (pair_4 b.cum b.cumT b.dtT (b.cols 2176 _) (b.cols 2688 _) (b.cols 512 _) (b.layer 1 (by norm_num) _) (b.spread 1 (by norm_num) 512 8 rfl rfl _) b.h6)
      (pair_5 b.cum b.cumT b.dtT (b.cols 2176 _) (b.cols 2688 _) (b.cols 640 _) (b.layer 1 (by norm_num) _) (b.spread 1 (by norm_num) 512 8 rfl rfl _) b.h6)
      (pair_6 b.cum b.cumT b.dtT (b.cols 2176 _) (b.cols 2688 _) (b.cols 768 _) (b.layer 1 (by norm_num) _) (b.spread 1 (by norm_num) 512 8 rfl rfl _) b.h6)
      (pair_7 b.cum b.cumT b.dtT (b.cols 2176 _) (b.cols 2688 _) (b.cols 896 _) (b.layer 1 (by norm_num) _) (b.spread 1 (by norm_num) 512 8 rfl rfl _) b.h6)
  · refine gate_2 (y := fun i p => accv (cumv D bi al) (dtv D bi) X (fun g n p => ((H g n p : ℝ) : EReal)) w6 2 i p) (w := fun p => w7 (512 * 2 + p)) (z := fun i p => Z i (512 * 2 + p)) ?_
      (b.gate 2 (by norm_num) 1024 rfl _) (b.norm 2 (by norm_num) 1024 rfl _)
    exact acc_read arg16.view (fun i p => accv (cumv D bi al) (dtv D bi) X (fun g n p => ((H g n p : ℝ) : EReal)) w6 2 i p) _ _ _ _ _ _ _ _ _ _ rfl rfl rfl
      (pair_8 b.cum b.cumT b.dtT (b.cols 2304 _) (b.cols 2816 _) (b.cols 1024 _) (b.layer 2 (by norm_num) _) (b.spread 2 (by norm_num) 1024 16 rfl rfl _) b.h6)
      (pair_9 b.cum b.cumT b.dtT (b.cols 2304 _) (b.cols 2816 _) (b.cols 1152 _) (b.layer 2 (by norm_num) _) (b.spread 2 (by norm_num) 1024 16 rfl rfl _) b.h6)
      (pair_10 b.cum b.cumT b.dtT (b.cols 2304 _) (b.cols 2816 _) (b.cols 1280 _) (b.layer 2 (by norm_num) _) (b.spread 2 (by norm_num) 1024 16 rfl rfl _) b.h6)
      (pair_11 b.cum b.cumT b.dtT (b.cols 2304 _) (b.cols 2816 _) (b.cols 1408 _) (b.layer 2 (by norm_num) _) (b.spread 2 (by norm_num) 1024 16 rfl rfl _) b.h6)
  · refine gate_3 (y := fun i p => accv (cumv D bi al) (dtv D bi) X (fun g n p => ((H g n p : ℝ) : EReal)) w6 3 i p) (w := fun p => w7 (512 * 3 + p)) (z := fun i p => Z i (512 * 3 + p)) ?_
      (b.gate 3 (by norm_num) 1536 rfl _) (b.norm 3 (by norm_num) 1536 rfl _)
    exact acc_read arg16.view (fun i p => accv (cumv D bi al) (dtv D bi) X (fun g n p => ((H g n p : ℝ) : EReal)) w6 3 i p) _ _ _ _ _ _ _ _ _ _ rfl rfl rfl
      (pair_12 b.cum b.cumT b.dtT (b.cols 2432 _) (b.cols 2944 _) (b.cols 1536 _) (b.layer 3 (by norm_num) _) (b.spread 3 (by norm_num) 1536 24 rfl rfl _) b.h6)
      (pair_13 b.cum b.cumT b.dtT (b.cols 2432 _) (b.cols 2944 _) (b.cols 1664 _) (b.layer 3 (by norm_num) _) (b.spread 3 (by norm_num) 1536 24 rfl rfl _) b.h6)
      (pair_14 b.cum b.cumT b.dtT (b.cols 2432 _) (b.cols 2944 _) (b.cols 1792 _) (b.layer 3 (by norm_num) _) (b.spread 3 (by norm_num) 1536 24 rfl rfl _) b.h6)
      (pair_15 b.cum b.cumT b.dtT (b.cols 2432 _) (b.cols 2944 _) (b.cols 1920 _) (b.layer 3 (by norm_num) _) (b.spread 3 (by norm_num) 1536 24 rfl rfl _) b.h6)

/-- The state a block leaves. -/
theorem next_B (c : Dev nD) (i : grid0.Coords) (arg2 : Memref sig .tc .vmem S128x2048 .f32) (harg2 : arg2.IsWhole) (arg3 : Memref sig .tc .vmem S128x3072 .f32) (harg3 : arg3.IsWhole) (arg4 : Memref sig .tc .vmem S128x128 .f32) (harg4 : arg4.IsWhole) (arg5 : Memref sig .tc .vmem S1x8x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S1x3x3072 .f32) (harg12 : arg12.IsWhole) (arg13 : Memref sig .tc .vmem S1x2048x128 .f32) (harg13 : arg13.IsWhole) (arg14 : Memref sig .tc .vmem S136x3072 .f32) (harg14 : arg14.IsWhole) (arg15 : Memref sig .tc .vmem S4x128x512 .f32) (harg15 : arg15.IsWhole) (arg16 : Memref sig .tc .vmem S128x2048 .f32) (harg16 : arg16.IsWhole) (arg17 : Memref sig .tc .vmem S128x3072 .f32) (harg17 : arg17.IsWhole) (arg18 : Memref sig .tc .vmem S128x2048 .f32) (harg18 : arg18.IsWhole) (arg19 : Memref sig .tc .vmem S128x2048 .bf16) (harg19 : arg19.IsWhole) (hc0 : ¬cond0_0 i) (hc1 : ¬cond0_1 i) (hc2 : ¬cond0_2 i)(x0 : Vec Ideal S128x2048 .f32) (x1 : Vec Ideal S128x3072 .f32) (x2 : Vec Ideal S128x128 .f32) (x3 : Vec Ideal S1x8x3072 .f32) (x4 : Vec Ideal S1x128 .f32) (x5 : Vec Ideal S1x128 .f32) (x6 : Vec Ideal S1x2048 .f32) (x7 : Vec Ideal S1x2048 .f32) (x8 : Vec Ideal S128x2048 .bf16) (xs1 : Vec Ideal S4x128x512 .f32)
    {Z X D : ℕ → ℕ → ℝ} {bi al : ℕ → ℝ} {w6 w7 : ℕ → EReal} {H : ℕ → ℕ → ℕ → ℝ} (b : Blk x0 x1 x2 x4 x5 x6 x7 x8 xs1 Z X D bi al w6 w7 H) (g : Fin 4) (n : Fin 128) (p : Fin 512) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0  x1  x2  x3  x4  x5  x6  x7  x8  xs1  (ix3 g n p) = ((nextv (cumv D bi al) (dtv D bi) X H g n p : ℝ) : EReal) := by
  frame_open
  simp (disch := decide) only [↓ View.readCov_skip, ↓ View.readCov_cons_toLoadRect, ↓ View.readCov_fill]
  frame_out
  exact state_read (fun g n p => ((nextv (cumv D bi al) (dtv D bi) X H g n p : ℝ) : EReal)) _ _ _ _ _ _ _ _
    (fun n p => state_0 (E := decayv (cumv D bi al)) (V := weightv (cumv D bi al) (dtv D bi) X) b.whole (b.cols 2048 _) (b.layer 0 (by norm_num) _) (b.weight 0 _ _) n p)
    (fun n p => state_1 (E := decayv (cumv D bi al)) (V := weightv (cumv D bi al) (dtv D bi) X) b.whole (b.cols 2176 _) (b.layer 1 (by norm_num) _) (b.weight 512 _ _) n p)
    (fun n p => state_2 (E := decayv (cumv D bi al)) (V := weightv (cumv D bi al) (dtv D bi) X) b.whole (b.cols 2304 _) (b.layer 2 (by norm_num) _) (b.weight 1024 _ _) n p)
    (fun n p => state_3 (E := decayv (cumv D bi al)) (V := weightv (cumv D bi al) (dtv D bi) X) b.whole (b.cols 2432 _) (b.layer 3 (by norm_num) _) (b.weight 1536 _ _) n p) _ g n p

/-- The rows a block writes. -/
theorem rows_C (c : Dev nD) (i : grid0.Coords) (arg2 : Memref sig .tc .vmem S128x2048 .f32) (harg2 : arg2.IsWhole) (arg3 : Memref sig .tc .vmem S128x3072 .f32) (harg3 : arg3.IsWhole) (arg4 : Memref sig .tc .vmem S128x128 .f32) (harg4 : arg4.IsWhole) (arg5 : Memref sig .tc .vmem S1x8x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S1x3x3072 .f32) (harg12 : arg12.IsWhole) (arg13 : Memref sig .tc .vmem S1x2048x128 .f32) (harg13 : arg13.IsWhole) (arg14 : Memref sig .tc .vmem S136x3072 .f32) (harg14 : arg14.IsWhole) (arg15 : Memref sig .tc .vmem S4x128x512 .f32) (harg15 : arg15.IsWhole) (arg16 : Memref sig .tc .vmem S128x2048 .f32) (harg16 : arg16.IsWhole) (arg17 : Memref sig .tc .vmem S128x3072 .f32) (harg17 : arg17.IsWhole) (arg18 : Memref sig .tc .vmem S128x2048 .f32) (harg18 : arg18.IsWhole) (arg19 : Memref sig .tc .vmem S128x2048 .bf16) (harg19 : arg19.IsWhole) (hc0 : ¬cond0_0 i) (hc1 : cond0_1 i) (hc2 : cond0_2 i)(x0 : Vec Ideal S128x2048 .f32) (x1 : Vec Ideal S128x3072 .f32) (x2 : Vec Ideal S128x128 .f32) (x3 : Vec Ideal S1x8x3072 .f32) (x4 : Vec Ideal S1x128 .f32) (x5 : Vec Ideal S1x128 .f32) (x6 : Vec Ideal S1x2048 .f32) (x7 : Vec Ideal S1x2048 .f32) (x8 : Vec Ideal S128x2048 .bf16) (xs1 : Vec Ideal S4x128x512 .f32)
    {Z X D : ℕ → ℕ → ℝ} {bi al : ℕ → ℝ} {w6 w7 : ℕ → EReal} {H : ℕ → ℕ → ℕ → ℝ} (b : Blk x0 x1 x2 x4 x5 x6 x7 x8 xs1 Z X D bi al w6 w7 H) (a : Fin 128) (p : Fin 2048) :
    out0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0  x1  x2  x3  x4  x5  x6  x7  x8  xs1  (ix2 a p) = b.rowv (p.val / 512) a (p.val % 512) := by
  frame_open
  simp (disch := decide) only [↓ View.readCov_skip, ↓ View.readCov_cons_toLoadRect, ↓ View.readCov_fill]
  frame_out
  refine out_read (fun g i p => b.rowv g i p) _ _ _ _ _ _ _ _ ?_ ?_ ?_ ?_ a p
  · refine gate_0 (y := fun i p => accv (cumv D bi al) (dtv D bi) X (fun g n p => ((H g n p : ℝ) : EReal)) w6 0 i p) (w := fun p => w7 (512 * 0 + p)) (z := fun i p => Z i (512 * 0 + p)) ?_
      (b.gate 0 (by norm_num) 0 rfl _) (b.norm 0 (by norm_num) 0 rfl _)
    exact acc_read arg16.view (fun i p => accv (cumv D bi al) (dtv D bi) X (fun g n p => ((H g n p : ℝ) : EReal)) w6 0 i p) _ _ _ _ _ _ _ _ _ _ rfl rfl rfl
      (pair_0 b.cum b.cumT b.dtT (b.cols 2048 _) (b.cols 2560 _) (b.cols 0 _) (b.layer 0 (by norm_num) _) (b.spread 0 (by norm_num) 0 0 rfl rfl _) b.h6)
      (pair_1 b.cum b.cumT b.dtT (b.cols 2048 _) (b.cols 2560 _) (b.cols 128 _) (b.layer 0 (by norm_num) _) (b.spread 0 (by norm_num) 0 0 rfl rfl _) b.h6)
      (pair_2 b.cum b.cumT b.dtT (b.cols 2048 _) (b.cols 2560 _) (b.cols 256 _) (b.layer 0 (by norm_num) _) (b.spread 0 (by norm_num) 0 0 rfl rfl _) b.h6)
      (pair_3 b.cum b.cumT b.dtT (b.cols 2048 _) (b.cols 2560 _) (b.cols 384 _) (b.layer 0 (by norm_num) _) (b.spread 0 (by norm_num) 0 0 rfl rfl _) b.h6)
  · refine gate_1 (y := fun i p => accv (cumv D bi al) (dtv D bi) X (fun g n p => ((H g n p : ℝ) : EReal)) w6 1 i p) (w := fun p => w7 (512 * 1 + p)) (z := fun i p => Z i (512 * 1 + p)) ?_
      (b.gate 1 (by norm_num) 512 rfl _) (b.norm 1 (by norm_num) 512 rfl _)
    exact acc_read arg16.view (fun i p => accv (cumv D bi al) (dtv D bi) X (fun g n p => ((H g n p : ℝ) : EReal)) w6 1 i p) _ _ _ _ _ _ _ _ _ _ rfl rfl rfl
      (pair_4 b.cum b.cumT b.dtT (b.cols 2176 _) (b.cols 2688 _) (b.cols 512 _) (b.layer 1 (by norm_num) _) (b.spread 1 (by norm_num) 512 8 rfl rfl _) b.h6)
      (pair_5 b.cum b.cumT b.dtT (b.cols 2176 _) (b.cols 2688 _) (b.cols 640 _) (b.layer 1 (by norm_num) _) (b.spread 1 (by norm_num) 512 8 rfl rfl _) b.h6)
      (pair_6 b.cum b.cumT b.dtT (b.cols 2176 _) (b.cols 2688 _) (b.cols 768 _) (b.layer 1 (by norm_num) _) (b.spread 1 (by norm_num) 512 8 rfl rfl _) b.h6)
      (pair_7 b.cum b.cumT b.dtT (b.cols 2176 _) (b.cols 2688 _) (b.cols 896 _) (b.layer 1 (by norm_num) _) (b.spread 1 (by norm_num) 512 8 rfl rfl _) b.h6)
  · refine gate_2 (y := fun i p => accv (cumv D bi al) (dtv D bi) X (fun g n p => ((H g n p : ℝ) : EReal)) w6 2 i p) (w := fun p => w7 (512 * 2 + p)) (z := fun i p => Z i (512 * 2 + p)) ?_
      (b.gate 2 (by norm_num) 1024 rfl _) (b.norm 2 (by norm_num) 1024 rfl _)
    exact acc_read arg16.view (fun i p => accv (cumv D bi al) (dtv D bi) X (fun g n p => ((H g n p : ℝ) : EReal)) w6 2 i p) _ _ _ _ _ _ _ _ _ _ rfl rfl rfl
      (pair_8 b.cum b.cumT b.dtT (b.cols 2304 _) (b.cols 2816 _) (b.cols 1024 _) (b.layer 2 (by norm_num) _) (b.spread 2 (by norm_num) 1024 16 rfl rfl _) b.h6)
      (pair_9 b.cum b.cumT b.dtT (b.cols 2304 _) (b.cols 2816 _) (b.cols 1152 _) (b.layer 2 (by norm_num) _) (b.spread 2 (by norm_num) 1024 16 rfl rfl _) b.h6)
      (pair_10 b.cum b.cumT b.dtT (b.cols 2304 _) (b.cols 2816 _) (b.cols 1280 _) (b.layer 2 (by norm_num) _) (b.spread 2 (by norm_num) 1024 16 rfl rfl _) b.h6)
      (pair_11 b.cum b.cumT b.dtT (b.cols 2304 _) (b.cols 2816 _) (b.cols 1408 _) (b.layer 2 (by norm_num) _) (b.spread 2 (by norm_num) 1024 16 rfl rfl _) b.h6)
  · refine gate_3 (y := fun i p => accv (cumv D bi al) (dtv D bi) X (fun g n p => ((H g n p : ℝ) : EReal)) w6 3 i p) (w := fun p => w7 (512 * 3 + p)) (z := fun i p => Z i (512 * 3 + p)) ?_
      (b.gate 3 (by norm_num) 1536 rfl _) (b.norm 3 (by norm_num) 1536 rfl _)
    exact acc_read arg16.view (fun i p => accv (cumv D bi al) (dtv D bi) X (fun g n p => ((H g n p : ℝ) : EReal)) w6 3 i p) _ _ _ _ _ _ _ _ _ _ rfl rfl rfl
      (pair_12 b.cum b.cumT b.dtT (b.cols 2432 _) (b.cols 2944 _) (b.cols 1536 _) (b.layer 3 (by norm_num) _) (b.spread 3 (by norm_num) 1536 24 rfl rfl _) b.h6)
      (pair_13 b.cum b.cumT b.dtT (b.cols 2432 _) (b.cols 2944 _) (b.cols 1664 _) (b.layer 3 (by norm_num) _) (b.spread 3 (by norm_num) 1536 24 rfl rfl _) b.h6)
      (pair_14 b.cum b.cumT b.dtT (b.cols 2432 _) (b.cols 2944 _) (b.cols 1792 _) (b.layer 3 (by norm_num) _) (b.spread 3 (by norm_num) 1536 24 rfl rfl _) b.h6)
      (pair_15 b.cum b.cumT b.dtT (b.cols 2432 _) (b.cols 2944 _) (b.cols 1920 _) (b.layer 3 (by norm_num) _) (b.spread 3 (by norm_num) 1536 24 rfl rfl _) b.h6)

/-- The state a block leaves. -/
theorem next_C (c : Dev nD) (i : grid0.Coords) (arg2 : Memref sig .tc .vmem S128x2048 .f32) (harg2 : arg2.IsWhole) (arg3 : Memref sig .tc .vmem S128x3072 .f32) (harg3 : arg3.IsWhole) (arg4 : Memref sig .tc .vmem S128x128 .f32) (harg4 : arg4.IsWhole) (arg5 : Memref sig .tc .vmem S1x8x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S1x3x3072 .f32) (harg12 : arg12.IsWhole) (arg13 : Memref sig .tc .vmem S1x2048x128 .f32) (harg13 : arg13.IsWhole) (arg14 : Memref sig .tc .vmem S136x3072 .f32) (harg14 : arg14.IsWhole) (arg15 : Memref sig .tc .vmem S4x128x512 .f32) (harg15 : arg15.IsWhole) (arg16 : Memref sig .tc .vmem S128x2048 .f32) (harg16 : arg16.IsWhole) (arg17 : Memref sig .tc .vmem S128x3072 .f32) (harg17 : arg17.IsWhole) (arg18 : Memref sig .tc .vmem S128x2048 .f32) (harg18 : arg18.IsWhole) (arg19 : Memref sig .tc .vmem S128x2048 .bf16) (harg19 : arg19.IsWhole) (hc0 : ¬cond0_0 i) (hc1 : cond0_1 i) (hc2 : cond0_2 i)(x0 : Vec Ideal S128x2048 .f32) (x1 : Vec Ideal S128x3072 .f32) (x2 : Vec Ideal S128x128 .f32) (x3 : Vec Ideal S1x8x3072 .f32) (x4 : Vec Ideal S1x128 .f32) (x5 : Vec Ideal S1x128 .f32) (x6 : Vec Ideal S1x2048 .f32) (x7 : Vec Ideal S1x2048 .f32) (x8 : Vec Ideal S128x2048 .bf16) (xs1 : Vec Ideal S4x128x512 .f32)
    {Z X D : ℕ → ℕ → ℝ} {bi al : ℕ → ℝ} {w6 w7 : ℕ → EReal} {H : ℕ → ℕ → ℕ → ℝ} (b : Blk x0 x1 x2 x4 x5 x6 x7 x8 xs1 Z X D bi al w6 w7 H) (g : Fin 4) (n : Fin 128) (p : Fin 512) :
    sout0_C_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0  x1  x2  x3  x4  x5  x6  x7  x8  xs1  (ix3 g n p) = ((nextv (cumv D bi al) (dtv D bi) X H g n p : ℝ) : EReal) := by
  frame_open
  simp (disch := decide) only [↓ View.readCov_skip, ↓ View.readCov_cons_toLoadRect, ↓ View.readCov_fill]
  frame_out
  exact state_read (fun g n p => ((nextv (cumv D bi al) (dtv D bi) X H g n p : ℝ) : EReal)) _ _ _ _ _ _ _ _
    (fun n p => state_0 (E := decayv (cumv D bi al)) (V := weightv (cumv D bi al) (dtv D bi) X) b.whole (b.cols 2048 _) (b.layer 0 (by norm_num) _) (b.weight 0 _ _) n p)
    (fun n p => state_1 (E := decayv (cumv D bi al)) (V := weightv (cumv D bi al) (dtv D bi) X) b.whole (b.cols 2176 _) (b.layer 1 (by norm_num) _) (b.weight 512 _ _) n p)
    (fun n p => state_2 (E := decayv (cumv D bi al)) (V := weightv (cumv D bi al) (dtv D bi) X) b.whole (b.cols 2304 _) (b.layer 2 (by norm_num) _) (b.weight 1024 _ _) n p)
    (fun n p => state_3 (E := decayv (cumv D bi al)) (V := weightv (cumv D bi al) (dtv D bi) X) b.whole (b.cols 2432 _) (b.layer 3 (by norm_num) _) (b.weight 1536 _ _) n p) _ g n p

/-- The transposed state of the last block. -/
theorem last_C (c : Dev nD) (i : grid0.Coords) (arg2 : Memref sig .tc .vmem S128x2048 .f32) (harg2 : arg2.IsWhole) (arg3 : Memref sig .tc .vmem S128x3072 .f32) (harg3 : arg3.IsWhole) (arg4 : Memref sig .tc .vmem S128x128 .f32) (harg4 : arg4.IsWhole) (arg5 : Memref sig .tc .vmem S1x8x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S1x3x3072 .f32) (harg12 : arg12.IsWhole) (arg13 : Memref sig .tc .vmem S1x2048x128 .f32) (harg13 : arg13.IsWhole) (arg14 : Memref sig .tc .vmem S136x3072 .f32) (harg14 : arg14.IsWhole) (arg15 : Memref sig .tc .vmem S4x128x512 .f32) (harg15 : arg15.IsWhole) (arg16 : Memref sig .tc .vmem S128x2048 .f32) (harg16 : arg16.IsWhole) (arg17 : Memref sig .tc .vmem S128x3072 .f32) (harg17 : arg17.IsWhole) (arg18 : Memref sig .tc .vmem S128x2048 .f32) (harg18 : arg18.IsWhole) (arg19 : Memref sig .tc .vmem S128x2048 .bf16) (harg19 : arg19.IsWhole) (hc0 : ¬cond0_0 i) (hc1 : cond0_1 i) (hc2 : cond0_2 i)(x0 : Vec Ideal S128x2048 .f32) (x1 : Vec Ideal S128x3072 .f32) (x2 : Vec Ideal S128x128 .f32) (x3 : Vec Ideal S1x8x3072 .f32) (x4 : Vec Ideal S1x128 .f32) (x5 : Vec Ideal S1x128 .f32) (x6 : Vec Ideal S1x2048 .f32) (x7 : Vec Ideal S1x2048 .f32) (x8 : Vec Ideal S128x2048 .bf16) (xs1 : Vec Ideal S4x128x512 .f32)
    {Z X D : ℕ → ℕ → ℝ} {bi al : ℕ → ℝ} {w6 w7 : ℕ → EReal} {H : ℕ → ℕ → ℕ → ℝ} (b : Blk x0 x1 x2 x4 x5 x6 x7 x8 xs1 Z X D bi al w6 w7 H) (r : Fin 2048) (n : Fin 128) :
    out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0  x1  x2  x3  x4  x5  x6  x7  x8  xs1  (ix3 0 r n) = ((nextv (cumv D bi al) (dtv D bi) X H (r.val / 512) n (r.val % 512) : ℝ) : EReal) := by
  have last_eq : ∀ (g : ℕ) (n : Fin 128) (p : Fin 512), ((nextv (cumv D bi al) (dtv D bi) X H g n p : ℝ) : EReal)
      = ((nextv (cumv D bi al) (dtv D bi) X H ((512 * g + p.val) / 512) n ((512 * g + p.val) % 512) : ℝ) : EReal) := fun g n p => by
    have hp := p.isLt
    rw [show (512 * g + p.val) / 512 = g by omega, show (512 * g + p.val) % 512 = p.val by omega]
  frame_open
  simp (disch := decide) only [↓ View.readCov_skip, ↓ View.readCov_cons_toLoadRect, ↓ View.readCov_fill]
  frame_out
  exact turned_read (fun r n => ((nextv (cumv D bi al) (dtv D bi) X H (r / 512) n (r % 512) : ℝ) : EReal)) _ _ _ _ _ _ _ _
    (fun p n => (turn_0 _ p n).trans ((state_0 (E := decayv (cumv D bi al)) (V := weightv (cumv D bi al) (dtv D bi) X) b.whole (b.cols 2048 _) (b.layer 0 (by norm_num) _) (b.weight 0 _ _) n p).trans (last_eq 0 n p)))
    (fun p n => (turn_1 _ p n).trans ((state_1 (E := decayv (cumv D bi al)) (V := weightv (cumv D bi al) (dtv D bi) X) b.whole (b.cols 2176 _) (b.layer 1 (by norm_num) _) (b.weight 512 _ _) n p).trans (last_eq 1 n p)))
    (fun p n => (turn_2 _ p n).trans ((state_2 (E := decayv (cumv D bi al)) (V := weightv (cumv D bi al) (dtv D bi) X) b.whole (b.cols 2304 _) (b.layer 2 (by norm_num) _) (b.weight 1024 _ _) n p).trans (last_eq 2 n p)))
    (fun p n => (turn_3 _ p n).trans ((state_3 (E := decayv (cumv D bi al)) (V := weightv (cumv D bi al) (dtv D bi) X) b.whole (b.cols 2432 _) (b.layer 3 (by norm_num) _) (b.weight 1536 _ _) n p).trans (last_eq 3 n p))) r n

/-- The three rows kept for the next stretch. -/
theorem tail_C (c : Dev nD) (i : grid0.Coords) (arg2 : Memref sig .tc .vmem S128x2048 .f32) (harg2 : arg2.IsWhole) (arg3 : Memref sig .tc .vmem S128x3072 .f32) (harg3 : arg3.IsWhole) (arg4 : Memref sig .tc .vmem S128x128 .f32) (harg4 : arg4.IsWhole) (arg5 : Memref sig .tc .vmem S1x8x3072 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S128x2048 .bf16) (harg10 : arg10.IsWhole) (arg11 : Memref sig .tc .vmem S128x2048 .bf16) (harg11 : arg11.IsWhole) (arg12 : Memref sig .tc .vmem S1x3x3072 .f32) (harg12 : arg12.IsWhole) (arg13 : Memref sig .tc .vmem S1x2048x128 .f32) (harg13 : arg13.IsWhole) (arg14 : Memref sig .tc .vmem S136x3072 .f32) (harg14 : arg14.IsWhole) (arg15 : Memref sig .tc .vmem S4x128x512 .f32) (harg15 : arg15.IsWhole) (arg16 : Memref sig .tc .vmem S128x2048 .f32) (harg16 : arg16.IsWhole) (arg17 : Memref sig .tc .vmem S128x3072 .f32) (harg17 : arg17.IsWhole) (arg18 : Memref sig .tc .vmem S128x2048 .f32) (harg18 : arg18.IsWhole) (arg19 : Memref sig .tc .vmem S128x2048 .bf16) (harg19 : arg19.IsWhole) (hc0 : ¬cond0_0 i) (hc1 : cond0_1 i) (hc2 : cond0_2 i)(x0 : Vec Ideal S128x2048 .f32) (x1 : Vec Ideal S128x3072 .f32) (x2 : Vec Ideal S128x128 .f32) (x3 : Vec Ideal S1x8x3072 .f32) (x4 : Vec Ideal S1x128 .f32) (x5 : Vec Ideal S1x128 .f32) (x6 : Vec Ideal S1x2048 .f32) (x7 : Vec Ideal S1x2048 .f32) (x8 : Vec Ideal S128x2048 .bf16) (xs1 : Vec Ideal S4x128x512 .f32) (k : Fin 3) (j : Fin 3072) :
    out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 hc2 x0  x1  x2  x3  x4  x5  x6  x7  x8  xs1  (ix3 0 k j) = x3 (ix3 0 ⟨5 + k.val, by omega⟩ j) := by
  frame_open
  simp (disch := decide) only [↓ View.readCov_skip, ↓ View.readCov_cons_toLoadRect, ↓ View.readCov_fill]
  frame_out
  pointwise [k0_pay8]

end Cert.KernelIdeal.Scan

end
-- ==== Proof.ScanReads.lean ====
/- What the scan kernel's windows hold at a grid point, read off the arguments. -/
module

public import proofs.«01_k».proof.Proof.Gen.KernelIdeal.Value
public import proofs.«01_k».proof.Proof.ScanPoint
public import Idealize.ShloMosaic.Lib.Claim
public import Idealize.ShloMosaic.Lib.Pipeline.ValueKit

@[expose] public section

set_option maxRecDepth 16384

noncomputable section

namespace Cert.KernelIdeal.Scan

open Idealize.ShloMosaic Idealize.ShloMosaic.TcCoe Cert.KernelIdeal.Gen Cert.KernelIdeal Cert.ScanMath

variable (m : (ℓ : Loc nD τ sig) → Buf (Elt Ideal) ℓ) (c : Dev nD)

/-- The block of every window at every grid point. -/
theorem idx : ∀ t : Fin cfg0.N, win0_0.index t = ![t.val, 7] ∧ win0_1.index t = ![t.val, 2] ∧ win0_2.index t = ![t.val, 134]
    ∧ win0_3.index t = ![(t.val / 16 + 1) * 2 - 1, 0, 0] ∧ win0_4.index t = ![0, 0] ∧ win0_5.index t = ![0, 0] ∧ win0_6.index t = ![0, 0]
    ∧ win0_7.index t = ![0, 0] ∧ win0_8.index t = ![0, 0] ∧ t.val < 64 :=
  (by decide +kernel : ∀ t : Fin grid0.N, _)

/-- The norm weight as one row. -/
theorem V18 : V m c main_v18 = shapeCast S1x2048 (m ((c : Thread nD τ).loc main_arg5)) shapeCasts_S2048_S1x2048 := by
  show StableHlo.after _ _ _ = _
  simp only [hostOps0, hostOps0_1, hostOps0_2, List.flatten_cons, List.flatten_nil, List.cons_append, List.nil_append, List.append_nil]
  simp only [StableHlo.after_cons, StableHlo.after_nil]
  after_results_simp
  rfl

/-- The norm weight's row at a column. -/
theorem r18 (l : Fin 2048) : V m c main_v18 (ix2 0 l) = m ((c : Thread nD τ).loc main_arg5) (ix1 l) := by
  rw [V18]
  pointwise

/-- The padded step bias. -/
theorem V14 : V m c main_v14 = shapeCast S1x128 (concatenate S128 0 [⟨S32, m ((c : Thread nD τ).loc main_arg2)⟩, ⟨S96, broadcastInDim S96 ![] bcast_S_S96 (constant (F := Ideal) S_ .f32 0x00000000#32)⟩] concatenates_S32_S96_S128_d0) shapeCasts_S128_S1x128 := by
  show StableHlo.after _ _ _ = _
  simp only [hostOps0, hostOps0_1, hostOps0_2, List.flatten_cons, List.flatten_nil, List.cons_append, List.nil_append, List.append_nil]
  simp only [StableHlo.after_cons, StableHlo.after_nil]
  after_results_simp
  after_results_loop
  rfl

/-- The padded step bias at a lane. -/
theorem r14 (l : Fin 128) : V m c main_v14 (ix2 0 l) = if h : l.val < 32 then m ((c : Thread nD τ).loc main_arg2) (ix1 ⟨l, h⟩) else (0 : EReal) := by
  rw [V14]
  pointwise

/-- The skip weight, repeated over a head's columns. -/
theorem V11 : V m c main_v11 = shapeCast S1x2048 (shapeCast S2048 (broadcastInDim S32x64 ![0] bcast_S32_S32x64_0 (m ((c : Thread nD τ).loc main_arg4))) shapeCasts_S32x64_S2048) shapeCasts_S2048_S1x2048 := by
  show StableHlo.after _ _ _ = _
  simp only [hostOps0, hostOps0_1, hostOps0_2, List.flatten_cons, List.flatten_nil, List.cons_append, List.nil_append, List.append_nil]
  simp only [StableHlo.after_cons, StableHlo.after_nil]
  after_results_simp
  rfl

/-- The repeated skip weight at a column. -/
theorem r11 (l : Fin 2048) : V m c main_v11 (ix2 0 l) = m ((c : Thread nD τ).loc main_arg4) (ix1 ⟨l / 64, by omega⟩) := by
  rw [V11]
  pointwise
/-- The head of a column, as the host computes it: the floor of the column's number by 64. -/
def headw : IVec S2048 32 :=
  let k64 : IVec S2048 32 := broadcastInDim S2048 ![] bcast_S_S2048 (constantI S_ 32 64#32)
  let q : IVec S2048 32 := Host.divsi (iotaInDim S2048 32 0) k64
  select (andi (cmpi .ne (signi (iotaInDim S2048 32 0)) (broadcastInDim S2048 ![] bcast_S_S2048 (signi (constantI S_ 32 64#32))))
      (cmpi .ne (Host.remsi (iotaInDim S2048 32 0) k64) (broadcastInDim S2048 ![] bcast_S_S2048 (constantI S_ 32 0#32))))
    (subi q (broadcastInDim S2048 ![] bcast_S_S2048 (constantI S_ 32 1#32))) q

/-- The table that spreads a head over its columns. -/
theorem V8 : V m c main_v8 = uitofp (F := Ideal) .bf16 (cmpi .eq (broadcastInDim S128x2048 ![0, 1] bcast_S128x1_S128x2048_0_1 (broadcastInDim S128x1 ![0] bcast_S128_S128x1_0 (iotaInDim S128 32 0)))
      (broadcastInDim S128x2048 ![0, 1] bcast_S1x2048_S128x2048_0_1 (broadcastInDim S1x2048 ![1] bcast_S2048_S1x2048_1 headw))) := by
  show StableHlo.after _ _ _ = _
  simp only [hostOps0, hostOps0_1, hostOps0_2, List.flatten_cons, List.flatten_nil, List.cons_append, List.nil_append, List.append_nil]
  simp only [StableHlo.after_cons, StableHlo.after_nil]
  after_results_simp
  rfl

/-- The head of a column. -/
theorem head_eq (l : Fin 2048) : headw (ix1 l) = BitVec.ofNat 32 (l / 64) := by
  pointwise [headw]
  revert l
  decide +kernel

/-- The table at a head and a column. -/
theorem r8 (h : Fin 128) (l : Fin 2048) : V m c main_v8 (ix2 h l) = (((if h.val = l.val / 64 then 1 else 0 : ℝ)) : EReal) := by
  rw [V8]
  pointwise
  rw [head_eq]
  have hh := h.isLt
  have hl := l.isLt
  by_cases e : h.val = l.val / 64
  · rw [e, if_pos rfl]
    show (((IntOp.cmpi _ _ _).toNat : ℝ) : EReal) = _
    rw [show IntOp.cmpi .eq (BitVec.ofNat 32 (l.val / 64)) (BitVec.ofNat 32 (l.val / 64)) = 1#1 by simp [IntOp.cmpi]]
    simp
  · rw [if_neg e]
    show (((IntOp.cmpi _ _ _).toNat : ℝ) : EReal) = _
    have : BitVec.ofNat 32 h.val ≠ BitVec.ofNat 32 (l.val / 64) := fun k => e (by
      have := congrArg BitVec.toNat k
      simp only [BitVec.toNat_ofNat] at this
      omega)
    rw [WordCmp.cmpi_eq_eq, decide_eq_false this]
    simp

/-- The padded decay exponent. -/
theorem V17 : V m c main_v17 = shapeCast S1x128 (concatenate S128 0 [⟨S32, m ((c : Thread nD τ).loc main_arg3)⟩, ⟨S96, broadcastInDim S96 ![] bcast_S_S96 (constant (F := Ideal) S_ .f32 0x00000000#32)⟩] concatenates_S32_S96_S128_d0) shapeCasts_S128_S1x128 := by
  show StableHlo.after _ _ _ = _
  simp only [hostOps0, hostOps0_1, hostOps0_2, List.flatten_cons, List.flatten_nil, List.cons_append, List.nil_append, List.append_nil]
  simp only [StableHlo.after_cons, StableHlo.after_nil]
  after_results_simp
  after_results_loop
  rfl

/-- The padded decay exponent at a lane. -/
theorem r17 (l : Fin 128) : V m c main_v17 (ix2 0 l) = if h : l.val < 32 then m ((c : Thread nD τ).loc main_arg3) (ix1 ⟨l, h⟩) else (0 : EReal) := by
  rw [V17]
  pointwise

/-- The step inputs of a block. -/
theorem blk2 (t : Fin cfg0.N) (i l : Fin 128) :
    iblk m c 2 t (ix2 i l) = m ((c : Thread nD τ).loc main_arg0) (ix2 ⟨128 * t + i, by have := (idx t).2.2.2.2.2.2.2.2.2; omega⟩ ⟨17152 + l.val, by omega⟩) := by
  blk_point [iblk, V, idx t]

/-- The kept rows of a stretch. -/
theorem blk3 (t : Fin cfg0.N) (i : Fin 8) (l : Fin 3072) :
    iblk m c 3 t (ix3 0 i l) = m ((c : Thread nD τ).loc main_arg1) (ix3 ⟨(t / 16 + 1) * 2 - 1, by have := (idx t).2.2.2.2.2.2.2.2.2; omega⟩ i l) := by
  blk_point [iblk, V, idx t]

/-- Window 4 is its array. -/
theorem blk4 (t : Fin cfg0.N) : iblk m c 4 t = V m c main_v14 := by
  blk_ext! [iblk, idx t]

/-- Window 5 is its array. -/
theorem blk5 (t : Fin cfg0.N) : iblk m c 5 t = V m c main_v17 := by
  blk_ext! [iblk, idx t]

/-- Window 6 is its array. -/
theorem blk6 (t : Fin cfg0.N) : iblk m c 6 t = V m c main_v11 := by
  blk_ext! [iblk, idx t]

/-- Window 7 is its array. -/
theorem blk7 (t : Fin cfg0.N) : iblk m c 7 t = V m c main_v18 := by
  blk_ext! [iblk, idx t]

/-- Window 8 is its array. -/
theorem blk8 (t : Fin cfg0.N) : iblk m c 8 t = V m c main_v8 := by
  blk_ext! [iblk, idx t]

/-- The gate rows of a block. -/
theorem blk0 (t : Fin cfg0.N) (i : Fin 128) (l : Fin 2048) :
    X0_0 m c t (ix2 i l) = m ((c : Thread nD τ).loc main_arg0) (ix2 ⟨128 * t + i, by have := (idx t).2.2.2.2.2.2.2.2.2; omega⟩ ⟨14336 + l.val, by omega⟩) := by
  refine (dif_pos (moved0_0 t (ix2 i l))).trans ?_
  blk_point [iblk, V, idx t]

/-- The input rows of a block. -/
theorem blk1 (t : Fin cfg0.N) (i : Fin 128) (l : Fin 3072) :
    X0_1 m c t (ix2 i l) = m ((c : Thread nD τ).loc main_arg0) (ix2 ⟨128 * t + i, by have := (idx t).2.2.2.2.2.2.2.2.2; omega⟩ ⟨6144 + l.val, by omega⟩) := by
  refine (dif_pos (moved0_1 t (ix2 i l))).trans ?_
  blk_point [iblk, V, idx t]

end Cert.KernelIdeal.Scan

end
-- ==== Proof.ScanSpec.lean ====
/- The selective scan over the real numbers as a function of the projected rows: steps, states, read-outs, and the gated
   and normalised rows; and that a block of 128 rows computes its part of it. -/
module

public import proofs.«01_k».proof.Proof.ScanPoint

@[expose] public section

set_option maxRecDepth 16384

noncomputable section

namespace Cert.ScanMath

open Idealize.ShloMosaic Cert.KernelIdeal.Scan

/-- The step of row `r`, head `h`. -/
def stepS (U : ℕ → ℕ → ℝ) (bi : ℕ → ℝ) (r h : ℕ) : ℝ := softplus (U r (17152 + h) + bi h)

/-- The log decay of row `r`, head `h`. -/
def logS (U : ℕ → ℕ → ℝ) (bi al : ℕ → ℝ) (r h : ℕ) : ℝ := stepS U bi r h * (-Real.exp (al h))

/-- The update of the state at row `r`: state row `n`, column `p`. -/
def updS (U : ℕ → ℕ → ℝ) (bi : ℕ → ℝ) (n p r : ℕ) : ℝ :=
  stepS U bi r (p / 64) * U r (6144 + p) * U r (6144 + (2048 + 128 * (p / 512) + n))

/-- The state of sequence `b` after `t` rows: state row `n`, column `p`. -/
def stS (U : ℕ → ℕ → ℝ) (bi al : ℕ → ℝ) (b n p t : ℕ) : ℝ :=
  st (fun j => logS U bi al (2048 * b + j) (p / 64)) (fun j => updS U bi n p (2048 * b + j)) 0 t

/-- The read-out of row `t` of sequence `b` at column `p`. -/
def yS (U : ℕ → ℕ → ℝ) (bi al : ℕ → ℝ) (b t p : ℕ) : ℝ :=
  ∑ n : Fin 128, U (2048 * b + t) (6144 + (2560 + 128 * (p / 512) + n)) * stS U bi al b n p (t + 1)

/-- The read-out with the skip term. -/
def preS (U : ℕ → ℕ → ℝ) (bi al : ℕ → ℝ) (sk : ℕ → EReal) (b t p : ℕ) : EReal :=
  ((yS U bi al b t p : ℝ) : EReal) + sk (p / 64) * ((U (2048 * b + t) (6144 + p) : ℝ) : EReal)

/-- The output row: gated, normalised over its group of 512 columns, weighted. -/
def rowS (U : ℕ → ℕ → ℝ) (bi al : ℕ → ℝ) (sk nw : ℕ → EReal) (b t p : ℕ) : EReal :=
  gated (fun q => preS U bi al sk b t (512 * (p / 512) + q)) (fun q => nw (512 * (p / 512) + q)) (fun q => U (2048 * b + t) (14336 + (512 * (p / 512) + q))) (p % 512)

/-- The log decay of a block's row is the sequence's. -/
theorem wv_eq (U : ℕ → ℕ → ℝ) (bi al : ℕ → ℝ) (r0 i h : ℕ) (hh : h < 32) :
    wv (fun i l => U (r0 + i) (17152 + l)) bi al i h = logS U bi al (r0 + i) h := by
  unfold wv dtv logS stepS
  rw [if_pos hh]

theorem dtv_eq (U : ℕ → ℕ → ℝ) (bi : ℕ → ℝ) (r0 i h : ℕ) (hh : h < 32) :
    dtv (fun i l => U (r0 + i) (17152 + l)) bi i h = stepS U bi (r0 + i) h := by
  unfold dtv stepS
  rw [if_pos hh]

/-- Running `k` rows from the state after `a` rows. -/
theorem stS_add (U : ℕ → ℕ → ℝ) (bi al : ℕ → ℝ) (b n p a k : ℕ) :
    st (fun j => logS U bi al (2048 * b + a + j) (p / 64)) (fun j => updS U bi n p (2048 * b + a + j)) (stS U bi al b n p a) k = stS U bi al b n p (a + k) := by
  unfold stS
  rw [← st_add]
  simp only [Nat.add_assoc]

/-- The accumulator's row of block `k` of sequence `b` is the sequence's read-out. -/
theorem acc_block (U : ℕ → ℕ → ℝ) (bi al : ℕ → ℝ) (sk : ℕ → EReal) (b k g i p : ℕ) (hg : g < 4) (hi : i < 128) (hp : p < 512) :
    accv (cumv (fun i l => U (2048 * b + 128 * k + i) (17152 + l)) bi al) (dtv (fun i l => U (2048 * b + 128 * k + i) (17152 + l)) bi)
        (fun i l => U (2048 * b + 128 * k + i) (6144 + l)) (fun g n p => ((stS U bi al b n (512 * g + p) (128 * k) : ℝ) : EReal)) (fun l => sk (l / 64)) g i p
      = preS U bi al sk b (128 * k + i) (512 * g + p) := by
  have h1 : (512 * g + p) / 64 = 8 * g + p / 64 := by omega
  have h2 : (512 * g + p) / 512 = g := by omega
  have hh : 8 * g + p / 64 < 32 := by omega
  unfold accv preS
  rw [offv_coe _ _ (fun g n p => stS U bi al b n (512 * g + p) (128 * k)), add_right_comm, ← EReal.coe_add]
  congr 2
  · rw [add_comm]
    have e := chunk_row 128 128 i hi (fun j => logS U bi al (2048 * b + 128 * k + j) (8 * g + p / 64)) (fun j => stepS U bi (2048 * b + 128 * k + j) (8 * g + p / 64))
      (fun j => U (2048 * b + 128 * k + j) (6144 + (512 * g + p))) (fun s n => U (2048 * b + 128 * k + s) (6144 + (2048 + 128 * g + n)))
      (fun s n => U (2048 * b + 128 * k + s) (6144 + (2560 + 128 * g + n))) (fun n => stS U bi al b n (512 * g + p) (128 * k))
    have e2 : ∀ n : Fin 128, st (fun j => logS U bi al (2048 * b + 128 * k + j) (8 * g + p / 64))
        (fun s => stepS U bi (2048 * b + 128 * k + s) (8 * g + p / 64) * U (2048 * b + 128 * k + s) (6144 + (512 * g + p)) * U (2048 * b + 128 * k + s) (6144 + (2048 + 128 * g + n)))
        (stS U bi al b n (512 * g + p) (128 * k)) (i + 1) = stS U bi al b n (512 * g + p) (128 * k + i + 1) := fun n => by
      rw [Nat.add_assoc (128 * k), ← stS_add]
      unfold updS
      rw [h1, h2]
    simp only [e2] at e
    unfold diagv yS cumv
    simp only [wv_eq U bi al _ _ _ hh, dtv_eq U bi _ _ _ hh, h1, h2]
    rw [e]
    simp only [Nat.add_assoc]
  · simp only [Nat.add_assoc]

/-- The state block `k` of sequence `b` leaves is the sequence's. -/
theorem next_block (U : ℕ → ℕ → ℝ) (bi al : ℕ → ℝ) (b k g n p : ℕ) (hg : g < 4) (hp : p < 512) :
    nextv (cumv (fun i l => U (2048 * b + 128 * k + i) (17152 + l)) bi al) (dtv (fun i l => U (2048 * b + 128 * k + i) (17152 + l)) bi)
        (fun i l => U (2048 * b + 128 * k + i) (6144 + l)) (fun g n p => stS U bi al b n (512 * g + p) (128 * k)) g n p
      = stS U bi al b n (512 * g + p) (128 * (k + 1)) := by
  have h1 : (512 * g + p) / 64 = 8 * g + p / 64 := by omega
  have h2 : (512 * g + p) / 512 = g := by omega
  have hh : 8 * g + p / 64 < 32 := by omega
  have e := chunk_state 127 (fun j => logS U bi al (2048 * b + 128 * k + j) (8 * g + p / 64)) (fun j => stepS U bi (2048 * b + 128 * k + j) (8 * g + p / 64))
      (fun j => U (2048 * b + 128 * k + j) (6144 + (512 * g + p))) (fun s => U (2048 * b + 128 * k + s) (6144 + (2048 + 128 * g + n)))
      (stS U bi al b n (512 * g + p) (128 * k))
  rw [show 128 * (k + 1) = 128 * k + 128 by ring, ← stS_add]
  unfold updS
  rw [h1, h2]
  refine Eq.trans ?_ e
  unfold nextv decayv weightv cumv
  simp only [wv_eq U bi al _ _ _ hh, dtv_eq U bi _ _ _ hh, h1]

/-- The three real arrays the scan starts from, and what they are the values of. -/
structure Reals (u : Fin 8192 → Fin 17408 → EReal) (b a : Fin 32 → EReal) (U : ℕ → ℕ → ℝ) (bi al : ℕ → ℝ) : Prop where
  hu : ∀ r k, u r k = ((U r k : ℝ) : EReal)
  hb : ∀ h, b h = ((bi h : ℝ) : EReal)
  ha : ∀ h, a h = ((al h : ℝ) : EReal)
  hbz : ∀ h, 32 ≤ h → bi h = 0
  haz : ∀ h, 32 ≤ h → al h = 0

/-- Finite arrays are the values of real ones. -/
theorem Reals.of_finite (u : Fin 8192 → Fin 17408 → EReal) (b a : Fin 32 → EReal) (hu : ∀ r k, u r k ≠ ⊤ ∧ u r k ≠ ⊥)
    (hb : ∀ h, b h ≠ ⊤ ∧ b h ≠ ⊥) (ha : ∀ h, a h ≠ ⊤ ∧ a h ≠ ⊥) :
    Reals u b a (fun r k => if h : r < 8192 ∧ k < 17408 then (u ⟨r, h.1⟩ ⟨k, h.2⟩).toReal else 0)
      (fun h => if k : h < 32 then (b ⟨h, k⟩).toReal else 0) (fun h => if k : h < 32 then (a ⟨h, k⟩).toReal else 0) where
  hu r k := by
    show _ = ((dite _ _ _ : ℝ) : EReal)
    rw [dif_pos ⟨r.isLt, k.isLt⟩, EReal.coe_toReal (hu r k).1 (hu r k).2]
  hb h := by
    show _ = ((dite _ _ _ : ℝ) : EReal)
    rw [dif_pos h.isLt, EReal.coe_toReal (hb h).1 (hb h).2]
  ha h := by
    show _ = ((dite _ _ _ : ℝ) : EReal)
    rw [dif_pos h.isLt, EReal.coe_toReal (ha h).1 (ha h).2]
  hbz h k := dif_neg (by omega)
  haz h k := dif_neg (by omega)

end Cert.ScanMath

end
-- ==== Proof.ScanKernel.lean ====
/- The scan kernel's run over all blocks: what its three results hold. -/
module

public import proofs.«01_k».proof.Proof.ScanReads
public import proofs.«01_k».proof.Proof.ScanSpec

@[expose] public section

set_option maxRecDepth 16384

noncomputable section

namespace Cert.KernelIdeal.Scan

open Idealize.ShloMosaic Idealize.ShloMosaic.TcCoe Cert.KernelIdeal.Gen Cert.KernelIdeal Cert.ScanMath Cert.KernelIdeal.Value

variable {m : (ℓ : Loc nD τ sig) → Buf (Elt Ideal) ℓ} {c : Dev nD} {U : ℕ → ℕ → ℝ} {bi al : ℕ → ℝ} {sk nw : ℕ → EReal}

/-- The arguments of a launch as the scan's arrays. -/
structure Held (m : (ℓ : Loc nD τ sig) → Buf (Elt Ideal) ℓ) (c : Dev nD) (U : ℕ → ℕ → ℝ) (bi al : ℕ → ℝ) (sk nw : ℕ → EReal) : Prop where
  re : Reals (fun r k => m ((c : Thread nD τ).loc main_arg0) (ix2 r k)) (fun h => m ((c : Thread nD τ).loc main_arg2) (ix1 h)) (fun h => m ((c : Thread nD τ).loc main_arg3) (ix1 h)) U bi al
  hs : ∀ h : Fin 32, m ((c : Thread nD τ).loc main_arg4) (ix1 h) = sk h
  hw : ∀ p : Fin 2048, m ((c : Thread nD τ).loc main_arg5) (ix1 p) = nw p

variable (A : Held m c U bi al sk nw)
include A

/-- What a block's operands hold, from any state. -/
theorem block_at (t : Fin cfg0.N) (b k : ℕ) (ht : t.val = 16 * b + k) (S : Vec Ideal S4x128x512 .f32) (H : ℕ → ℕ → ℕ → ℝ)
    (hS : ∀ (g : Fin 4) (n : Fin 128) (p : Fin 512), S (ix3 g n p) = ((H g n p : ℝ) : EReal)) :
    Blk (X0_0 m c t) (X0_1 m c t) (iblk m c 2 t) (iblk m c 4 t) (iblk m c 5 t) (iblk m c 6 t) (iblk m c 7 t) (iblk m c 8 t) S
      (fun i p => U (2048 * b + 128 * k + i) (14336 + p)) (fun i p => U (2048 * b + 128 * k + i) (6144 + p)) (fun i p => U (2048 * b + 128 * k + i) (17152 + p))
      bi al (fun l => sk (l / 64)) nw H where
  h0 i p := by
    rw [blk0, A.re.hu]
    show ((U (128 * t.val + i.val) _ : ℝ) : EReal) = _
    rw [show 128 * t.val + i.val = 2048 * b + 128 * k + i.val by omega]
  h1 i p := by
    rw [blk1, A.re.hu]
    show ((U (128 * t.val + i.val) _ : ℝ) : EReal) = _
    rw [show 128 * t.val + i.val = 2048 * b + 128 * k + i.val by omega]
  h2 i p := by
    rw [blk2, A.re.hu]
    show ((U (128 * t.val + i.val) _ : ℝ) : EReal) = _
    rw [show 128 * t.val + i.val = 2048 * b + 128 * k + i.val by omega]
  h4 l := by
    rw [blk4]
    refine (r14 m c l).trans ?_
    split
    · exact A.re.hb _
    · rw [A.re.hbz _ (by omega)]; rfl
  h5 l := by
    rw [blk5]
    refine (r17 m c l).trans ?_
    split
    · exact A.re.ha _
    · rw [A.re.haz _ (by omega)]; rfl
  h6 l := by
    rw [blk6]
    exact (r11 m c l).trans (A.hs _)
  h7 l := by
    rw [blk7]
    exact (r18 m c l).trans (A.hw _)
  h8 h l := by
    rw [blk8]
    exact r8 m c h l
  hS := hS

omit A in
/-- What the carried tuple holds after block `k` of sequence `b`. -/
structure After (m : (ℓ : Loc nD τ sig) → Buf (Elt Ideal) ℓ) (c : Dev nD) (U : ℕ → ℕ → ℝ) (bi al : ℕ → ℝ) (sk nw : ℕ → EReal) (b k : ℕ)
    (s : Vec Ideal S128x2048 .bf16 × Vec Ideal S1x3x3072 .f32 × Vec Ideal S1x2048x128 .f32 × Vec Ideal S4x128x512 .f32) : Prop where
  rows : ∀ (a : Fin 128) (p : Fin 2048), s.1 (ix2 a p) = rowS U bi al sk nw b (128 * k + a) p
  state : ∀ (g : Fin 4) (n : Fin 128) (p : Fin 512), s.2.2.2 (ix3 g n p) = ((stS U bi al b n (512 * g + p) (128 * (k + 1)) : ℝ) : EReal)
  last : k = 15 → ∀ (r : Fin 2048) (n : Fin 128), s.2.2.1 (ix3 0 r n) = ((stS U bi al b n r 2048 : ℝ) : EReal)
  tail : k = 15 → ∀ (hb : b < 4) (i : Fin 3) (j : Fin 3072), s.2.1 (ix3 0 i j) = m ((c : Thread nD τ).loc main_arg1) (ix3 ⟨(b + 1) * 2 - 1, by omega⟩ ⟨5 + i.val, by omega⟩ j)

omit A in
/-- The gated rows depend on the columns of the group only. -/
theorem gated_congr (y y' w w' : ℕ → EReal) (z z' : ℕ → ℝ) (p : ℕ) (hp : p < 512) (hy : ∀ q, q < 512 → y q = y' q) (hw : ∀ q, w q = w' q) (hz : ∀ q, z q = z' q) :
    gated y w z p = gated y' w' z' p := by
  unfold gated
  rw [hy p hp, hw, hz, Finset.sum_congr rfl fun q _ => by rw [hy q.val q.isLt, hz]]

omit A in
/-- The rows of a block, as the sequence's rows. -/
theorem rows_eq {x0 x1 x2 x4 x5 x6 x7 x8 S} (b k : ℕ)
    (B : Blk x0 x1 x2 x4 x5 x6 x7 x8 S (fun i p => U (2048 * b + 128 * k + i) (14336 + p)) (fun i p => U (2048 * b + 128 * k + i) (6144 + p)) (fun i p => U (2048 * b + 128 * k + i) (17152 + p))
      bi al (fun l => sk (l / 64)) nw (fun g n p => stS U bi al b n (512 * g + p) (128 * k))) (a : Fin 128) (p : Fin 2048) :
    B.rowv (p.val / 512) a (p.val % 512) = rowS U bi al sk nw b (128 * k + a) p := by
  have hp := p.isLt
  have e : ∀ q : ℕ, q < 512 → accv (cumv (fun i l => U (2048 * b + 128 * k + i) (17152 + l)) bi al) (dtv (fun i l => U (2048 * b + 128 * k + i) (17152 + l)) bi)
        (fun i l => U (2048 * b + 128 * k + i) (6144 + l)) (fun g n p => ((stS U bi al b n (512 * g + p) (128 * k) : ℝ) : EReal)) (fun l => sk (l / 64)) (p.val / 512) a q
      = preS U bi al sk b (128 * k + a) (512 * (p.val / 512) + q) := fun q hq => acc_block U bi al sk b k (p.val / 512) a q (by omega) a.isLt hq
  unfold Blk.rowv rowS
  refine gated_congr _ _ _ _ _ _ _ (Nat.mod_lt _ (by norm_num)) e (fun _ => rfl) fun q => ?_
  simp only [Nat.add_assoc]

omit A in
/-- Row `r` of the turned state. -/
theorem last_eq (b k : ℕ) (hk : k = 15) (r : Fin 2048) (n : Fin 128) :
    nextv (cumv (fun i l => U (2048 * b + 128 * k + i) (17152 + l)) bi al) (dtv (fun i l => U (2048 * b + 128 * k + i) (17152 + l)) bi)
        (fun i l => U (2048 * b + 128 * k + i) (6144 + l)) (fun g n p => stS U bi al b n (512 * g + p) (128 * k)) (r.val / 512) n (r.val % 512)
      = stS U bi al b n r 2048 := by
  have hr := r.isLt
  rw [next_block U bi al b k _ _ _ (by omega) (Nat.mod_lt _ (by norm_num)), show 512 * (r.val / 512) + r.val % 512 = r.val by omega, hk]

/-- One block. -/
theorem after_step (t : Fin cfg0.N) (b k : ℕ) (ht : t.val = 16 * b + k) (hk : k < 16)
    (acc : Vec Ideal S128x2048 .bf16 × Vec Ideal S1x3x3072 .f32 × Vec Ideal S1x2048x128 .f32 × Vec Ideal S4x128x512 .f32)
    (hacc : k ≠ 0 → ∀ (g : Fin 4) (n : Fin 128) (p : Fin 512), acc.2.2.2 (ix3 g n p) = ((stS U bi al b n (512 * g + p) (128 * k) : ℝ) : EReal)) :
    After m c U bi al sk nw b k (stAt0 m c t.val t.isLt acc) := by
  by_cases h0 : k = 0
  · have B := block_at A t b k ht (k0_pay7 (F := Ideal)) (fun g n p => stS U bi al b n (512 * g + p) (128 * k)) (fun g n p => by
      rw [zero_state]; subst h0; rfl)
    rw [stAt0_A m c t acc (by omega) (by omega) (by omega)]
    exact {
      rows := fun a p => by
          dsimp only
          rw [rows_A (b := B)]
          exact rows_eq b k B a p
      state := fun g n p => by
          dsimp only
          rw [next_A (b := B), next_block U bi al b k g n p g.isLt p.isLt]
      last := fun h => absurd h (by omega)
      tail := fun h => absurd h (by omega) }
  · have B := block_at A t b k ht acc.2.2.2 (fun g n p => stS U bi al b n (512 * g + p) (128 * k)) (hacc h0)
    by_cases h1 : k = 15
    · rw [stAt0_C m c t acc (by omega) (by omega) (by omega)]
      exact {
        rows := fun a p => by
          dsimp only
          rw [rows_C (b := B)]
          exact rows_eq b k B a p
        state := fun g n p => by
          dsimp only
          rw [next_C (b := B), next_block U bi al b k g n p g.isLt p.isLt]
        last := fun h r n => by
          dsimp only
          rw [last_C (b := B), last_eq b k h r n]
        tail := fun h hb i j => by
          dsimp only
          rw [tail_C]
          exact ((blk3 m c t _ j).trans (by congr 2; apply Fin.ext; show (t.val / 16 + 1) * 2 - 1 = (b + 1) * 2 - 1; omega)) }
    · rw [stAt0_B m c t acc (by omega) (by omega) (by omega)]
      exact {
        rows := fun a p => by
          dsimp only
          rw [rows_B (b := B)]
          exact rows_eq b k B a p
        state := fun g n p => by
          dsimp only
          rw [next_B (b := B), next_block U bi al b k g n p g.isLt p.isLt]
        last := fun h => absurd h h1
        tail := fun h => absurd h h1 }

/-- The carried tuple after block `j`. -/
theorem after_at (j : ℕ) (hj : 0 + j < cfg0.N) :
    After m c U bi al sk nw (j / 16) (j % 16) (Pipeline.accAt (fun n h => stAt0 m c n h junk0) (stAt0 m c) 0 j hj) := by
  induction j with
  | zero =>
    rw [Pipeline.accAt_zero]
    exact after_step A ⟨0, by omega⟩ 0 0 rfl (by norm_num) _ (fun h => absurd rfl h)
  | succ j ih =>
    rw [Pipeline.accAt_succ]
    have e := after_step A ⟨0 + (j + 1), hj⟩ ((j + 1) / 16) ((j + 1) % 16) (by show 0 + (j + 1) = _; omega) (by omega)
      (Pipeline.accAt (fun n h => stAt0 m c n h junk0) (stAt0 m c) 0 j (by omega)) (fun h g n p => by
        refine ((ih (by omega)).state g n p).trans ?_
        rw [show j / 16 = (j + 1) / 16 by omega, show j % 16 + 1 = (j + 1) % 16 by omega])
    exact e

/-- The output rows. -/
theorem G9_eq (r : Fin 8192) (p : Fin 2048) : G9 m c (ix2 r p) = rowS U bi al sk nw (r / 2048) (r % 2048) p := by
  have hr := r.isLt
  have hp := p.isLt
  have hpt : pt9Of (ix2 r p) = r.val / 128 := by show 1 * (r.val / 128 - 0) + 1 * (p.val / 2048 - 0) = _; omega
  have hN : cfg0.N = 64 := N_0
  unfold G9
  rw [dif_pos (by have := hN; omega)]
  refine Eq.trans ?_ ((after_at A (pt9Of (ix2 r p)) (by have := hN; omega)).rows ⟨r.val % 128, Nat.mod_lt _ (by norm_num)⟩ ⟨p.val % 2048, Nat.mod_lt _ (by norm_num)⟩ |>.trans ?_)
  · refine congrArg _ ?_
    funext a
    match a with
    | ⟨0, _⟩ => rfl
    | ⟨1, _⟩ => rfl
  · rw [hpt]
    show rowS U bi al sk nw (r.val / 128 / 16) (128 * (r.val / 128 % 16) + r.val % 128) (p.val % 2048) = _
    congr 1 <;> omega

/-- The final states. -/
theorem G11_eq (b : Fin 4) (r : Fin 2048) (n : Fin 128) : G11 m c (ix3 b r n) = ((stS U bi al b n r 2048 : ℝ) : EReal) := by
  have hb := b.isLt
  have hr := r.isLt
  have hn := n.isLt
  have hpt : pt11Of (ix3 b r n) = 16 * b.val + 15 := by show 16 * (1 * (b.val / 1 - 0) + 1 * (r.val / 2048 - 0) + 1 * (n.val / 128 - 0)) + 15 = _; omega
  have hN : cfg0.N = 64 := N_0
  unfold G11
  rw [dif_pos (by have := hN; omega)]
  refine Eq.trans ?_ ((after_at A (pt11Of (ix3 b r n)) (by have := hN; omega)).last (by omega) ⟨r.val % 2048, Nat.mod_lt _ (by norm_num)⟩ ⟨n.val % 128, Nat.mod_lt _ (by norm_num)⟩ |>.trans ?_)
  · refine congrArg _ ?_
    funext a
    match a with
    | ⟨0, _⟩ => apply Fin.ext; show b.val % 1 = 0; omega
    | ⟨1, _⟩ => rfl
    | ⟨2, _⟩ => rfl
  · rw [hpt]
    show ((stS U bi al ((16 * b.val + 15) / 16) (n.val % 128) (r.val % 2048) 2048 : ℝ) : EReal) = _
    congr 2 <;> omega

/-- The rows kept for the next stretch. -/
theorem G10_eq (b : Fin 4) (i : Fin 3) (j : Fin 3072) :
    G10 m c (ix3 b i j) = m ((c : Thread nD τ).loc main_arg1) (ix3 ⟨(b.val + 1) * 2 - 1, by omega⟩ ⟨5 + i.val, by omega⟩ j) := by
  have hb := b.isLt
  have hi := i.isLt
  have hj := j.isLt
  have hpt : pt10Of (ix3 b i j) = 16 * b.val + 15 := by show 16 * (1 * (b.val / 1 - 0) + 1 * (i.val / 3 - 0) + 1 * (j.val / 3072 - 0)) + 15 = _; omega
  have hN : cfg0.N = 64 := N_0
  unfold G10
  rw [dif_pos (by have := hN; omega)]
  refine Eq.trans ?_ ((after_at A (pt10Of (ix3 b i j)) (by have := hN; omega)).tail (by omega) (by omega) ⟨i.val % 3, Nat.mod_lt _ (by norm_num)⟩ ⟨j.val % 3072, Nat.mod_lt _ (by norm_num)⟩ |>.trans ?_)
  · refine congrArg _ ?_
    funext a
    match a with
    | ⟨0, _⟩ => apply Fin.ext; show b.val % 1 = 0; omega
    | ⟨1, _⟩ => rfl
    | ⟨2, _⟩ => rfl
  · congr 2 <;> apply Fin.ext <;> show _ = _ <;> simp only [hpt] <;> omega

end Cert.KernelIdeal.Scan

end
-- ==== Proof.ScanLoop.lean ====
/- The reference loop: one chunk of 64 rows from the contents before it, and what every chunk leaves. -/
module

public import proofs.«01_k».proof.Proof.Gen.ReferenceIdeal.Run
public import proofs.«01_k».proof.Proof.ScanSpec
public import Idealize.ShloMosaic.Lib.Claim
public import Idealize.ShloMosaic.Lib.Pointwise
public import Idealize.ShloMosaic.Lib.WordCmp

@[expose] public section

set_option maxRecDepth 16384

noncomputable section

namespace Cert.ReferenceIdeal.Scan

open Idealize.ShloMosaic Idealize.ShloMosaic.TcCoe Cert.ReferenceIdeal Cert.ReferenceIdeal.Gen Cert.ReferenceIdeal.Value Cert.ScanMath Idealize.ShloMosaic.StableHlo

/-- A prefix sum written as a window of 64 padded 63 low. -/
theorem prefix_sum (l : ℕ) (hl : l < 64) (f : ℕ → ℝ) :
    ∑ w : Fin 64, (if 63 ≤ l + w.val then f (l + w.val - 63) else 0) = ∑ j ∈ Finset.range (l + 1), f j := by
  rw [Fin.sum_univ_eq_sum_range (fun w => if 63 ≤ l + w then f (l + w - 63) else 0) 64]
  rw [show 64 = (63 - l) + (l + 1) by omega, Finset.sum_range_add]
  rw [Finset.sum_eq_zero (fun j hj => ?_), zero_add]
  · refine Finset.sum_congr rfl fun j hj => ?_
    rw [if_pos (by omega)]
    congr 1
    omega
  · have := Finset.mem_range.mp hj
    rw [if_neg (by omega)]

/-- Folding an addition over a list of numbers is the sum. -/
theorem foldl_add (n : ℕ) (F : Fin n → EReal) (v : EReal) :
    (List.finRange n).foldl (fun r k => r + F k) v = v + ∑ k, F k := by
  rw [Fin.sum_univ_def, ← List.foldl_map (g := fun r x => r + x), List.sum_eq_foldl]
  generalize (List.finRange n).map F = L
  induction L generalizing v with
  | nil => simp
  | cons a L ih =>
    rw [List.foldl_cons, List.foldl_cons, ih, ih (0 + a), zero_add, add_assoc]

/-- The window of 64 rows as the rows. -/
def winEquiv : (⟨4, ![1, 64, 1, 1]⟩ : Shape).Idx ≃ Fin 64 where
  toFun w := w 1
  invFun l := ix4 0 l 0 0
  left_inv w := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
  right_inv l := rfl

/-- The window's position `w` falls on a row. -/
abbrev InWin (b : Fin 4) (l : Fin 64) (g : Fin 4) (r : Fin 8) (w : (⟨4, ![1, 64, 1, 1]⟩ : Shape).Idx) : Prop :=
  ∀ (a : Fin 4), (![0, 63, 0, 0] : Fin 4 → ℕ) a ≤ (ix4 b l g r a).val * (![1, 1, 1, 1] : Fin 4 → ℕ) a + (w a).val ∧
    (ix4 b l g r a).val * (![1, 1, 1, 1] : Fin 4 → ℕ) a + (w a).val - (![0, 63, 0, 0] : Fin 4 → ℕ) a < S4x64x4x8.size a

/-- One position of the window: the padding below the first row, or the row it falls on. -/
theorem key (x : S4x64x4x8.Idx → EReal) (b : Fin 4) (l : Fin 64) (g : Fin 4) (r : Fin 8) (f : ℕ → ℝ)
    (hx : ∀ l' : Fin 64, x (ix4 b l' g r) = ((f l' : ℝ) : EReal)) (w : (⟨4, ![1, 64, 1, 1]⟩ : Shape).Idx) (inst : Decidable (InWin b l g r w)) :
    @dite EReal (InWin b l g r w) inst
        (fun hin => x (fun a => ⟨(ix4 b l g r a).val * (![1, 1, 1, 1] : Fin 4 → ℕ) a + (w a).val - (![0, 63, 0, 0] : Fin 4 → ℕ) a, (hin a).2⟩))
        (fun _ => 0) = (((if 63 ≤ l.val + (w 1).val then f (l.val + (w 1).val - 63) else 0) : ℝ) : EReal) := by
  have h0 : (w 0).val = 0 := Nat.lt_one_iff.mp (w 0).isLt
  have h1 : (w 1).val < 64 := (w 1).isLt
  have h2 : (w 2).val = 0 := Nat.lt_one_iff.mp (w 2).isLt
  have h3 : (w 3).val = 0 := Nat.lt_one_iff.mp (w 3).isLt
  have hl := l.isLt
  by_cases h : 63 ≤ l.val + (w 1).val
  · rw [dif_pos, if_pos h, ← hx ⟨l.val + (w 1).val - 63, by omega⟩]
    · refine congrArg x ?_
      funext a
      match a with
      | ⟨0, _⟩ => exact Fin.ext (by show b.val * 1 + (w 0).val - 0 = b.val; omega)
      | ⟨1, _⟩ => exact Fin.ext (by show l.val * 1 + (w 1).val - 63 = l.val + (w 1).val - 63; omega)
      | ⟨2, _⟩ => exact Fin.ext (by show g.val * 1 + (w 2).val - 0 = g.val; omega)
      | ⟨3, _⟩ => exact Fin.ext (by show r.val * 1 + (w 3).val - 0 = r.val; omega)
    · intro a
      match a with
      | ⟨0, _⟩ => exact ⟨Nat.zero_le _, by show b.val * 1 + (w 0).val - 0 < 4; omega⟩
      | ⟨1, _⟩ => exact ⟨by show 63 ≤ l.val * 1 + (w 1).val; omega, by show l.val * 1 + (w 1).val - 63 < 64; omega⟩
      | ⟨2, _⟩ => exact ⟨Nat.zero_le _, by show g.val * 1 + (w 2).val - 0 < 4; omega⟩
      | ⟨3, _⟩ => exact ⟨Nat.zero_le _, by show r.val * 1 + (w 3).val - 0 < 8; omega⟩
  · rw [dif_neg, if_neg h]
    · rfl
    · intro hin
      have := (hin 1).1
      exact h (by change 63 ≤ l.val * 1 + (w 1).val at this; omega)

/-- The running sum along the rows of a block of 64, over real entries. -/
theorem cumsum_at (x : FVec Ideal S4x64x4x8 .f32) (z : FVec Ideal S_ .f32) (hz : z (Shape.Idx.first h_S_) = (0 : EReal)) (b : Fin 4) (l : Fin 64) (g : Fin 4) (r : Fin 8) (f : ℕ → ℝ)
    (hx : ∀ l' : Fin 64, x (ix4 b l' g r) = ((f l' : ℝ) : EReal)) :
    Host.reduceWindowAdd ![1, 64, 1, 1] ![1, 1, 1, 1] ![0, 63, 0, 0] ![0, 0, 0, 0] x z
      reduceWindows_S4x64x4x8_S4x64x4x8_w1s1p0_0_w64s1p63_0_w1s1p0_0_w1s1p0_0 h_S_ (ix4 b l g r) = ((∑ j ∈ Finset.range (l.val + 1), f j : ℝ) : EReal) := by
  unfold Host.reduceWindowAdd
  rw [Ideal.hostReduceWindowAdd_def]
  unfold Ideal.hostReduceWindowAdd Host.reduceWindow
  rw [hz]
  dsimp only
  rw [foldl_add]
  rw [zero_add, ← prefix_sum l l.isLt f, ← coe_sum]
  refine Fintype.sum_equiv ((Shape.rowMajor _).symm.trans winEquiv) _ _ fun n => ?_
  exact key x b l g r f hx ((Shape.rowMajor _).symm n) _

/-- The loop counter's word as a start index. -/
theorem starts6 (k : ℕ) (hk : k < 32) (v : IVec S_ 32) (hv : v = fun _ => BitVec.ofNat 32 k) (a : Fin 6) :
    ((![v, constantI S_ 32 0#32, constantI S_ 32 0#32, constantI S_ 32 0#32, constantI S_ 32 0#32, constantI S_ 32 0#32] : Fin 6 → IVec S_ 32) a (Shape.Idx.first h_S_)).toInt
      = (((![k, 0, 0, 0, 0, 0] : Fin 6 → ℕ) a : ℕ) : ℤ) := by
  subst hv
  match a with
  | ⟨0, _⟩ =>
    show (BitVec.ofNat 32 k).toInt = (k : ℤ)
    have e : (BitVec.ofNat 32 k).toNat = k := by rw [BitVec.toNat_ofNat]; exact Nat.mod_eq_of_lt (by omega)
    rw [BitVec.toInt_eq_toNat_of_lt (by rw [e]; omega), e]
  | ⟨1, _⟩ => rfl
  | ⟨2, _⟩ => rfl
  | ⟨3, _⟩ => rfl
  | ⟨4, _⟩ => rfl
  | ⟨5, _⟩ => rfl

theorem starts5 (k : ℕ) (hk : k < 32) (v : IVec S_ 32) (hv : v = fun _ => BitVec.ofNat 32 k) (a : Fin 5) :
    ((![v, constantI S_ 32 0#32, constantI S_ 32 0#32, constantI S_ 32 0#32, constantI S_ 32 0#32] : Fin 5 → IVec S_ 32) a (Shape.Idx.first h_S_)).toInt
      = (((![k, 0, 0, 0, 0] : Fin 5 → ℕ) a : ℕ) : ℤ) := by
  subst hv
  match a with
  | ⟨0, _⟩ =>
    show (BitVec.ofNat 32 k).toInt = (k : ℤ)
    have e : (BitVec.ofNat 32 k).toNat = k := by rw [BitVec.toNat_ofNat]; exact Nat.mod_eq_of_lt (by omega)
    rw [BitVec.toInt_eq_toNat_of_lt (by rw [e]; omega), e]
  | ⟨1, _⟩ => rfl
  | ⟨2, _⟩ => rfl
  | ⟨3, _⟩ => rfl
  | ⟨4, _⟩ => rfl

variable (V : Valuation τ sig (Elt Ideal))

/-- The chunk of inputs the counter points at. -/
theorem x_at (k : Fin 32) (hv : V main_v28_5 = fun _ => BitVec.ofNat 32 k) (b : Fin 4) (l : Fin 64) (g : Fin 4) (r : Fin 8) (p : Fin 64) :
    res_main_while0b_v64 V (ix5 b l g r p) = V main_v28_0 (ix6 k b l g r p) := by
  unfold res_main_while0b_v64
  rw [WordCmp.dynamicSlice_eq_extract _ _ _ _ ![k.val, 0, 0, 0, 0, 0] (by have := k.isLt; exact ⟨rfl, by intro a; match a with | ⟨0, _⟩ => (show k.val + 1 ≤ 32); omega | ⟨1, _⟩ => exact le_refl _ | ⟨2, _⟩ => exact le_refl _ | ⟨3, _⟩ => exact le_refl _ | ⟨4, _⟩ => exact le_refl _ | ⟨5, _⟩ => exact le_refl _⟩) (starts6 k k.isLt _ hv)]
  pointwise

theorem dt_at (k : Fin 32) (hv : V main_v28_5 = fun _ => BitVec.ofNat 32 k) (b : Fin 4) (l : Fin 64) (g : Fin 4) (r : Fin 8) :
    res_main_while0b_v65 V (ix4 b l g r) = V main_v28_1 (ix5 k b l g r) := by
  unfold res_main_while0b_v65
  rw [WordCmp.dynamicSlice_eq_extract _ _ _ _ ![k.val, 0, 0, 0, 0] (by have := k.isLt; exact ⟨rfl, by intro a; match a with | ⟨0, _⟩ => (show k.val + 1 ≤ 32); omega | ⟨1, _⟩ => exact le_refl _ | ⟨2, _⟩ => exact le_refl _ | ⟨3, _⟩ => exact le_refl _ | ⟨4, _⟩ => exact le_refl _⟩) (starts5 k k.isLt _ hv)]
  pointwise

theorem b_at (k : Fin 32) (hv : V main_v28_5 = fun _ => BitVec.ofNat 32 k) (b : Fin 4) (l : Fin 64) (g : Fin 4) (n : Fin 128) :
    res_main_while0b_v66 V (ix4 b l g n) = V main_v28_2 (ix5 k b l g n) := by
  unfold res_main_while0b_v66
  rw [WordCmp.dynamicSlice_eq_extract _ _ _ _ ![k.val, 0, 0, 0, 0] (by have := k.isLt; exact ⟨rfl, by intro a; match a with | ⟨0, _⟩ => (show k.val + 1 ≤ 32); omega | ⟨1, _⟩ => exact le_refl _ | ⟨2, _⟩ => exact le_refl _ | ⟨3, _⟩ => exact le_refl _ | ⟨4, _⟩ => exact le_refl _⟩) (starts5 k k.isLt _ hv)]
  pointwise

theorem c_at (k : Fin 32) (hv : V main_v28_5 = fun _ => BitVec.ofNat 32 k) (b : Fin 4) (l : Fin 64) (g : Fin 4) (n : Fin 128) :
    res_main_while0b_v67 V (ix4 b l g n) = V main_v28_3 (ix5 k b l g n) := by
  unfold res_main_while0b_v67
  rw [WordCmp.dynamicSlice_eq_extract _ _ _ _ ![k.val, 0, 0, 0, 0] (by have := k.isLt; exact ⟨rfl, by intro a; match a with | ⟨0, _⟩ => (show k.val + 1 ≤ 32); omega | ⟨1, _⟩ => exact le_refl _ | ⟨2, _⟩ => exact le_refl _ | ⟨3, _⟩ => exact le_refl _ | ⟨4, _⟩ => exact le_refl _⟩) (starts5 k k.isLt _ hv)]
  pointwise

theorem assoc4 (a b c d : ℝ) : a * b * c * d = d * (c * (a * b)) := by ring

/-- The causal mask's word. -/
theorem tri (l x : Fin 64) : Scalar.select (α := BitVec 1) (IntOp.cmpi CmpIPredicate.sge (IntOp.addi (BitVec.ofNat 32 ↑l) 0#32) (BitVec.ofNat 32 ↑x)) 1#1 0#1
    = if x.val ≤ l.val then 1#1 else 0#1 := by
  revert l x
  decide +kernel

/-- Minus infinity's bits. -/
theorem neg_inf : Ideal.ofBits FTy.f32 4286578688#32 = (⊥ : EReal) := by
  simp [Ideal.ofBits, Ideal.ieee]

/-- The masked decay. -/
theorem masked (l x : Fin 64) (a : ℝ) :
    Ideal.exp (Scalar.select (Scalar.select (α := BitVec 1) (IntOp.cmpi CmpIPredicate.sge (IntOp.addi (BitVec.ofNat 32 ↑l) 0#32) (BitVec.ofNat 32 ↑x)) 1#1 0#1)
      (a : EReal) (Ideal.ofBits FTy.f32 4286578688#32)) = (((if x.val ≤ l.val then Real.exp a else 0) : ℝ) : EReal) := by
  rw [tri, neg_inf]
  split
  · rfl
  · rfl

/-- What holds before chunk `k`: the operands are the projected rows cut into chunks, the state is the sequence's after
    `64 k` rows, and the read-outs of the chunks before are written. -/
structure Loop (U : ℕ → ℕ → ℝ) (bi al : ℕ → ℝ) (V : Valuation τ sig (Elt Ideal)) (k : ℕ) : Prop where
  hx : ∀ (k' : Fin 32) (b : Fin 4) (l : Fin 64) (g : Fin 4) (r : Fin 8) (p : Fin 64),
    V main_v28_0 (ix6 k' b l g r p) = ((U (2048 * b + 64 * k' + l) (6144 + (512 * g + 64 * r + p)) : ℝ) : EReal)
  hd : ∀ (k' : Fin 32) (b : Fin 4) (l : Fin 64) (g : Fin 4) (r : Fin 8),
    V main_v28_1 (ix5 k' b l g r) = ((stepS U bi (2048 * b + 64 * k' + l) (8 * g + r) : ℝ) : EReal)
  hb : ∀ (k' : Fin 32) (b : Fin 4) (l : Fin 64) (g : Fin 4) (n : Fin 128),
    V main_v28_2 (ix5 k' b l g n) = ((U (2048 * b + 64 * k' + l) (6144 + (2048 + 128 * g + n)) : ℝ) : EReal)
  hc : ∀ (k' : Fin 32) (b : Fin 4) (l : Fin 64) (g : Fin 4) (n : Fin 128),
    V main_v28_3 (ix5 k' b l g n) = ((U (2048 * b + 64 * k' + l) (6144 + (2560 + 128 * g + n)) : ℝ) : EReal)
  ha : ∀ (g : Fin 4) (r : Fin 8), V main_v28_4 (ix2 g r) = ((-Real.exp (al (8 * g + r)) : ℝ) : EReal)
  hk : V main_v28_5 = fun _ => BitVec.ofNat 32 k
  hs : ∀ (b : Fin 4) (g : Fin 4) (r : Fin 8) (p : Fin 64) (n : Fin 128),
    V main_v28_6 (ix5 b g r p n) = ((stS U bi al b n (512 * g + 64 * r + p) (64 * k) : ℝ) : EReal)
  hy : ∀ (k' : Fin 32) (b : Fin 4) (l : Fin 64) (g : Fin 4) (r : Fin 8) (p : Fin 64), k'.val < k →
    V main_v28_7 (ix6 k' b l g r p) = ((yS U bi al b (64 * k' + l) (512 * g + 64 * r + p) : ℝ) : EReal)

variable {U : ℕ → ℕ → ℝ} {bi al : ℕ → ℝ} {V} {k : ℕ}

/-- The chunk's running sums of the log decays. -/
theorem cum_at (A : Loop U bi al V k) (hk : k < 32) (b : Fin 4) (l : Fin 64) (g : Fin 4) (r : Fin 8) :
    res_main_while0b_v71 V (ix4 b l g r) = ((∑ j ∈ Finset.range (l.val + 1), logS U bi al (2048 * b + 64 * k + j) (8 * g + r) : ℝ) : EReal) := by
  unfold res_main_while0b_v71
  refine cumsum_at _ _ ?_ b l g r (fun j => logS U bi al (2048 * b + 64 * k + j) (8 * g + r)) fun l' => ?_
  · pointwise
  · pointwise
    rw [dt_at V ⟨k, hk⟩ A.hk, A.hd, A.ha, ← EReal.coe_mul]
    rfl

/-- The state after the chunk. -/
theorem state_step (A : Loop U bi al V k) (hk : k < 32) (b : Fin 4) (g : Fin 4) (r : Fin 8) (p : Fin 64) (n : Fin 128) :
    step_main_v28_6 V (ix5 b g r p n) = ((stS U bi al b n (512 * g + 64 * r + p) (64 * (k + 1)) : ℝ) : EReal) := by
  have h1 : (512 * g.val + 64 * r.val + p.val) / 64 = 8 * g + r := by omega
  have h2 : (512 * g.val + 64 * r.val + p.val) / 512 = g := by omega
  unfold step_main_v28_6
  simp only [id]
  pointwise
  simp only [cum_at A hk, dt_at V ⟨k, hk⟩ A.hk, x_at V ⟨k, hk⟩ A.hk, b_at V ⟨k, hk⟩ A.hk, A.hd, A.hx, A.hb, A.hs, ← EReal.coe_sub, Ideal.exp_coe, ← EReal.coe_mul, coe_sum, ← EReal.coe_add]
  rw [EReal.coe_eq_coe_iff, show 64 * (k + 1) = 64 * k + 64 by ring, ← stS_add]
  have e := chunk_state 63 (fun j => logS U bi al (2048 * b + 64 * k + j) (8 * g + r)) (fun j => stepS U bi (2048 * b + 64 * k + j) (8 * g + r))
      (fun j => U (2048 * b + 64 * k + j) (6144 + (512 * g + 64 * r + p))) (fun s => U (2048 * b + 64 * k + s) (6144 + (2048 + 128 * g + n)))
      (stS U bi al b n (512 * g + 64 * r + p) (64 * k))
  unfold updS
  rw [h1, h2]
  refine Eq.trans ?_ e
  refine congrArg₂ _ rfl (Finset.sum_congr rfl fun x _ => ?_)
  exact assoc4 _ _ _ _

/-- The read-outs after the chunk. -/
theorem out_step (A : Loop U bi al V k) (hk : k < 32) (k' : Fin 32) (b : Fin 4) (l : Fin 64) (g : Fin 4) (r : Fin 8) (p : Fin 64) (hk' : k'.val < k + 1) :
    step_main_v28_7 V (ix6 k' b l g r p) = ((yS U bi al b (64 * k' + l) (512 * g + 64 * r + p) : ℝ) : EReal) := by
  have h1 : (512 * g.val + 64 * r.val + p.val) / 64 = 8 * g + r := by omega
  have h2 : (512 * g.val + 64 * r.val + p.val) / 512 = g := by omega
  unfold step_main_v28_7
  simp only [id]
  rw [WordCmp.dynamicUpdateSlice_eq_update _ _ _ _ ![k, 0, 0, 0, 0, 0] (by exact ⟨rfl, by intro a; match a with | ⟨0, _⟩ => (show k + 1 ≤ 32); omega | ⟨1, _⟩ => exact le_refl _ | ⟨2, _⟩ => exact le_refl _ | ⟨3, _⟩ => exact le_refl _ | ⟨4, _⟩ => exact le_refl _ | ⟨5, _⟩ => exact le_refl _⟩) (starts6 k hk _ A.hk)]
  pointwise
  split
  · rename_i h
    have h0 := h 0
    have : k'.val = k := by
      have a1 : k ≤ k'.val := h0.1
      omega
    simp only [cum_at A hk, dt_at V ⟨k, hk⟩ A.hk, x_at V ⟨k, hk⟩ A.hk, b_at V ⟨k, hk⟩ A.hk, c_at V ⟨k, hk⟩ A.hk, A.hd, A.hx, A.hb, A.hc, A.hs, ← EReal.coe_sub, masked, Ideal.exp_coe, ← EReal.coe_mul, coe_sum, ← EReal.coe_add]
    rw [EReal.coe_eq_coe_iff, this]
    have e := chunk_row 64 128 l l.isLt (fun j => logS U bi al (2048 * b + 64 * k + j) (8 * g + r)) (fun j => stepS U bi (2048 * b + 64 * k + j) (8 * g + r))
      (fun j => U (2048 * b + 64 * k + j) (6144 + (512 * g + 64 * r + p))) (fun s n => U (2048 * b + 64 * k + s) (6144 + (2048 + 128 * g + n)))
      (fun s n => U (2048 * b + 64 * k + s) (6144 + (2560 + 128 * g + n))) (fun n => stS U bi al b n (512 * g + 64 * r + p) (64 * k))
    have e2 : ∀ n : Fin 128, st (fun j => logS U bi al (2048 * b + 64 * k + j) (8 * g + r))
        (fun s => stepS U bi (2048 * b + 64 * k + s) (8 * g + r) * U (2048 * b + 64 * k + s) (6144 + (512 * g + 64 * r + p)) * U (2048 * b + 64 * k + s) (6144 + (2048 + 128 * g + n)))
        (stS U bi al b n (512 * g + 64 * r + p) (64 * k)) (l + 1) = stS U bi al b n (512 * g + 64 * r + p) (64 * k + l + 1) := fun n => by
      rw [Nat.add_assoc (64 * k), ← stS_add]
      unfold updS
      rw [h1, h2]
    simp only [e2] at e
    unfold yS
    simp only [h2, ← Nat.add_assoc]
    refine Eq.trans ?_ (e.trans ?_)
    · refine congrArg₂ _ (Finset.sum_congr rfl fun x _ => ?_) ?_
      · simp only [Nat.add_assoc]
        rw [mul_comm]
        simp only [mul_comm]
      · refine congrArg₂ _ (Finset.sum_congr rfl fun x _ => ?_) rfl
        simp only [Nat.add_assoc]
        exact mul_comm _ _
    · simp only [Nat.add_assoc]
  · rename_i h
    refine A.hy k' b l g r p ?_
    by_contra hh
    have : k'.val = k := by omega
    refine h fun a => ?_
    match a with
    | ⟨0, _⟩ => exact ⟨by show k ≤ k'.val; omega, by show k'.val < k + 1; omega⟩
    | ⟨1, _⟩ => exact ⟨Nat.zero_le _, by show b.val < 0 + 4; omega⟩
    | ⟨2, _⟩ => exact ⟨Nat.zero_le _, by show l.val < 0 + 64; omega⟩
    | ⟨3, _⟩ => exact ⟨Nat.zero_le _, by show g.val < 0 + 4; omega⟩
    | ⟨4, _⟩ => exact ⟨Nat.zero_le _, by show r.val < 0 + 8; omega⟩
    | ⟨5, _⟩ => exact ⟨Nat.zero_le _, by show p.val < 0 + 64; omega⟩

/-- One chunk. -/
theorem Loop.step (A : Loop U bi al V k) (hk : k < 32) : Loop U bi al (STEP V) (k + 1) where
  hx k' b l g r p := by rw [STEP_main_v28_0]; exact A.hx k' b l g r p
  hd k' b l g r := by rw [STEP_main_v28_1]; exact A.hd k' b l g r
  hb k' b l g n := by rw [STEP_main_v28_2]; exact A.hb k' b l g n
  hc k' b l g n := by rw [STEP_main_v28_3]; exact A.hc k' b l g n
  ha g r := by rw [STEP_main_v28_4]; exact A.ha g r
  hk := by
    rw [STEP_main_v28_5]
    unfold step_main_v28_5
    funext i
    show IntOp.addi (V main_v28_5 i) 1#32 = BitVec.ofNat 32 (k + 1)
    rw [A.hk]
    show BitVec.ofNat 32 k + 1#32 = BitVec.ofNat 32 (k + 1)
    rw [BitVec.ofNat_add]
  hs b g r p n := by rw [STEP_main_v28_6]; exact state_step A hk b g r p n
  hy k' b l g r p h := by rw [STEP_main_v28_7]; exact out_step A hk k' b l g r p h

/-- Every chunk up to `n`. -/
theorem Loop.iter (A : Loop U bi al V 0) : ∀ n, n ≤ 32 → Loop U bi al (STEP^[n] V) n
  | 0, _ => A
  | n + 1, h => by
    rw [Function.iterate_succ_apply']
    exact (Loop.iter A n (by omega)).step (by omega)

end Cert.ReferenceIdeal.Scan

end
-- ==== Proof.ScanRef.lean ====
/- The reference end to end: the contents its loop starts from, and its three results as the real scan. -/
module

public import proofs.«01_k».proof.Proof.Gen.ReferenceIdeal.Run
public import proofs.«01_k».proof.Proof.ScanLoop
public import Idealize.ShloMosaic.Lib.Claim
public import Idealize.ShloMosaic.Lib.Pointwise
public import Idealize.ShloMosaic.Lib.WordCmp
public import Idealize.ShloMosaic.Lib.StableHlo.ReadAt

@[expose] public section

set_option maxRecDepth 16384

noncomputable section

namespace Cert.ReferenceIdeal.Scan

open Idealize.ShloMosaic Idealize.ShloMosaic.TcCoe Cert.ReferenceIdeal Cert.ReferenceIdeal.Gen Cert.ReferenceIdeal.Value Cert.ScanMath Idealize.ShloMosaic.StableHlo

variable {m : (ℓ : Loc nD τ sig) → Buf (Elt Ideal) ℓ} {c : Dev nD} {U : ℕ → ℕ → ℝ} {bi al : ℕ → ℝ}

theorem entry0 : entryContents preI m c main_v28_0 =
    transpose S32x4x64x4x8x64 [1, 0, 2, 3, 4, 5] (shapeCast S4x32x64x4x8x64 (shapeCast S4x2048x32x64 (extractStridedSlice S4x2048x2048 ![0, 0, 0]
      (shapeCast S4x2048x3072 (extractStridedSlice S8192x3072 ![0, 6144] (m ((c.tc : Thread nD τ).loc main_arg0)) slices_S8192x17408_S8192x3072_0_6144)
        shapeCasts_S8192x3072_S4x2048x3072) slices_S4x2048x3072_S4x2048x2048_0_0_0) shapeCasts_S4x2048x2048_S4x2048x32x64) shapeCasts_S4x2048x32x64_S4x32x64x4x8x64)
      transposes_S4x32x64x4x8x64_S32x4x64x4x8x64_1_0_2_3_4_5 := by
  simp only [entryContents, afterL_cons, afterL_nil]
  after_reads_simp
  rfl

theorem entry2 : entryContents preI m c main_v28_2 =
    transpose S32x4x64x4x128 [1, 0, 2, 3, 4] (shapeCast S4x32x64x4x128 (shapeCast S4x2048x4x128 (extractStridedSlice S4x2048x512 ![0, 0, 2048]
      (shapeCast S4x2048x3072 (extractStridedSlice S8192x3072 ![0, 6144] (m ((c.tc : Thread nD τ).loc main_arg0)) slices_S8192x17408_S8192x3072_0_6144)
        shapeCasts_S8192x3072_S4x2048x3072) slices_S4x2048x3072_S4x2048x512_0_0_2048) shapeCasts_S4x2048x512_S4x2048x4x128) shapeCasts_S4x2048x4x128_S4x32x64x4x128)
      transposes_S4x32x64x4x128_S32x4x64x4x128_1_0_2_3_4 := by
  simp only [entryContents, afterL_cons, afterL_nil]
  after_reads_simp
  rfl

theorem entry3 : entryContents preI m c main_v28_3 =
    transpose S32x4x64x4x128 [1, 0, 2, 3, 4] (shapeCast S4x32x64x4x128 (shapeCast S4x2048x4x128 (extractStridedSlice S4x2048x512 ![0, 0, 2560]
      (shapeCast S4x2048x3072 (extractStridedSlice S8192x3072 ![0, 6144] (m ((c.tc : Thread nD τ).loc main_arg0)) slices_S8192x17408_S8192x3072_0_6144)
        shapeCasts_S8192x3072_S4x2048x3072) slices_S4x2048x3072_S4x2048x512_0_0_2560) shapeCasts_S4x2048x512_S4x2048x4x128) shapeCasts_S4x2048x4x128_S4x32x64x4x128)
      transposes_S4x32x64x4x128_S32x4x64x4x128_1_0_2_3_4 := by
  simp only [entryContents, afterL_cons, afterL_nil]
  after_reads_simp
  rfl

/-- The launch's arrays as real ones, and the two that need not be real. -/
structure Args (m : (ℓ : Loc nD τ sig) → Buf (Elt Ideal) ℓ) (c : Dev nD) (U : ℕ → ℕ → ℝ) (bi al : ℕ → ℝ) (sk nw : ℕ → EReal) : Prop where
  re : Reals (fun r k => m ((c.tc : Thread nD τ).loc main_arg0) (ix2 r k)) (fun h => m ((c.tc : Thread nD τ).loc main_arg2) (ix1 h))
    (fun h => m ((c.tc : Thread nD τ).loc main_arg3) (ix1 h)) U bi al
  hs : ∀ h : Fin 32, m ((c.tc : Thread nD τ).loc main_arg4) (ix1 h) = sk h
  hw : ∀ p : Fin 2048, m ((c.tc : Thread nD τ).loc main_arg5) (ix1 p) = nw p

/-- The contents the loop starts from. -/
theorem entry_loop {sk nw : ℕ → EReal} (A : Args m c U bi al sk nw) : Loop U bi al (entryContents preI m c) 0 where
  hx k b l g r p := by
    rw [entry0]
    pointwise
    refine (A.re.hu _ _).trans ?_
    congr 2 <;> dsimp only <;> omega
  hd k b l g r := by
    simp only [entryContents, afterL_cons, afterL_nil]
    after_reads_simp
    simp -implicitDefEqProofs only [StableHlo.TRef.toBuf, StableHlo.TRef.ofBuf, cast_cast, cast_eq, id]
    clean_types
    pointwise
    have e0 := A.re.hu ⟨b.val * 2048 + (k.val * 64 + l.val), by omega⟩ ⟨17152 + (g.val * 8 + r.val), by omega⟩
    have e2 := A.re.hb ⟨g.val * 8 + r.val, by omega⟩
    rw [if_neg (fun h => h rfl)]
    have e : (show EReal from launchContents m c (Proc.tc.devRef main_arg0) (ix2 ⟨b.val * 2048 + (k.val * 64 + l.val), by omega⟩ ⟨17152 + (g.val * 8 + r.val), by omega⟩)) +
            (show EReal from launchContents m c (Proc.tc.devRef main_arg2) (ix1 ⟨g.val * 8 + r.val, by omega⟩)) = ((U (2048 * b + 64 * k + l) (17152 + (8 * g + r)) + bi (8 * g + r) : ℝ) : EReal) := by
      rw [EReal.coe_add]
      refine congrArg₂ _ (e0.trans ?_) (e2.trans ?_)
      · congr 2 <;> dsimp only <;> omega
      · congr 2; dsimp only; omega
    rw [e, ← zero_sub, softplus_coe]
    rfl
  hb k b l g n := by
    rw [entry2]
    pointwise
    refine (A.re.hu _ _).trans ?_
    congr 2 <;> dsimp only <;> omega
  hc k b l g n := by
    rw [entry3]
    pointwise
    refine (A.re.hu _ _).trans ?_
    congr 2 <;> dsimp only <;> omega
  ha g r := by
    simp only [entryContents, afterL_cons, afterL_nil]
    after_reads_simp
    simp only [id]
    clean_types
    pointwise
    have e3 := A.re.ha ⟨g.val * 8 + r.val, by omega⟩
    refine (congrArg (fun x : EReal => -Ideal.exp x) e3).trans ?_
    rw [Ideal.exp_coe, ← EReal.coe_neg]
    congr 4
    dsimp only; omega
  hk := ctr_entry m c
  hs b g r p n := by
    simp only [entryContents, afterL_cons, afterL_nil]
    after_reads_simp
    simp only [id]
    clean_types
    pointwise
    rfl
  hy k' b l g r p h := absurd h (Nat.not_lt_zero _)

variable {sk nw : ℕ → EReal}

/-- After every chunk. -/
theorem final_loop (A : Args m c U bi al sk nw) : Loop U bi al (STEP^[32] (entryContents preI m c)) 32 :=
  (entry_loop A).iter 32 (le_refl _)

/-- The rows kept for the next stretch. -/
theorem tail_eq (b : Fin 4) (i : Fin 3) (j : Fin 3072) :
    out_main_v60 (STEP^[32] (entryContents preI m c)) (ix3 b i j) = m ((c.tc : Thread nD τ).loc main_arg1) (ix3 ⟨b.val * 2 + 1, by omega⟩ ⟨5 + i.val, by omega⟩ j) := by
  unfold out_main_v60
  pointwise
  rw [iter_main_arg1]

/-- The final states. -/
theorem state_eq (A : Args m c U bi al sk nw) (b : Fin 4) (p : Fin 2048) (n : Fin 128) :
    out_main_v63 (STEP^[32] (entryContents preI m c)) (ix3 b p n) = ((stS U bi al b n p 2048 : ℝ) : EReal) := by
  unfold out_main_v63
  pointwise
  rw [(final_loop A).hs]
  congr 2
  dsimp only; omega

/-- A gate. -/
theorem gate_at (z : ℝ) : ((z : ℝ) : EReal) * Ideal.div 1 (1 + Ideal.exp (-((z : ℝ) : EReal))) = ((silu z : ℝ) : EReal) := logistic_gate z

/-- The output row's entry as the read-outs, the skip terms, the gates and the weights at their places. -/
theorem row_open (V : Valuation τ sig (Elt Ideal)) (r : Fin 8192) (p : Fin 2048) (Y : Fin 2048 → EReal) (X S N : Fin 2048 → EReal) (Z : Fin 2048 → EReal)
    (hY : ∀ (q : Fin 2048) (k : Fin 32) (b : Fin 4) (l : Fin 64) (g : Fin 4) (h : Fin 8) (d : Fin 64), k.val = r.val % 2048 / 64 → b.val = r.val / 2048 → l.val = r.val % 2048 % 64 →
      g.val = q.val / 512 → h.val = q.val % 512 / 64 → d.val = q.val % 64 → V main_v28_7 (ix6 k b l g h d) = Y q)
    (hS : ∀ (q : Fin 2048) (h : Fin 32), h.val = q.val / 64 → V main_arg4 (ix1 h) = S q)
    (hX : ∀ (q : Fin 2048) (k : Fin 17408), k.val = 6144 + q.val → V main_arg0 (ix2 r k) = X q)
    (hZ : ∀ (q : Fin 2048) (k : Fin 17408), k.val = 14336 + q.val → V main_arg0 (ix2 r k) = Z q)
    (hN : ∀ q : Fin 2048, V main_arg5 (ix1 q) = N q) :
    out_main_v62 V (ix2 r p) = (Y p + S p * X p) * (Z p * Ideal.div 1 (1 + Ideal.exp (-Z p)))
      * Ideal.rsqrt (Ideal.div (∑ x : Fin 512, (fun q : Fin 2048 => (Y q + S q * X q) * (Z q * Ideal.div 1 (1 + Ideal.exp (-Z q))) * ((Y q + S q * X q) * (Z q * Ideal.div 1 (1 + Ideal.exp (-Z q)))))
          ⟨512 * (p.val / 512) + x.val, by omega⟩) (Ideal.ofBits .f32 0x44000000#32) + Ideal.ofBits .f32 0x358637BD#32) * N p := by
  unfold out_main_v62
  pointwise
  refine congrArg₂ (· * ·) (congrArg₂ (· * ·) (congrArg₂ (· * ·) ?_ ?_) (congrArg Ideal.rsqrt (congrArg₂ (· + ·) (congrArg₂ Ideal.div
    (Finset.sum_congr rfl fun x _ => ?_) rfl) rfl))) ?_
  · exact congrArg₂ (· + ·) (hY p _ _ _ _ _ _ rfl rfl rfl (by dsimp only; omega) (by dsimp only; omega) (by dsimp only; omega)) (congrArg₂ (· * ·) (hS p _ (by dsimp only; omega)) (hX p _ rfl))
  · exact congrArg (fun z : EReal => z * Ideal.div 1 (1 + Ideal.exp (-z))) (hZ p _ rfl)
  · exact congrArg (fun z : EReal => z * z) (congrArg₂ (· * ·) (congrArg₂ (· + ·) (hY ⟨512 * (p.val / 512) + x.val, by omega⟩ _ _ _ _ _ _ rfl rfl rfl (by dsimp only; omega) (by dsimp only; omega) (by dsimp only; omega))
      (congrArg₂ (· * ·) (hS ⟨512 * (p.val / 512) + x.val, by omega⟩ _ (by dsimp only; omega)) (hX ⟨512 * (p.val / 512) + x.val, by omega⟩ _ (by dsimp only; omega))))
      (congrArg (fun z : EReal => z * Ideal.div 1 (1 + Ideal.exp (-z))) (hZ ⟨512 * (p.val / 512) + x.val, by omega⟩ _ (by dsimp only; omega))))
  · exact hN p

/-- The output rows. -/
theorem row_eq (A : Args m c U bi al sk nw) (r : Fin 8192) (p : Fin 2048) :
    out_main_v62 (STEP^[32] (entryContents preI m c)) (ix2 r p) = rowS U bi al sk nw (r / 2048) (r % 2048) p := by
  have hr := r.isLt
  have hp := p.isLt
  refine (row_open _ r p (fun q => ((yS U bi al (r / 2048) (r % 2048) q : ℝ) : EReal)) (fun q => ((U r (6144 + q) : ℝ) : EReal)) (fun q => sk (q / 64)) (fun q => nw q)
    (fun q => ((U r (14336 + q) : ℝ) : EReal)) ?_ ?_ ?_ ?_ ?_).trans ?_
  · intro q k b l g h d hk hb hl hg hh hd
    rw [(final_loop A).hy k b l g h d k.isLt, show 64 * k.val + l.val = r.val % 2048 by omega, show 512 * g.val + 64 * h.val + d.val = q by omega, hb]
  · intro q h hh
    rw [iter_main_arg4, A.hs, hh]
  · intro q k hk
    rw [iter_main_arg0]
    refine (A.re.hu r k).trans ?_
    rw [hk]
  · intro q k hk
    rw [iter_main_arg0]
    refine (A.re.hu r k).trans ?_
    rw [hk]
  · intro q
    rw [iter_main_arg5, A.hw]
  · unfold rowS Cert.KernelIdeal.Scan.gated preS
    dsimp only
    simp only [gate_at]
    rw [show 512 * (p.val / 512) + p.val % 512 = p.val by omega, show 2048 * (r.val / 2048) + r.val % 2048 = r.val by omega]

end Cert.ReferenceIdeal.Scan

end
-- ==== Proof.ScanClaim.lean ====
/- The two programs side by side: under the precondition the kernel's three results are the reference's. -/
module

public import proofs.«01_k».proof.Defs
public import proofs.«01_k».proof.Proof.ScanKernel
public import proofs.«01_k».proof.Proof.ScanRef
public import Idealize.ShloMosaic.Lib.ReduceAll

@[expose] public section

set_option maxRecDepth 16384

noncomputable section

namespace Cert.ScanClaim

open Idealize.ShloMosaic Idealize.ShloMosaic.TcCoe Idealize.SL.Sem Cert.ScanMath

/-- What the precondition's operations state of their shapes. -/
theorem pre_facts : Cert.Pre_finite.Facts where
  bcast_S_S8192x17408 := by decide
  reducesTo_S8192x17408_S_d0_1 := by decide
  h_S_ := by decide
  bcast_S_S32 := by decide
  reducesTo_S32_S_d0 := by decide

/-- A number whose magnitude is below infinity is neither infinity. -/
theorem finite_of (x : EReal) (h : FloatOps.cmpf (F := Ideal) (φ := .f32) .olt (FloatOps.hostAbsf (F := Ideal) (φ := .f32) x) (Ideal.ofBits .f32 0x7F800000#32) = 1#1) : x ≠ ⊤ ∧ x ≠ ⊥ := by
  have hi : Ideal.ofBits .f32 0x7F800000#32 = (⊤ : EReal) := by simp [Ideal.ofBits, Ideal.ieee]
  rw [hi] at h
  constructor
  · rintro rfl
    have e : Ideal.cmp .olt (max (⊤ : EReal) (-⊤)) ⊤ = 1#1 := h
    simp [Ideal.cmp] at e
  · rintro rfl
    have e : Ideal.cmp .olt (max (⊥ : EReal) (-⊥)) ⊤ = 1#1 := h
    simp [Ideal.cmp] at e

attribute [local instance] pre_facts

instance : Subsingleton Cert.Pre_finite.S_.Idx := ⟨fun a b => funext fun i => i.elim0⟩

/-- The precondition opened. -/
theorem pre_open (a0 : FVec Ideal Cert.Pre_finite.S8192x17408 .f32) (a1 : FVec Ideal Cert.Pre_finite.S8x8x3072 .f32) (a2 a3 a4 : FVec Ideal Cert.Pre_finite.S32 .f32) (a5 : FVec Ideal Cert.Pre_finite.S2048 .f32)
    (h : Cert.Pre_finite.fn (F := Ideal) a0 a1 a2 a3 a4 a5 = fun _ => 1#1) :
    (∀ i, a0 i ≠ (⊤ : EReal) ∧ a0 i ≠ (⊥ : EReal)) ∧ (∀ i, a2 i ≠ (⊤ : EReal) ∧ a2 i ≠ (⊥ : EReal)) ∧ (∀ i, a3 i ≠ (⊤ : EReal) ∧ a3 i ≠ (⊥ : EReal)) := by
  have h0 := congrFun h (Shape.Idx.first (by decide))
  unfold Cert.Pre_finite.fn at h0
  obtain ⟨h1, h3⟩ := IntOp.andi_eq_one.1 h0
  obtain ⟨h1, h2⟩ := IntOp.andi_eq_one.1 h1
  refine ⟨fun i => finite_of _ ?_, fun i => finite_of _ ?_, fun i => finite_of _ ?_⟩
  · exact Host.reduce_andi_all _ _ _ _ _ h1 i
  · exact Host.reduce_andi_all _ _ _ _ _ h2 i
  · exact Host.reduce_andi_all _ _ _ _ _ h3 i

/-- The kernel's results are the reference's. -/
theorem algebraic : Cert.algebraic_KernelIdeal_ReferenceIdeal_pre_finite := fun m g m' g' hpre hargs => by
  have hU : ∀ c : Dev Cert.KernelIdeal.nD, ∃ (U : ℕ → ℕ → ℝ) (bi al : ℕ → ℝ) (sk nw : ℕ → EReal),
      Cert.KernelIdeal.Scan.Held m c U bi al sk nw ∧ Cert.ReferenceIdeal.Scan.Args m' c U bi al sk nw := fun c => by
    obtain ⟨h0, h2, h3⟩ := pre_open _ _ _ _ _ _ (hpre c)
    have re := Reals.of_finite (fun r k => m ((c.tc : Thread Cert.KernelIdeal.nD Cert.KernelIdeal.τ).loc Cert.KernelIdeal.main_arg0) (ix2 r k))
      (fun h => m ((c.tc : Thread Cert.KernelIdeal.nD Cert.KernelIdeal.τ).loc Cert.KernelIdeal.main_arg2) (ix1 h))
      (fun h => m ((c.tc : Thread Cert.KernelIdeal.nD Cert.KernelIdeal.τ).loc Cert.KernelIdeal.main_arg3) (ix1 h))
      (fun r k => h0 (ix2 r k)) (fun h => h2 (ix1 h)) (fun h => h3 (ix1 h))
    obtain ⟨e0, e1, e2, e3, e4, e5⟩ := hargs c
    refine ⟨_, _, _, fun h => if k : h < 32 then m ((c.tc : Thread Cert.KernelIdeal.nD Cert.KernelIdeal.τ).loc Cert.KernelIdeal.main_arg4) (ix1 ⟨h, k⟩) else (0 : EReal),
      fun p => if k : p < 2048 then m ((c.tc : Thread Cert.KernelIdeal.nD Cert.KernelIdeal.τ).loc Cert.KernelIdeal.main_arg5) (ix1 ⟨p, k⟩) else (0 : EReal), ⟨re, fun h => ?_, fun p => ?_⟩, ⟨?_, fun h => ?_, fun p => ?_⟩⟩
    · rw [dif_pos h.isLt]
    · rw [dif_pos p.isLt]
    · rw [e0, e2, e3]; exact re
    · rw [e4]; rw [dif_pos h.isLt]
    · rw [e5]; rw [dif_pos p.isLt]
  refine ⟨fun c => Cert.KernelIdeal.Value.G9 m c, fun c => Cert.KernelIdeal.Value.G10 m c, fun c => Cert.KernelIdeal.Value.G11 m c, Cert.KernelIdeal.Value.run m g, ?_⟩
  refine (θ_run Cert.ReferenceIdeal.defs _ _).mono (fun r h c => ?_) (Cert.ReferenceIdeal.Value.run (F := Ideal) m' g')
  obtain ⟨U, bi, al, sk, nw, A, B⟩ := hU c
  obtain ⟨r62, r60, r63, rest⟩ := h c
  refine ⟨r62.trans ?_, r60.trans ?_, r63.trans ?_, rest⟩
  · funext i
    have ei : i = ix2 (i 0) (i 1) := by funext a; match a with | ⟨0, _⟩ => rfl | ⟨1, _⟩ => rfl
    rw [ei]
    exact (Cert.ReferenceIdeal.Scan.row_eq B (i 0) (i 1)).trans (Cert.KernelIdeal.Scan.G9_eq A (i 0) (i 1)).symm
  · funext i
    have ei : i = ix3 (i 0) (i 1) (i 2) := by funext a; match a with | ⟨0, _⟩ => rfl | ⟨1, _⟩ => rfl | ⟨2, _⟩ => rfl
    rw [ei]
    refine (Cert.ReferenceIdeal.Scan.tail_eq (i 0) (i 1) (i 2)).trans ((Eq.trans ?_ (Cert.KernelIdeal.Scan.G10_eq A (i 0) (i 1) (i 2)).symm))
    rw [(hargs c).2.1]
    refine congrArg _ ?_
    funext a
    match a with
    | ⟨0, _⟩ => apply Fin.ext; show (i 0).val * 2 + 1 = ((i 0).val + 1) * 2 - 1; omega
    | ⟨1, _⟩ => rfl
    | ⟨2, _⟩ => rfl
  · funext i
    have ei : i = ix3 (i 0) (i 1) (i 2) := by funext a; match a with | ⟨0, _⟩ => rfl | ⟨1, _⟩ => rfl | ⟨2, _⟩ => rfl
    rw [ei]
    exact (Cert.ReferenceIdeal.Scan.state_eq B (i 0) (i 1) (i 2)).trans (Cert.KernelIdeal.Scan.G11_eq A (i 0) (i 1) (i 2)).symm

/-- The kernel's frame under the precondition. -/
theorem frame_pi_pre : Cert.quiescent_KernelIdeal_pre_finite := fun m ρ _ => Cert.KernelIdeal.Gen.frame m ρ

/-- The reference's frame under the precondition. -/
theorem frame_ri_pre : Cert.quiescent_ReferenceIdeal_pre_finite := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

end Cert.ScanClaim

end
-- ==== Proof.GateTanh.lean ====
/- The gate: half the hyperbolic tangent of half, plus a half, is the logistic function at every extended real. -/
module

public import proofs.«01_k».proof.Proof.ScanScalar

@[expose] public section

noncomputable section

namespace Cert.GateTanh

open Idealize.ShloMosaic

/-- The gate at a real. -/
theorem gate_coe (z : ℝ) : ((1 / 2 : ℝ) : EReal) * Ideal.tanh (((1 / 2 : ℝ) : EReal) * (z : EReal)) + ((1 / 2 : ℝ) : EReal) = Ideal.logistic (z : EReal) := by
  rw [Ideal.logistic_coe, ← EReal.coe_mul, Ideal.tanh_coe, ← EReal.coe_mul, ← EReal.coe_add]
  congr 1
  rw [Real.tanh_eq_sinh_div_cosh, Real.sinh_eq, Real.cosh_eq]
  have e1 : Real.exp (-z) = Real.exp (-(1 / 2 * z)) * Real.exp (-(1 / 2 * z)) := by rw [← Real.exp_add]; congr 1; ring
  have e2 : Real.exp (1 / 2 * z) * Real.exp (-(1 / 2 * z)) = 1 := by rw [← Real.exp_add]; simp
  have p1 := Real.exp_pos (1 / 2 * z)
  have p2 := Real.exp_pos (-(1 / 2 * z))
  rw [e1]
  generalize Real.exp (-(1 / 2 * z)) = q at *
  generalize Real.exp (1 / 2 * z) = p at *
  have h1 : p + q ≠ 0 := by positivity
  have h2 : 1 + q * q ≠ 0 := by positivity
  field_simp
  linear_combination (2 * q) * e2

/-- The gate at any extended real. -/
theorem gate_tanh (z : EReal) : ((1 / 2 : ℝ) : EReal) * Ideal.tanh (((1 / 2 : ℝ) : EReal) * z) + ((1 / 2 : ℝ) : EReal) = Ideal.logistic z := by
  induction z using EReal.rec with
  | bot =>
    rw [EReal.coe_mul_bot_of_pos (by norm_num), Ideal.tanh_bot, Ideal.logistic_bot]
    rw [show (-1 : EReal) = ((-1 : ℝ) : EReal) by simp, ← EReal.coe_mul, ← EReal.coe_add]
    norm_num
  | coe z => exact gate_coe z
  | top =>
    rw [EReal.coe_mul_top_of_pos (by norm_num), Ideal.tanh_top, Ideal.logistic_top]
    rw [show (1 : EReal) = ((1 : ℝ) : EReal) by simp, ← EReal.coe_mul, ← EReal.coe_add]
    norm_num

/-- The constant one. -/
theorem one : Ideal.ofBits .f32 0x3F800000#32 = (1 : EReal) := by
  rw [show (1 : EReal) = ((1 : ℝ) : EReal) by simp]
  simp [Ideal.ofBits, Ideal.ieee, -EReal.coe_mul, -EReal.coe_one]
  norm_num [-EReal.coe_one]

end Cert.GateTanh

end
-- ==== Proof.MergeClaim.lean ====
/- The merge of the three branches: each grid point's block is the gated sum of the three products, and so is the
   reference's array. -/
module

public import proofs.«01_k».proof.Proof.Gen.MergeKernelIdeal.Value
public import proofs.«01_k».proof.Proof.Gen.MergeKernel.Frame
public import proofs.«01_k».proof.Proof.Gen.MergeReferenceIdeal.Run
public import proofs.«01_k».proof.Proof.GateTanh
public import proofs.«01_k».proof.Defs
public import Idealize.ShloMosaic.Lib.Claim
public import Idealize.ShloMosaic.Lib.Pipeline.ValueKit

@[expose] public section

set_option maxRecDepth 16384

noncomputable section

namespace Cert.MergeClaim

open Idealize.ShloMosaic Idealize.ShloMosaic.TcCoe Cert.MergeKernelIdeal.Gen Cert.MergeKernelIdeal

variable (m : (ℓ : Loc nD τ sig) → Buf (Elt Ideal) ℓ) (c : Dev nD)

/-- The block of every window at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 1] ∧ win0_5.index t = ![t.val, 2] ∧ win0_6.index t = ![0, 0]
    ∧ win0_7.index t = ![0, 0] ∧ win0_8.index t = ![0, 0] ∧ win0_9.index t = ![t.val, 0] ∧ t.val < 32 :=
  (by decide +kernel : ∀ t : Fin grid0.N, _)

/-- The gated sum of the three products at a row and a column. -/
def merged (ya : Vec Ideal S8192x1024 .bf16) (yb : Vec Ideal S8192x2048 .bf16) (ym : Vec Ideal S8192x1024 .bf16) (u : Vec Ideal S8192x17408 .f32)
    (pa : Vec Ideal S1024x2048 .bf16) (pb : Vec Ideal S2048x2048 .bf16) (pm : Vec Ideal S1024x2048 .bf16) (r : Fin 8192) (p : Fin 2048) : EReal :=
  Ideal.logistic (u (ix2 r ⟨p, by omega⟩)) * (∑ k : Fin 1024, (show EReal from ya (ix2 r k)) * pa (ix2 k p))
    + Ideal.logistic (u (ix2 r ⟨2048 + p, by omega⟩)) * (∑ k : Fin 2048, (show EReal from yb (ix2 r k)) * pb (ix2 k p))
    + Ideal.logistic (u (ix2 r ⟨4096 + p, by omega⟩)) * (∑ k : Fin 1024, (show EReal from ym (ix2 r k)) * pm (ix2 k p))

/-- The merge of the launch's arguments, as an array. -/
def G : S8192x2048.Idx → EReal := fun i => merged (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6)) (i 0) (i 1)

/-- The gates' three windows are columns of the projection. -/
theorem blk3 (t : Fin cfg0.N) (i : Fin 256) (l : Fin 2048) :
    X0_3 m c t (ix2 i l) = m ((c : Thread nD τ).loc main_arg3) (ix2 ⟨256 * t + i, by have := (idx t).2.2.2.2.2.2.2.2.2.2; omega⟩ ⟨l.val, by omega⟩) := by
  refine (dif_pos (moved0_3 t (ix2 i l))).trans ?_
  blk_point [iblk, V, idx t]

theorem blk4 (t : Fin cfg0.N) (i : Fin 256) (l : Fin 2048) :
    X0_4 m c t (ix2 i l) = m ((c : Thread nD τ).loc main_arg3) (ix2 ⟨256 * t + i, by have := (idx t).2.2.2.2.2.2.2.2.2.2; omega⟩ ⟨2048 + l.val, by omega⟩) := by
  refine (dif_pos (moved0_4 t (ix2 i l))).trans ?_
  blk_point [iblk, V, idx t]

theorem blk5 (t : Fin cfg0.N) (i : Fin 256) (l : Fin 2048) :
    X0_5 m c t (ix2 i l) = m ((c : Thread nD τ).loc main_arg3) (ix2 ⟨256 * t + i, by have := (idx t).2.2.2.2.2.2.2.2.2.2; omega⟩ ⟨4096 + l.val, by omega⟩) := by
  refine (dif_pos (moved0_5 t (ix2 i l))).trans ?_
  blk_point [iblk, V, idx t]

/-- The blocks of the three branches' rows. -/
theorem blk0 (t : Fin cfg0.N) (i : Fin 256) (l : Fin 1024) :
    iblk m c 0 t (ix2 i l) = m ((c : Thread nD τ).loc main_arg0) (ix2 ⟨256 * t + i, by have := (idx t).2.2.2.2.2.2.2.2.2.2; omega⟩ l) := by
  blk_point [iblk, V, idx t]

theorem blk1 (t : Fin cfg0.N) (i : Fin 256) (l : Fin 2048) :
    iblk m c 1 t (ix2 i l) = m ((c : Thread nD τ).loc main_arg1) (ix2 ⟨256 * t + i, by have := (idx t).2.2.2.2.2.2.2.2.2.2; omega⟩ l) := by
  blk_point [iblk, V, idx t]

theorem blk2 (t : Fin cfg0.N) (i : Fin 256) (l : Fin 1024) :
    iblk m c 2 t (ix2 i l) = m ((c : Thread nD τ).loc main_arg2) (ix2 ⟨256 * t + i, by have := (idx t).2.2.2.2.2.2.2.2.2.2; omega⟩ l) := by
  blk_point [iblk, V, idx t]

/-- The three weights are held whole. -/
theorem blk6 (t : Fin cfg0.N) (i : Fin 1024) (l : Fin 2048) : iblk m c 6 t (ix2 i l) = m ((c : Thread nD τ).loc main_arg4) (ix2 i l) := by
  blk_point [iblk, V, idx t]

theorem blk7 (t : Fin cfg0.N) (i : Fin 2048) (l : Fin 2048) : iblk m c 7 t (ix2 i l) = m ((c : Thread nD τ).loc main_arg5) (ix2 i l) := by
  blk_point [iblk, V, idx t]

theorem blk8 (t : Fin cfg0.N) (i : Fin 1024) (l : Fin 2048) : iblk m c 8 t (ix2 i l) = m ((c : Thread nD τ).loc main_arg6) (ix2 i l) := by
  blk_point [iblk, V, idx t]

/-- One branch's term: its gate and its product. -/
theorem term_eq {n : ℕ} (z z' : EReal) (f f' : Fin n → EReal) (hz : z = z') (hf : ∀ k, f k = f' k) :
    (Ideal.ofBits .f32 0x3F000000#32 * Ideal.tanh (Ideal.ofBits .f32 0x3F000000#32 * z) + Ideal.ofBits .f32 0x3F000000#32) * ∑ k, f k = Ideal.logistic z' * ∑ k, f' k := by
  rw [Cert.ScanMath.half, Cert.GateTanh.gate_tanh, hz, funext hf]

/-- What the body leaves at a row and a column of its block. -/
theorem out_at (t : Fin cfg0.N) (a : Fin 256) (p : Fin 2048) :
    outsAt0 m c t (ix2 a p) = G m c (ix2 ⟨256 * t + a, by have := (idx t).2.2.2.2.2.2.2.2.2.2; omega⟩ p) := by
  unfold outsAt0
  frame_open
  frame_out
  pointwise [k0_pay1, k0_pay2, k0_pay3]
  refine Ideal.add_congr (Ideal.add_congr (term_eq _ _ _ _ (blk3 m c t a p) fun k => ?_) (term_eq _ _ _ _ (blk4 m c t a p) fun k => ?_)) (term_eq _ _ _ _ (blk5 m c t a p) fun k => ?_)
  · exact Ideal.mul_congr (blk0 m c t a k) (blk6 m c t k p)
  · exact Ideal.mul_congr (blk1 m c t a k) (blk7 m c t k p)
  · exact Ideal.mul_congr (blk2 m c t a k) (blk8 m c t k p)

/-- A block's index, placed in the array. -/
theorem emb_eq (t : Fin cfg0.N) (i : Fin 256) (p : Fin 2048) :
    ((cfg0.win 9).blk t).view.emb (ix2 i p) = ix2 ⟨256 * t + i, by have := (idx t).2.2.2.2.2.2.2.2.2.2; omega⟩ p := by
  funext a
  apply Fin.ext
  blk_simp [idx t]
  match a with
  | ⟨0, _⟩ =>
    show t.val * 256 + i.val = 256 * t.val + i.val
    omega
  | ⟨1, _⟩ =>
    show 0 * 2048 + p.val = p.val
    omega

/-- The array after the run. -/
theorem final : (dats m 0 c).arrAt 9 cfg0.N = G m c := by
  have hc : (cfg0.win 9).Covers := by decide +kernel
  refine (dats m 0 c).arrAt_eq_of_covers 9 _ hc (fun t hf y => ?_)
  obtain ⟨i, p, rfl⟩ : ∃ (i : Fin 256) (p : Fin 2048), y = ix2 i p := ⟨y 0, y 1, by funext a; match a with | ⟨0, _⟩ => rfl | ⟨1, _⟩ => rfl⟩
  rw [emb_eq, after0_9]
  refine (cast_eq _ _).trans ((congrArg (outsAt0 m c t) ?_).trans (out_at m c t i p))
  funext a
  match a with
  | ⟨0, _⟩ => rfl
  | ⟨1, _⟩ => rfl

/-- The kernel's result is the reference's. -/
theorem algebraic : Cert.algebraic_MergeKernelIdeal_MergeReferenceIdeal := fun m g m' g' _ hargs => by
  refine ⟨fun c => G m c, (θ_run Cert.MergeKernelIdeal.defs _ _).mono (fun r h c => ⟨(h c).1.trans (final m c), (h c).2⟩) (Cert.MergeKernelIdeal.Value.run_blocks m g), ?_⟩
  refine (θ_run Cert.MergeReferenceIdeal.defs _ _).mono (fun r h c => ⟨(h c).1.trans ?_, (h c).2⟩) (Cert.MergeReferenceIdeal.Value.run (F := Ideal) m' g')
  obtain ⟨e0, e1, e2, e3, e4, e5, e6⟩ := hargs c
  rw [e0, e1, e2, e3, e4, e5, e6]
  funext i
  obtain ⟨r, p, rfl⟩ : ∃ (r : Fin 8192) (p : Fin 2048), i = ix2 r p := ⟨i 0, i 1, by funext a; match a with | ⟨0, _⟩ => rfl | ⟨1, _⟩ => rfl⟩
  pointwise
  refine Ideal.add_congr (Ideal.add_congr (Ideal.mul_congr ?_ rfl) (Ideal.mul_congr ?_ rfl))
    (Ideal.mul_congr ?_ rfl)
  all_goals exact rfl

/-- The frames. -/
theorem frame_p : Cert.quiescent_MergeKernel := fun m ρ _ => Cert.MergeKernel.Gen.frame m ρ

theorem frame_pi : Cert.quiescent_MergeKernelIdeal := fun m ρ _ => Cert.MergeKernelIdeal.Gen.frame m ρ

theorem frame_ri : Cert.quiescent_MergeReferenceIdeal := fun m ρ _ =>
  (θ_run Cert.MergeReferenceIdeal.defs _ _).mono (fun r h => ⟨fun c => (h c).2, Idealize.ShloMosaic.sem_eq_zero_of_no_sems (by decide) r.2⟩)
    (Cert.MergeReferenceIdeal.Value.run (F := Ideal) m ρ)

/-- No operation was rewritten. -/
theorem preserves : Cert.preserves_MergeKernel_MergeKernelIdeal := trivial

end Cert.MergeClaim

end
-- ==== Proof.RowNorm.lean ====
/- A row over its root mean square, times a weight. -/
module

public import Idealize.ShloMosaic.Lib.Pointwise

@[expose] public section

noncomputable section

namespace Cert.RowNorm

open Idealize.ShloMosaic

/-- The reciprocal root of a row's mean square (2048 columns) plus the small constant. -/
def scale (v : Fin 2048 → EReal) : EReal :=
  Ideal.rsqrt (Ideal.div (∑ k : Fin 2048, v k * v k) (Ideal.ofBits .f32 0x45000000#32) + Ideal.ofBits .f32 0x358637BD#32)

/-- A row over its root mean square, times a weight, at a column. -/
def normed (v g : Fin 2048 → EReal) (p : Fin 2048) : EReal := v p * scale v * g p

/-- Equal rows have equal normalised entries. -/
theorem normed_congr {v v' g g' : Fin 2048 → EReal} (hv : ∀ k, v k = v' k) (hg : ∀ k, g k = g' k) (p : Fin 2048) : normed v g p = normed v' g' p := by
  rw [funext hv, funext hg]

/-- The residual row: the input plus the product, at a row and a column. -/
def resid {n : ℕ} (a : (⟨2, ![n, 2048]⟩ : Shape).Idx → EReal) (x : (⟨2, ![n, 2048]⟩ : Shape).Idx → EReal) (w : (⟨2, ![2048, 2048]⟩ : Shape).Idx → EReal)
    (r : Fin n) (k : Fin 2048) : EReal := x (ix2 r k) + ∑ j : Fin 2048, a (ix2 r j) * w (ix2 j k)

/-- Equal factors have equal residual rows. -/
theorem resid_congr {n n' : ℕ} {a x : (⟨2, ![n, 2048]⟩ : Shape).Idx → EReal} {a' x' : (⟨2, ![n', 2048]⟩ : Shape).Idx → EReal} {w w' : (⟨2, ![2048, 2048]⟩ : Shape).Idx → EReal}
    {r : Fin n} {r' : Fin n'} (ha : ∀ k, a (ix2 r k) = a' (ix2 r' k)) (hx : ∀ k, x (ix2 r k) = x' (ix2 r' k)) (hw : ∀ j k, w (ix2 j k) = w' (ix2 j k)) (k : Fin 2048) :
    resid a x w r k = resid a' x' w' r' k := by
  unfold resid
  rw [hx, Finset.sum_congr rfl fun j _ => by rw [ha, hw]]

end Cert.RowNorm

end
-- ==== Proof.FinalClaim.lean ====
/- The output projection with its norm: each grid point's two halves hold the normalised rows, and so does the
   reference's array. -/
module

public import proofs.«01_k».proof.Proof.Gen.FinalKernelIdeal.Value
public import proofs.«01_k».proof.Proof.Gen.FinalKernel.Frame
public import proofs.«01_k».proof.Proof.Gen.FinalReferenceIdeal.Run
public import proofs.«01_k».proof.Proof.RowNorm
public import proofs.«01_k».proof.Defs
public import Idealize.ShloMosaic.Lib.Claim
public import Idealize.ShloMosaic.Lib.Pipeline.ValueKit

@[expose] public section

set_option maxRecDepth 16384

noncomputable section

namespace Cert.FinalClaim

open Idealize.ShloMosaic Idealize.ShloMosaic.TcCoe Cert.FinalKernelIdeal.Gen Cert.FinalKernelIdeal Cert.RowNorm

variable (m : (ℓ : Loc nD τ sig) → Buf (Elt Ideal) ℓ) (c : Dev nD)

/-- The block of every window at every grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ t.val < 16 :=
  (by decide +kernel : ∀ t : Fin grid0.N, _)

/-- The payload of the first half at a row and a column. -/
theorem pay2 (v0 : Vec Ideal S256x2048 .f32) (v1 : Vec Ideal S256x2048 .bf16) (v2 : Vec Ideal S2048x2048 .bf16) (v15 : Vec Ideal S1x2048 .f32) (i : Fin 256) (p : Fin 2048) :
    k0_pay2 (F := Ideal) v0 v1 v2 v15 (ix2 i p) = normed (resid v1 v0 v2 i) (fun k => v15 (ix2 0 k)) p := by
  pointwise [k0_pay2]
  rfl

/-- The payload of the second half at a row and a column. -/
theorem pay1 (v0 : Vec Ideal S256x2048 .f32) (v1 : Vec Ideal S256x2048 .bf16) (v2 : Vec Ideal S2048x2048 .bf16) (v15 : Vec Ideal S1x2048 .f32) (i : Fin 256) (p : Fin 2048) :
    k0_pay1 (F := Ideal) (k0_pay3 v0 v1 v2) (k0_pay4 v0 v1 v2) v15 (ix2 i p) = normed (resid v1 v0 v2 i) (fun k => v15 (ix2 0 k)) p := by
  pointwise [k0_pay1, k0_pay3, k0_pay4]
  rfl

/-- The output projection of the launch's arguments, as an array. -/
def G : S8192x2048.Idx → EReal := fun i => normed (resid (m ((c : Thread nD τ).loc main_arg0)) (m ((c : Thread nD τ).loc main_arg1)) (m ((c : Thread nD τ).loc main_arg2)) (i 0))
  (fun k => m ((c : Thread nD τ).loc main_arg3) (ix1 k)) (i 1)

/-- The norm weight as one row. -/
theorem V0 : V m c main_v0 = shapeCast S1x2048 (m ((c : Thread nD τ).loc main_arg3)) shapeCasts_S2048_S1x2048 := by
  show StableHlo.after _ _ _ = _
  simp only [hostOps0]
  simp only [StableHlo.after_cons, StableHlo.after_nil]
  after_results_simp
  rfl

/-- The norm weight's row at a column. -/
theorem r0 (l : Fin 2048) : V m c main_v0 (ix2 0 l) = m ((c : Thread nD τ).loc main_arg3) (ix1 l) := by
  rw [V0]
  pointwise

theorem blk0 (t : Fin cfg0.N) (i : Fin 512) (l : Fin 2048) :
    iblk m c 0 t (ix2 i l) = m ((c : Thread nD τ).loc main_arg0) (ix2 ⟨512 * t + i, by have := (idx t).2.2.2.2.2; omega⟩ l) := by
  blk_point [iblk, V, idx t]

theorem blk1 (t : Fin cfg0.N) (i : Fin 512) (l : Fin 2048) :
    iblk m c 1 t (ix2 i l) = m ((c : Thread nD τ).loc main_arg1) (ix2 ⟨512 * t + i, by have := (idx t).2.2.2.2.2; omega⟩ l) := by
  blk_point [iblk, V, idx t]

theorem blk2 (t : Fin cfg0.N) (i : Fin 2048) (l : Fin 2048) :
    iblk m c 2 t (ix2 i l) = m ((c : Thread nD τ).loc main_arg2) (ix2 i l) := by
  blk_point [iblk, V, idx t]

theorem blk3 (t : Fin cfg0.N) : iblk m c 3 t = V m c main_v0 := by
  blk_ext! [iblk, idx t]

/-- A row of a half read through its rectangle is a row of the block. -/
theorem ld_0 {e : EltTy} (X : Vec Ideal S512x2048 e) (i : Fin 512) (x : Fin 256) (h : i.val = x.val) (k : Fin 2048) : View.ld X r0_0 (ix2 x k) = X (ix2 i k) := by
  show X _ = X _
  congr 1
  funext a
  match a with
  | ⟨0, _⟩ => apply Fin.ext; show 0 + 1 * x.val = i.val; omega
  | ⟨1, _⟩ => apply Fin.ext; show 0 + 1 * k.val = k.val; omega

theorem ld_3 {e : EltTy} (X : Vec Ideal S512x2048 e) (i : Fin 512) (x : Fin 256) (h : i.val = 256 + x.val) (k : Fin 2048) : View.ld X r0_3 (ix2 x k) = X (ix2 i k) := by
  show X _ = X _
  congr 1
  funext a
  match a with
  | ⟨0, _⟩ => apply Fin.ext; show 256 + 1 * x.val = i.val; omega
  | ⟨1, _⟩ => apply Fin.ext; show 0 + 1 * k.val = k.val; omega

theorem ld_1 {e : EltTy} (X : Vec Ideal S2048x2048 e) (j k : Fin 2048) : View.ld X r0_1 (ix2 j k) = X (ix2 j k) := by
  show X _ = X _
  congr 1
  funext a
  match a with
  | ⟨0, _⟩ => apply Fin.ext; show 0 + 1 * j.val = j.val; omega
  | ⟨1, _⟩ => apply Fin.ext; show 0 + 1 * k.val = k.val; omega

theorem ld_2 {e : EltTy} (X : Vec Ideal S1x2048 e) (k : Fin 2048) : View.ld X r0_2 (ix2 0 k) = X (ix2 0 k) := by
  show X _ = X _
  congr 1
  funext a
  match a with
  | ⟨0, _⟩ => rfl
  | ⟨1, _⟩ => apply Fin.ext; show 0 + 1 * k.val = k.val; omega

/-- What the body leaves at a row and a column of its block. -/
theorem out_at (t : Fin cfg0.N) (i : Fin 512) (p : Fin 2048) :
    out0_4 (F := Ideal) (iblk m c 0 t) (iblk m c 1 t) (iblk m c 2 t) (iblk m c 3 t) (ix2 i p) = G m c (ix2 ⟨512 * t + i, by have := (idx t).2.2.2.2.2; omega⟩ p) := by
  canon_tiles x h using cover0_4 ..
  · have ex : x = ix2 (x 0) p := by funext a; match a with | ⟨0, _⟩ => rfl | ⟨1, _⟩ => exact Fin.ext h1.symm
    rw [ex]
    refine (pay1 _ _ _ _ _ _).trans (normed_congr (fun k => resid_congr (fun k => ?_) (fun k => ?_) (fun j k => ?_) k) (fun k => ?_) p)
    · exact (ld_3 _ i _ h0 k).trans (blk0 m c t i k)
    · exact (ld_3 _ i _ h0 k).trans (blk1 m c t i k)
    · exact (ld_1 _ j k).trans (blk2 m c t j k)
    · exact ((ld_2 _ k).trans (congrFun (blk3 m c t) _)).trans (r0 m c k)
  · have ex : x = ix2 (x 0) p := by funext a; match a with | ⟨0, _⟩ => rfl | ⟨1, _⟩ => exact Fin.ext h1.symm
    rw [ex]
    refine (pay2 _ _ _ _ _ _).trans (normed_congr (fun k => resid_congr (fun k => ?_) (fun k => ?_) (fun j k => ?_) k) (fun k => ?_) p)
    · exact (ld_0 _ i _ h0 k).trans (blk0 m c t i k)
    · exact (ld_0 _ i _ h0 k).trans (blk1 m c t i k)
    · exact (ld_1 _ j k).trans (blk2 m c t j k)
    · exact ((ld_2 _ k).trans (congrFun (blk3 m c t) _)).trans (r0 m c k)

/-- A cut block's index, placed in the array. -/
theorem emb_eq (t : Fin cfg0.N) (i : Fin 512) (p : Fin 2048) :
    ((cfg0.win 4).blk t).view.emb (ix2 i p) = ix2 ⟨512 * t + i, by have := (idx t).2.2.2.2.2; omega⟩ p := by
  have e4 := (idx t).2.2.2.2.1
  funext a
  apply Fin.ext
  blk_simp [idx t]
  match a with
  | ⟨0, _⟩ =>
    show t.val * 512 + i.val = 512 * t.val + i.val
    omega
  | ⟨1, _⟩ =>
    show 0 * 2048 + p.val = p.val
    omega

/-- The array after the run. -/
theorem final : (dats m 0 c).arrAt 4 cfg0.N = G m c := by
  have hc : (cfg0.win 4).Covers := by decide +kernel
  refine (dats m 0 c).arrAt_eq_of_covers 4 _ hc (fun t hf y => ?_)
  obtain ⟨i, p, rfl⟩ : ∃ (i : Fin 512) (p : Fin 2048), y = ix2 i p := ⟨y 0, y 1, by funext a; match a with | ⟨0, _⟩ => rfl | ⟨1, _⟩ => rfl⟩
  rw [emb_eq, after0_4]
  refine (cast_eq _ _).trans ((congrArg (out0_4 (F := Ideal) (iblk m c 0 t) (iblk m c 1 t) (iblk m c 2 t) (iblk m c 3 t)) ?_).trans (out_at m c t i p))
  funext a
  match a with
  | ⟨0, _⟩ => rfl
  | ⟨1, _⟩ => rfl

/-- The kernel's result is the reference's. -/
theorem algebraic : Cert.algebraic_FinalKernelIdeal_FinalReferenceIdeal := fun m g m' g' _ hargs => by
  refine ⟨fun c => G m c, (θ_run Cert.FinalKernelIdeal.defs _ _).mono (fun r h c => ⟨(h c).1.trans (final m c), (h c).2⟩) (Cert.FinalKernelIdeal.Value.run_blocks m g), ?_⟩
  refine (θ_run Cert.FinalReferenceIdeal.defs _ _).mono (fun r h c => ⟨(h c).1.trans ?_, (h c).2⟩) (Cert.FinalReferenceIdeal.Value.run (F := Ideal) m' g')
  obtain ⟨e0, e1, e2, e3⟩ := hargs c
  rw [e0, e1, e2, e3]
  funext i
  obtain ⟨r, p, rfl⟩ : ∃ (r : Fin 8192) (p : Fin 2048), i = ix2 r p := ⟨i 0, i 1, by funext a; match a with | ⟨0, _⟩ => rfl | ⟨1, _⟩ => rfl⟩
  pointwise
  rfl

/-- The frames. -/
theorem frame_p : Cert.quiescent_FinalKernel := fun m ρ _ => Cert.FinalKernel.Gen.frame m ρ

theorem frame_pi : Cert.quiescent_FinalKernelIdeal := fun m ρ _ => Cert.FinalKernelIdeal.Gen.frame m ρ

theorem frame_ri : Cert.quiescent_FinalReferenceIdeal := fun m ρ _ =>
  (θ_run Cert.FinalReferenceIdeal.defs _ _).mono (fun r h => ⟨fun c => (h c).2, Idealize.ShloMosaic.sem_eq_zero_of_no_sems (by decide) r.2⟩)
    (Cert.FinalReferenceIdeal.Value.run (F := Ideal) m ρ)

/-- No operation was rewritten. -/
theorem preserves : Cert.preserves_FinalKernel_FinalKernelIdeal := trivial

end Cert.FinalClaim

end
-- ==== Proof.MemProjClaim.lean ====
/- The projection of the memory: the first point leaves the normalised rows in the scratch, every point multiplies
   their two halves with its block of the weights, and the whole array is the reference's product. -/
module

public import proofs.«01_k».proof.Proof.Gen.MemProjKernelIdeal.Value
public import proofs.«01_k».proof.Proof.Gen.MemProjKernel.Frame
public import proofs.«01_k».proof.Proof.Gen.MemProjReferenceIdeal.Run
public import proofs.«01_k».proof.Proof.RowNorm
public import proofs.«01_k».proof.Defs
public import Idealize.ShloMosaic.Lib.Claim
public import Idealize.ShloMosaic.Lib.Pipeline.ReadBack
public import Idealize.ShloMosaic.Lib.Pipeline.ValueKit

@[expose] public section

set_option maxRecDepth 16384

noncomputable section

namespace Cert.MemProjClaim

open Idealize.ShloMosaic Idealize.ShloMosaic.TcCoe Cert.MemProjKernelIdeal.Gen Cert.MemProjKernelIdeal Cert.RowNorm

variable (m : (ℓ : Loc nD τ sig) → Buf (Elt Ideal) ℓ) (c : Dev nD)

/-- The block of every window at every grid point. -/
theorem idx : ∀ t : Fin cfg0.N, win0_0.index t = ![0, 0] ∧ win0_1.index t = ![0, 0] ∧ win0_2.index t = ![0, t.val]
    ∧ win0_3.index t = ![0, t.val] ∧ t.val < 2 :=
  (by decide +kernel : ∀ t : Fin grid0.N, _)

/-- The normalised rows at a row and a column. -/
theorem pay1 (v : Vec Ideal S1024x2048 .f32) (g : Vec Ideal S1x2048 .f32) (i : Fin 1024) (p : Fin 2048) :
    k0_pay1 (F := Ideal) v g (ix2 i p) = normed (fun k => v (ix2 i k)) (fun k => g (ix2 0 k)) p := by
  pointwise [k0_pay1]
  rfl

/-- The normalised rows of the launch's arguments. -/
def rows (i : Fin 1024) (p : Fin 2048) : EReal := normed (fun k => m ((c : Thread nD τ).loc main_arg0) (ix2 i k)) (fun k => m ((c : Thread nD τ).loc main_arg1) (ix1 k)) p

/-- The projection of the launch's arguments, as an array. -/
def G : S1024x2048.Idx → EReal := fun i => ∑ k : Fin 2048, rows m c (i 0) k * m ((c : Thread nD τ).loc main_arg2) (ix2 k (i 1))

/-- The norm weight as one row. -/
theorem V0 : V m c main_v0 = shapeCast S1x2048 (m ((c : Thread nD τ).loc main_arg1)) shapeCasts_S2048_S1x2048 := by
  show StableHlo.after _ _ _ = _
  simp only [hostOps0]
  simp only [StableHlo.after_cons, StableHlo.after_nil]
  after_results_simp
  rfl

/-- The norm weight's row at a column. -/
theorem r0 (l : Fin 2048) : V m c main_v0 (ix2 0 l) = m ((c : Thread nD τ).loc main_arg1) (ix1 l) := by
  rw [V0]
  pointwise

theorem blk0 (t : Fin cfg0.N) (i : Fin 1024) (l : Fin 2048) : iblk m c 0 t (ix2 i l) = m ((c : Thread nD τ).loc main_arg0) (ix2 i l) := by
  blk_point [iblk, V, idx t]

theorem blk1 (t : Fin cfg0.N) : iblk m c 1 t = V m c main_v0 := by
  blk_ext! [iblk, idx t]

theorem blk2 (t : Fin cfg0.N) (k : Fin 2048) (p : Fin 1024) :
    iblk m c 2 t (ix2 k p) = m ((c : Thread nD τ).loc main_arg2) (ix2 k ⟨1024 * t + p, by have := (idx t).2.2.2.2; omega⟩) := by
  blk_point [iblk, V, idx t]

/-- The product's first payload at a row and a column. -/
theorem pay2 (v : Vec Ideal S512x2048 .bf16) (w : Vec Ideal S2048x1024 .bf16) (i : Fin 512) (p : Fin 1024) :
    k0_pay2 (F := Ideal) v w (ix2 i p) = ∑ k : Fin 2048, (show EReal from v (ix2 i k)) * w (ix2 k p) := by
  pointwise [k0_pay2]

/-- The product's second payload at a row and a column. -/
theorem pay3 (v : Vec Ideal S512x2048 .bf16) (w : Vec Ideal S2048x1024 .bf16) (i : Fin 512) (p : Fin 1024) :
    k0_pay3 (F := Ideal) v w (ix2 i p) = ∑ k : Fin 2048, (show EReal from v (ix2 i k)) * w (ix2 k p) := by
  pointwise [k0_pay3]

/-- A row of a half of the scratch is a row of the scratch. -/
theorem ld_hi (X : Vec Ideal S1024x2048 .bf16) (i : Fin 1024) (x : Fin 512) (h : i.val = 512 + x.val) (k : Fin 2048) :
    View.ld X (Rect.unit ![512, 0] ![512, 2048] inb_S1024x2048_S512x2048_512_0) (ix2 x k) = X (ix2 i k) := by
  show X _ = X _
  congr 1
  funext a
  match a with
  | ⟨0, _⟩ => apply Fin.ext; show 512 + 1 * x.val = i.val; omega
  | ⟨1, _⟩ => apply Fin.ext; show 0 + 1 * k.val = k.val; omega

theorem ld_lo (X : Vec Ideal S1024x2048 .bf16) (i : Fin 1024) (x : Fin 512) (h : i.val = x.val) (k : Fin 2048) :
    View.ld X (Rect.unit ![0, 0] ![512, 2048] inb_S1024x2048_S512x2048_0_0) (ix2 x k) = X (ix2 i k) := by
  show X _ = X _
  congr 1
  funext a
  match a with
  | ⟨0, _⟩ => apply Fin.ext; show 0 + 1 * x.val = i.val; omega
  | ⟨1, _⟩ => apply Fin.ext; show 0 + 1 * k.val = k.val; omega
/-- The first point's scratch. -/
theorem scrA (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S1024x1024 .f32) (harg5 : arg5.IsWhole)
    (arg6 : Memref sig .tc .vmem S1024x2048 .bf16) (harg6 : arg6.IsWhole) (hc0 : cond0_0 i)
    (x0 : Vec Ideal S1024x2048 .f32) (x1 : Vec Ideal S1x2048 .f32) (x2 : Vec Ideal S2048x1024 .bf16) (r : Fin 1024) (k : Fin 2048) :
    sout0_A_0 (F := Ideal) c i arg2 harg2 arg3 harg3 arg4 harg4 arg5 harg5 arg6 harg6 hc0 x0 x1 x2 (ix2 r k) = normed (fun k => x0 (ix2 r k)) (fun k => x1 (ix2 0 k)) k := by
  unfold sout0_A_0
  frame_open
  frame_out
  pointwise [pay1]

/-- The first point's output block. -/
theorem outA (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S1024x1024 .f32) (harg5 : arg5.IsWhole)
    (arg6 : Memref sig .tc .vmem S1024x2048 .bf16) (harg6 : arg6.IsWhole) (hc0 : cond0_0 i)
    (x0 : Vec Ideal S1024x2048 .f32) (x1 : Vec Ideal S1x2048 .f32) (x2 : Vec Ideal S2048x1024 .bf16) (r : Fin 1024) (p : Fin 1024) :
    out0_A_3 (F := Ideal) c i arg2 harg2 arg3 harg3 arg4 harg4 arg5 harg5 arg6 harg6 hc0 x0 x1 x2 (ix2 r p) = ∑ k : Fin 2048, normed (fun k => x0 (ix2 r k)) (fun k => x1 (ix2 0 k)) k * x2 (ix2 k p) := by
  unfold out0_A_3
  frame_open
  simp (disch := decide) only [↓ View.readCov_skip, ↓ View.readCov_cons_toLoadRect, ↓ View.readCov_fill]
  frame_out
  canon_tiles x h
  · have ex : x = ix2 (x 0) p := by funext a; match a with | ⟨0, _⟩ => rfl | ⟨1, _⟩ => exact Fin.ext h1.symm
    rw [ex]
    refine (pay3 _ _ _ p).trans (Finset.sum_congr rfl fun k _ => Ideal.mul_congr ?_ rfl)
    exact (ld_hi _ r _ h0 k).trans (pay1 _ _ r k)
  · have ex : x = ix2 (x 0) p := by funext a; match a with | ⟨0, _⟩ => rfl | ⟨1, _⟩ => exact Fin.ext h1.symm
    rw [ex]
    refine (pay2 _ _ _ p).trans (Finset.sum_congr rfl fun k _ => Ideal.mul_congr ?_ rfl)
    exact (ld_lo _ r _ h0 k).trans (pay1 _ _ r k)

/-- A later point keeps the scratch. -/
theorem scrB (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S1024x1024 .f32) (harg5 : arg5.IsWhole)
    (arg6 : Memref sig .tc .vmem S1024x2048 .bf16) (harg6 : arg6.IsWhole) (hc0 : ¬cond0_0 i)
    (x0 : Vec Ideal S1024x2048 .f32) (x1 : Vec Ideal S1x2048 .f32) (x2 : Vec Ideal S2048x1024 .bf16) (s : Vec Ideal S1024x2048 .bf16) (r : Fin 1024) (k : Fin 2048) :
    sout0_B_0 (F := Ideal) c i arg2 harg2 arg3 harg3 arg4 harg4 arg5 harg5 arg6 harg6 hc0 x0 x1 x2 s (ix2 r k) = s (ix2 r k) := by
  unfold sout0_B_0
  frame_open
  frame_out

/-- A later point's output block. -/
theorem outB (c : Dev nD) (i : grid0.Coords) (arg2 : Memref sig .tc .vmem S1024x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S1024x1024 .f32) (harg5 : arg5.IsWhole)
    (arg6 : Memref sig .tc .vmem S1024x2048 .bf16) (harg6 : arg6.IsWhole) (hc0 : ¬cond0_0 i)
    (x0 : Vec Ideal S1024x2048 .f32) (x1 : Vec Ideal S1x2048 .f32) (x2 : Vec Ideal S2048x1024 .bf16) (s : Vec Ideal S1024x2048 .bf16) (r : Fin 1024) (p : Fin 1024) :
    out0_B_3 (F := Ideal) c i arg2 harg2 arg3 harg3 arg4 harg4 arg5 harg5 arg6 harg6 hc0 x0 x1 x2 s (ix2 r p) = ∑ k : Fin 2048, (show EReal from s (ix2 r k)) * x2 (ix2 k p) := by
  unfold out0_B_3
  frame_open
  simp (disch := decide) only [↓ View.readCov_skip, ↓ View.readCov_cons_toLoadRect, ↓ View.readCov_fill]
  frame_out
  canon_tiles x h
  · have ex : x = ix2 (x 0) p := by funext a; match a with | ⟨0, _⟩ => rfl | ⟨1, _⟩ => exact Fin.ext h1.symm
    rw [ex]
    refine (pay3 _ _ _ p).trans (Finset.sum_congr rfl fun k _ => Ideal.mul_congr ?_ rfl)
    exact ld_hi _ r _ h0 k
  · have ex : x = ix2 (x 0) p := by funext a; match a with | ⟨0, _⟩ => rfl | ⟨1, _⟩ => exact Fin.ext h1.symm
    rw [ex]
    refine (pay2 _ _ _ p).trans (Finset.sum_congr rfl fun k _ => Ideal.mul_congr ?_ rfl)
    exact ld_lo _ r _ h0 k

/-- What every point leaves: the normalised rows in the scratch, and the products of its block. -/
structure After (t : Fin cfg0.N) (s : Vec Ideal S1024x1024 .f32 × Vec Ideal S1024x2048 .bf16) : Prop where
  scr : ∀ (i : Fin 1024) (k : Fin 2048), s.2 (ix2 i k) = rows m c i k
  out : ∀ (i : Fin 1024) (p : Fin 1024), s.1 (ix2 i p) = ∑ k : Fin 2048, rows m c i k * m ((c : Thread nD τ).loc main_arg2) (ix2 k ⟨1024 * t + p, by have := (idx t).2.2.2.2; omega⟩)

/-- The first point. -/
theorem after_A (t : Fin cfg0.N) (h0 : t.val % 2 = 0) : After m c t (outsAt0 m c t.val t.isLt) := by
  rw [outsAt0_A m c t h0]
  exact {
    scr := fun i k => by
      dsimp only
      rw [scrA]
      exact normed_congr (fun k => blk0 m c t i k) (fun k => (congrFun (blk1 m c t) _).trans (r0 m c k)) k
    out := fun i p => by
      dsimp only
      rw [outA]
      refine Finset.sum_congr rfl fun k _ => Ideal.mul_congr ?_ (blk2 m c t k p)
      exact normed_congr (fun k => blk0 m c t i k) (fun k => (congrFun (blk1 m c t) _).trans (r0 m c k)) k }

/-- A later point. -/
theorem after_B (t : Fin cfg0.N) (h0 : ¬t.val % 2 = 0)
    (hs : ∀ (i : Fin 1024) (k : Fin 2048), (outsAt0 m c (t.val - 1) (Nat.lt_of_le_of_lt (Nat.sub_le _ _) t.isLt)).2 (ix2 i k) = rows m c i k) :
    After m c t (outsAt0 m c t.val t.isLt) := by
  rw [outsAt0_B m c t h0]
  exact {
    scr := fun i k => by
      dsimp only
      rw [scrB]
      exact hs i k
    out := fun i p => by
      dsimp only
      rw [outB]
      exact Finset.sum_congr rfl fun k _ => Ideal.mul_congr (hs i k) (blk2 m c t k p) }

/-- Every point. -/
theorem after_at : ∀ (n : ℕ) (hn : n < cfg0.N), After m c ⟨n, hn⟩ (outsAt0 m c n hn)
  | 0, hn => after_A m c ⟨0, hn⟩ (Nat.zero_mod _)
  | n + 1, hn => by
    have h := (idx ⟨n + 1, hn⟩).2.2.2.2
    refine after_B m c ⟨n + 1, hn⟩ (fun h0 => ?_) (after_at n (by omega)).scr
    dsimp only at h h0
    omega

/-- A cut block's index, placed in the array. -/
theorem emb_eq (t : Fin cfg0.N) (i : Fin 1024) (p : Fin 1024) :
    ((cfg0.win 3).blk t).view.emb (ix2 i p) = ix2 i ⟨1024 * t + p, by have := (idx t).2.2.2.2; omega⟩ := by
  have e := (idx t).2.2.2.1
  funext a
  apply Fin.ext
  blk_simp [idx t]
  match a with
  | ⟨0, _⟩ =>
    show 0 * 1024 + i.val = i.val
    omega
  | ⟨1, _⟩ =>
    show t.val * 1024 + p.val = 1024 * t.val + p.val
    omega

/-- The array after the run. -/
theorem final : (dats m 0 c).arrAt 3 cfg0.N = G m c := by
  have hc : (cfg0.win 3).Covers := by decide +kernel
  refine (dats m 0 c).arrAt_eq_of_covers 3 _ hc (fun t hf y => ?_)
  obtain ⟨i, p, rfl⟩ : ∃ (i : Fin 1024) (p : Fin 1024), y = ix2 i p := ⟨y 0, y 1, by funext a; match a with | ⟨0, _⟩ => rfl | ⟨1, _⟩ => rfl⟩
  rw [emb_eq, after0_3]
  refine (cast_eq _ _).trans ((congrArg (outsAt0 m c t.val t.isLt).1 ?_).trans ((after_at m c t.val t.isLt).out i p))
  funext a
  match a with
  | ⟨0, _⟩ => rfl
  | ⟨1, _⟩ => rfl

/-- The kernel's result is the reference's. -/
theorem algebraic : Cert.algebraic_MemProjKernelIdeal_MemProjReferenceIdeal := fun m g m' g' _ hargs => by
  refine ⟨fun c => G m c, (θ_run Cert.MemProjKernelIdeal.defs _ _).mono (fun r h c => ⟨(h c).1.trans (final m c), (h c).2⟩) (Cert.MemProjKernelIdeal.Value.run_blocks m g), ?_⟩
  refine (θ_run Cert.MemProjReferenceIdeal.defs _ _).mono (fun r h c => ⟨(h c).1.trans ?_, (h c).2⟩) (Cert.MemProjReferenceIdeal.Value.run (F := Ideal) m' g')
  obtain ⟨e0, e1, e2⟩ := hargs c
  rw [e0, e1, e2]
  funext i
  obtain ⟨r, p, rfl⟩ : ∃ (r : Fin 1024) (p : Fin 2048), i = ix2 r p := ⟨i 0, i 1, by funext a; match a with | ⟨0, _⟩ => rfl | ⟨1, _⟩ => rfl⟩
  pointwise
  rfl

/-- The frames. -/
theorem frame_p : Cert.quiescent_MemProjKernel := fun m ρ _ => Cert.MemProjKernel.Gen.frame m ρ

theorem frame_pi : Cert.quiescent_MemProjKernelIdeal := fun m ρ _ => Cert.MemProjKernelIdeal.Gen.frame m ρ

theorem frame_ri : Cert.quiescent_MemProjReferenceIdeal := fun m ρ _ =>
  (θ_run Cert.MemProjReferenceIdeal.defs _ _).mono (fun r h => ⟨fun c => (h c).2, Idealize.ShloMosaic.sem_eq_zero_of_no_sems (by decide) r.2⟩)
    (Cert.MemProjReferenceIdeal.Value.run (F := Ideal) m ρ)

/-- No operation was rewritten. -/
theorem preserves : Cert.preserves_MemProjKernel_MemProjKernelIdeal := trivial

end Cert.MemProjClaim

end
-- ==== Proof.RowsProjClaim.lean ====
/- The input projection of the single-step batch: the first point leaves the normalised rows in the scratch, every point
   multiplies them with its block of the weights, and the whole array is the reference's product. -/
module

public import proofs.«01_k».proof.Proof.Gen.RowsProjKernelIdeal.Value
public import proofs.«01_k».proof.Proof.Gen.RowsProjKernel.Frame
public import proofs.«01_k».proof.Proof.Gen.RowsProjReferenceIdeal.Run
public import proofs.«01_k».proof.Proof.RowNorm
public import proofs.«01_k».proof.Defs
public import Idealize.ShloMosaic.Lib.Claim
public import Idealize.ShloMosaic.Lib.Pipeline.ReadBack
public import Idealize.ShloMosaic.Lib.Pipeline.ValueKit

@[expose] public section

set_option maxRecDepth 16384

noncomputable section

namespace Cert.RowsProjClaim

open Idealize.ShloMosaic Idealize.ShloMosaic.TcCoe Cert.RowsProjKernelIdeal.Gen Cert.RowsProjKernelIdeal Cert.RowNorm

variable (m : (ℓ : Loc nD τ sig) → Buf (Elt Ideal) ℓ) (c : Dev nD)

/-- The block of every window at every grid point. -/
theorem idx : ∀ t : Fin cfg0.N, win0_0.index t = ![0, 0] ∧ win0_1.index t = ![0, 0] ∧ win0_2.index t = ![0, t.val]
    ∧ win0_3.index t = ![0, t.val] ∧ t.val < 17 :=
  (by decide +kernel : ∀ t : Fin grid0.N, _)

/-- The normalised rows at a row and a column. -/
theorem pay1 (v : Vec Ideal S256x2048 .f32) (g : Vec Ideal S1x2048 .f32) (i : Fin 256) (p : Fin 2048) :
    k0_pay1 (F := Ideal) v g (ix2 i p) = normed (fun k => v (ix2 i k)) (fun k => g (ix2 0 k)) p := by
  pointwise [k0_pay1]
  rfl

/-- The normalised rows of the launch's arguments. -/
def rows (i : Fin 256) (p : Fin 2048) : EReal := normed (fun k => m ((c : Thread nD τ).loc main_arg0) (ix2 i k)) (fun k => m ((c : Thread nD τ).loc main_arg1) (ix1 k)) p

/-- The projection of the launch's arguments, as an array. -/
def G : S256x17408.Idx → EReal := fun i => ∑ k : Fin 2048, rows m c (i 0) k * m ((c : Thread nD τ).loc main_arg2) (ix2 k (i 1))

/-- The norm weight as one row. -/
theorem V0 : V m c main_v0 = shapeCast S1x2048 (m ((c : Thread nD τ).loc main_arg1)) shapeCasts_S2048_S1x2048 := by
  show StableHlo.after _ _ _ = _
  simp only [hostOps0]
  simp only [StableHlo.after_cons, StableHlo.after_nil]
  after_results_simp
  rfl

/-- The norm weight's row at a column. -/
theorem r0 (l : Fin 2048) : V m c main_v0 (ix2 0 l) = m ((c : Thread nD τ).loc main_arg1) (ix1 l) := by
  rw [V0]
  pointwise

theorem blk0 (t : Fin cfg0.N) (i : Fin 256) (l : Fin 2048) : iblk m c 0 t (ix2 i l) = m ((c : Thread nD τ).loc main_arg0) (ix2 i l) := by
  blk_point [iblk, V, idx t]

theorem blk1 (t : Fin cfg0.N) : iblk m c 1 t = V m c main_v0 := by
  blk_ext! [iblk, idx t]

theorem blk2 (t : Fin cfg0.N) (k : Fin 2048) (p : Fin 1024) :
    iblk m c 2 t (ix2 k p) = m ((c : Thread nD τ).loc main_arg2) (ix2 k ⟨1024 * t + p, by have := (idx t).2.2.2.2; omega⟩) := by
  blk_point [iblk, V, idx t]

/-- The product's payload at a row and a column. -/
theorem pay2 (v : Vec Ideal S256x2048 .bf16) (w : Vec Ideal S2048x1024 .bf16) (i : Fin 256) (p : Fin 1024) :
    k0_pay2 (F := Ideal) v w (ix2 i p) = ∑ k : Fin 2048, (show EReal from v (ix2 i k)) * w (ix2 k p) := by
  pointwise [k0_pay2]

/-- The first point's scratch. -/
theorem scrA (c : Dev nD) (i : grid0.Coords) (arg2 : Memref sig .tc .vmem S256x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S256x1024 .f32) (harg5 : arg5.IsWhole)
    (arg6 : Memref sig .tc .vmem S256x2048 .bf16) (harg6 : arg6.IsWhole) (hc0 : cond0_0 i)
    (x0 : Vec Ideal S256x2048 .f32) (x1 : Vec Ideal S1x2048 .f32) (x2 : Vec Ideal S2048x1024 .bf16) (r : Fin 256) (k : Fin 2048) :
    sout0_A_0 (F := Ideal) c i arg2 harg2 arg3 harg3 arg4 harg4 arg5 harg5 arg6 harg6 hc0 x0 x1 x2 (ix2 r k) = normed (fun k => x0 (ix2 r k)) (fun k => x1 (ix2 0 k)) k := by
  unfold sout0_A_0
  frame_open
  frame_out
  pointwise [pay1]

/-- The first point's output block. -/
theorem outA (c : Dev nD) (i : grid0.Coords) (arg2 : Memref sig .tc .vmem S256x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S256x1024 .f32) (harg5 : arg5.IsWhole)
    (arg6 : Memref sig .tc .vmem S256x2048 .bf16) (harg6 : arg6.IsWhole) (hc0 : cond0_0 i)
    (x0 : Vec Ideal S256x2048 .f32) (x1 : Vec Ideal S1x2048 .f32) (x2 : Vec Ideal S2048x1024 .bf16) (r : Fin 256) (p : Fin 1024) :
    out0_A_3 (F := Ideal) c i arg2 harg2 arg3 harg3 arg4 harg4 arg5 harg5 arg6 harg6 hc0 x0 x1 x2 (ix2 r p) = ∑ k : Fin 2048, normed (fun k => x0 (ix2 r k)) (fun k => x1 (ix2 0 k)) k * x2 (ix2 k p) := by
  unfold out0_A_3
  frame_open
  simp (disch := decide) only [↓ View.readCov_skip, ↓ View.readCov_cons_toLoadRect, ↓ View.readCov_fill]
  frame_out
  refine (pay2 _ _ r p).trans (Finset.sum_congr rfl fun k _ => Ideal.mul_congr (pay1 _ _ r k) rfl)

/-- A later point keeps the scratch. -/
theorem scrB (c : Dev nD) (i : grid0.Coords) (arg2 : Memref sig .tc .vmem S256x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S256x1024 .f32) (harg5 : arg5.IsWhole)
    (arg6 : Memref sig .tc .vmem S256x2048 .bf16) (harg6 : arg6.IsWhole) (hc0 : ¬cond0_0 i)
    (x0 : Vec Ideal S256x2048 .f32) (x1 : Vec Ideal S1x2048 .f32) (x2 : Vec Ideal S2048x1024 .bf16) (s : Vec Ideal S256x2048 .bf16) (r : Fin 256) (k : Fin 2048) :
    sout0_B_0 (F := Ideal) c i arg2 harg2 arg3 harg3 arg4 harg4 arg5 harg5 arg6 harg6 hc0 x0 x1 x2 s (ix2 r k) = s (ix2 r k) := by
  unfold sout0_B_0
  frame_open
  frame_out

/-- A later point's output block. -/
theorem outB (c : Dev nD) (i : grid0.Coords) (arg2 : Memref sig .tc .vmem S256x2048 .f32) (harg2 : arg2.IsWhole) (arg3 : Memref sig .tc .vmem S1x2048 .f32) (harg3 : arg3.IsWhole)
    (arg4 : Memref sig .tc .vmem S2048x1024 .bf16) (harg4 : arg4.IsWhole) (arg5 : Memref sig .tc .vmem S256x1024 .f32) (harg5 : arg5.IsWhole)
    (arg6 : Memref sig .tc .vmem S256x2048 .bf16) (harg6 : arg6.IsWhole) (hc0 : ¬cond0_0 i)
    (x0 : Vec Ideal S256x2048 .f32) (x1 : Vec Ideal S1x2048 .f32) (x2 : Vec Ideal S2048x1024 .bf16) (s : Vec Ideal S256x2048 .bf16) (r : Fin 256) (p : Fin 1024) :
    out0_B_3 (F := Ideal) c i arg2 harg2 arg3 harg3 arg4 harg4 arg5 harg5 arg6 harg6 hc0 x0 x1 x2 s (ix2 r p) = ∑ k : Fin 2048, (show EReal from s (ix2 r k)) * x2 (ix2 k p) := by
  unfold out0_B_3
  frame_open
  frame_out
  exact pay2 _ _ r p

/-- What every point leaves: the normalised rows in the scratch, and the products of its block. -/
structure After (t : Fin cfg0.N) (s : Vec Ideal S256x1024 .f32 × Vec Ideal S256x2048 .bf16) : Prop where
  scr : ∀ (i : Fin 256) (k : Fin 2048), s.2 (ix2 i k) = rows m c i k
  out : ∀ (i : Fin 256) (p : Fin 1024), s.1 (ix2 i p) = ∑ k : Fin 2048, rows m c i k * m ((c : Thread nD τ).loc main_arg2) (ix2 k ⟨1024 * t + p, by have := (idx t).2.2.2.2; omega⟩)

/-- The first point. -/
theorem after_A (t : Fin cfg0.N) (h0 : t.val % 17 = 0) : After m c t (outsAt0 m c t.val t.isLt) := by
  rw [outsAt0_A m c t h0]
  exact {
    scr := fun i k => by
      dsimp only
      rw [scrA]
      exact normed_congr (fun k => blk0 m c t i k) (fun k => (congrFun (blk1 m c t) _).trans (r0 m c k)) k
    out := fun i p => by
      dsimp only
      rw [outA]
      refine Finset.sum_congr rfl fun k _ => Ideal.mul_congr ?_ (blk2 m c t k p)
      exact normed_congr (fun k => blk0 m c t i k) (fun k => (congrFun (blk1 m c t) _).trans (r0 m c k)) k }

/-- A later point. -/
theorem after_B (t : Fin cfg0.N) (h0 : ¬t.val % 17 = 0)
    (hs : ∀ (i : Fin 256) (k : Fin 2048), (outsAt0 m c (t.val - 1) (Nat.lt_of_le_of_lt (Nat.sub_le _ _) t.isLt)).2 (ix2 i k) = rows m c i k) :
    After m c t (outsAt0 m c t.val t.isLt) := by
  rw [outsAt0_B m c t h0]
  exact {
    scr := fun i k => by
      dsimp only
      rw [scrB]
      exact hs i k
    out := fun i p => by
      dsimp only
      rw [outB]
      exact Finset.sum_congr rfl fun k _ => Ideal.mul_congr (hs i k) (blk2 m c t k p) }

/-- Every point. -/
theorem after_at : ∀ (n : ℕ) (hn : n < cfg0.N), After m c ⟨n, hn⟩ (outsAt0 m c n hn)
  | 0, hn => after_A m c ⟨0, hn⟩ (Nat.zero_mod _)
  | n + 1, hn => by
    have h := (idx ⟨n + 1, hn⟩).2.2.2.2
    refine after_B m c ⟨n + 1, hn⟩ (fun h0 => ?_) (after_at n (by omega)).scr
    dsimp only at h h0
    omega

/-- A cut block's index, placed in the array. -/
theorem emb_eq (t : Fin cfg0.N) (i : Fin 256) (p : Fin 1024) :
    ((cfg0.win 3).blk t).view.emb (ix2 i p) = ix2 i ⟨1024 * t + p, by have := (idx t).2.2.2.2; omega⟩ := by
  have e := (idx t).2.2.2.1
  funext a
  apply Fin.ext
  blk_simp [idx t]
  match a with
  | ⟨0, _⟩ =>
    show 0 * 256 + i.val = i.val
    omega
  | ⟨1, _⟩ =>
    show t.val * 1024 + p.val = 1024 * t.val + p.val
    omega

/-- The array after the run. -/
theorem final : (dats m 0 c).arrAt 3 cfg0.N = G m c := by
  have hc : (cfg0.win 3).Covers := by decide +kernel
  refine (dats m 0 c).arrAt_eq_of_covers 3 _ hc (fun t hf y => ?_)
  obtain ⟨i, p, rfl⟩ : ∃ (i : Fin 256) (p : Fin 1024), y = ix2 i p := ⟨y 0, y 1, by funext a; match a with | ⟨0, _⟩ => rfl | ⟨1, _⟩ => rfl⟩
  rw [emb_eq, after0_3]
  refine (cast_eq _ _).trans ((congrArg (outsAt0 m c t.val t.isLt).1 ?_).trans ((after_at m c t.val t.isLt).out i p))
  funext a
  match a with
  | ⟨0, _⟩ => rfl
  | ⟨1, _⟩ => rfl

/-- The kernel's result is the reference's. -/
theorem algebraic : Cert.algebraic_RowsProjKernelIdeal_RowsProjReferenceIdeal := fun m g m' g' _ hargs => by
  refine ⟨fun c => G m c, (θ_run Cert.RowsProjKernelIdeal.defs _ _).mono (fun r h c => ⟨(h c).1.trans (final m c), (h c).2⟩) (Cert.RowsProjKernelIdeal.Value.run_blocks m g), ?_⟩
  refine (θ_run Cert.RowsProjReferenceIdeal.defs _ _).mono (fun r h c => ⟨(h c).1.trans ?_, (h c).2⟩) (Cert.RowsProjReferenceIdeal.Value.run (F := Ideal) m' g')
  obtain ⟨e0, e1, e2⟩ := hargs c
  rw [e0, e1, e2]
  funext i
  obtain ⟨r, p, rfl⟩ : ∃ (r : Fin 256) (p : Fin 17408), i = ix2 r p := ⟨i 0, i 1, by funext a; match a with | ⟨0, _⟩ => rfl | ⟨1, _⟩ => rfl⟩
  pointwise
  rfl

/-- The frames. -/
theorem frame_p : Cert.quiescent_RowsProjKernel := fun m ρ _ => Cert.RowsProjKernel.Gen.frame m ρ

theorem frame_pi : Cert.quiescent_RowsProjKernelIdeal := fun m ρ _ => Cert.RowsProjKernelIdeal.Gen.frame m ρ

theorem frame_ri : Cert.quiescent_RowsProjReferenceIdeal := fun m ρ _ =>
  (θ_run Cert.RowsProjReferenceIdeal.defs _ _).mono (fun r h => ⟨fun c => (h c).2, Idealize.ShloMosaic.sem_eq_zero_of_no_sems (by decide) r.2⟩)
    (Cert.RowsProjReferenceIdeal.Value.run (F := Ideal) m ρ)

/-- No operation was rewritten. -/
theorem preserves : Cert.preserves_RowsProjKernel_RowsProjKernelIdeal := trivial

end Cert.RowsProjClaim

end
-- ==== Proof.RowsFinalClaim.lean ====
/- The output projection with its norm of the sampled rows: the one grid point's block holds the normalised rows, and so does the
   reference's array. -/
module

public import proofs.«01_k».proof.Proof.Gen.RowsFinalKernelIdeal.Value
public import proofs.«01_k».proof.Proof.Gen.RowsFinalKernel.Frame
public import proofs.«01_k».proof.Proof.Gen.RowsFinalReferenceIdeal.Run
public import proofs.«01_k».proof.Proof.RowNorm
public import proofs.«01_k».proof.Defs
public import Idealize.ShloMosaic.Lib.Claim
public import Idealize.ShloMosaic.Lib.Pipeline.ValueKit

@[expose] public section

set_option maxRecDepth 16384

noncomputable section

namespace Cert.RowsFinalClaim

open Idealize.ShloMosaic Idealize.ShloMosaic.TcCoe Cert.RowsFinalKernelIdeal.Gen Cert.RowsFinalKernelIdeal Cert.RowNorm

variable (m : (ℓ : Loc nD τ sig) → Buf (Elt Ideal) ℓ) (c : Dev nD)

/-- The block of every window at every grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ t.val < 1 :=
  (by decide +kernel : ∀ t : Fin grid0.N, _)

/-- The payload of the block at a row and a column. -/
theorem pay1 (v0 : Vec Ideal S256x2048 .f32) (v1 : Vec Ideal S256x2048 .bf16) (v2 : Vec Ideal S2048x2048 .bf16) (v15 : Vec Ideal S1x2048 .f32) (i : Fin 256) (p : Fin 2048) :
    k0_pay1 (F := Ideal) v0 v1 v2 v15 (ix2 i p) = normed (resid v1 v0 v2 i) (fun k => v15 (ix2 0 k)) p := by
  pointwise [k0_pay1]
  rfl

/-- The output projection of the launch's arguments, as an array. -/
def G : S256x2048.Idx → EReal := fun i => normed (resid (m ((c : Thread nD τ).loc main_arg0)) (m ((c : Thread nD τ).loc main_arg1)) (m ((c : Thread nD τ).loc main_arg2)) (i 0))
  (fun k => m ((c : Thread nD τ).loc main_arg3) (ix1 k)) (i 1)

/-- The norm weight as one row. -/
theorem V0 : V m c main_v0 = shapeCast S1x2048 (m ((c : Thread nD τ).loc main_arg3)) shapeCasts_S2048_S1x2048 := by
  show StableHlo.after _ _ _ = _
  simp only [hostOps0]
  simp only [StableHlo.after_cons, StableHlo.after_nil]
  after_results_simp
  rfl

/-- The norm weight's row at a column. -/
theorem r0 (l : Fin 2048) : V m c main_v0 (ix2 0 l) = m ((c : Thread nD τ).loc main_arg3) (ix1 l) := by
  rw [V0]
  pointwise

theorem blk0 (t : Fin cfg0.N) (i : Fin 256) (l : Fin 2048) :
    iblk m c 0 t (ix2 i l) = m ((c : Thread nD τ).loc main_arg0) (ix2 ⟨256 * t + i, by have := (idx t).2.2.2.2.2; omega⟩ l) := by
  blk_point [iblk, V, idx t]

theorem blk1 (t : Fin cfg0.N) (i : Fin 256) (l : Fin 2048) :
    iblk m c 1 t (ix2 i l) = m ((c : Thread nD τ).loc main_arg1) (ix2 ⟨256 * t + i, by have := (idx t).2.2.2.2.2; omega⟩ l) := by
  blk_point [iblk, V, idx t]

theorem blk2 (t : Fin cfg0.N) (i : Fin 2048) (l : Fin 2048) :
    iblk m c 2 t (ix2 i l) = m ((c : Thread nD τ).loc main_arg2) (ix2 i l) := by
  blk_point [iblk, V, idx t]

theorem blk3 (t : Fin cfg0.N) : iblk m c 3 t = V m c main_v0 := by
  blk_ext! [iblk, idx t]

/-- A row read through its rectangle is a row of the block. -/
theorem ld_0 {e : EltTy} (X : Vec Ideal S256x2048 e) (i : Fin 256) (x : Fin 256) (h : i.val = x.val) (k : Fin 2048) : View.ld X r0_0 (ix2 x k) = X (ix2 i k) := by
  show X _ = X _
  congr 1
  funext a
  match a with
  | ⟨0, _⟩ => apply Fin.ext; show 0 + 1 * x.val = i.val; omega
  | ⟨1, _⟩ => apply Fin.ext; show 0 + 1 * k.val = k.val; omega

theorem ld_1 {e : EltTy} (X : Vec Ideal S2048x2048 e) (j k : Fin 2048) : View.ld X r0_1 (ix2 j k) = X (ix2 j k) := by
  show X _ = X _
  congr 1
  funext a
  match a with
  | ⟨0, _⟩ => apply Fin.ext; show 0 + 1 * j.val = j.val; omega
  | ⟨1, _⟩ => apply Fin.ext; show 0 + 1 * k.val = k.val; omega

theorem ld_2 {e : EltTy} (X : Vec Ideal S1x2048 e) (k : Fin 2048) : View.ld X r0_2 (ix2 0 k) = X (ix2 0 k) := by
  show X _ = X _
  congr 1
  funext a
  match a with
  | ⟨0, _⟩ => rfl
  | ⟨1, _⟩ => apply Fin.ext; show 0 + 1 * k.val = k.val; omega

/-- What the body leaves at a row and a column of its block. -/
theorem out_at (t : Fin cfg0.N) (i : Fin 256) (p : Fin 2048) :
    out0_4 (F := Ideal) (iblk m c 0 t) (iblk m c 1 t) (iblk m c 2 t) (iblk m c 3 t) (ix2 i p) = G m c (ix2 ⟨256 * t + i, by have := (idx t).2.2.2.2.2; omega⟩ p) := by
  canon_tiles x h using cover0_4 ..
  · have ex : x = ix2 (x 0) p := by funext a; match a with | ⟨0, _⟩ => rfl | ⟨1, _⟩ => exact Fin.ext h1.symm
    rw [ex]
    refine (pay1 _ _ _ _ _ _).trans (normed_congr (fun k => resid_congr (fun k => ?_) (fun k => ?_) (fun j k => ?_) k) (fun k => ?_) p)
    · exact (ld_0 _ i _ h0 k).trans (blk0 m c t i k)
    · exact (ld_0 _ i _ h0 k).trans (blk1 m c t i k)
    · exact (ld_1 _ j k).trans (blk2 m c t j k)
    · exact ((ld_2 _ k).trans (congrFun (blk3 m c t) _)).trans (r0 m c k)

/-- A cut block's index, placed in the array. -/
theorem emb_eq (t : Fin cfg0.N) (i : Fin 256) (p : Fin 2048) :
    ((cfg0.win 4).blk t).view.emb (ix2 i p) = ix2 ⟨256 * t + i, by have := (idx t).2.2.2.2.2; omega⟩ p := by
  have e4 := (idx t).2.2.2.2.1
  funext a
  apply Fin.ext
  blk_simp [idx t]
  match a with
  | ⟨0, _⟩ =>
    show 0 * 256 + i.val = 256 * 0 + i.val
    omega
  | ⟨1, _⟩ =>
    show 0 * 2048 + p.val = p.val
    omega

/-- The array after the run. -/
theorem final : (dats m 0 c).arrAt 4 cfg0.N = G m c := by
  have hc : (cfg0.win 4).Covers := by decide +kernel
  refine (dats m 0 c).arrAt_eq_of_covers 4 _ hc (fun t hf y => ?_)
  obtain ⟨i, p, rfl⟩ : ∃ (i : Fin 256) (p : Fin 2048), y = ix2 i p := ⟨y 0, y 1, by funext a; match a with | ⟨0, _⟩ => rfl | ⟨1, _⟩ => rfl⟩
  rw [emb_eq, after0_4]
  refine (cast_eq _ _).trans ((congrArg (out0_4 (F := Ideal) (iblk m c 0 t) (iblk m c 1 t) (iblk m c 2 t) (iblk m c 3 t)) ?_).trans (out_at m c t i p))
  funext a
  match a with
  | ⟨0, _⟩ => rfl
  | ⟨1, _⟩ => rfl

/-- The kernel's result is the reference's. -/
theorem algebraic : Cert.algebraic_RowsFinalKernelIdeal_RowsFinalReferenceIdeal := fun m g m' g' _ hargs => by
  refine ⟨fun c => G m c, (θ_run Cert.RowsFinalKernelIdeal.defs _ _).mono (fun r h c => ⟨(h c).1.trans (final m c), (h c).2⟩) (Cert.RowsFinalKernelIdeal.Value.run_blocks m g), ?_⟩
  refine (θ_run Cert.RowsFinalReferenceIdeal.defs _ _).mono (fun r h c => ⟨(h c).1.trans ?_, (h c).2⟩) (Cert.RowsFinalReferenceIdeal.Value.run (F := Ideal) m' g')
  obtain ⟨e0, e1, e2, e3⟩ := hargs c
  rw [e0, e1, e2, e3]
  funext i
  obtain ⟨r, p, rfl⟩ : ∃ (r : Fin 256) (p : Fin 2048), i = ix2 r p := ⟨i 0, i 1, by funext a; match a with | ⟨0, _⟩ => rfl | ⟨1, _⟩ => rfl⟩
  pointwise
  rfl

/-- The frames. -/
theorem frame_p : Cert.quiescent_RowsFinalKernel := fun m ρ _ => Cert.RowsFinalKernel.Gen.frame m ρ

theorem frame_pi : Cert.quiescent_RowsFinalKernelIdeal := fun m ρ _ => Cert.RowsFinalKernelIdeal.Gen.frame m ρ

theorem frame_ri : Cert.quiescent_RowsFinalReferenceIdeal := fun m ρ _ =>
  (θ_run Cert.RowsFinalReferenceIdeal.defs _ _).mono (fun r h => ⟨fun c => (h c).2, Idealize.ShloMosaic.sem_eq_zero_of_no_sems (by decide) r.2⟩)
    (Cert.RowsFinalReferenceIdeal.Value.run (F := Ideal) m ρ)

/-- No operation was rewritten. -/
theorem preserves : Cert.preserves_RowsFinalKernel_RowsFinalKernelIdeal := trivial

end Cert.RowsFinalClaim

end
-- ==== Proof.ProjPays.lean ====
/- The payloads of the projection with a convolution, at an index: the normalised rows, the products, the four-term
   convolution of a window of rows, and the gate. -/
module

public import proofs.«01_k».proof.Proof.Gen.ProjKernelIdeal.Skeleton
public import proofs.«01_k».proof.Proof.RowNorm
public import Idealize.ShloMosaic.Lib.Pointwise

@[expose] public section

set_option maxRecDepth 16384

noncomputable section

namespace Cert.ProjPays

open Idealize.ShloMosaic Cert.ProjKernelIdeal.Gen Cert.ProjKernelIdeal Cert.RowNorm

/-- The gate through the hyperbolic tangent of half. -/
def gated (z : EReal) : EReal := Ideal.ofBits .f32 0x3F000000#32 * z * Ideal.tanh (Ideal.ofBits .f32 0x3F000000#32 * z) + Ideal.ofBits .f32 0x3F000000#32 * z

/-- The four-term sum of a window of rows (eight rows of history first), at a row. -/
def taps (b w3 w2 w1 w0 : EReal) (h : Fin 520 → EReal) (i : Fin 512) : EReal :=
  b + w3 * h ⟨i.val + 8, by omega⟩ + w2 * h ⟨i.val + 7, by omega⟩ + w1 * h ⟨i.val + 6, by omega⟩ + w0 * h ⟨i.val + 5, by omega⟩

/-- The window's rows as a rotation places them. -/
theorem taps_eq (b w3 w2 w1 w0 : EReal) (h : Fin 520 → EReal) (i : Fin 512) :
    b + w3 * h ⟨8 + i.val, by omega⟩ + w2 * h ⟨(8 + i.val + 520 - 1) % 520, by omega⟩ + w1 * h ⟨(8 + i.val + 520 - 2) % 520, by omega⟩
      + w0 * h ⟨(8 + i.val + 520 - 3) % 520, by omega⟩ = taps b w3 w2 w1 w0 h i := by
  have e0 : (⟨8 + i.val, by omega⟩ : Fin 520) = ⟨i.val + 8, by omega⟩ := Fin.ext (by dsimp only; omega)
  have e1 : (⟨(8 + i.val + 520 - 1) % 520, by omega⟩ : Fin 520) = ⟨i.val + 7, by omega⟩ := Fin.ext (by dsimp only; omega)
  have e2 : (⟨(8 + i.val + 520 - 2) % 520, by omega⟩ : Fin 520) = ⟨i.val + 6, by omega⟩ := Fin.ext (by dsimp only; omega)
  have e3 : (⟨(8 + i.val + 520 - 3) % 520, by omega⟩ : Fin 520) = ⟨i.val + 5, by omega⟩ := Fin.ext (by dsimp only; omega)
  rw [e0, e1, e2, e3]
  rfl

theorem pay1 (v : Vec Ideal S1024x2048 .f32) (g : Vec Ideal S1x2048 .f32) (i : Fin 1024) (p : Fin 2048) :
    k0_pay1 (F := Ideal) v g (ix2 i p) = normed (fun k => v (ix2 i k)) (fun k => g (ix2 0 k)) p := by
  pointwise [k0_pay1]
  rfl

theorem pay2 (q : Fin 3) (s : Fin 8) (p : Fin 1024) : k0_pay2 (F := Ideal) (ix3 q s p) = (0 : EReal) := by
  pointwise [k0_pay2]

theorem pay3 (v : Vec Ideal S512x2048 .bf16) (w : Vec Ideal S2048x1024 .bf16) (i : Fin 512) (p : Fin 1024) :
    k0_pay3 (F := Ideal) v w (ix2 i p) = ∑ k : Fin 2048, (show EReal from v (ix2 i k)) * w (ix2 k p) := by
  pointwise [k0_pay3]

theorem pay4 (v : Vec Ideal S512x2048 .bf16) (w : Vec Ideal S2048x1024 .bf16) (i : Fin 512) (p : Fin 1024) :
    k0_pay4 (F := Ideal) v w (ix2 i p) = ∑ k : Fin 2048, (show EReal from v (ix2 i k)) * w (ix2 k p) := by
  pointwise [k0_pay4]

theorem pay11 (v : Vec Ideal S512x2048 .bf16) (w : Vec Ideal S2048x1024 .bf16) (i : Fin 512) (p : Fin 1024) :
    k0_pay11 (F := Ideal) v w (ix3 0 i p) = ∑ k : Fin 2048, (show EReal from v (ix2 i k)) * w (ix2 k p) := by
  pointwise [k0_pay11]

theorem pay14 (v : Vec Ideal S512x2048 .bf16) (w : Vec Ideal S2048x1024 .bf16) (i : Fin 512) (p : Fin 1024) :
    k0_pay14 (F := Ideal) v w (ix3 0 i p) = ∑ k : Fin 2048, (show EReal from v (ix2 i k)) * w (ix2 k p) := by
  pointwise [k0_pay14]

theorem pay5 (v : Vec Ideal S1x8x1024 .f32) (s : Fin 8) (p : Fin 1024) : k0_pay5 (F := Ideal) v (ix3 0 s p) = v (ix3 0 s p) := by
  pointwise [k0_pay5]

theorem pay8 (v : Vec Ideal S1x8x1024 .f32) (s : Fin 8) (p : Fin 1024) : k0_pay8 (F := Ideal) v (ix3 0 s p) = v (ix3 0 s p) := by
  pointwise [k0_pay8, k0_pay7]

theorem pay9 (v : Vec Ideal S1x8x1024 .f32) (s : Fin 8) (p : Fin 1024) : k0_pay9 (F := Ideal) v (ix3 0 s p) = v (ix3 0 s p) := by
  pointwise [k0_pay9, k0_pay7]

theorem pay13 (v : Vec Ideal S1x8x1024 .f32) (s : Fin 8) (p : Fin 1024) : k0_pay13 (F := Ideal) (k0_pay12 v) (ix3 0 s p) = v (ix3 0 s p) := by
  pointwise [k0_pay13, k0_pay12]

/-- The history of the first half of a row block: zero at the start of a sequence, the kept rows otherwise. -/
theorem pay10 (n : Fin 8) (v : Vec Ideal S1x8x1024 .f32) (s : Fin 8) (p : Fin 1024) :
    k0_pay10 (F := Ideal) (BitVec.ofNat 32 n.val) v (ix3 0 s p) = if n.val % 2 = 0 then (0 : EReal) else v (ix3 0 s p) := by
  fin_cases n <;> pointwise [k0_pay10] <;> rfl

/-- The convolution of the first half of a row block, gated. -/
theorem pay18 (h : Vec Ideal S1x520x1024 .f32) (b w3 w2 w1 w0 : Vec Ideal S1x1024 .f32) (i : Fin 512) (p : Fin 1024) :
    k0_pay18 (F := Ideal) (k0_pay16 h b w3 w2 w1) (k0_pay17 h) w0 (ix2 i p)
      = gated (taps (b (ix2 0 p)) (w3 (ix2 0 p)) (w2 (ix2 0 p)) (w1 (ix2 0 p)) (w0 (ix2 0 p)) (fun r => h (ix3 0 r p)) i) := by
  pointwise [k0_pay18, k0_pay16, k0_pay17, k0_pay15]
  exact congrArg gated (taps_eq _ _ _ _ _ (fun r => h (ix3 0 r p)) i)

/-- The convolution of the second half of a row block, gated. -/
theorem pay6 (h : Vec Ideal S1x520x1024 .f32) (b w3 w2 w1 w0 : Vec Ideal S1x1024 .f32) (i : Fin 512) (p : Fin 1024) :
    k0_pay6 (F := Ideal) (k0_pay19 h b w3 w2 w1 w0) (ix2 i p)
      = gated (taps (b (ix2 0 p)) (w3 (ix2 0 p)) (w2 (ix2 0 p)) (w1 (ix2 0 p)) (w0 (ix2 0 p)) (fun r => h (ix3 0 r p)) i) := by
  pointwise [k0_pay6, k0_pay19]
  exact congrArg gated (taps_eq _ _ _ _ _ (fun r => h (ix3 0 r p)) i)

end Cert.ProjPays

end
-- ==== Proof.ProjSpec.lean ====
/- What the projection with a convolution computes, as functions of a row and a column: the normalised rows times the
   weights, the four-term convolution along a sequence of 2048 rows, and what the grid's points keep of it. -/
module

public import proofs.«01_k».proof.Proof.ProjPays

@[expose] public section

noncomputable section

namespace Cert.ProjSpec

open Idealize.ShloMosaic Cert.RowNorm Cert.ProjPays

/-- A number as an index, the remainder when it is too large. -/
def wrap (d : ℕ) [NeZero d] (n : ℕ) : Fin d := Fin.ofNat d n

theorem wrap_val (d : ℕ) [NeZero d] (i : Fin d) : wrap d i.val = i := Fin.ext (Nat.mod_eq_of_lt i.isLt)

theorem wrap_mk (d : ℕ) [NeZero d] (n : ℕ) (h : n < d) : (⟨n, h⟩ : Fin d) = wrap d n := (wrap_val d ⟨n, h⟩).symm

variable (x : (⟨2, ![8192, 2048]⟩ : Shape).Idx → EReal) (g : (⟨1, ![2048]⟩ : Shape).Idx → EReal) (w : (⟨2, ![2048, 17408]⟩ : Shape).Idx → EReal)
  (cw : (⟨2, ![4, 3072]⟩ : Shape).Idx → EReal) (cb : (⟨1, ![3072]⟩ : Shape).Idx → EReal)

/-- A normalised row, at a column. -/
def row (R : ℕ) (k : Fin 2048) : EReal := normed (fun k => x (ix2 (wrap 8192 R) k)) (fun k => g (ix1 k)) k

/-- The product of a normalised row with a column of the weights. -/
def U (R Q : ℕ) : EReal := ∑ k : Fin 2048, row x g R k * w (ix2 k (wrap 17408 Q))

/-- The product `k` rows before in the same sequence, zero before its start. -/
def Z (R Q k : ℕ) : EReal := if R % 2048 < k then 0 else U x g w (R - k) Q

/-- The convolution at a row and a channel. -/
def conv (R q : ℕ) : EReal :=
  cb (ix1 (wrap 3072 q)) + cw (ix2 3 (wrap 3072 q)) * Z x g w R (6144 + q) 0 + cw (ix2 2 (wrap 3072 q)) * Z x g w R (6144 + q) 1
    + cw (ix2 1 (wrap 3072 q)) * Z x g w R (6144 + q) 2 + cw (ix2 0 (wrap 3072 q)) * Z x g w R (6144 + q) 3

/-- The first result at a row and a column: the gated convolution on the channels' columns, the product elsewhere. -/
def out (R Q : ℕ) : EReal := if 6144 ≤ Q ∧ Q < 9216 then gated (conv x g w cw cb R (Q - 6144)) else U x g w R Q

/-- The rows of history before the first half of row block `I`. -/
def before (I Q r : ℕ) : EReal := if I % 2 = 0 then 0 else U x g w (1024 * (I - 1) + 1016 + r) Q

/-- The window of the first half of row block `I`. -/
def window (I Q r : ℕ) : EReal := if r < 8 then before x g w I Q r else U x g w (1024 * I + (r - 8)) Q

/-- What the kept rows of channel tile `q` are after point `n`. -/
def halo (n q s Q : ℕ) : EReal :=
  if 6 + q ≤ n % 17 then U x g w (1024 * (n / 17) + 1016 + s) Q else if n < 17 then 0 else U x g w (1024 * (n / 17 - 1) + 1016 + s) Q

theorem Z_zero (R Q : ℕ) : Z x g w R Q 0 = U x g w R Q := if_neg (Nat.not_lt_zero _)

/-- A window's row is the product `k` rows before. -/
theorem window_eq (I Q i k : ℕ) (hk : k ≤ 3) (hi : i < 1024) : window x g w I Q (i + 8 - k) = Z x g w (1024 * I + i) Q k := by
  unfold window Z before
  by_cases h : i < k
  · rw [if_pos (by omega)]
    by_cases h2 : I % 2 = 0
    · rw [if_pos h2, if_pos (by omega)]
    · rw [if_neg h2, if_neg (by omega)]
      congr 1
      omega
  · rw [if_neg (by omega), if_neg (by omega)]
    congr 1
    omega

/-- A row of the second half's window is the product `k` rows before. -/
theorem second_eq (I Q i k : ℕ) (hk : k ≤ 3) (hi : i < 512) : U x g w (1024 * I + 504 + (i + 8 - k)) Q = Z x g w (1024 * I + (512 + i)) Q k := by
  unfold Z
  rw [if_neg (by omega)]
  congr 1
  omega

/-- The four-term sum of the first half's window is the convolution. -/
theorem taps_first (I q : ℕ) (i : Fin 512) (h : Fin 520 → EReal) (hh : ∀ r, h r = window x g w I (6144 + q) r.val) :
    taps (cb (ix1 (wrap 3072 q))) (cw (ix2 3 (wrap 3072 q))) (cw (ix2 2 (wrap 3072 q))) (cw (ix2 1 (wrap 3072 q))) (cw (ix2 0 (wrap 3072 q))) h i
      = conv x g w cw cb (1024 * I + i.val) q := by
  have hi := i.isLt
  unfold taps conv
  rw [hh, hh, hh, hh]
  dsimp only
  rw [← window_eq x g w I (6144 + q) i.val 0 (by omega) (by omega), ← window_eq x g w I (6144 + q) i.val 1 (by omega) (by omega),
    ← window_eq x g w I (6144 + q) i.val 2 (by omega) (by omega), ← window_eq x g w I (6144 + q) i.val 3 (by omega) (by omega)]
  rfl

/-- The four-term sum of the second half's window is the convolution. -/
theorem taps_second (I q : ℕ) (i : Fin 512) (h : Fin 520 → EReal) (hh : ∀ r, h r = U x g w (1024 * I + 504 + r.val) (6144 + q)) :
    taps (cb (ix1 (wrap 3072 q))) (cw (ix2 3 (wrap 3072 q))) (cw (ix2 2 (wrap 3072 q))) (cw (ix2 1 (wrap 3072 q))) (cw (ix2 0 (wrap 3072 q))) h i
      = conv x g w cw cb (1024 * I + (512 + i.val)) q := by
  have hi := i.isLt
  unfold taps conv
  rw [hh, hh, hh, hh]
  dsimp only
  rw [← second_eq x g w I (6144 + q) i.val 0 (by omega) (by omega), ← second_eq x g w I (6144 + q) i.val 1 (by omega) (by omega),
    ← second_eq x g w I (6144 + q) i.val 2 (by omega) (by omega), ← second_eq x g w I (6144 + q) i.val 3 (by omega) (by omega)]
  rfl

/-- The kept rows before a convolution tile give the first half's history. -/
theorem halo_before (n q s Q : ℕ) (h0 : n % 17 = 6 + q) (hq : q < 3) : (if n / 17 % 2 = 0 then (0 : EReal) else halo x g w (n - 1) q s Q) = before x g w (n / 17) Q s := by
  unfold halo before
  by_cases h : n / 17 % 2 = 0
  · rw [if_pos h, if_pos h]
  · rw [if_neg h, if_neg h, if_neg (by omega), if_neg (by omega)]
    congr 1
    omega

/-- A point that stores nothing of a tile keeps its rows. -/
theorem halo_keep (n q s Q : ℕ) (hn : n ≠ 0) (hq : q < 3) (h : n % 17 ≠ 6 + q) : halo x g w (n - 1) q s Q = halo x g w n q s Q := by
  unfold halo
  by_cases h1 : 6 + q ≤ n % 17
  · rw [if_pos h1, if_pos (by omega)]
    congr 1
    omega
  · rw [if_neg h1]
    by_cases h2 : n < 17
    · rw [if_pos h2, if_neg (by omega), if_pos (by omega)]
    · rw [if_neg h2]
      by_cases h3 : n % 17 = 0
      · rw [if_pos (by omega)]
        congr 1
        omega
      · rw [if_neg (by omega), if_neg (by omega)]
        congr 1
        omega

/-- A convolution tile's kept rows. -/
theorem halo_new (n q s Q : ℕ) (h : n % 17 = 6 + q) : halo x g w n q s Q = U x g w (1024 * (n / 17) + 1016 + s) Q := if_pos (by omega)

end Cert.ProjSpec

end
-- ==== Proof.ProjPoint.lean ====
/- What one point of the projection leaves, case by case: the scratch with the normalised rows, the kept last rows of each
   channel tile, the block of products or gated convolutions, and the block of last rows. -/
module

public import proofs.«01_k».proof.Proof.Gen.ProjKernelIdeal.Value
public import proofs.«01_k».proof.Proof.ProjSpec
public import Idealize.ShloMosaic.Lib.WritesUnit
public import Idealize.ShloMosaic.Lib.Pipeline.ReadBack
public import Idealize.ShloMosaic.Lib.Pipeline.ValueKit

@[expose] public section

set_option maxRecDepth 16384

noncomputable section

namespace Cert.ProjPoint

open Idealize.ShloMosaic Idealize.ShloMosaic.TcCoe Cert.ProjKernelIdeal.Gen Cert.ProjKernelIdeal Cert.RowNorm Cert.ProjPays Cert.ProjSpec

/-- A row of a scratch times a column of a block of weights. -/
def dot (s : Vec Ideal S1024x2048 .bf16) (w : Vec Ideal S2048x1024 .bf16) (r : Fin 1024) (p : Fin 1024) : EReal :=
  ∑ k : Fin 2048, (show EReal from s (ix2 r k)) * w (ix2 k p)

/-- A read of the scratch's second half. -/
theorem ld_hi (X : Vec Ideal S1024x2048 .bf16) (i : Fin 1024) (x : Fin 512) (h : i.val = 512 + x.val) (k : Fin 2048) :
    View.ld X (Rect.unit ![512, 0] ![512, 2048] inb_S1024x2048_S512x2048_512_0) (ix2 x k) = X (ix2 i k) := by
  show X _ = X _
  congr 1
  funext a
  match a with
  | ⟨0, _⟩ => apply Fin.ext; show 512 + 1 * x.val = i.val; omega
  | ⟨1, _⟩ => apply Fin.ext; show 0 + 1 * k.val = k.val; omega

/-- A read of the scratch's first half. -/
theorem ld_lo (X : Vec Ideal S1024x2048 .bf16) (i : Fin 1024) (x : Fin 512) (h : i.val = x.val) (k : Fin 2048) :
    View.ld X (Rect.unit ![0, 0] ![512, 2048] inb_S1024x2048_S512x2048_0_0) (ix2 x k) = X (ix2 i k) := by
  show X _ = X _
  congr 1
  funext a
  match a with
  | ⟨0, _⟩ => apply Fin.ext; show 0 + 1 * x.val = i.val; omega
  | ⟨1, _⟩ => apply Fin.ext; show 0 + 1 * k.val = k.val; omega

/-- A read of the kept rows of one tile, at an offset that depends on the point. -/
theorem ld_tile (X : Vec Ideal S3x8x1024 .f32) (off : Fin 3 → ℕ) (inb : ∀ a, off a + ![1, 8, 1024] a ≤ S3x8x1024.size a) (q : Fin 3) (e : off = ![q.val, 0, 0]) (s : Fin 8) (p : Fin 1024) :
    View.ld X (Rect.unit (s := S3x8x1024) off ![1, 8, 1024] inb) (ix3 0 s p) = X (ix3 q s p) := by
  subst e
  show X _ = X _
  congr 1
  funext a
  match a with
  | ⟨0, _⟩ => apply Fin.ext; show q.val + 1 * 0 = q.val; omega
  | ⟨1, _⟩ => apply Fin.ext; show 0 + 1 * s.val = s.val; omega
  | ⟨2, _⟩ => apply Fin.ext; show 0 + 1 * p.val = p.val; omega

/-- A read of one tap's weights. -/
theorem ld_tap (X : Vec Ideal S4x1024 .f32) (k : Fin 4) (inb : ∀ a, (![k.val, 0] : Fin 2 → ℕ) a + ![1, 1024] a ≤ S4x1024.size a) (p : Fin 1024) :
    View.ld X (Rect.unit (s := S4x1024) ![k.val, 0] ![1, 1024] inb) (ix2 0 p) = X (ix2 k p) := by
  show X _ = X _
  congr 1
  funext a
  match a with
  | ⟨0, _⟩ => apply Fin.ext; show k.val + 1 * 0 = k.val; omega
  | ⟨1, _⟩ => apply Fin.ext; show 0 + 1 * p.val = p.val; omega

section Window

variable (v : View sig .tc .vmem S2x520x1024 .f32) (A A' : Vec Ideal S1x512x1024 .f32) (B B' : Vec Ideal S1x8x1024 .f32)

/-- The window read whole, in a slot written in two pieces. -/
theorem read_low (r : Fin 520) (p : Fin 1024) :
    v.readCov (Val := Elt Ideal) [⟨Rect.unit ![0, 8, 0] ![1, 512, 1024] inb_S2x520x1024_S1x512x1024_0_8_0, A⟩, ⟨Rect.unit ![0, 0, 0] ![1, 8, 1024] inb_S2x520x1024_S1x8x1024_0_0_0, B⟩]
      (Rect.unit (s := S2x520x1024) ![0, 0, 0] ![1, 520, 1024] inb_S2x520x1024_S1x520x1024_0_0_0).toLoadRect (ix3 0 r p)
      = if h : r.val < 8 then B (ix3 0 ⟨r.val, h⟩ p) else A (ix3 0 ⟨r.val - 8, by omega⟩ p) := by
  by_cases h : r.val < 8
  · rw [dif_pos h]
    refine (View.read_writes_cons_unit_of_not_mem v _ _ A _ _ rfl (1 : Fin 3) (Or.inl ?_)).trans (View.read_writes_cons_unit_of_mem v _ _ B _ _ (ix3 0 ⟨r.val, h⟩ p) rfl ?_)
    · show 0 + 1 * r.val < 8; omega
    · intro a
      match a with
      | ⟨0, _⟩ => rfl
      | ⟨1, _⟩ => show 0 + 1 * r.val = 0 + r.val; omega
      | ⟨2, _⟩ => show 0 + 1 * p.val = 0 + p.val; omega
  · rw [dif_neg h]
    refine View.read_writes_cons_unit_of_mem v _ _ A _ _ (ix3 0 ⟨r.val - 8, by omega⟩ p) rfl ?_
    intro a
    match a with
    | ⟨0, _⟩ => rfl
    | ⟨1, _⟩ => show 0 + 1 * r.val = 8 + (r.val - 8); omega
    | ⟨2, _⟩ => show 0 + 1 * p.val = 0 + p.val; omega

/-- The last rows of the first slot. -/
theorem read_low_tail (s : Fin 8) (p : Fin 1024) :
    v.readCov (Val := Elt Ideal) [⟨Rect.unit ![0, 8, 0] ![1, 512, 1024] inb_S2x520x1024_S1x512x1024_0_8_0, A⟩, ⟨Rect.unit ![0, 0, 0] ![1, 8, 1024] inb_S2x520x1024_S1x8x1024_0_0_0, B⟩]
      (Rect.unit (s := S2x520x1024) ![0, 512, 0] ![1, 8, 1024] inb_S2x520x1024_S1x8x1024_0_512_0).toLoadRect (ix3 0 s p) = A (ix3 0 ⟨504 + s.val, by omega⟩ p) := by
  refine View.read_writes_cons_unit_of_mem v _ _ A _ _ (ix3 0 ⟨504 + s.val, by omega⟩ p) rfl ?_
  intro a
  match a with
  | ⟨0, _⟩ => rfl
  | ⟨1, _⟩ => show 512 + 1 * s.val = 8 + (504 + s.val); omega
  | ⟨2, _⟩ => show 0 + 1 * p.val = 0 + p.val; omega

/-- The second window read whole. -/
theorem read_high (L : List (View.Piece (Elt Ideal) S2x520x1024 .f32)) (r : Fin 520) (p : Fin 1024) :
    v.readCov (Val := Elt Ideal) (⟨Rect.unit ![1, 8, 0] ![1, 512, 1024] inb_S2x520x1024_S1x512x1024_1_8_0, A⟩ :: ⟨Rect.unit ![1, 0, 0] ![1, 8, 1024] inb_S2x520x1024_S1x8x1024_1_0_0, B⟩ :: L)
      (Rect.unit (s := S2x520x1024) ![1, 0, 0] ![1, 520, 1024] inb_S2x520x1024_S1x520x1024_1_0_0).toLoadRect (ix3 0 r p)
      = if h : r.val < 8 then B (ix3 0 ⟨r.val, h⟩ p) else A (ix3 0 ⟨r.val - 8, by omega⟩ p) := by
  by_cases h : r.val < 8
  · rw [dif_pos h]
    refine (View.read_writes_cons_unit_of_not_mem v _ _ A _ _ rfl (1 : Fin 3) (Or.inl ?_)).trans (View.read_writes_cons_unit_of_mem v _ _ B _ _ (ix3 0 ⟨r.val, h⟩ p) rfl ?_)
    · show 0 + 1 * r.val < 8; omega
    · intro a
      match a with
      | ⟨0, _⟩ => rfl
      | ⟨1, _⟩ => show 0 + 1 * r.val = 0 + r.val; omega
      | ⟨2, _⟩ => show 0 + 1 * p.val = 0 + p.val; omega
  · rw [dif_neg h]
    refine View.read_writes_cons_unit_of_mem v _ _ A _ _ (ix3 0 ⟨r.val - 8, by omega⟩ p) rfl ?_
    intro a
    match a with
    | ⟨0, _⟩ => rfl
    | ⟨1, _⟩ => show 0 + 1 * r.val = 8 + (r.val - 8); omega
    | ⟨2, _⟩ => show 0 + 1 * p.val = 0 + p.val; omega

/-- The last rows of the second slot. -/
theorem read_high_tail (L : List (View.Piece (Elt Ideal) S2x520x1024 .f32)) (s : Fin 8) (p : Fin 1024) :
    v.readCov (Val := Elt Ideal) (⟨Rect.unit ![1, 8, 0] ![1, 512, 1024] inb_S2x520x1024_S1x512x1024_1_8_0, A⟩ :: L)
      (Rect.unit (s := S2x520x1024) ![1, 512, 0] ![1, 8, 1024] inb_S2x520x1024_S1x8x1024_1_512_0).toLoadRect (ix3 0 s p) = A (ix3 0 ⟨504 + s.val, by omega⟩ p) := by
  refine View.read_writes_cons_unit_of_mem v _ _ A _ _ (ix3 0 ⟨504 + s.val, by omega⟩ p) rfl ?_
  intro a
  match a with
  | ⟨0, _⟩ => rfl
  | ⟨1, _⟩ => show 512 + 1 * s.val = 8 + (504 + s.val); omega
  | ⟨2, _⟩ => show 0 + 1 * p.val = 0 + p.val; omega

end Window

/-- A read of the kept rows' tile just stored, at an offset that depends on the point. -/
theorem read_put (v : View sig .tc .vmem S3x8x1024 .f32) (f : v.ty.Contents (Elt Ideal)) (off : Fin 3 → ℕ) (inb : ∀ a, off a + ![1, 8, 1024] a ≤ S3x8x1024.size a) (w : Vec Ideal S1x8x1024 .f32) (q : Fin 3)
    (e : off = ![q.val, 0, 0]) (s : Fin 8) (p : Fin 1024) :
    v.read (Elt Ideal) (v.writes (Elt Ideal) f [⟨Rect.unit (s := S3x8x1024) off ![1, 8, 1024] inb, w⟩]) (ix3 q s p) = w (ix3 0 s p) := by
  refine View.read_writes_cons_unit_of_mem v f inb w [] _ (ix3 0 s p) e ?_
  intro a
  match a with
  | ⟨0, _⟩ => rfl
  | ⟨1, _⟩ => show s.val = 0 + s.val; omega
  | ⟨2, _⟩ => show p.val = 0 + p.val; omega

theorem taps_congr {b b' w3 w3' w2 w2' w1 w1' w0 w0' : EReal} {h h' : Fin 520 → EReal} {i i' : Fin 512} (eb : b = b') (e3 : w3 = w3') (e2 : w2 = w2') (e1 : w1 = w1') (e0 : w0 = w0')
    (eh : ∀ r, h r = h' r) (ei : i = i') : gated (taps b w3 w2 w1 w0 h i) = gated (taps b' w3' w2' w1' w0' h' i') := by
  rw [eb, e3, e2, e1, e0, ei, funext eh]

/-- The first half's window at a row: the history, then the products. -/
def first (n : ℕ) (H : Fin 8 → EReal) (s : Vec Ideal S1024x2048 .bf16) (w : Vec Ideal S2048x1024 .bf16) (p : Fin 1024) (r : Fin 520) : EReal :=
  if h : r.val < 8 then (if n % 2 = 0 then 0 else H ⟨r.val, h⟩) else dot s w ⟨r.val - 8, by omega⟩ p

/-- The second half's window at a row: the products from eight rows before it. -/
def second (s : Vec Ideal S1024x2048 .bf16) (w : Vec Ideal S2048x1024 .bf16) (p : Fin 1024) (r : Fin 520) : EReal := dot s w ⟨504 + r.val, by omega⟩ p

theorem off2 (i : grid0.Coords) (q : Fin 3) (hq : (i 1).val = 6 + q.val) : k0_off2 i = ![q.val, 0, 0] := by
  rw [k0_off2_eq, hq]
  congr 1
  omega

theorem off1 (i : grid0.Coords) (hq : 8 ≤ (i 1).val) : k0_off1 i = ![(2 : Fin 3).val, 0, 0] := by
  rw [k0_off1_eq]
  congr 1
  show _ = 2
  omega

/-- A block's first point leaves the normalised rows. -/
theorem scrA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x8x1024 .f32) (harg8 : arg8.IsWhole) (arg9 : Memref sig .tc .vmem S1024x2048 .bf16) (harg9 : arg9.IsWhole) (arg10 : Memref sig .tc .vmem S2x520x1024 .f32) (harg10 : arg10.IsWhole) (arg11 : Memref sig .tc .vmem S3x8x1024 .f32) (harg11 : arg11.IsWhole) (hc0 : cond0_0 i) (hc1 : cond0_1 i) (hc2 : cond0_2 i) (hc3 : cond0_3 i) (hc4 : ¬cond0_4 i)
    (x0 : Vec Ideal S1024x2048 .f32) (x1 : Vec Ideal S1x2048 .f32) (x2 : Vec Ideal S2048x1024 .bf16) (x3 : Vec Ideal S4x1024 .f32) (x4 : Vec Ideal S1x1024 .f32) (r : Fin 1024) (k : Fin 2048) :
    sout0_A_0 (F := Ideal) c i arg2 harg2 arg3 harg3 arg4 harg4 arg5 harg5 arg6 harg6 arg7 harg7 arg8 harg8 arg9 harg9 arg10 harg10 arg11 harg11 hc0 hc1 hc2 hc3 hc4 x0 x1 x2 x3 x4 (ix2 r k) = normed (fun k => x0 (ix2 r k)) (fun k => x1 (ix2 0 k)) k := by
  unfold sout0_A_0
  frame_open
  frame_out
  exact pay1 _ _ r k

/-- A block's first point leaves the products of its normalised rows. -/
theorem outA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x8x1024 .f32) (harg8 : arg8.IsWhole) (arg9 : Memref sig .tc .vmem S1024x2048 .bf16) (harg9 : arg9.IsWhole) (arg10 : Memref sig .tc .vmem S2x520x1024 .f32) (harg10 : arg10.IsWhole) (arg11 : Memref sig .tc .vmem S3x8x1024 .f32) (harg11 : arg11.IsWhole) (hc0 : cond0_0 i) (hc1 : cond0_1 i) (hc2 : cond0_2 i) (hc3 : cond0_3 i) (hc4 : ¬cond0_4 i)
    (x0 : Vec Ideal S1024x2048 .f32) (x1 : Vec Ideal S1x2048 .f32) (x2 : Vec Ideal S2048x1024 .bf16) (x3 : Vec Ideal S4x1024 .f32) (x4 : Vec Ideal S1x1024 .f32) (r : Fin 1024) (p : Fin 1024) :
    out0_A_5 (F := Ideal) c i arg2 harg2 arg3 harg3 arg4 harg4 arg5 harg5 arg6 harg6 arg7 harg7 arg8 harg8 arg9 harg9 arg10 harg10 arg11 harg11 hc0 hc1 hc2 hc3 hc4 x0 x1 x2 x3 x4 (ix2 r p) = ∑ k : Fin 2048, normed (fun k => x0 (ix2 r k)) (fun k => x1 (ix2 0 k)) k * x2 (ix2 k p) := by
  unfold out0_A_5
  frame_open
  simp (disch := decide) only [↓ View.readCov_skip, ↓ View.readCov_cons_toLoadRect, ↓ View.readCov_fill]
  frame_out
  canon_tiles x h
  · have ex : x = ix2 (x 0) p := by funext a; match a with | ⟨0, _⟩ => rfl | ⟨1, _⟩ => exact Fin.ext h1.symm
    rw [ex]
    refine (pay4 _ _ _ p).trans (Finset.sum_congr rfl fun k _ => Ideal.mul_congr ?_ rfl)
    exact (ld_hi _ r _ h0 k).trans (pay1 _ _ r k)
  · have ex : x = ix2 (x 0) p := by funext a; match a with | ⟨0, _⟩ => rfl | ⟨1, _⟩ => exact Fin.ext h1.symm
    rw [ex]
    refine (pay3 _ _ _ p).trans (Finset.sum_congr rfl fun k _ => Ideal.mul_congr ?_ rfl)
    exact (ld_lo _ r _ h0 k).trans (pay1 _ _ r k)

/-- A block's first point leaves the normalised rows. -/
theorem scrD (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x8x1024 .f32) (harg8 : arg8.IsWhole) (arg9 : Memref sig .tc .vmem S1024x2048 .bf16) (harg9 : arg9.IsWhole) (arg10 : Memref sig .tc .vmem S2x520x1024 .f32) (harg10 : arg10.IsWhole) (arg11 : Memref sig .tc .vmem S3x8x1024 .f32) (harg11 : arg11.IsWhole) (hc0 : cond0_0 i) (hc1 : ¬cond0_1 i) (hc2 : cond0_2 i) (hc3 : cond0_3 i) (hc4 : ¬cond0_4 i)
    (x0 : Vec Ideal S1024x2048 .f32) (x1 : Vec Ideal S1x2048 .f32) (x2 : Vec Ideal S2048x1024 .bf16) (x3 : Vec Ideal S4x1024 .f32) (x4 : Vec Ideal S1x1024 .f32) (xs2 : Vec Ideal S3x8x1024 .f32) (r : Fin 1024) (k : Fin 2048) :
    sout0_D_0 (F := Ideal) c i arg2 harg2 arg3 harg3 arg4 harg4 arg5 harg5 arg6 harg6 arg7 harg7 arg8 harg8 arg9 harg9 arg10 harg10 arg11 harg11 hc0 hc1 hc2 hc3 hc4 x0 x1 x2 x3 x4 xs2 (ix2 r k) = normed (fun k => x0 (ix2 r k)) (fun k => x1 (ix2 0 k)) k := by
  unfold sout0_D_0
  frame_open
  frame_out
  exact pay1 _ _ r k

/-- A block's first point leaves the products of its normalised rows. -/
theorem outD (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x8x1024 .f32) (harg8 : arg8.IsWhole) (arg9 : Memref sig .tc .vmem S1024x2048 .bf16) (harg9 : arg9.IsWhole) (arg10 : Memref sig .tc .vmem S2x520x1024 .f32) (harg10 : arg10.IsWhole) (arg11 : Memref sig .tc .vmem S3x8x1024 .f32) (harg11 : arg11.IsWhole) (hc0 : cond0_0 i) (hc1 : ¬cond0_1 i) (hc2 : cond0_2 i) (hc3 : cond0_3 i) (hc4 : ¬cond0_4 i)
    (x0 : Vec Ideal S1024x2048 .f32) (x1 : Vec Ideal S1x2048 .f32) (x2 : Vec Ideal S2048x1024 .bf16) (x3 : Vec Ideal S4x1024 .f32) (x4 : Vec Ideal S1x1024 .f32) (xs2 : Vec Ideal S3x8x1024 .f32) (r : Fin 1024) (p : Fin 1024) :
    out0_D_5 (F := Ideal) c i arg2 harg2 arg3 harg3 arg4 harg4 arg5 harg5 arg6 harg6 arg7 harg7 arg8 harg8 arg9 harg9 arg10 harg10 arg11 harg11 hc0 hc1 hc2 hc3 hc4 x0 x1 x2 x3 x4 xs2 (ix2 r p) = ∑ k : Fin 2048, normed (fun k => x0 (ix2 r k)) (fun k => x1 (ix2 0 k)) k * x2 (ix2 k p) := by
  unfold out0_D_5
  frame_open
  simp (disch := decide) only [↓ View.readCov_skip, ↓ View.readCov_cons_toLoadRect, ↓ View.readCov_fill]
  frame_out
  canon_tiles x h
  · have ex : x = ix2 (x 0) p := by funext a; match a with | ⟨0, _⟩ => rfl | ⟨1, _⟩ => exact Fin.ext h1.symm
    rw [ex]
    refine (pay4 _ _ _ p).trans (Finset.sum_congr rfl fun k _ => Ideal.mul_congr ?_ rfl)
    exact (ld_hi _ r _ h0 k).trans (pay1 _ _ r k)
  · have ex : x = ix2 (x 0) p := by funext a; match a with | ⟨0, _⟩ => rfl | ⟨1, _⟩ => exact Fin.ext h1.symm
    rw [ex]
    refine (pay3 _ _ _ p).trans (Finset.sum_congr rfl fun k _ => Ideal.mul_congr ?_ rfl)
    exact (ld_lo _ r _ h0 k).trans (pay1 _ _ r k)

/-- The first point leaves zeros as kept rows. -/
theorem halA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x8x1024 .f32) (harg8 : arg8.IsWhole) (arg9 : Memref sig .tc .vmem S1024x2048 .bf16) (harg9 : arg9.IsWhole) (arg10 : Memref sig .tc .vmem S2x520x1024 .f32) (harg10 : arg10.IsWhole) (arg11 : Memref sig .tc .vmem S3x8x1024 .f32) (harg11 : arg11.IsWhole) (hc0 : cond0_0 i) (hc1 : cond0_1 i) (hc2 : cond0_2 i) (hc3 : cond0_3 i) (hc4 : ¬cond0_4 i)
    (x0 : Vec Ideal S1024x2048 .f32) (x1 : Vec Ideal S1x2048 .f32) (x2 : Vec Ideal S2048x1024 .bf16) (x3 : Vec Ideal S4x1024 .f32) (x4 : Vec Ideal S1x1024 .f32) (q : Fin 3) (s : Fin 8) (p : Fin 1024) :
    sout0_A_2 (F := Ideal) c i arg2 harg2 arg3 harg3 arg4 harg4 arg5 harg5 arg6 harg6 arg7 harg7 arg8 harg8 arg9 harg9 arg10 harg10 arg11 harg11 hc0 hc1 hc2 hc3 hc4 x0 x1 x2 x3 x4 (ix3 q s p) = (0 : EReal) := by
  unfold sout0_A_2
  frame_open
  frame_out
  exact pay2 q s p

/-- A block's first point keeps the kept rows. -/
theorem halD (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x8x1024 .f32) (harg8 : arg8.IsWhole) (arg9 : Memref sig .tc .vmem S1024x2048 .bf16) (harg9 : arg9.IsWhole) (arg10 : Memref sig .tc .vmem S2x520x1024 .f32) (harg10 : arg10.IsWhole) (arg11 : Memref sig .tc .vmem S3x8x1024 .f32) (harg11 : arg11.IsWhole) (hc0 : cond0_0 i) (hc1 : ¬cond0_1 i) (hc2 : cond0_2 i) (hc3 : cond0_3 i) (hc4 : ¬cond0_4 i)
    (x0 : Vec Ideal S1024x2048 .f32) (x1 : Vec Ideal S1x2048 .f32) (x2 : Vec Ideal S2048x1024 .bf16) (x3 : Vec Ideal S4x1024 .f32) (x4 : Vec Ideal S1x1024 .f32) (xs2 : Vec Ideal S3x8x1024 .f32) (q : Fin 3) (s : Fin 8) (p : Fin 1024) :
    sout0_D_2 (F := Ideal) c i arg2 harg2 arg3 harg3 arg4 harg4 arg5 harg5 arg6 harg6 arg7 harg7 arg8 harg8 arg9 harg9 arg10 harg10 arg11 harg11 hc0 hc1 hc2 hc3 hc4 x0 x1 x2 x3 x4 xs2 (ix3 q s p) = xs2 (ix3 q s p) := by
  unfold sout0_D_2
  frame_open
  frame_out

/-- A point of products keeps the scratch. -/
theorem scrB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x8x1024 .f32) (harg8 : arg8.IsWhole) (arg9 : Memref sig .tc .vmem S1024x2048 .bf16) (harg9 : arg9.IsWhole) (arg10 : Memref sig .tc .vmem S2x520x1024 .f32) (harg10 : arg10.IsWhole) (arg11 : Memref sig .tc .vmem S3x8x1024 .f32) (harg11 : arg11.IsWhole) (hc0 : ¬cond0_0 i) (hc1 : ¬cond0_1 i) (hc2 : cond0_2 i) (hc3 : cond0_3 i) (hc4 : ¬cond0_4 i)
    (x0 : Vec Ideal S1024x2048 .f32) (x1 : Vec Ideal S1x2048 .f32) (x2 : Vec Ideal S2048x1024 .bf16) (x3 : Vec Ideal S4x1024 .f32) (x4 : Vec Ideal S1x1024 .f32) (xs0 : Vec Ideal S1024x2048 .bf16) (xs2 : Vec Ideal S3x8x1024 .f32) (r : Fin 1024) (k : Fin 2048) :
    sout0_B_0 (F := Ideal) c i arg2 harg2 arg3 harg3 arg4 harg4 arg5 harg5 arg6 harg6 arg7 harg7 arg8 harg8 arg9 harg9 arg10 harg10 arg11 harg11 hc0 hc1 hc2 hc3 hc4 x0 x1 x2 x3 x4 xs0 xs2 (ix2 r k) = xs0 (ix2 r k) := by
  unfold sout0_B_0
  frame_open
  frame_out

/-- A point of products keeps the kept rows. -/
theorem halB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x8x1024 .f32) (harg8 : arg8.IsWhole) (arg9 : Memref sig .tc .vmem S1024x2048 .bf16) (harg9 : arg9.IsWhole) (arg10 : Memref sig .tc .vmem S2x520x1024 .f32) (harg10 : arg10.IsWhole) (arg11 : Memref sig .tc .vmem S3x8x1024 .f32) (harg11 : arg11.IsWhole) (hc0 : ¬cond0_0 i) (hc1 : ¬cond0_1 i) (hc2 : cond0_2 i) (hc3 : cond0_3 i) (hc4 : ¬cond0_4 i)
    (x0 : Vec Ideal S1024x2048 .f32) (x1 : Vec Ideal S1x2048 .f32) (x2 : Vec Ideal S2048x1024 .bf16) (x3 : Vec Ideal S4x1024 .f32) (x4 : Vec Ideal S1x1024 .f32) (xs0 : Vec Ideal S1024x2048 .bf16) (xs2 : Vec Ideal S3x8x1024 .f32) (q : Fin 3) (s : Fin 8) (p : Fin 1024) :
    sout0_B_2 (F := Ideal) c i arg2 harg2 arg3 harg3 arg4 harg4 arg5 harg5 arg6 harg6 arg7 harg7 arg8 harg8 arg9 harg9 arg10 harg10 arg11 harg11 hc0 hc1 hc2 hc3 hc4 x0 x1 x2 x3 x4 xs0 xs2 (ix3 q s p) = xs2 (ix3 q s p) := by
  unfold sout0_B_2
  frame_open
  frame_out

/-- A point of products. -/
theorem outB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x8x1024 .f32) (harg8 : arg8.IsWhole) (arg9 : Memref sig .tc .vmem S1024x2048 .bf16) (harg9 : arg9.IsWhole) (arg10 : Memref sig .tc .vmem S2x520x1024 .f32) (harg10 : arg10.IsWhole) (arg11 : Memref sig .tc .vmem S3x8x1024 .f32) (harg11 : arg11.IsWhole) (hc0 : ¬cond0_0 i) (hc1 : ¬cond0_1 i) (hc2 : cond0_2 i) (hc3 : cond0_3 i) (hc4 : ¬cond0_4 i)
    (x0 : Vec Ideal S1024x2048 .f32) (x1 : Vec Ideal S1x2048 .f32) (x2 : Vec Ideal S2048x1024 .bf16) (x3 : Vec Ideal S4x1024 .f32) (x4 : Vec Ideal S1x1024 .f32) (xs0 : Vec Ideal S1024x2048 .bf16) (xs2 : Vec Ideal S3x8x1024 .f32) (r : Fin 1024) (p : Fin 1024) :
    out0_B_5 (F := Ideal) c i arg2 harg2 arg3 harg3 arg4 harg4 arg5 harg5 arg6 harg6 arg7 harg7 arg8 harg8 arg9 harg9 arg10 harg10 arg11 harg11 hc0 hc1 hc2 hc3 hc4 x0 x1 x2 x3 x4 xs0 xs2 (ix2 r p) = dot xs0 x2 r p := by
  unfold out0_B_5
  frame_open
  simp (disch := decide) only [↓ View.readCov_skip, ↓ View.readCov_cons_toLoadRect, ↓ View.readCov_fill]
  frame_out
  canon_tiles x h
  · have ex : x = ix2 (x 0) p := by funext a; match a with | ⟨0, _⟩ => rfl | ⟨1, _⟩ => exact Fin.ext h1.symm
    rw [ex]
    refine (pay4 _ _ _ p).trans (Finset.sum_congr rfl fun k _ => Ideal.mul_congr ?_ rfl)
    exact ld_hi _ r _ h0 k
  · have ex : x = ix2 (x 0) p := by funext a; match a with | ⟨0, _⟩ => rfl | ⟨1, _⟩ => exact Fin.ext h1.symm
    rw [ex]
    refine (pay3 _ _ _ p).trans (Finset.sum_congr rfl fun k _ => Ideal.mul_congr ?_ rfl)
    exact ld_lo _ r _ h0 k

/-- After the convolution tiles a point of products leaves the last tile's kept rows. -/
theorem tailB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x8x1024 .f32) (harg8 : arg8.IsWhole) (arg9 : Memref sig .tc .vmem S1024x2048 .bf16) (harg9 : arg9.IsWhole) (arg10 : Memref sig .tc .vmem S2x520x1024 .f32) (harg10 : arg10.IsWhole) (arg11 : Memref sig .tc .vmem S3x8x1024 .f32) (harg11 : arg11.IsWhole) (hc0 : ¬cond0_0 i) (hc1 : ¬cond0_1 i) (hc2 : cond0_2 i) (hc3 : cond0_3 i) (hc4 : ¬cond0_4 i)
    (x0 : Vec Ideal S1024x2048 .f32) (x1 : Vec Ideal S1x2048 .f32) (x2 : Vec Ideal S2048x1024 .bf16) (x3 : Vec Ideal S4x1024 .f32) (x4 : Vec Ideal S1x1024 .f32) (xs0 : Vec Ideal S1024x2048 .bf16) (xs2 : Vec Ideal S3x8x1024 .f32) (s : Fin 8) (p : Fin 1024) (hq : 8 ≤ (i 1).val) :
    out0_B_6 (F := Ideal) c i arg2 harg2 arg3 harg3 arg4 harg4 arg5 harg5 arg6 harg6 arg7 harg7 arg8 harg8 arg9 harg9 arg10 harg10 arg11 harg11 hc0 hc1 hc2 hc3 hc4 x0 x1 x2 x3 x4 xs0 xs2 (ix3 0 s p) = xs2 (ix3 2 s p) := by
  unfold out0_B_6
  frame_open
  simp (disch := decide) only [↓ View.readCov_skip, ↓ View.readCov_cons_toLoadRect, ↓ View.readCov_fill]
  frame_out
  exact (pay5 _ s p).trans (ld_tile xs2 _ _ 2 (off1 i hq) s p)

/-- A convolution point keeps the scratch. -/
theorem scrC (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x8x1024 .f32) (harg8 : arg8.IsWhole) (arg9 : Memref sig .tc .vmem S1024x2048 .bf16) (harg9 : arg9.IsWhole) (arg10 : Memref sig .tc .vmem S2x520x1024 .f32) (harg10 : arg10.IsWhole) (arg11 : Memref sig .tc .vmem S3x8x1024 .f32) (harg11 : arg11.IsWhole) (hc0 : ¬cond0_0 i) (hc1 : ¬cond0_1 i) (hc2 : ¬cond0_2 i) (hc3 : ¬cond0_3 i) (hc4 : cond0_4 i)
    (x0 : Vec Ideal S1024x2048 .f32) (x1 : Vec Ideal S1x2048 .f32) (x2 : Vec Ideal S2048x1024 .bf16) (x3 : Vec Ideal S4x1024 .f32) (x4 : Vec Ideal S1x1024 .f32) (xs0 : Vec Ideal S1024x2048 .bf16) (xs2 : Vec Ideal S3x8x1024 .f32) (r : Fin 1024) (k : Fin 2048) :
    sout0_C_0 (F := Ideal) c i arg2 harg2 arg3 harg3 arg4 harg4 arg5 harg5 arg6 harg6 arg7 harg7 arg8 harg8 arg9 harg9 arg10 harg10 arg11 harg11 hc0 hc1 hc2 hc3 hc4 x0 x1 x2 x3 x4 xs0 xs2 (ix2 r k) = xs0 (ix2 r k) := by
  unfold sout0_C_0
  frame_open
  frame_out

/-- A convolution point leaves its last rows. -/
theorem tailC (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x8x1024 .f32) (harg8 : arg8.IsWhole) (arg9 : Memref sig .tc .vmem S1024x2048 .bf16) (harg9 : arg9.IsWhole) (arg10 : Memref sig .tc .vmem S2x520x1024 .f32) (harg10 : arg10.IsWhole) (arg11 : Memref sig .tc .vmem S3x8x1024 .f32) (harg11 : arg11.IsWhole) (hc0 : ¬cond0_0 i) (hc1 : ¬cond0_1 i) (hc2 : ¬cond0_2 i) (hc3 : ¬cond0_3 i) (hc4 : cond0_4 i)
    (x0 : Vec Ideal S1024x2048 .f32) (x1 : Vec Ideal S1x2048 .f32) (x2 : Vec Ideal S2048x1024 .bf16) (x3 : Vec Ideal S4x1024 .f32) (x4 : Vec Ideal S1x1024 .f32) (xs0 : Vec Ideal S1024x2048 .bf16) (xs2 : Vec Ideal S3x8x1024 .f32) (s : Fin 8) (p : Fin 1024) :
    out0_C_6 (F := Ideal) c i arg2 harg2 arg3 harg3 arg4 harg4 arg5 harg5 arg6 harg6 arg7 harg7 arg8 harg8 arg9 harg9 arg10 harg10 arg11 harg11 hc0 hc1 hc2 hc3 hc4 x0 x1 x2 x3 x4 xs0 xs2 (ix3 0 s p) = dot xs0 x2 ⟨1016 + s.val, by omega⟩ p := by
  unfold out0_C_6
  frame_open
  simp (disch := decide) only [↓ View.readCov_skip, ↓ View.readCov_cons_toLoadRect, ↓ View.readCov_fill]
  frame_out
  refine (pay9 _ s p).trans ?_
  exact (read_high_tail _ _ _ s p).trans ((pay14 _ _ _ p).trans (Finset.sum_congr rfl fun k _ => Ideal.mul_congr (ld_hi xs0 ⟨1016 + s.val, by omega⟩ _ (by show 1016 + s.val = 512 + (504 + s.val); omega) k) rfl))

/-- A convolution point keeps its last rows for the next row block, and the other tiles' rows. -/
theorem halC (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x8x1024 .f32) (harg8 : arg8.IsWhole) (arg9 : Memref sig .tc .vmem S1024x2048 .bf16) (harg9 : arg9.IsWhole) (arg10 : Memref sig .tc .vmem S2x520x1024 .f32) (harg10 : arg10.IsWhole) (arg11 : Memref sig .tc .vmem S3x8x1024 .f32) (harg11 : arg11.IsWhole) (hc0 : ¬cond0_0 i) (hc1 : ¬cond0_1 i) (hc2 : ¬cond0_2 i) (hc3 : ¬cond0_3 i) (hc4 : cond0_4 i)
    (x0 : Vec Ideal S1024x2048 .f32) (x1 : Vec Ideal S1x2048 .f32) (x2 : Vec Ideal S2048x1024 .bf16) (x3 : Vec Ideal S4x1024 .f32) (x4 : Vec Ideal S1x1024 .f32) (xs0 : Vec Ideal S1024x2048 .bf16) (xs2 : Vec Ideal S3x8x1024 .f32) (q : Fin 3) (s : Fin 8) (p : Fin 1024) (q0 : Fin 3) (hq : (i 1).val = 6 + q0.val) :
    sout0_C_2 (F := Ideal) c i arg2 harg2 arg3 harg3 arg4 harg4 arg5 harg5 arg6 harg6 arg7 harg7 arg8 harg8 arg9 harg9 arg10 harg10 arg11 harg11 hc0 hc1 hc2 hc3 hc4 x0 x1 x2 x3 x4 xs0 xs2 (ix3 q s p) = if q = q0 then dot xs0 x2 ⟨1016 + s.val, by omega⟩ p else xs2 (ix3 q s p) := by
  unfold sout0_C_2
  frame_open
  simp (disch := decide) only [↓ View.readCov_skip, ↓ View.readCov_cons_toLoadRect, ↓ View.readCov_fill]
  frame_out
  by_cases h : q = q0
  · rw [if_pos h]
    subst h
    exact (read_put _ _ _ _ _ q (off2 i q hq) s p).trans ((pay8 _ s p).trans ((read_high_tail _ _ _ s p).trans ((pay14 _ _ _ p).trans (Finset.sum_congr rfl fun k _ => Ideal.mul_congr (ld_hi xs0 ⟨1016 + s.val, by omega⟩ _ (by show 1016 + s.val = 512 + (504 + s.val); omega) k) rfl))))
  · rw [if_neg h]
    have hne : q.val ≠ q0.val := fun e => h (Fin.ext e)
    refine (View.read_writes_cons_unit_of_not_mem _ _ _ _ _ _ (off2 i q0 hq) (0 : Fin 3) ?_).trans (congrFun (harg11.read_unread xs2) _)
    show q.val < q0.val ∨ q0.val + 1 ≤ q.val
    omega

/-- A convolution point leaves the gated convolutions of its two halves. -/
theorem outC (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x8x1024 .f32) (harg8 : arg8.IsWhole) (arg9 : Memref sig .tc .vmem S1024x2048 .bf16) (harg9 : arg9.IsWhole) (arg10 : Memref sig .tc .vmem S2x520x1024 .f32) (harg10 : arg10.IsWhole) (arg11 : Memref sig .tc .vmem S3x8x1024 .f32) (harg11 : arg11.IsWhole) (hc0 : ¬cond0_0 i) (hc1 : ¬cond0_1 i) (hc2 : ¬cond0_2 i) (hc3 : ¬cond0_3 i) (hc4 : cond0_4 i)
    (x0 : Vec Ideal S1024x2048 .f32) (x1 : Vec Ideal S1x2048 .f32) (x2 : Vec Ideal S2048x1024 .bf16) (x3 : Vec Ideal S4x1024 .f32) (x4 : Vec Ideal S1x1024 .f32) (xs0 : Vec Ideal S1024x2048 .bf16) (xs2 : Vec Ideal S3x8x1024 .f32) (r : Fin 1024) (p : Fin 1024) (q0 : Fin 3) (hq : (i 1).val = 6 + q0.val) :
    out0_C_5 (F := Ideal) c i arg2 harg2 arg3 harg3 arg4 harg4 arg5 harg5 arg6 harg6 arg7 harg7 arg8 harg8 arg9 harg9 arg10 harg10 arg11 harg11 hc0 hc1 hc2 hc3 hc4 x0 x1 x2 x3 x4 xs0 xs2 (ix2 r p) = if h : r.val < 512 then gated (taps (x4 (ix2 0 p)) (x3 (ix2 3 p)) (x3 (ix2 2 p)) (x3 (ix2 1 p)) (x3 (ix2 0 p)) (first (i 0).val (fun s => xs2 (ix3 q0 s p)) xs0 x2 p) ⟨r.val, h⟩)
      else gated (taps (x4 (ix2 0 p)) (x3 (ix2 3 p)) (x3 (ix2 2 p)) (x3 (ix2 1 p)) (x3 (ix2 0 p)) (second xs0 x2 p) ⟨r.val - 512, by omega⟩) := by
  unfold out0_C_5
  frame_open
  simp (disch := decide) only [↓ View.readCov_skip, ↓ View.readCov_cons_toLoadRect, ↓ View.readCov_fill]
  frame_out
  canon_tiles x h
  · have ex : x = ix2 (x 0) p := by funext a; match a with | ⟨0, _⟩ => rfl | ⟨1, _⟩ => exact Fin.ext h1.symm
    have hr : ¬ r.val < 512 := by
      have e0 : r.val = 512 + (x 0).val := h0
      omega
    rw [dif_neg hr, ex]
    refine (pay6 _ _ _ _ _ _ _ p).trans (taps_congr rfl (ld_tap x3 3 _ p) (ld_tap x3 2 _ p) (ld_tap x3 1 _ p) (ld_tap x3 0 _ p) (fun k => (read_high _ _ _ _ k p).trans ?_) (Fin.ext ?_))
    · by_cases hk : k.val < 8
      · rw [dif_pos hk]
        refine (pay13 _ _ p).trans ((read_low_tail _ _ _ ⟨k.val, hk⟩ p).trans ((pay11 _ _ _ p).trans (Finset.sum_congr rfl fun j _ => Ideal.mul_congr (ld_lo xs0 ⟨504 + k.val, by omega⟩ _ rfl j) rfl)))
      · rw [dif_neg hk]
        refine (pay14 _ _ _ p).trans (Finset.sum_congr rfl fun j _ => Ideal.mul_congr (ld_hi xs0 ⟨504 + k.val, by omega⟩ _ ?_ j) rfl)
        show 504 + k.val = 512 + (k.val - 8)
        omega
    · show (x 0).val = r.val - 512
      have : r.val = 512 + (x 0).val := h0
      omega
  · have ex : x = ix2 (x 0) p := by funext a; match a with | ⟨0, _⟩ => rfl | ⟨1, _⟩ => exact Fin.ext h1.symm
    have hr : r.val < 512 := by
      have e0 : r.val = (x 0).val := h0
      have e1 : (x 0).val < 512 := (x 0).isLt
      omega
    rw [dif_pos hr, ex]
    refine (pay18 _ _ _ _ _ _ _ p).trans (taps_congr rfl (ld_tap x3 3 _ p) (ld_tap x3 2 _ p) (ld_tap x3 1 _ p) (ld_tap x3 0 _ p) (fun k => (read_low _ _ _ k p).trans ?_) (Fin.ext ?_))
    · unfold first
      by_cases hk : k.val < 8
      · rw [dif_pos hk, dif_pos hk]
        refine (pay10 (i 0) _ _ p).trans ?_
        rw [ld_tile xs2 _ _ q0 (off2 i q0 hq) _ p]
      · rw [dif_neg hk, dif_neg hk]
        exact (pay11 _ _ _ p).trans (Finset.sum_congr rfl fun j _ => Ideal.mul_congr (ld_lo xs0 ⟨k.val - 8, by omega⟩ _ rfl j) rfl)
    · show (x 0).val = r.val
      have : r.val = (x 0).val := h0
      omega

end Cert.ProjPoint

end
-- ==== Proof.ProjRun.lean ====
/- The projection's points in order: what every point leaves is read off the arguments, and the two arrays after the run. -/
module

public import proofs.«01_k».proof.Proof.ProjPoint
public import proofs.«01_k».proof.Defs
public import Idealize.ShloMosaic.Lib.Claim

@[expose] public section

set_option maxRecDepth 16384

noncomputable section

namespace Cert.ProjRun

open Idealize.ShloMosaic Idealize.ShloMosaic.TcCoe Cert.ProjKernelIdeal.Gen Cert.ProjKernelIdeal Cert.RowNorm Cert.ProjPays Cert.ProjSpec Cert.ProjPoint

variable (m : (ℓ : Loc nD τ sig) → Buf (Elt Ideal) ℓ) (c : Dev nD)

/-- The channel tile of a column tile. -/
def tile (J : ℕ) : ℕ := min 8 (max 6 J) - 6

theorem tile_lt (J : ℕ) : tile J < 3 := by unfold tile; omega

/-- The block of every window at every grid point. -/
theorem idx : ∀ t : Fin cfg0.N, win0_0.index t = ![t.val / 17, 0] ∧ win0_1.index t = ![0, 0] ∧ win0_2.index t = ![0, t.val % 17]
    ∧ win0_3.index t = ![0, tile (t.val % 17)] ∧ win0_4.index t = ![0, tile (t.val % 17)] ∧ win0_5.index t = ![t.val / 17, t.val % 17] ∧ win0_6.index t = ![t.val / 17, 0, tile (t.val % 17)] ∧ t.val < 136 :=
  (by decide +kernel : ∀ t : Fin grid0.N, _)

/-- The two coordinates of every grid point. -/
theorem coord : ∀ t : Fin cfg0.N, ((grid0.coords t) 0).val = t.val / 17 ∧ ((grid0.coords t) 1).val = t.val % 17 :=
  (by decide +kernel : ∀ t : Fin grid0.N, _)

/-- The arguments' arrays. -/
abbrev ax : (⟨2, ![8192, 2048]⟩ : Shape).Idx → EReal := m ((c : Thread nD τ).loc main_arg0)
abbrev ag : (⟨1, ![2048]⟩ : Shape).Idx → EReal := m ((c : Thread nD τ).loc main_arg1)
abbrev aw : (⟨2, ![2048, 17408]⟩ : Shape).Idx → EReal := m ((c : Thread nD τ).loc main_arg2)
abbrev acw : (⟨2, ![4, 3072]⟩ : Shape).Idx → EReal := m ((c : Thread nD τ).loc main_arg3)
abbrev acb : (⟨1, ![3072]⟩ : Shape).Idx → EReal := m ((c : Thread nD τ).loc main_arg4)

/-- The norm weight as one row. -/
theorem V0 : V m c main_v0 = shapeCast S1x2048 (m ((c : Thread nD τ).loc main_arg1)) shapeCasts_S2048_S1x2048 := by
  show StableHlo.after _ _ _ = _
  simp only [hostOps0]
  simp only [StableHlo.after_cons, StableHlo.after_nil]
  after_results_simp
  rfl

/-- The convolution's bias as one row. -/
theorem V1 : V m c main_v1 = shapeCast S1x3072 (m ((c : Thread nD τ).loc main_arg4)) shapeCasts_S3072_S1x3072 := by
  show StableHlo.after _ _ _ = _
  simp only [hostOps0]
  simp only [StableHlo.after_cons, StableHlo.after_nil]
  after_results_simp
  rfl

/-- The norm weight's row at a column. -/
theorem r0 (l : Fin 2048) : V m c main_v0 (ix2 0 l) = ag m c (ix1 l) := by
  rw [V0]
  pointwise

/-- The bias's row at a column. -/
theorem r1 (l : Fin 3072) : V m c main_v1 (ix2 0 l) = acb m c (ix1 l) := by
  rw [V1]
  pointwise

theorem blk0 (t : Fin cfg0.N) (i : Fin 1024) (l : Fin 2048) : iblk m c 0 t (ix2 i l) = ax m c (ix2 (wrap 8192 (1024 * (t.val / 17) + i.val)) l) := by
  rw [← wrap_mk 8192 (1024 * (t.val / 17) + i.val) (by have := (idx t).2.2.2.2.2.2.2; omega)]
  blk_point [iblk, V, idx t]

theorem blk1 (t : Fin cfg0.N) : iblk m c 1 t = V m c main_v0 := by
  blk_ext! [iblk, idx t]

theorem blk2 (t : Fin cfg0.N) (k : Fin 2048) (p : Fin 1024) : iblk m c 2 t (ix2 k p) = aw m c (ix2 k (wrap 17408 (1024 * (t.val % 17) + p.val))) := by
  rw [← wrap_mk 17408 (1024 * (t.val % 17) + p.val) (by omega)]
  blk_point [iblk, V, idx t]

theorem blk3 (t : Fin cfg0.N) (k : Fin 4) (p : Fin 1024) : iblk m c 3 t (ix2 k p) = acw m c (ix2 k (wrap 3072 (1024 * tile (t.val % 17) + p.val))) := by
  rw [← wrap_mk 3072 (1024 * tile (t.val % 17) + p.val) (by have := tile_lt (t.val % 17); omega)]
  blk_point [iblk, V, idx t]

theorem blk4 (t : Fin cfg0.N) (p : Fin 1024) : iblk m c 4 t (ix2 0 p) = acb m c (ix1 (wrap 3072 (1024 * tile (t.val % 17) + p.val))) := by
  rw [← wrap_mk 3072 (1024 * tile (t.val % 17) + p.val) (by have := tile_lt (t.val % 17); omega)]
  refine Eq.trans ?_ (r1 m c _)
  blk_point [iblk, idx t]

/-- The normalised rows of a point's block. -/
theorem rows_eq (t : Fin cfg0.N) (i : Fin 1024) (k : Fin 2048) :
    normed (fun k => iblk m c 0 t (ix2 i k)) (fun k => iblk m c 1 t (ix2 0 k)) k = row (ax m c) (ag m c) (1024 * (t.val / 17) + i.val) k :=
  normed_congr (fun k => blk0 m c t i k) (fun k => (congrFun (blk1 m c t) _).trans (r0 m c k)) k

/-- A row of the normalised rows times a column of a point's weights. -/
theorem dot_eq (t : Fin cfg0.N) (s : Vec Ideal S1024x2048 .bf16) (hs : ∀ (i : Fin 1024) (k : Fin 2048), s (ix2 i k) = row (ax m c) (ag m c) (1024 * (t.val / 17) + i.val) k) (i : Fin 1024) (p : Fin 1024) :
    dot s (iblk m c 2 t) i p = U (ax m c) (ag m c) (aw m c) (1024 * (t.val / 17) + i.val) (1024 * (t.val % 17) + p.val) :=
  Finset.sum_congr rfl fun k _ => Ideal.mul_congr (hs i k) (blk2 m c t k p)

/-- What every point leaves. -/
structure After (n : ℕ) (s : Vec Ideal S1024x1024 .f32 × Vec Ideal S1x8x1024 .f32 × Vec Ideal S1024x2048 .bf16 × Vec Ideal S3x8x1024 .f32) : Prop where
  scr : ∀ (i : Fin 1024) (k : Fin 2048), s.2.2.1 (ix2 i k) = row (ax m c) (ag m c) (1024 * (n / 17) + i.val) k
  hal : ∀ (q : Fin 3) (r : Fin 8) (p : Fin 1024), s.2.2.2 (ix3 q r p) = halo (ax m c) (ag m c) (aw m c) n q.val r.val (6144 + 1024 * q.val + p.val)
  out : ∀ (i : Fin 1024) (p : Fin 1024), s.1 (ix2 i p) = ProjSpec.out (ax m c) (ag m c) (aw m c) (acw m c) (acb m c) (1024 * (n / 17) + i.val) (1024 * (n % 17) + p.val)
  tail : 6 ≤ n % 17 → ∀ (r : Fin 8) (p : Fin 1024), s.2.1 (ix3 0 r p) = U (ax m c) (ag m c) (aw m c) (1024 * (n / 17) + 1016 + r.val) (6144 + (1024 * tile (n % 17) + p.val))

/-- What the point before a point leaves. -/
abbrev prev (t : Fin cfg0.N) := outsAt0 m c (t.val - 1) (Nat.lt_of_le_of_lt (Nat.sub_le _ _) t.isLt)

/-- The first point. -/
theorem after_A (t : Fin cfg0.N) (h1 : t.val % 136 = 0) : After m c t.val (outsAt0 m c t.val t.isLt) := by
  have h0 : t.val % 17 = 0 := by omega
  have hc : ¬(6 ≤ t.val % 17 ∧ t.val % 17 ≤ 8) := by omega
  have ht := (idx t).2.2.2.2.2.2.2
  rw [outsAt0_A m c t h0 h1 hc hc hc]
  exact {
    scr := fun i k => by
      dsimp only
      rw [scrA]
      exact rows_eq m c t i k
    hal := fun q r p => by
      dsimp only
      rw [halA]
      unfold halo
      rw [if_neg (by omega), if_pos (by omega)]
    out := fun i p => by
      dsimp only
      rw [outA]
      unfold ProjSpec.out
      rw [if_neg (by omega)]
      exact Finset.sum_congr rfl fun k _ => Ideal.mul_congr (rows_eq m c t i k) (blk2 m c t k p)
    tail := fun h => by omega }

/-- A later row block's first point. -/
theorem after_D (t : Fin cfg0.N) (h0 : t.val % 17 = 0) (h1 : ¬t.val % 136 = 0) (hs : After m c (t.val - 1) (prev m c t)) : After m c t.val (outsAt0 m c t.val t.isLt) := by
  have hc : ¬(6 ≤ t.val % 17 ∧ t.val % 17 ≤ 8) := by omega
  rw [outsAt0_D m c t h0 h1 hc hc hc]
  exact {
    scr := fun i k => by
      dsimp only
      rw [scrD]
      exact rows_eq m c t i k
    hal := fun q r p => by
      dsimp only
      rw [halD]
      exact (hs.hal q r p).trans (halo_keep _ _ _ _ _ _ _ (by omega) q.isLt (by omega))
    out := fun i p => by
      dsimp only
      rw [outD]
      unfold ProjSpec.out
      rw [if_neg (by omega)]
      exact Finset.sum_congr rfl fun k _ => Ideal.mul_congr (rows_eq m c t i k) (blk2 m c t k p)
    tail := fun h => by omega }

/-- A row block's normalised rows are its first point's. -/
theorem scr_prev (t : Fin cfg0.N) (h0 : ¬t.val % 17 = 0) (hs : After m c (t.val - 1) (prev m c t)) (i : Fin 1024) (k : Fin 2048) :
    (prev m c t).2.2.1 (ix2 i k) = row (ax m c) (ag m c) (1024 * (t.val / 17) + i.val) k := by
  have e : (t.val - 1) / 17 = t.val / 17 := by omega
  rw [← e]
  exact hs.scr i k

/-- A point of products. -/
theorem after_B (t : Fin cfg0.N) (h0 : ¬t.val % 17 = 0) (hc : ¬(6 ≤ t.val % 17 ∧ t.val % 17 ≤ 8)) (hs : After m c (t.val - 1) (prev m c t)) : After m c t.val (outsAt0 m c t.val t.isLt) := by
  rw [outsAt0_B m c t h0 (by omega) hc hc hc]
  have hk : ∀ (q : Fin 3) (r : Fin 8) (p : Fin 1024), (prev m c t).2.2.2 (ix3 q r p) = halo (ax m c) (ag m c) (aw m c) t.val q.val r.val (6144 + 1024 * q.val + p.val) :=
    fun q r p => (hs.hal q r p).trans (halo_keep _ _ _ _ _ _ _ (by omega) q.isLt (by omega))
  exact {
    scr := fun i k => by
      dsimp only
      rw [scrB]
      exact scr_prev m c t h0 hs i k
    hal := fun q r p => by
      dsimp only
      rw [halB]
      exact hk q r p
    out := fun i p => by
      dsimp only
      rw [outB]
      unfold ProjSpec.out
      rw [if_neg (by omega)]
      exact dot_eq m c t _ (scr_prev m c t h0 hs) i p
    tail := fun h r p => by
      dsimp only
      rw [tailB (hq := by rw [(coord t).2]; omega)]
      refine (hk 2 r p).trans ?_
      have e : tile (t.val % 17) = 2 := by unfold tile; omega
      unfold halo
      rw [if_pos (by show 6 + 2 ≤ _; omega), e]
      congr 1
      show 6144 + 1024 * 2 + p.val = _
      omega }

/-- A convolution point. -/
theorem after_C (t : Fin cfg0.N) (hc : 6 ≤ t.val % 17 ∧ t.val % 17 ≤ 8) (hs : After m c (t.val - 1) (prev m c t)) : After m c t.val (outsAt0 m c t.val t.isLt) := by
  have h0 : ¬t.val % 17 = 0 := by omega
  rw [outsAt0_C m c t h0 (by omega) (not_not.2 hc) (not_not.2 hc) hc]
  have e : 6 + tile (t.val % 17) = t.val % 17 := by unfold tile; omega
  have hq : ((grid0.coords t) 1).val = 6 + (⟨tile (t.val % 17), tile_lt _⟩ : Fin 3).val := by rw [(coord t).2]; exact e.symm
  have hd := dot_eq m c t _ (scr_prev m c t h0 hs)
  have eQ : ∀ p : ℕ, 1024 * (t.val % 17) + p = 6144 + (1024 * tile (t.val % 17) + p) := fun p => by omega
  exact {
    scr := fun i k => by
      dsimp only
      rw [scrC]
      exact scr_prev m c t h0 hs i k
    hal := fun q r p => by
      dsimp only
      rw [halC (hq := hq)]
      by_cases h : q = ⟨tile (t.val % 17), tile_lt _⟩
      · rw [if_pos h]
        have hv : q.val = tile (t.val % 17) := congrArg Fin.val h
        refine (hd _ p).trans ?_
        rw [halo_new _ _ _ _ _ _ _ (by omega)]
        congr 1 <;> (try dsimp only) <;> omega
      · rw [if_neg h]
        have hv : q.val ≠ tile (t.val % 17) := fun e => h (Fin.ext e)
        exact (hs.hal q r p).trans (halo_keep _ _ _ _ _ _ _ (by omega) q.isLt (by omega))
    out := fun i p => by
      dsimp only
      rw [outC (hq := hq)]
      unfold ProjSpec.out
      have hp := p.isLt
      rw [if_pos (by omega), blk4, blk3, blk3, blk3, blk3]
      have eq : 1024 * (t.val % 17) + p.val - 6144 = 1024 * tile (t.val % 17) + p.val := by omega
      rw [eq]
      by_cases h : i.val < 512
      · rw [dif_pos h]
        refine congrArg gated (taps_first _ _ _ _ _ (t.val / 17) (1024 * tile (t.val % 17) + p.val) ⟨i.val, h⟩ _ fun r => ?_)
        unfold first window
        by_cases hr : r.val < 8
        · rw [dif_pos hr, if_pos hr, (coord t).1]
          rw [← halo_before (ax m c) (ag m c) (aw m c) t.val (tile (t.val % 17)) r.val _ e.symm (tile_lt _)]
          refine if_congr Iff.rfl rfl ((hs.hal _ _ p).trans ?_)
          exact congrArg (halo (ax m c) (ag m c) (aw m c) (t.val - 1) (tile (t.val % 17)) r.val) (Nat.add_assoc 6144 (1024 * tile (t.val % 17)) p.val)
        · rw [dif_neg hr, if_neg hr]
          exact (hd _ p).trans (by rw [eQ])
      · rw [dif_neg h]
        refine congrArg gated ((taps_second (ax m c) (ag m c) (aw m c) (acw m c) (acb m c) (t.val / 17) (1024 * tile (t.val % 17) + p.val) ⟨i.val - 512, by omega⟩ _ fun r => ?_).trans ?_)
        · refine (hd ⟨504 + r.val, by omega⟩ p).trans ?_
          rw [eQ, Nat.add_assoc (1024 * (t.val / 17)) 504 r.val]
        · have ei : 1024 * (t.val / 17) + (512 + (i.val - 512)) = 1024 * (t.val / 17) + i.val := by omega
          exact congrArg (fun R => conv (ax m c) (ag m c) (aw m c) (acw m c) (acb m c) R (1024 * tile (t.val % 17) + p.val)) ei
    tail := fun h r p => by
      dsimp only
      rw [tailC]
      exact (hd _ p).trans (by rw [eQ, Nat.add_assoc]) }

/-- Every point. -/
theorem after_at : ∀ (n : ℕ) (hn : n < cfg0.N), After m c n (outsAt0 m c n hn)
  | 0, hn => after_A m c ⟨0, hn⟩ (Nat.zero_mod _)
  | n + 1, hn => by
    have ht : n + 1 < 136 := (idx ⟨n + 1, hn⟩).2.2.2.2.2.2.2
    have ih := after_at n (by omega)
    by_cases h0 : (n + 1) % 17 = 0
    · exact after_D m c ⟨n + 1, hn⟩ h0 (by show ¬(n + 1) % 136 = 0; omega) ih
    · by_cases hc : 6 ≤ (n + 1) % 17 ∧ (n + 1) % 17 ≤ 8
      · exact after_C m c ⟨n + 1, hn⟩ hc ih
      · exact after_B m c ⟨n + 1, hn⟩ h0 hc ih

/-- The output array: the products, in the convolution's channels the gated convolutions. -/
def G5 : S8192x17408.Idx → EReal := fun i => ProjSpec.out (ax m c) (ag m c) (aw m c) (acw m c) (acb m c) (i 0).val (i 1).val

/-- The last rows of every row block, in the convolution's channels. -/
def G6 : S8x8x3072.Idx → EReal := fun i => U (ax m c) (ag m c) (aw m c) (1024 * (i 0).val + 1016 + (i 1).val) (6144 + (i 2).val)

/-- A cut block's index, placed in the output array. -/
theorem emb5 (t : Fin cfg0.N) (i : Fin 1024) (p : Fin 1024) :
    ((cfg0.win 5).blk t).view.emb (ix2 i p) = ix2 ⟨1024 * (t.val / 17) + i.val, by have := (idx t).2.2.2.2.2.2.2; omega⟩ ⟨1024 * (t.val % 17) + p.val, by omega⟩ := by
  have e := (idx t).2.2.2.2.2.1
  funext a
  apply Fin.ext
  blk_simp [idx t]
  match a with
  | ⟨0, _⟩ =>
    show t.val / 17 * 1024 + i.val = 1024 * (t.val / 17) + i.val
    omega
  | ⟨1, _⟩ =>
    show t.val % 17 * 1024 + p.val = 1024 * (t.val % 17) + p.val
    omega

/-- A cut block's index, placed in the array of last rows. -/
theorem emb6 (t : Fin cfg0.N) (r : Fin 8) (p : Fin 1024) :
    ((cfg0.win 6).blk t).view.emb (ix3 0 r p) = ix3 ⟨t.val / 17, by have := (idx t).2.2.2.2.2.2.2; omega⟩ r ⟨1024 * tile (t.val % 17) + p.val, by have := tile_lt (t.val % 17); omega⟩ := by
  have e := (idx t).2.2.2.2.2.2.1
  funext a
  apply Fin.ext
  blk_simp [idx t]
  match a with
  | ⟨0, _⟩ =>
    show t.val / 17 * 1 + 0 = t.val / 17
    omega
  | ⟨1, _⟩ =>
    show 0 * 8 + r.val = r.val
    omega
  | ⟨2, _⟩ =>
    show tile (t.val % 17) * 1024 + p.val = 1024 * tile (t.val % 17) + p.val
    omega

/-- The output array after the run. -/
theorem final5 : (dats m 0 c).arrAt 5 cfg0.N = G5 m c := by
  have hc : (cfg0.win 5).Covers := by decide +kernel
  refine (dats m 0 c).arrAt_eq_of_covers 5 _ hc (fun t hf y => ?_)
  obtain ⟨i, p, rfl⟩ : ∃ (i : Fin 1024) (p : Fin 1024), y = ix2 i p := ⟨y 0, y 1, by funext a; match a with | ⟨0, _⟩ => rfl | ⟨1, _⟩ => rfl⟩
  rw [emb5, after0_5]
  refine (cast_eq _ _).trans ((congrArg (outsAt0 m c t.val t.isLt).1 ?_).trans ((after_at m c t.val t.isLt).out i p))
  funext a
  match a with
  | ⟨0, _⟩ => rfl
  | ⟨1, _⟩ => rfl

/-- The array of last rows after the run. -/
theorem final6 : (dats m 0 c).arrAt 6 cfg0.N = G6 m c := by
  have hc : (cfg0.win 6).Covers := by decide +kernel
  have hfl : ∀ t : Fin cfg0.N, (cfg0.win 6).flush t → 6 ≤ t.val % 17 := by decide +kernel
  refine (dats m 0 c).arrAt_eq_of_covers 6 _ hc (fun t hf y => ?_)
  obtain ⟨r, p, rfl⟩ : ∃ (r : Fin 8) (p : Fin 1024), y = ix3 0 r p := ⟨y 1, y 2, by funext a; match a with | ⟨0, _⟩ => exact Subsingleton.elim (α := Fin 1) _ _ | ⟨1, _⟩ => rfl | ⟨2, _⟩ => rfl⟩
  rw [emb6, after0_6]
  refine (cast_eq _ _).trans ((congrArg (outsAt0 m c t.val t.isLt).2.1 ?_).trans ((after_at m c t.val t.isLt).tail (hfl t hf) r p))
  funext a
  match a with
  | ⟨0, _⟩ => rfl
  | ⟨1, _⟩ => rfl
  | ⟨2, _⟩ => rfl

end Cert.ProjRun

end
-- ==== Proof.ProjReals.lean ====
/- Under finite arguments the convolution's sums are real numbers, so the two ways to write the gate agree. -/
module

public import proofs.«01_k».proof.Proof.ProjSpec
public import proofs.«01_k».proof.Proof.ScanScalar

@[expose] public section

noncomputable section

namespace Cert.ProjReals

open Idealize.ShloMosaic Cert.RowNorm Cert.ProjPays Cert.ProjSpec Cert.ScanMath

/-- A value that is a real number. -/
def IsReal (x : EReal) : Prop := ∃ r : ℝ, x = (r : EReal)

theorem real_of {x : EReal} (h : x ≠ ⊤ ∧ x ≠ ⊥) : IsReal x := ⟨x.toReal, (EReal.coe_toReal h.1 h.2).symm⟩

theorem real_add {x y : EReal} (hx : IsReal x) (hy : IsReal y) : IsReal (x + y) := by
  obtain ⟨a, rfl⟩ := hx
  obtain ⟨b, rfl⟩ := hy
  exact ⟨a + b, (EReal.coe_add a b).symm⟩

theorem real_mul {x y : EReal} (hx : IsReal x) (hy : IsReal y) : IsReal (x * y) := by
  obtain ⟨a, rfl⟩ := hx
  obtain ⟨b, rfl⟩ := hy
  exact ⟨a * b, (EReal.coe_mul a b).symm⟩

theorem real_sum {n : ℕ} {f : Fin n → EReal} (h : ∀ i, IsReal (f i)) : IsReal (∑ i, f i) := by
  choose g hg using h
  exact ⟨∑ i, g i, by rw [← coe_sum]; exact Finset.sum_congr rfl fun i _ => hg i⟩

/-- The number of columns. -/
theorem columns : Ideal.ofBits .f32 0x45000000#32 = ((2048 : ℝ) : EReal) := by
  simp [Ideal.ofBits, Ideal.ieee, -EReal.coe_mul]; norm_num

/-- The small constant is positive. -/
theorem small : ∃ e : ℝ, 0 < e ∧ Ideal.ofBits .f32 0x358637BD#32 = (e : EReal) := by
  refine ⟨(Ideal.ofBits .f32 0x358637BD#32).toReal, ?_, ?_⟩
  · simp [Ideal.ofBits, Ideal.ieee, -EReal.coe_mul]
  · simp [Ideal.ofBits, Ideal.ieee, -EReal.coe_mul]

/-- A real row's scale is real: its mean square plus the small constant is positive. -/
theorem real_scale {v : Fin 2048 → EReal} (h : ∀ k, IsReal (v k)) : IsReal (scale v) := by
  choose g hg using h
  obtain ⟨e, he, ee⟩ := small
  have hs : ∑ k : Fin 2048, v k * v k = ((∑ k : Fin 2048, g k * g k : ℝ) : EReal) := by
    rw [← coe_sum]
    exact Finset.sum_congr rfl fun k _ => by rw [hg k, EReal.coe_mul]
  have hp : 0 ≤ ∑ k : Fin 2048, g k * g k := Finset.sum_nonneg fun k _ => mul_self_nonneg _
  have hq : 0 < (∑ k : Fin 2048, g k * g k) * (1 / 2048) + e := by positivity
  unfold scale
  rw [hs, columns, ee, Ideal.div_coe (by norm_num), ← EReal.coe_mul, ← EReal.coe_add, Ideal.rsqrt_coe, if_neg hq.le.not_gt, if_neg hq.ne']
  exact ⟨_, rfl⟩

variable {x : (⟨2, ![8192, 2048]⟩ : Shape).Idx → EReal} {g : (⟨1, ![2048]⟩ : Shape).Idx → EReal} {w : (⟨2, ![2048, 17408]⟩ : Shape).Idx → EReal}
  {cw : (⟨2, ![4, 3072]⟩ : Shape).Idx → EReal} {cb : (⟨1, ![3072]⟩ : Shape).Idx → EReal}

theorem real_U (hx : ∀ i, IsReal (x i)) (hg : ∀ i, IsReal (g i)) (hw : ∀ i, IsReal (w i)) (R Q : ℕ) : IsReal (U x g w R Q) :=
  real_sum fun k => real_mul (real_mul (real_mul (hx _) (real_scale fun k => hx _)) (hg _)) (hw _)

theorem real_Z (hx : ∀ i, IsReal (x i)) (hg : ∀ i, IsReal (g i)) (hw : ∀ i, IsReal (w i)) (R Q k : ℕ) : IsReal (Z x g w R Q k) := by
  unfold Z
  split
  · exact ⟨0, EReal.coe_zero.symm⟩
  · exact real_U hx hg hw _ _

theorem real_conv (hx : ∀ i, IsReal (x i)) (hg : ∀ i, IsReal (g i)) (hw : ∀ i, IsReal (w i)) (hcw : ∀ i, IsReal (cw i)) (hcb : ∀ i, IsReal (cb i)) (R q : ℕ) : IsReal (conv x g w cw cb R q) :=
  real_add (real_add (real_add (real_add (hcb _) (real_mul (hcw _) (real_Z hx hg hw _ _ _))) (real_mul (hcw _) (real_Z hx hg hw _ _ _)))
    (real_mul (hcw _) (real_Z hx hg hw _ _ _))) (real_mul (hcw _) (real_Z hx hg hw _ _ _))

/-- The gate by the hyperbolic tangent is the gate by the logistic function. -/
theorem gated_eq {z : EReal} (h : IsReal z) : gated z = z * Ideal.logistic z := by
  obtain ⟨r, rfl⟩ := h
  unfold gated
  rw [half]
  exact (silu_coe r).trans (logistic_gate r).symm

end Cert.ProjReals

end
-- ==== Proof.ProjRef.lean ====
/- The reference of the projection, array by array: the products, the products with three rows of zeros before each
   sequence, the convolution as four shifted products, and the two results, each read at an index. -/
module

public import proofs.«01_k».proof.Proof.Gen.ProjReferenceIdeal.Run
public import proofs.«01_k».proof.Proof.ProjReals
public import Idealize.ShloMosaic.Lib.Claim
public import Idealize.ShloMosaic.Lib.Pipeline.ValueKit

@[expose] public section

set_option maxRecDepth 16384

noncomputable section

namespace Cert.ProjRef

open Idealize.ShloMosaic Idealize.ShloMosaic.TcCoe Cert.ProjReals Cert.ProjReferenceIdeal Cert.ProjReferenceIdeal.Gen Cert.RowNorm Cert.ProjPays Cert.ProjSpec

variable (x : FVec Ideal S8192x2048 .f32) (g : FVec Ideal S2048 .f32) (w : FVec Ideal S2048x17408 .bf16) (cw : FVec Ideal S4x3072 .f32) (cb : FVec Ideal S3072 .f32)
  (u : FVec Ideal S8192x17408 .f32)

/-- The products. -/
def uArr : FVec Ideal S8192x17408 .f32 := (Host.dotGeneral dot_S8192x2048_S2048x17408_S8192x17408_1_0_0_1_n_n none (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))) (extf .f32 w bitsLt_bf16_f32))

/-- The convolution's channels with three rows of zeros before each sequence. -/
def padArr : FVec Ideal S4x2051x3072 .f32 :=
  concatenate S4x2051x3072 1 [⟨S4x3x3072, (broadcastInDim S4x3x3072 ![] bcast_S_S4x3x3072 (constant S_ .f32 0x00000000#32))⟩, ⟨S4x2048x3072, (shapeCast S4x2048x3072 (extractStridedSlice S8192x3072 ![0, 6144] u slices_S8192x17408_S8192x3072_0_6144) shapeCasts_S8192x3072_S4x2048x3072)⟩] concatenates_S4x3x3072_S4x2048x3072_S4x2051x3072_d1

/-- The product with tap 0, shifted. -/
def tap0 : FVec Ideal S4x2048x3072 .f32 :=
  mulf (broadcastInDim S4x2048x3072 ![0, 1, 2] bcast_S1x1x3072_S4x2048x3072_0_1_2 (broadcastInDim S1x1x3072 ![2] bcast_S3072_S1x1x3072_2 (shapeCast S3072 (extractStridedSlice S1x3072 ![0, 0] cw slices_S4x3072_S1x3072_0_0) shapeCasts_S1x3072_S3072))) (extractStridedSlice S4x2048x3072 ![0, 0, 0] (padArr u) slices_S4x2051x3072_S4x2048x3072_0_0_0)

/-- The product with tap 1, shifted. -/
def tap1 : FVec Ideal S4x2048x3072 .f32 :=
  mulf (broadcastInDim S4x2048x3072 ![0, 1, 2] bcast_S1x1x3072_S4x2048x3072_0_1_2 (broadcastInDim S1x1x3072 ![2] bcast_S3072_S1x1x3072_2 (shapeCast S3072 (extractStridedSlice S1x3072 ![1, 0] cw slices_S4x3072_S1x3072_1_0) shapeCasts_S1x3072_S3072))) (extractStridedSlice S4x2048x3072 ![0, 1, 0] (padArr u) slices_S4x2051x3072_S4x2048x3072_0_1_0)

/-- The product with tap 2, shifted. -/
def tap2 : FVec Ideal S4x2048x3072 .f32 :=
  mulf (broadcastInDim S4x2048x3072 ![0, 1, 2] bcast_S1x1x3072_S4x2048x3072_0_1_2 (broadcastInDim S1x1x3072 ![2] bcast_S3072_S1x1x3072_2 (shapeCast S3072 (extractStridedSlice S1x3072 ![2, 0] cw slices_S4x3072_S1x3072_2_0) shapeCasts_S1x3072_S3072))) (extractStridedSlice S4x2048x3072 ![0, 2, 0] (padArr u) slices_S4x2051x3072_S4x2048x3072_0_2_0)

/-- The product with tap 3, shifted. -/
def tap3 : FVec Ideal S4x2048x3072 .f32 :=
  mulf (broadcastInDim S4x2048x3072 ![0, 1, 2] bcast_S1x1x3072_S4x2048x3072_0_1_2 (broadcastInDim S1x1x3072 ![2] bcast_S3072_S1x1x3072_2 (shapeCast S3072 (extractStridedSlice S1x3072 ![3, 0] cw slices_S4x3072_S1x3072_3_0) shapeCasts_S1x3072_S3072))) (extractStridedSlice S4x2048x3072 ![0, 3, 0] (padArr u) slices_S4x2051x3072_S4x2048x3072_0_3_0)

/-- The convolution. -/
def convArr : FVec Ideal S4x2048x3072 .f32 :=
  addf (addf (addf (addf (tap0 cw u) (tap1 cw u)) (tap2 cw u)) (tap3 cw u)) (broadcastInDim S4x2048x3072 ![0, 1, 2] bcast_S1x1x3072_S4x2048x3072_0_1_2 (broadcastInDim S1x1x3072 ![2] bcast_S3072_S1x1x3072_2 cb))

/-- The gated convolution. -/
def gateArr : FVec Ideal S4x2048x3072 .f32 :=
  mulf (convArr cw cb u) (Host.divf (broadcastInDim S4x2048x3072 ![] bcast_S_S4x2048x3072 (constant S_ .f32 0x3F800000#32)) (addf (broadcastInDim S4x2048x3072 ![] bcast_S_S4x2048x3072 (constant S_ .f32 0x3F800000#32)) (Host.exp (Host.negf (convArr cw cb u)))))

/-- The first result. -/
def outArr : FVec Ideal S8192x17408 .f32 :=
  concatenate S8192x17408 1 [⟨S8192x6144, (extractStridedSlice S8192x6144 ![0, 0] u slices_S8192x17408_S8192x6144_0_0)⟩, ⟨S8192x3072, (shapeCast S8192x3072 (gateArr cw cb u) shapeCasts_S4x2048x3072_S8192x3072)⟩, ⟨S8192x8192, (extractStridedSlice S8192x8192 ![0, 9216] u slices_S8192x17408_S8192x8192_0_9216)⟩] concatenates_S8192x6144_S8192x3072_S8192x8192_S8192x17408_d1

/-- The second result. -/
def tailArr : FVec Ideal S8x8x3072 .f32 :=
  extractStridedSlice S8x8x3072 ![0, 1016, 0] (shapeCast S8x1024x3072 (extractStridedSlice S8192x3072 ![0, 6144] u slices_S8192x17408_S8192x3072_0_6144) shapeCasts_S8192x3072_S8x1024x3072) slices_S8x1024x3072_S8x8x3072_0_1016_0

/-- A product at a row and a column. -/
theorem u_at (R : Fin 8192) (Q : Fin 17408) : uArr x g w (ix2 R Q) = U x g w R.val Q.val := by
  unfold U row
  rw [wrap_val, wrap_val]
  pointwise [uArr]
  rfl

/-- A padded row: zero in the first three rows of a sequence, then the products. -/
theorem pad_at (b : Fin 4) (j : Fin 2051) (q : Fin 3072) :
    padArr u (ix3 b j q) = if h : j.val < 3 then (0 : EReal) else u (ix2 ⟨b.val * 2048 + (j.val - 3), by omega⟩ ⟨6144 + q.val, by omega⟩) := by
  pointwise [padArr]

theorem tap0_at (b : Fin 4) (t : Fin 2048) (q : Fin 3072) : tap0 cw u (ix3 b t q) = (show EReal from cw (ix2 0 q)) * padArr u (ix3 b ⟨0 + t.val, by omega⟩ q) := by
  pointwise [tap0]

theorem tap1_at (b : Fin 4) (t : Fin 2048) (q : Fin 3072) : tap1 cw u (ix3 b t q) = (show EReal from cw (ix2 1 q)) * padArr u (ix3 b ⟨1 + t.val, by omega⟩ q) := by
  pointwise [tap1]

theorem tap2_at (b : Fin 4) (t : Fin 2048) (q : Fin 3072) : tap2 cw u (ix3 b t q) = (show EReal from cw (ix2 2 q)) * padArr u (ix3 b ⟨2 + t.val, by omega⟩ q) := by
  pointwise [tap2]

theorem tap3_at (b : Fin 4) (t : Fin 2048) (q : Fin 3072) : tap3 cw u (ix3 b t q) = (show EReal from cw (ix2 3 q)) * padArr u (ix3 b ⟨3 + t.val, by omega⟩ q) := by
  pointwise [tap3]

/-- The gate, over the convolution. -/
theorem gate_at (b : Fin 4) (t : Fin 2048) (q : Fin 3072) :
    gateArr cw cb u (ix3 b t q) = (show EReal from convArr cw cb u (ix3 b t q)) * Ideal.logistic (convArr cw cb u (ix3 b t q)) := by
  pointwise [gateArr]
  rfl

/-- The five terms of a convolution in the other order. -/
theorem regroup (a b c d e : EReal) : a + b + c + d + e = e + d + c + b + a := by ac_rfl

section Read

variable {x g w cw cb u} (hu : ∀ (R : Fin 8192) (Q : Fin 17408), u (ix2 R Q) = U x g w R.val Q.val)
include hu

/-- A padded row is the product some rows before, zero before the sequence's start. -/
theorem pad_eq (b : Fin 4) (t : Fin 2048) (q : Fin 3072) (k : ℕ) (hk : k ≤ 3) :
    padArr u (ix3 b ⟨k + t.val, by omega⟩ q) = Z x g w (2048 * b.val + t.val) (6144 + q.val) (3 - k) := by
  rw [pad_at]
  unfold Z
  have ht := t.isLt
  by_cases h : k + t.val < 3
  · rw [dif_pos h, if_pos (by omega)]
  · rw [dif_neg h, if_neg (by omega)]
    refine (hu _ _).trans (congrArg (fun R => U x g w R (6144 + q.val)) ?_)
    show b.val * 2048 + (k + t.val - 3) = 2048 * b.val + t.val - (3 - k)
    omega

/-- The convolution. -/
theorem conv_at (b : Fin 4) (t : Fin 2048) (q : Fin 3072) : convArr cw cb u (ix3 b t q) = conv x g w cw cb (2048 * b.val + t.val) q.val := by
  have e : convArr cw cb u (ix3 b t q) = (show EReal from tap0 cw u (ix3 b t q)) + tap1 cw u (ix3 b t q) + tap2 cw u (ix3 b t q) + tap3 cw u (ix3 b t q) + cb (ix1 q) := by
    pointwise [convArr]
  rw [e, tap0_at, tap1_at, tap2_at, tap3_at, pad_eq hu b t q 0 (by omega), pad_eq hu b t q 1 (by omega), pad_eq hu b t q 2 (by omega), pad_eq hu b t q 3 (by omega)]
  unfold conv
  rw [wrap_val]
  show (cw (ix2 0 q) : EReal) * Z x g w (2048 * b.val + t.val) (6144 + q.val) 3 + cw (ix2 1 q) * Z x g w (2048 * b.val + t.val) (6144 + q.val) 2
    + cw (ix2 2 q) * Z x g w (2048 * b.val + t.val) (6144 + q.val) 1 + cw (ix2 3 q) * Z x g w (2048 * b.val + t.val) (6144 + q.val) 0 + cb (ix1 q) = _
  exact regroup _ _ _ _ _

/-- The first result at a row and a column. -/
theorem out_at (hr : ∀ R q, IsReal (conv x g w cw cb R q)) (R : Fin 8192) (Q : Fin 17408) : outArr cw cb u (ix2 R Q) = ProjSpec.out x g w cw cb R.val Q.val := by
  have e : outArr cw cb u (ix2 R Q) = if h : Q.val < 6144 then u (ix2 R Q) else if h' : Q.val - 6144 < 3072 then gateArr cw cb u (ix3 ⟨R.val / 2048, by omega⟩ ⟨R.val % 2048, by omega⟩ ⟨Q.val - 6144, by omega⟩)
      else u (ix2 R ⟨9216 + (Q.val - 6144 - 3072), by omega⟩) := by
    pointwise [outArr]
  rw [e]
  unfold ProjSpec.out
  by_cases h : Q.val < 6144
  · rw [dif_pos h, if_neg (by omega)]
    exact hu R Q
  · rw [dif_neg h]
    by_cases h' : Q.val - 6144 < 3072
    · rw [dif_pos h', if_pos (by omega), gate_at, conv_at hu]
      have eR : 2048 * (R.val / 2048) + R.val % 2048 = R.val := by omega
      refine Eq.trans ?_ (gated_eq (hr R.val (Q.val - 6144))).symm
      show conv x g w cw cb (2048 * (R.val / 2048) + R.val % 2048) (Q.val - 6144) * Ideal.logistic (conv x g w cw cb (2048 * (R.val / 2048) + R.val % 2048) (Q.val - 6144)) = _
      rw [eR]
    · rw [dif_neg h', if_neg (by omega)]
      refine (hu R _).trans (congrArg (U x g w R.val) ?_)
      show 9216 + (Q.val - 6144 - 3072) = Q.val
      omega

/-- The second result at a row block, a row and a channel. -/
theorem tail_at (a : Fin 8) (r : Fin 8) (q : Fin 3072) : tailArr u (ix3 a r q) = U x g w (1024 * a.val + 1016 + r.val) (6144 + q.val) := by
  have e : tailArr u (ix3 a r q) = u (ix2 ⟨a.val * 1024 + (1016 + r.val), by omega⟩ ⟨6144 + q.val, by omega⟩) := by
    pointwise [tailArr]
  rw [e]
  refine (hu _ _).trans (congrArg (fun R => U x g w R (6144 + q.val)) ?_)
  show a.val * 1024 + (1016 + r.val) = 1024 * a.val + 1016 + r.val
  omega

end Read

/-- The run's first result is the array named here. -/
theorem res_eq (m : (ℓ : Loc nD τ sig) → Buf (Elt Ideal) ℓ) (c : Dev nD) :
    Cert.ProjReferenceIdeal.Value.res_main_v55 m c = outArr (m ((c.tc : Thread nD τ).loc main_arg3)) (m ((c.tc : Thread nD τ).loc main_arg4))
      (uArr (m ((c.tc : Thread nD τ).loc main_arg0)) (m ((c.tc : Thread nD τ).loc main_arg1)) (m ((c.tc : Thread nD τ).loc main_arg2))) := rfl

end Cert.ProjRef

end
-- ==== Proof.ProjClaim.lean ====
/- The projection of the prompt's rows: under finite arguments the kernel's two results are the reference's. -/
module

public import proofs.«01_k».proof.Proof.ProjRun
public import proofs.«01_k».proof.Proof.ProjRef
public import proofs.«01_k».proof.Proof.ScanClaim
public import proofs.«01_k».proof.Proof.Gen.ProjKernel.Frame

@[expose] public section

set_option maxRecDepth 16384

noncomputable section

namespace Cert.ProjClaim

open Idealize.ShloMosaic Idealize.ShloMosaic.TcCoe Idealize.SL.Sem Cert.ProjReals Cert.ProjSpec

/-- What the precondition's operations state of their shapes. -/
theorem pre_facts : Cert.Pre_proj_finite.Facts where
  bcast_S_S8192x2048 := by decide
  reducesTo_S8192x2048_S_d0_1 := by decide
  h_S_ := by decide
  bcast_S_S2048 := by decide
  reducesTo_S2048_S_d0 := by decide
  bitsLt_bf16_f32 := by decide
  bcast_S_S2048x17408 := by decide
  reducesTo_S2048x17408_S_d0_1 := by decide
  bcast_S_S4x3072 := by decide
  reducesTo_S4x3072_S_d0_1 := by decide
  bcast_S_S3072 := by decide
  reducesTo_S3072_S_d0 := by decide

attribute [local instance] pre_facts

instance : Subsingleton Cert.Pre_proj_finite.S_.Idx := ⟨fun a b => funext fun i => i.elim0⟩

/-- The precondition opened: every argument's entries are real numbers. -/
theorem pre_open (a0 : FVec Ideal Cert.Pre_proj_finite.S8192x2048 .f32) (a1 : FVec Ideal Cert.Pre_proj_finite.S2048 .f32) (a2 : FVec Ideal Cert.Pre_proj_finite.S2048x17408 .bf16)
    (a3 : FVec Ideal Cert.Pre_proj_finite.S4x3072 .f32) (a4 : FVec Ideal Cert.Pre_proj_finite.S3072 .f32)
    (h : Cert.Pre_proj_finite.fn (F := Ideal) a0 a1 a2 a3 a4 = fun _ => 1#1) :
    (∀ i, IsReal (a0 i)) ∧ (∀ i, IsReal (a1 i)) ∧ (∀ i, IsReal (a2 i)) ∧ (∀ i, IsReal (a3 i)) ∧ (∀ i, IsReal (a4 i)) := by
  have h0 := congrFun h (Shape.Idx.first (by decide))
  unfold Cert.Pre_proj_finite.fn Cert.Pre_proj_finite.fn_part1 at h0
  obtain ⟨h1, h6⟩ := IntOp.andi_eq_one.1 h0
  obtain ⟨h1, h5⟩ := IntOp.andi_eq_one.1 h1
  obtain ⟨h1, h4⟩ := IntOp.andi_eq_one.1 h1
  obtain ⟨h2, h3⟩ := IntOp.andi_eq_one.1 h1
  refine ⟨fun i => real_of (Cert.ScanClaim.finite_of _ ?_), fun i => real_of (Cert.ScanClaim.finite_of _ ?_), fun i => real_of (Cert.ScanClaim.finite_of _ ?_),
    fun i => real_of (Cert.ScanClaim.finite_of _ ?_), fun i => real_of (Cert.ScanClaim.finite_of _ ?_)⟩
  · exact Host.reduce_andi_all _ _ _ _ _ h2 i
  · exact Host.reduce_andi_all _ _ _ _ _ h3 i
  · exact Host.reduce_andi_all _ _ _ _ _ h4 i
  · exact Host.reduce_andi_all _ _ _ _ _ h5 i
  · exact Host.reduce_andi_all _ _ _ _ _ h6 i

/-- The kernel's two results are the reference's. -/
theorem algebraic : Cert.algebraic_ProjKernelIdeal_ProjReferenceIdeal_pre_proj_finite := fun m g m' g' hpre hargs => by
  refine ⟨fun c => Cert.ProjRun.G5 m c, fun c => Cert.ProjRun.G6 m c,
    (θ_run Cert.ProjKernelIdeal.defs _ _).mono (fun r h c => ⟨(h c).1.trans (Cert.ProjRun.final5 m c), (h c).2.1.trans (Cert.ProjRun.final6 m c), (h c).2.2⟩) (Cert.ProjKernelIdeal.Value.run_blocks m g), ?_⟩
  refine (θ_run Cert.ProjReferenceIdeal.defs _ _).mono (fun r h c => ?_) (Cert.ProjReferenceIdeal.Value.run (F := Ideal) m' g')
  obtain ⟨r55, r51, rest⟩ := h c
  obtain ⟨e0, e1, e2, e3, e4⟩ := hargs c
  obtain ⟨p0, p1, p2, p3, p4⟩ := pre_open _ _ _ _ _ (hpre c)
  have hu := Cert.ProjRef.u_at (Cert.ProjRun.ax m c) (Cert.ProjRun.ag m c) (Cert.ProjRun.aw m c)
  refine ⟨r55.trans ?_, r51.trans ?_, rest⟩
  · rw [Cert.ProjRef.res_eq, e0, e1, e2, e3, e4]
    funext i
    have ei : i = ix2 (i 0) (i 1) := by funext a; match a with | ⟨0, _⟩ => rfl | ⟨1, _⟩ => rfl
    rw [ei]
    exact Cert.ProjRef.out_at hu (fun R q => real_conv p0 p1 p2 p3 p4 R q) (i 0) (i 1)
  · rw [e0, e1, e2]
    funext i
    have ei : i = ix3 (i 0) (i 1) (i 2) := by funext a; match a with | ⟨0, _⟩ => rfl | ⟨1, _⟩ => rfl | ⟨2, _⟩ => rfl
    rw [ei]
    exact Cert.ProjRef.tail_at hu (i 0) (i 1) (i 2)

/-- The frames. -/
theorem frame_p : Cert.quiescent_ProjKernel := fun m ρ _ => Cert.ProjKernel.Gen.frame m ρ

theorem frame_pi : Cert.quiescent_ProjKernelIdeal := fun m ρ _ => Cert.ProjKernelIdeal.Gen.frame m ρ

theorem frame_pi_pre : Cert.quiescent_ProjKernelIdeal_pre_proj_finite := fun m ρ _ => Cert.ProjKernelIdeal.Gen.frame m ρ

theorem frame_ri : Cert.quiescent_ProjReferenceIdeal := fun m ρ _ =>
  (θ_run Cert.ProjReferenceIdeal.defs _ _).mono (fun r h => ⟨fun c => (h c).2.2, Idealize.ShloMosaic.sem_eq_zero_of_no_sems (by decide) r.2⟩)
    (Cert.ProjReferenceIdeal.Value.run (F := Ideal) m ρ)

theorem frame_ri_pre : Cert.quiescent_ProjReferenceIdeal_pre_proj_finite := fun m ρ _ =>
  (θ_run Cert.ProjReferenceIdeal.defs _ _).mono (fun r h => ⟨fun c => (h c).2.2, Idealize.ShloMosaic.sem_eq_zero_of_no_sems (by decide) r.2⟩)
    (Cert.ProjReferenceIdeal.Value.run (F := Ideal) m ρ)

/-- No operation was rewritten. -/
theorem preserves : Cert.preserves_ProjKernel_ProjKernelIdeal := trivial

end Cert.ProjClaim

end
-- ==== Proof.StepPays.lean ====
/- What the short stretch's block computes from finite operands: the padded buffers read back, the convolved rows, the steps
   masked to the rows there are, and the prefix sums of the log decays. -/
module

public import proofs.«01_k».proof.Proof.Gen.StepKernelIdeal.Skeleton
public import proofs.«01_k».proof.Proof.ScanState
public import proofs.«01_k».proof.Proof.ScanLayout
public import Idealize.ShloMosaic.Lib.Pipeline.FrameBody

@[expose] public section

set_option maxRecDepth 16384

noncomputable section

namespace Cert.StepKernelIdeal.Scan

open Idealize.ShloMosaic Idealize.ShloMosaic.TcCoe Cert.StepKernelIdeal.Gen Cert.StepKernelIdeal Cert.ScanMath Cert.KernelIdeal.Scan View

/-- A stored block of rows holds an index in its rows, … -/
theorem rows_in {M N k o : ℕ} {e : EltTy} (inb) (P : (Rect.unit (s := (⟨2, ![M, N]⟩ : Shape)) ![o, 0] ![k, N] inb).shape.Idx → Elt Ideal e) (L : List (Piece (Elt Ideal) (⟨2, ![M, N]⟩ : Shape) e))
    (y : (⟨2, ![M, N]⟩ : Shape).Idx) (q : Fin k) (j : Fin N) (h0 : (y 0).val = o + q.val) (h1 : (y 1).val = j.val) :
    canon (Val := Elt Ideal) (⟨Rect.unit (s := (⟨2, ![M, N]⟩ : Shape)) ![o, 0] ![k, N] inb, P⟩ :: L) y = P (ix2 q j) := by
  have e : y = (Rect.unit (s := (⟨2, ![M, N]⟩ : Shape)) ![o, 0] ![k, N] inb).emb (ix2 q j) := by
    funext a
    apply Fin.ext
    match a with
    | ⟨0, _⟩ => show (y 0).val = o + 1 * q.val; omega
    | ⟨1, _⟩ => show (y 1).val = 0 + 1 * j.val; omega
  rw [e, canon_cons_emb]

/-- … and an index outside is what was there before. -/
theorem rows_out {M N k o : ℕ} {e : EltTy} (inb) (P : (Rect.unit (s := (⟨2, ![M, N]⟩ : Shape)) ![o, 0] ![k, N] inb).shape.Idx → Elt Ideal e) (L : List (Piece (Elt Ideal) (⟨2, ![M, N]⟩ : Shape) e))
    (y : (⟨2, ![M, N]⟩ : Shape).Idx) (h0 : (y 0).val < o ∨ o + k ≤ (y 0).val) :
    canon (Val := Elt Ideal) (⟨Rect.unit (s := (⟨2, ![M, N]⟩ : Shape)) ![o, 0] ![k, N] inb, P⟩ :: L) y = canon (Val := Elt Ideal) L y := by
  refine canon_cons_of_not_mem _ _ fun h => ?_
  rw [Rect.mem_set_unit] at h
  have h1 : o ≤ (y 0).val ∧ (y 0).val < o + k := h 0
  omega

/-- Rows `C` on the first eight, then the 32 rows `V`, then zeros. -/
def padv (C V : ℕ → ℕ → ℝ) (q k : ℕ) : ℝ := if q < 8 then C q k else if q < 40 then V (q - 8) k else 0

/-- The padded input buffer read at a block of rows. -/
theorem pad_read (v : View sig .tc .vmem S136x3072 .f32) (C V : ℕ → ℕ → ℝ) (o k : ℕ) (b2 b1 b0 b)
    (P : S32x3072.Idx → EReal) (Q : S8x3072.Idx → EReal) (Z : S136x3072.Idx → EReal)
    (hP : ∀ (i : Fin 32) (j : Fin 3072), P (ix2 i j) = ((V i j : ℝ) : EReal)) (hQ : ∀ (i : Fin 8) (j : Fin 3072), Q (ix2 i j) = ((C i j : ℝ) : EReal))
    (hZ : ∀ (i : Fin 136) (j : Fin 3072), Z (ix2 i j) = 0) (i : Fin k) (j : Fin 3072) :
    v.readCov (Val := Elt Ideal) [⟨Rect.unit (s := S136x3072) ![8, 0] ![32, 3072] b2, P⟩, ⟨Rect.unit (s := S136x3072) ![0, 0] ![8, 3072] b1, Q⟩,
      ⟨Rect.unit (s := S136x3072) ![0, 0] ![136, 3072] b0, Z⟩] (Rect.unit (s := S136x3072) ![o, 0] ![k, 3072] b).toLoadRect (ix2 i j) = ((padv C V (o + i) j : ℝ) : EReal) := by
  have hb : o + k ≤ 136 := b 0
  have hi := i.isLt
  rw [readCov_eq_canon']
  have h0 : ((Rect.unit (s := S136x3072) ![o, 0] ![k, 3072] b).toLoadRect.idx (ix2 i j) 0).val = o + i.val := by
    show o + 1 * i.val = _; omega
  have h1 : ((Rect.unit (s := S136x3072) ![o, 0] ![k, 3072] b).toLoadRect.idx (ix2 i j) 1).val = j.val := by
    show 0 + 1 * j.val = _; omega
  show canon (Val := Elt Ideal) _ ((Rect.unit (s := S136x3072) ![o, 0] ![k, 3072] b).toLoadRect.idx (ix2 i j)) = _
  generalize (Rect.unit (s := S136x3072) ![o, 0] ![k, 3072] b).toLoadRect.idx (ix2 i j) = y at h0 h1
  unfold padv
  by_cases c : o + i.val < 8
  · rw [if_pos c]
    refine (rows_out (M := 136) (N := 3072) (k := 32) (o := 8) (e := .f32) b2 P _ y (by omega)).trans ?_
    exact (rows_in (M := 136) (N := 3072) (k := 8) (o := 0) (e := .f32) b1 Q _ y ⟨o + i.val, c⟩ j (by simpa using h0) h1).trans (hQ _ _)
  · rw [if_neg c]
    by_cases c2 : o + i.val < 40
    · rw [if_pos c2]
      exact (rows_in (M := 136) (N := 3072) (k := 32) (o := 8) (e := .f32) b2 P _ y ⟨o + i.val - 8, by omega⟩ j (by dsimp only; omega) h1).trans (hP _ _)
    · rw [if_neg c2]
      refine (rows_out (M := 136) (N := 3072) (k := 32) (o := 8) (e := .f32) b2 P _ y (by omega)).trans ?_
      refine (rows_out (M := 136) (N := 3072) (k := 8) (o := 0) (e := .f32) b1 Q _ y (by omega)).trans ?_
      exact (rows_in (M := 136) (N := 3072) (k := 136) (o := 0) (e := .f32) b0 Z _ y ⟨o + i.val, by omega⟩ j (by simpa using h0) h1).trans (hZ _ _)

/-- 32 rows followed by zeros. -/
def tailv (V : ℕ → ℕ → ℝ) (q k : ℕ) : ℝ := if q < 32 then V q k else 0

/-- A buffer of 128 rows, the last 96 zero, read at a block of columns. -/
theorem tail_read {N : ℕ} (v : View sig .tc .vmem (⟨2, ![128, N]⟩ : Shape) .f32) (V : ℕ → ℕ → ℝ) (o w : ℕ) (b1 b0 b)
    (P : (⟨2, ![32, N]⟩ : Shape).Idx → EReal) (Z : (⟨2, ![128, N]⟩ : Shape).Idx → EReal)
    (hP : ∀ (i : Fin 32) (j : Fin N), P (ix2 i j) = ((V i j : ℝ) : EReal))
    (hZ : ∀ (i : Fin 128) (j : Fin N), Z (ix2 i j) = 0) (i : Fin 128) (j : Fin w) :
    v.readCov (Val := Elt Ideal) [⟨Rect.unit (s := (⟨2, ![128, N]⟩ : Shape)) ![0, 0] ![32, N] b1, P⟩,
      ⟨Rect.unit (s := (⟨2, ![128, N]⟩ : Shape)) ![0, 0] ![128, N] b0, Z⟩] (Rect.unit (s := (⟨2, ![128, N]⟩ : Shape)) ![0, o] ![128, w] b).toLoadRect (ix2 i j) = ((tailv V i (o + j) : ℝ) : EReal) := by
  have hb : o + w ≤ N := b 1
  have hj := j.isLt
  rw [readCov_eq_canon']
  have h0 : ((Rect.unit (s := (⟨2, ![128, N]⟩ : Shape)) ![0, o] ![128, w] b).toLoadRect.idx (ix2 i j) 0).val = i.val := by
    show 0 + 1 * i.val = _; omega
  have h1 : ((Rect.unit (s := (⟨2, ![128, N]⟩ : Shape)) ![0, o] ![128, w] b).toLoadRect.idx (ix2 i j) 1).val = o + j.val := by
    show o + 1 * j.val = _; omega
  show canon (Val := Elt Ideal) _ ((Rect.unit (s := (⟨2, ![128, N]⟩ : Shape)) ![0, o] ![128, w] b).toLoadRect.idx (ix2 i j)) = _
  generalize (Rect.unit (s := (⟨2, ![128, N]⟩ : Shape)) ![0, o] ![128, w] b).toLoadRect.idx (ix2 i j) = y at h0 h1
  unfold tailv
  by_cases c : i.val < 32
  · rw [if_pos c]
    exact (rows_in (e := .f32) b1 P _ y ⟨i.val, c⟩ ⟨o + j.val, by omega⟩ (by simpa using h0) h1).trans (hP _ _)
  · rw [if_neg c]
    refine (rows_out (e := .f32) b1 P _ y (by omega)).trans ?_
    exact (rows_in (e := .f32) b0 Z _ y i ⟨o + j.val, by omega⟩ (by simpa using h0) h1).trans (hZ _ _)

/-- The convolution of width four at row `i`. -/
def convv (W : ℕ → ℕ → ℝ) (b : ℕ → ℝ) (V : ℕ → ℕ → ℝ) (i k : ℕ) : ℝ :=
  b k + W 0 k * V (5 + i) k + W 1 k * V (6 + i) k + W 2 k * V (7 + i) k + W 3 k * V (8 + i) k

/-- The activation. -/
theorem silu_of (x : ℝ) : Ideal.ofBits .f32 0x3F000000#32 * ((x : ℝ) : EReal) * Ideal.tanh (Ideal.ofBits .f32 0x3F000000#32 * ((x : ℝ) : EReal))
    + Ideal.ofBits .f32 0x3F000000#32 * ((x : ℝ) : EReal) = ((silu x : ℝ) : EReal) := by
  simp only [half, silu_coe]

/-- The base-two logarithm of e. -/
theorem log2e' : Named.named (F := Ideal) (φ := .f32) κ "log2e" 0x3FB8AA3B#32 = (((Real.log 2)⁻¹ : ℝ) : EReal) := Cert.ScanMath.log2e

/-- The convolved, activated rows. -/
theorem act_read {x4 w0 w1 w2 w3 : Vec Ideal S1x3072 .f32} {xa xb xc xd : Vec Ideal S128x3072 .f32} {W V : ℕ → ℕ → ℝ} {b : ℕ → ℝ}
    (hb : ∀ k : Fin 3072, x4 (ix2 0 k) = ((b k : ℝ) : EReal)) (h0 : ∀ k : Fin 3072, w0 (ix2 0 k) = ((W 0 k : ℝ) : EReal)) (h1 : ∀ k : Fin 3072, w1 (ix2 0 k) = ((W 1 k : ℝ) : EReal))
    (h2 : ∀ k : Fin 3072, w2 (ix2 0 k) = ((W 2 k : ℝ) : EReal)) (h3 : ∀ k : Fin 3072, w3 (ix2 0 k) = ((W 3 k : ℝ) : EReal))
    (ha : ∀ (i : Fin 128) (k : Fin 3072), xa (ix2 i k) = ((V (5 + i) k : ℝ) : EReal)) (hc : ∀ (i : Fin 128) (k : Fin 3072), xb (ix2 i k) = ((V (6 + i) k : ℝ) : EReal))
    (hd : ∀ (i : Fin 128) (k : Fin 3072), xc (ix2 i k) = ((V (7 + i) k : ℝ) : EReal)) (he : ∀ (i : Fin 128) (k : Fin 3072), xd (ix2 i k) = ((V (8 + i) k : ℝ) : EReal))
    (i : Fin 128) (k : Fin 3072) : k0_pay14 (F := Ideal) (k0_pay12 x4 w0 xa w1 xb w2 xc w3 xd) k0_pay13 (ix2 i k) = ((silu (convv W b V i k) : ℝ) : EReal) := by
  pointwise [k0_pay14, k0_pay12, k0_pay13]
  simp only [hb, h0, h1, h2, h3, ha, hc, hd, he, ← EReal.coe_mul, ← EReal.coe_add]
  exact silu_of (convv W b V i k)

section
variable {x2 : Vec Ideal S128x128 .f32} {x4 x5 : Vec Ideal S1x128 .f32} {D : ℕ → ℕ → ℝ} {bi al : ℕ → ℝ}

/-- The step of row `i`, head `h`: zero past the 32 rows. -/
def dtm (D : ℕ → ℕ → ℝ) (bi : ℕ → ℝ) (i h : ℕ) : ℝ := if i < 32 then dtv D bi i h else 0

/-- The log decay. -/
def wm (D : ℕ → ℕ → ℝ) (bi al : ℕ → ℝ) (i h : ℕ) : ℝ := dtm D bi i h * (-Real.exp (al h))

/-- The prefix sum of the log decays. -/
def cumm (D : ℕ → ℕ → ℝ) (bi al : ℕ → ℝ) (i h : ℕ) : ℝ := ∑ j ∈ Finset.range (i + 1), wm D bi al j h

theorem dt_read (h2 : ∀ i l : Fin 128, x2 (ix2 i l) = ((D i l : ℝ) : EReal)) (h4 : ∀ l : Fin 128, x4 (ix2 0 l) = ((bi l : ℝ) : EReal))
    (i l : Fin 128) : k0_pay21 (F := Ideal) x2 x4 (ix2 i l) = ((dtm D bi i l : ℝ) : EReal) := by
  pointwise [k0_pay21]
  rw [h2, h4, ← EReal.coe_add, softplus_coe]
  rw [lane_lt l 32 (by norm_num), lane_lt i 32 (by norm_num)]
  unfold dtm dtv
  split
  · split <;> simp
  · simp

theorem log_read (h2 : ∀ i l : Fin 128, x2 (ix2 i l) = ((D i l : ℝ) : EReal)) (h4 : ∀ l : Fin 128, x4 (ix2 0 l) = ((bi l : ℝ) : EReal))
    (h5 : ∀ l : Fin 128, x5 (ix2 0 l) = ((al l : ℝ) : EReal)) (i l : Fin 128) :
    k0_pay22 (F := Ideal) x2 x4 x5 (ix2 i l) = ((win (fun j => wm D bi al j l * (Real.log 2)⁻¹) 2 i : ℝ) : EReal) := by
  pointwise [k0_pay22]
  simp only [dt_read h2 h4, h5, log2e', Ideal.exp_coe]
  rw [row_ge _ _ i.isLt (by norm_num), ← EReal.coe_zero, ← EReal.coe_sub, ← EReal.coe_mul]
  simp only [← EReal.coe_mul]
  have hi := i.isLt
  rw [← win_double _ 1 i, EReal.coe_add]
  have e : ∀ j : ℕ, dtm D bi j l * ((0 - Real.exp (al l)) * (Real.log 2)⁻¹) = wm D bi al j l * (Real.log 2)⁻¹ := fun j => by unfold wm; ring
  simp only [e, win_one]
  congr 1
  split
  · congr 4
    show (i.val + 128 - 1) % 128 = i.val - 1
    omega
  · rfl

theorem stages (x2 : Vec Ideal S128x128 .f32) (x4 x5 : Vec Ideal S1x128 .f32) :
    k0_pay25 (F := Ideal) (iota Kind.tc S128x128 32 [0] iota_S128x128_d0_w32) (k0_pay22 x2 x4 x5) k0_pay23 (k0_pay24 x2 x4 x5) (FloatOps.ofBits FTy.f32 0#32)
      = stage 64#32 (stage 32#32 (stage 16#32 (stage 8#32 (stage 4#32 (stage 2#32 (k0_pay22 x2 x4 x5)))))) := rfl

/-- The prefix sums, in powers of two. -/
theorem cum_read (h2 : ∀ i l : Fin 128, x2 (ix2 i l) = ((D i l : ℝ) : EReal)) (h4 : ∀ l : Fin 128, x4 (ix2 0 l) = ((bi l : ℝ) : EReal))
    (h5 : ∀ l : Fin 128, x5 (ix2 0 l) = ((al l : ℝ) : EReal)) (i l : Fin 128) :
    k0_pay25 (F := Ideal) (iota Kind.tc S128x128 32 [0] iota_S128x128_d0_w32) (k0_pay22 x2 x4 x5) k0_pay23 (k0_pay24 x2 x4 x5) (FloatOps.ofBits FTy.f32 0#32) (ix2 i l)
      = ((cumm D bi al i l * (Real.log 2)⁻¹ : ℝ) : EReal) := by
  let f : ℕ → ℕ → ℝ := fun j h => wm D bi al j h * (Real.log 2)⁻¹
  have s1 : ∀ i l : Fin 128, k0_pay22 (F := Ideal) x2 x4 x5 (ix2 i l) = ((win (fun j => f j l) 2 i : ℝ) : EReal) := log_read h2 h4 h5
  have s2 := stage_2 f s1
  have s3 := stage_4 f s2
  have s4 := stage_8 f s3
  have s5 := stage_16 f s4
  have s6 := stage_32 f s5
  rw [stages]
  refine (stage_64 f s6 i l).trans ?_
  rw [win_all _ _ _ (by have := i.isLt; omega), cumm, Finset.sum_mul]

end

section
variable {EL : Vec Ideal S1x2048 .f32} {Bm : Vec Ideal S128x128 .f32} {S : Vec Ideal S1x128x512 .f32} {U : Vec Ideal S128x512 .bf16}
  {E : ℕ → ℝ} {X V : ℕ → ℕ → ℝ} {H : ℕ → ℕ → EReal}

/-- A group of the state carried out of the block, transposed: the state it started from decayed, and the block's own part. -/
def outv (E : ℕ → ℝ) (X V : ℕ → ℕ → ℝ) (H : ℕ → ℕ → EReal) (o b p n : ℕ) : EReal :=
  H n p * ((E (o + p) : ℝ) : EReal) + ((∑ s : Fin 128, X s (b + n) * V s (o + p) : ℝ) : EReal)

theorem last_0 (hE : ∀ l : Fin 2048, EL (ix2 0 l) = ((E l : ℝ) : EReal)) (hB : ∀ i n : Fin 128, Bm (ix2 i n) = ((X i (2048 + n) : ℝ) : EReal))
    (hS : ∀ (n : Fin 128) (p : Fin 512), S (ix3 0 n p) = H n p) (hU : ∀ (i : Fin 128) (p : Fin 512), U (ix2 i p) = ((V i (0 + p) : ℝ) : EReal)) (p : Fin 512) (n : Fin 128) :
    k0_pay1 (k0_pay54 (k0_pay53 EL Bm (k0_pay40 S) U)) (ix3 0 p n) = outv E X V H 0 2048 p n := by
  pointwise [k0_pay1, k0_pay54, k0_pay53, k0_pay40]
  simp only [hE, hB, hS, hU, ← EReal.coe_mul, coe_sum, outv, Nat.zero_add]

theorem last_1 (hE : ∀ l : Fin 2048, EL (ix2 0 l) = ((E l : ℝ) : EReal)) (hB : ∀ i n : Fin 128, Bm (ix2 i n) = ((X i (2176 + n) : ℝ) : EReal))
    (hS : ∀ (n : Fin 128) (p : Fin 512), S (ix3 0 n p) = H n p) (hU : ∀ (i : Fin 128) (p : Fin 512), U (ix2 i p) = ((V i (512 + p) : ℝ) : EReal)) (p : Fin 512) (n : Fin 128) :
    k0_pay2 (k0_pay74 (k0_pay72 EL (k0_pay57 S)) (k0_pay73 Bm) U) (ix3 0 p n) = outv E X V H 512 2176 p n := by
  pointwise [k0_pay2, k0_pay74, k0_pay72, k0_pay73, k0_pay57]
  simp only [hE, hB, hS, hU, ← EReal.coe_mul, coe_sum, outv]

theorem last_2 (hE : ∀ l : Fin 2048, EL (ix2 0 l) = ((E l : ℝ) : EReal)) (hB : ∀ i n : Fin 128, Bm (ix2 i n) = ((X i (2304 + n) : ℝ) : EReal))
    (hS : ∀ (n : Fin 128) (p : Fin 512), S (ix3 0 n p) = H n p) (hU : ∀ (i : Fin 128) (p : Fin 512), U (ix2 i p) = ((V i (1024 + p) : ℝ) : EReal)) (p : Fin 512) (n : Fin 128) :
    k0_pay3 (k0_pay96 EL Bm (k0_pay77 S) U) (ix3 0 p n) = outv E X V H 1024 2304 p n := by
  pointwise [k0_pay3, k0_pay96, k0_pay77]
  simp only [hE, hB, hS, hU, ← EReal.coe_mul, coe_sum, outv]

theorem last_3 (hE : ∀ l : Fin 2048, EL (ix2 0 l) = ((E l : ℝ) : EReal)) (hB : ∀ i n : Fin 128, Bm (ix2 i n) = ((X i (2432 + n) : ℝ) : EReal))
    (hS : ∀ (n : Fin 128) (p : Fin 512), S (ix3 0 n p) = H n p) (hU : ∀ (i : Fin 128) (p : Fin 512), U (ix2 i p) = ((V i (1536 + p) : ℝ) : EReal)) (p : Fin 512) (n : Fin 128) :
    k0_pay4 (k0_pay120 EL Bm (k0_pay99 S) U) (ix3 0 p n) = outv E X V H 1536 2432 p n := by
  pointwise [k0_pay4, k0_pay120, k0_pay99]
  simp only [hE, hB, hS, hU, ← EReal.coe_mul, coe_sum, outv]

end

section
variable {Y Z : Vec Ideal S128x512 .f32} {W : Vec Ideal S1x512 .f32} {y : ℕ → ℕ → EReal} {w : ℕ → EReal} {z : ℕ → ℕ → ℝ}

theorem rows_0 (hY : ∀ (i : Fin 128) (p : Fin 512), Y (ix2 i p) = y i p) (hZ : ∀ (i : Fin 128) (p : Fin 512), Z (ix2 i p) = ((z i p : ℝ) : EReal))
    (hW : ∀ p : Fin 512, W (ix2 0 p) = w p) (i : Fin 32) (p : Fin 512) :
    k0_pay122 (k0_pay121 Y Z W) (ix2 i p) = gated (y i) w (z i) p := by
  pointwise [k0_pay122, k0_pay121]
  simp only [hY, hZ, hW, half, silu_coe]
  rfl

theorem rows_1 (hY : ∀ (i : Fin 128) (p : Fin 512), Y (ix2 i p) = y i p) (hZ : ∀ (i : Fin 128) (p : Fin 512), Z (ix2 i p) = ((z i p : ℝ) : EReal))
    (hW : ∀ p : Fin 512, W (ix2 0 p) = w p) (i : Fin 32) (p : Fin 512) :
    k0_pay123 Y Z W (ix2 i p) = gated (y i) w (z i) p := by
  pointwise [k0_pay123]
  simp only [hY, hZ, hW, half, silu_coe]
  rfl

theorem rows_2 (hY : ∀ (i : Fin 128) (p : Fin 512), Y (ix2 i p) = y i p) (hZ : ∀ (i : Fin 128) (p : Fin 512), Z (ix2 i p) = ((z i p : ℝ) : EReal))
    (hW : ∀ p : Fin 512, W (ix2 0 p) = w p) (i : Fin 32) (p : Fin 512) :
    k0_pay126 (k0_pay124 Y Z) (k0_pay125 Y Z) W (ix2 i p) = gated (y i) w (z i) p := by
  pointwise [k0_pay126, k0_pay125, k0_pay124]
  simp only [hY, hZ, hW, half, silu_coe]
  rfl

theorem rows_3 (hY : ∀ (i : Fin 128) (p : Fin 512), Y (ix2 i p) = y i p) (hZ : ∀ (i : Fin 128) (p : Fin 512), Z (ix2 i p) = ((z i p : ℝ) : EReal))
    (hW : ∀ p : Fin 512, W (ix2 0 p) = w p) (i : Fin 32) (p : Fin 512) :
    k0_pay127 Y Z W (ix2 i p) = gated (y i) w (z i) p := by
  pointwise [k0_pay127]
  simp only [hY, hZ, hW, half, silu_coe]
  rfl

end

end Cert.StepKernelIdeal.Scan

end
-- ==== Proof.StepBlock.lean ====
/- One block of the short stretch: the operands it works from once the padded buffers are read, and the factors of its
   accumulator and its state. -/
module

public import proofs.«01_k».proof.Proof.StepPays
public import proofs.«01_k».proof.Proof.ScanPoint

@[expose] public section

set_option maxRecDepth 16384

noncomputable section

namespace Cert.StepKernelIdeal.Scan

open Idealize.ShloMosaic Idealize.ShloMosaic.TcCoe Cert.StepKernelIdeal.Gen Cert.StepKernelIdeal Cert.ScanMath View
open Cert.KernelIdeal.Scan (decayv weightv accv gated Blk.ld_cols pay18_read pay19_read pay20_read)

/-- Convolved rows `X`, step inputs `D`, biases, decay exponents, skip and norm weights, the table that spreads a head over its columns, and the
    state the block starts from. -/
structure Mid (act : Vec Ideal S128x3072 .f32) (dtb : Vec Ideal S128x128 .f32) (x5 x6 : Vec Ideal S1x128 .f32)
    (x7 x8 : Vec Ideal S1x2048 .f32) (x9 : Vec Ideal S128x2048 .bf16) (x11 : Vec Ideal S1x2048x128 .f32)
    (X D : ℕ → ℕ → ℝ) (bi al : ℕ → ℝ) (w7 w8 : ℕ → EReal) (H : ℕ → ℕ → EReal) : Prop where
  h1 : ∀ (i : Fin 128) (p : Fin 3072), act (ix2 i p) = ((X i p : ℝ) : EReal)
  h2 : ∀ i l : Fin 128, dtb (ix2 i l) = ((D i l : ℝ) : EReal)
  h5 : ∀ l : Fin 128, x5 (ix2 0 l) = ((bi l : ℝ) : EReal)
  h6 : ∀ l : Fin 128, x6 (ix2 0 l) = ((al l : ℝ) : EReal)
  h7 : ∀ l : Fin 2048, x7 (ix2 0 l) = w7 l
  h8 : ∀ l : Fin 2048, x8 (ix2 0 l) = w8 l
  h9 : ∀ (h : Fin 128) (l : Fin 2048), x9 (ix2 h l) = (((if h.val = l.val / 64 then 1 else 0 : ℝ)) : EReal)
  h11 : ∀ (p : Fin 2048) (n : Fin 128), x11 (ix3 0 p n) = H p n

namespace Mid

variable {act : Vec Ideal S128x3072 .f32} {dtb : Vec Ideal S128x128 .f32} {x5 x6 : Vec Ideal S1x128 .f32}
    {x7 x8 : Vec Ideal S1x2048 .f32} {x9 : Vec Ideal S128x2048 .bf16} {x11 : Vec Ideal S1x2048x128 .f32}
    {X D : ℕ → ℕ → ℝ} {bi al : ℕ → ℝ} {w7 w8 : ℕ → EReal} {H : ℕ → ℕ → EReal} (b : Mid act dtb x5 x6 x7 x8 x9 x11 X D bi al w7 w8 H)
include b

theorem cum (i l : Fin 128) : k0_pay25 (F := Ideal) (iota Kind.tc S128x128 32 [0] iota_S128x128_d0_w32) (k0_pay22 dtb x5 x6) k0_pay23 (k0_pay24 dtb x5 x6) (FloatOps.ofBits FTy.f32 0#32) (ix2 i l)
    = ((cumm D bi al i l * (Real.log 2)⁻¹ : ℝ) : EReal) := cum_read b.h2 b.h5 b.h6 i l

theorem cumT (l i : Fin 128) : k0_pay26 (F := Ideal) (iota Kind.tc S128x128 32 [0] iota_S128x128_d0_w32) (k0_pay22 dtb x5 x6) k0_pay23 (k0_pay24 dtb x5 x6) (FloatOps.ofBits FTy.f32 0#32) (ix2 l i)
    = ((cumm D bi al i l * (Real.log 2)⁻¹ : ℝ) : EReal) := by
  refine Eq.trans ?_ (b.cum i l)
  pointwise [k0_pay26]

theorem last (l : Fin 128) : k0_pay28 (F := Ideal) (iota Kind.tc S128x128 32 [0] iota_S128x128_d0_w32) (k0_pay22 dtb x5 x6) k0_pay23 (k0_pay24 dtb x5 x6) (FloatOps.ofBits FTy.f32 0#32) (ix2 0 l)
    = ((cumm D bi al 127 l * (Real.log 2)⁻¹ : ℝ) : EReal) := by
  refine Eq.trans ?_ (b.cum ⟨127, by norm_num⟩ l)
  pointwise [k0_pay28]

theorem dt (i l : Fin 128) : k0_pay21 (F := Ideal) dtb x5 (ix2 i l) = ((dtm D bi i l : ℝ) : EReal) := dt_read b.h2 b.h5 i l

theorem dtT (l i : Fin 128) : k0_pay27 (F := Ideal) (k0_pay21 dtb x5) (ix2 l i) = ((dtm D bi i l : ℝ) : EReal) := by
  refine Eq.trans ?_ (b.dt i l)
  pointwise [k0_pay27]

/-- 128 columns of the convolved rows. -/
theorem cols (o : ℕ) (inb) (i n : Fin 128) : ld (Val := Elt Ideal) (e' := .f32) act (Rect.unit (s := S128x3072) ![0, o] ![128, 128] inb) (ix2 i n) = ((X i (o + n) : ℝ) : EReal) := by
  have hb : o + 128 ≤ 3072 := inb 1
  have hn := n.isLt
  refine Eq.trans ?_ (b.h1 i ⟨o + n.val, by omega⟩)
  show act _ = act _
  congr 1
  funext a
  apply Fin.ext
  match a with
  | ⟨0, _⟩ => show 0 + 1 * i.val = i.val; omega
  | ⟨1, _⟩ => show o + 1 * n.val = o + n.val; omega

/-- The 2048 columns of the heads. -/
theorem heads (inb) (i : Fin 128) (p : Fin 2048) : ld (Val := Elt Ideal) (e' := .f32) act (Rect.unit (s := S128x3072) ![0, 0] ![128, 2048] inb) (ix2 i p) = ((X i p : ℝ) : EReal) := by
  have hp := p.isLt
  refine Eq.trans ?_ (b.h1 i ⟨p.val, by omega⟩)
  show act _ = act _
  congr 1
  funext a
  apply Fin.ext
  match a with
  | ⟨0, _⟩ => show 0 + 1 * i.val = i.val; omega
  | ⟨1, _⟩ => show 0 + 1 * p.val = p.val; omega

theorem norm (g : ℕ) (hg : g < 4) (o : ℕ) (ho : o = 512 * g) (inb) (p : Fin 512) :
    ld (Val := Elt Ideal) (e' := .f32) x8 (Rect.unit (s := S1x2048) ![0, o] ![1, 512] inb) (ix2 0 p) = w8 (512 * g + p) := by
  subst ho
  have hp := p.isLt
  refine Eq.trans ?_ (b.h8 ⟨512 * g + p.val, by omega⟩)
  show x8 _ = x8 _
  congr 1
  funext a
  apply Fin.ext
  match a with
  | ⟨0, _⟩ => rfl
  | ⟨1, _⟩ => show 512 * g + 1 * p.val = 512 * g + p.val; omega

/-- A group of the state the block starts from, transposed. -/
theorem layer (g : ℕ) (hg : g < 4) (o : ℕ) (ho : o = 512 * g) (inb) (n : Fin 128) (p : Fin 512) :
    k0_pay7 (F := Ideal) (ld (Val := Elt Ideal) (e' := .f32) x11 (Rect.unit (s := S1x2048x128) ![0, o, 0] ![1, 512, 128] inb)) (ix3 0 n p) = H (512 * g + p) n := by
  subst ho
  have hp := p.isLt
  refine Eq.trans ?_ (b.h11 ⟨512 * g + p.val, by omega⟩ n)
  pointwise [k0_pay7]

theorem spread (g : ℕ) (hg : g < 4) (o k : ℕ) (ho : o = 512 * g) (hk : k = 8 * g) (inb) (i : Fin 128) (p : Fin 512) :
    ld (Val := Elt Ideal) (e' := .f32) (k0_pay33 (F := Ideal) (k0_pay29 x9)
        (k0_pay31 (iota Kind.tc S128x128 32 [0] iota_S128x128_d0_w32) (k0_pay22 dtb x5 x6) k0_pay23 (k0_pay24 dtb x5 x6) (FloatOps.ofBits FTy.f32 0#32))
        (k0_pay32 (iota Kind.tc S128x128 32 [0] iota_S128x128_d0_w32) (k0_pay22 dtb x5 x6) k0_pay23 (k0_pay24 dtb x5 x6) (FloatOps.ofBits FTy.f32 0#32)))
      (Rect.unit (s := S128x2048) ![0, o] ![128, 512] inb) (ix2 i p) = ((Real.exp (cumm D bi al i (k + p / 64)) : ℝ) : EReal) := by
  subst ho hk
  have hp := p.isLt
  refine (Blk.ld_cols (e := .f32) _ _ inb i p (by omega)).trans ((pay18_read b.cum b.h9 i _).trans ?_)
  show ((Real.exp (cumm D bi al i ((512 * g + p.val) / 64)) : ℝ) : EReal) = _
  rw [show (512 * g + p.val) / 64 = 8 * g + p.val / 64 by omega]

theorem whole (l : Fin 2048) : k0_pay34 (F := Ideal) (k0_pay28 (F := Ideal) (iota Kind.tc S128x128 32 [0] iota_S128x128_d0_w32) (k0_pay22 dtb x5 x6) k0_pay23 (k0_pay24 dtb x5 x6) (FloatOps.ofBits FTy.f32 0#32)) (k0_pay29 x9) (ix2 0 l)
    = ((decayv (cumm D bi al) l : ℝ) : EReal) := pay19_read (c := cumm D bi al) b.last b.h9 l

theorem weight (o : ℕ) (inb inb') (i : Fin 128) (p : Fin 512) :
    ld (Val := Elt Ideal) (e' := .bf16) (k0_pay35 (F := Ideal) (k0_pay21 dtb x5) (k0_pay25 (F := Ideal) (iota Kind.tc S128x128 32 [0] iota_S128x128_d0_w32) (k0_pay22 dtb x5 x6) k0_pay23 (k0_pay24 dtb x5 x6) (FloatOps.ofBits FTy.f32 0#32))
        (k0_pay28 (F := Ideal) (iota Kind.tc S128x128 32 [0] iota_S128x128_d0_w32) (k0_pay22 dtb x5 x6) k0_pay23 (k0_pay24 dtb x5 x6) (FloatOps.ofBits FTy.f32 0#32)) (k0_pay29 x9)
        (ld (Val := Elt Ideal) (e' := .f32) act (Rect.unit (s := S128x3072) ![0, 0] ![128, 2048] inb')))
      (Rect.unit (s := S128x2048) ![0, o] ![128, 512] inb) (ix2 i p) = ((weightv (cumm D bi al) (dtm D bi) X i (o + p) : ℝ) : EReal) := by
  have hb : o + 512 ≤ 2048 := inb 1
  have hp := p.isLt
  exact (Blk.ld_cols (e := .bf16) _ _ inb i p (by omega)).trans (pay20_read (c := cumm D bi al) (X := X) b.dt b.cum b.last b.h9 (b.heads inb') i _)

/-- The gated, normalised row. -/
def rowv (_ : Mid act dtb x5 x6 x7 x8 x9 x11 X D bi al w7 w8 H) (Z : ℕ → ℕ → ℝ) (g i p : ℕ) : EReal :=
  gated (fun p => accv (cumm D bi al) (dtm D bi) X (fun g n p => H (512 * g + p) n) w7 g i p) (fun p => w8 (512 * g + p)) (fun p => Z i (512 * g + p)) p

/-- The state the block leaves. -/
def stv (_ : Mid act dtb x5 x6 x7 x8 x9 x11 X D bi al w7 w8 H) (g p n : ℕ) : EReal :=
  H (512 * g + p) n * ((decayv (cumm D bi al) (512 * g + p) : ℝ) : EReal) + ((∑ s : Fin 128, X s (2048 + 128 * g + n) * weightv (cumm D bi al) (dtm D bi) X s (512 * g + p) : ℝ) : EReal)

end Mid

/-- A stored block of columns holds an index in its columns, … -/
theorem cols_in {M N k o : ℕ} {e : EltTy} (inb) (P : (Rect.unit (s := (⟨2, ![M, N]⟩ : Shape)) ![0, o] ![M, k] inb).shape.Idx → Elt Ideal e) (L : List (Piece (Elt Ideal) (⟨2, ![M, N]⟩ : Shape) e))
    (i : Fin M) (p : Fin N) (q : Fin k) (h : p.val = o + q.val) :
    canon (Val := Elt Ideal) (⟨Rect.unit (s := (⟨2, ![M, N]⟩ : Shape)) ![0, o] ![M, k] inb, P⟩ :: L) (ix2 i p) = P (ix2 i q) := by
  have e : (ix2 i p : (⟨2, ![M, N]⟩ : Shape).Idx) = (Rect.unit (s := (⟨2, ![M, N]⟩ : Shape)) ![0, o] ![M, k] inb).emb (ix2 i q) := by
    funext a
    apply Fin.ext
    match a with
    | ⟨0, _⟩ => show i.val = 0 + 1 * i.val; omega
    | ⟨1, _⟩ => show p.val = o + 1 * q.val; omega
  rw [e, canon_cons_emb]

/-- … and an index outside is what was there before. -/
theorem cols_out {M N k o : ℕ} {e : EltTy} (inb) (P : (Rect.unit (s := (⟨2, ![M, N]⟩ : Shape)) ![0, o] ![M, k] inb).shape.Idx → Elt Ideal e) (L : List (Piece (Elt Ideal) (⟨2, ![M, N]⟩ : Shape) e))
    (i : Fin M) (p : Fin N) (h : p.val < o ∨ o + k ≤ p.val) :
    canon (Val := Elt Ideal) (⟨Rect.unit (s := (⟨2, ![M, N]⟩ : Shape)) ![0, o] ![M, k] inb, P⟩ :: L) (ix2 i p) = canon (Val := Elt Ideal) L (ix2 i p) := by
  refine canon_cons_of_not_mem _ _ fun hm => ?_
  rw [Rect.mem_set_unit] at hm
  have h1 : o ≤ p.val ∧ p.val < o + k := hm 1
  omega

/-- Four blocks of 512 columns are the 32 rows. -/
theorem out_read32 (G : ℕ → ℕ → ℕ → EReal) (b3 b2 b1 b0) (P3 P2 P1 P0 : S32x512.Idx → EReal)
    (h0 : ∀ (i : Fin 32) (l : Fin 512), P0 (ix2 i l) = G 0 i l) (h1 : ∀ (i : Fin 32) (l : Fin 512), P1 (ix2 i l) = G 1 i l)
    (h2 : ∀ (i : Fin 32) (l : Fin 512), P2 (ix2 i l) = G 2 i l) (h3 : ∀ (i : Fin 32) (l : Fin 512), P3 (ix2 i l) = G 3 i l)
    (i : Fin 32) (p : Fin 2048) :
    View.canon (Val := Elt Ideal) (s := S32x2048) (e := .bf16) [⟨Rect.unit (s := S32x2048) ![0, 1536] ![32, 512] b3, P3⟩, ⟨Rect.unit (s := S32x2048) ![0, 1024] ![32, 512] b2, P2⟩,
      ⟨Rect.unit (s := S32x2048) ![0, 512] ![32, 512] b1, P1⟩, ⟨Rect.unit (s := S32x2048) ![0, 0] ![32, 512] b0, P0⟩] (ix2 i p) = G (p.val / 512) i (p.val % 512) := by
  have hp := p.isLt
  by_cases c3 : 1536 ≤ p.val
  · refine (cols_in (e := .bf16) b3 P3 _ i p ⟨p.val % 512, by omega⟩ (by dsimp only; omega)).trans ((h3 _ _).trans ?_)
    rw [show p.val / 512 = 3 by omega]
  refine (cols_out (e := .bf16) b3 P3 _ i p (by omega)).trans ?_
  by_cases c2 : 1024 ≤ p.val
  · refine (cols_in (e := .bf16) b2 P2 _ i p ⟨p.val % 512, by omega⟩ (by dsimp only; omega)).trans ((h2 _ _).trans ?_)
    rw [show p.val / 512 = 2 by omega]
  refine (cols_out (e := .bf16) b2 P2 _ i p (by omega)).trans ?_
  by_cases c1 : 512 ≤ p.val
  · refine (cols_in (e := .bf16) b1 P1 _ i p ⟨p.val % 512, by omega⟩ (by dsimp only; omega)).trans ((h1 _ _).trans ?_)
    rw [show p.val / 512 = 1 by omega]
  refine (cols_out (e := .bf16) b1 P1 _ i p (by omega)).trans ?_
  refine (cols_in (e := .bf16) b0 P0 _ i p ⟨p.val % 512, by omega⟩ (by dsimp only; omega)).trans ((h0 _ _).trans ?_)
  rw [show p.val / 512 = 0 by omega]

/-- A group's 512 columns of the accumulator are its four pieces. -/
theorem acc_read (v : View sig .tc .vmem S128x2048 .f32) (G : Fin 128 → ℕ → EReal) {o o1 o2 o3 : ℕ} (b3 b2 b1 b0 b)
    (P3 P2 P1 P0 : S128x128.Idx → EReal) (L : List (Piece (Elt Ideal) S128x2048 .f32)) (e1 : o1 = o + 128) (e2 : o2 = o + 256) (e3 : o3 = o + 384)
    (h0 : ∀ i l : Fin 128, P0 (ix2 i l) = G i (0 + l.val)) (h1 : ∀ i l : Fin 128, P1 (ix2 i l) = G i (128 + l.val))
    (h2 : ∀ i l : Fin 128, P2 (ix2 i l) = G i (256 + l.val)) (h3 : ∀ i l : Fin 128, P3 (ix2 i l) = G i (384 + l.val)) (i : Fin 128) (p : Fin 512) :
    v.readCov (Val := Elt Ideal) (⟨Rect.unit (s := S128x2048) ![0, o3] ![128, 128] b3, P3⟩ :: ⟨Rect.unit (s := S128x2048) ![0, o2] ![128, 128] b2, P2⟩
        :: ⟨Rect.unit (s := S128x2048) ![0, o1] ![128, 128] b1, P1⟩ :: ⟨Rect.unit (s := S128x2048) ![0, o] ![128, 128] b0, P0⟩ :: L)
      (Rect.unit (s := S128x2048) ![0, o] ![128, 512] b).toLoadRect (ix2 i p) = G i p := by
  subst e1 e2 e3
  have hb : o + 512 ≤ 2048 := b 1
  have hp := p.isLt
  rw [readCov_eq_canon']
  have hy : (Rect.unit (s := S128x2048) ![0, o] ![128, 512] b).toLoadRect.idx (ix2 i p) = (ix2 i ⟨o + p.val, by omega⟩ : S128x2048.Idx) := by
    funext a
    apply Fin.ext
    match a with
    | ⟨0, _⟩ => show 0 + 1 * i.val = i.val; omega
    | ⟨1, _⟩ => show o + 1 * p.val = o + p.val; omega
  refine (congrArg (canon (Val := Elt Ideal) (s := S128x2048) (e := .f32) _) hy).trans ?_
  by_cases c3 : 384 ≤ p.val
  · refine (cols_in (e := .f32) b3 P3 _ i _ ⟨p.val - 384, by omega⟩ (by dsimp only; omega)).trans ((h3 _ _).trans ?_)
    exact congrArg (G i) (by dsimp only; omega)
  refine (cols_out (e := .f32) b3 P3 _ i _ (by dsimp only; omega)).trans ?_
  by_cases c2 : 256 ≤ p.val
  · refine (cols_in (e := .f32) b2 P2 _ i _ ⟨p.val - 256, by omega⟩ (by dsimp only; omega)).trans ((h2 _ _).trans ?_)
    exact congrArg (G i) (by dsimp only; omega)
  refine (cols_out (e := .f32) b2 P2 _ i _ (by dsimp only; omega)).trans ?_
  by_cases c1 : 128 ≤ p.val
  · refine (cols_in (e := .f32) b1 P1 _ i _ ⟨p.val - 128, by omega⟩ (by dsimp only; omega)).trans ((h1 _ _).trans ?_)
    exact congrArg (G i) (by dsimp only; omega)
  refine (cols_out (e := .f32) b1 P1 _ i _ (by dsimp only; omega)).trans ?_
  refine (cols_in (e := .f32) b0 P0 _ i _ ⟨p.val, by omega⟩ rfl).trans ((h0 _ _).trans ?_)
  exact congrArg (G i) (by dsimp only; omega)

end Cert.StepKernelIdeal.Scan

end
-- ==== Proof.StepPoint.lean ====
/- What one block of the short stretch writes, from its operands: the gated rows, the last three convolution rows and the state. -/
module

public import proofs.«01_k».proof.Proof.StepBlock
public import proofs.«01_k».proof.Proof.Gen.StepKernelIdeal.Frame
public import Idealize.ShloMosaic.Lib.Pipeline.ValueKit.Acc

@[expose] public section

set_option maxRecDepth 65536
set_option maxHeartbeats 4000000

noncomputable section

namespace Cert.StepKernelIdeal.Scan

open Idealize.ShloMosaic Idealize.ShloMosaic.TcCoe Cert.StepKernelIdeal.Gen Cert.StepKernelIdeal Cert.ScanMath View
open Cert.KernelIdeal.Scan (decayv weightv accv gated turned_read)

/-- The block's operands. -/
structure Ops (x0 : Vec Ideal S32x2048 .f32) (x1 : Vec Ideal S32x3072 .f32) (x2 : Vec Ideal S32x128 .f32) (x3 : Vec Ideal S4x3072 .f32)
    (x4 : Vec Ideal S1x3072 .f32) (x5 x6 : Vec Ideal S1x128 .f32) (x7 x8 : Vec Ideal S1x2048 .f32) (x9 : Vec Ideal S128x2048 .bf16)
    (x10 : Vec Ideal S1x8x3072 .f32) (x11 : Vec Ideal S1x2048x128 .f32)
    (Z V D C W : ℕ → ℕ → ℝ) (cb bi al : ℕ → ℝ) (w7 w8 : ℕ → EReal) (H : ℕ → ℕ → EReal) : Prop where
  h0 : ∀ (i : Fin 32) (p : Fin 2048), x0 (ix2 i p) = ((Z i p : ℝ) : EReal)
  h1 : ∀ (i : Fin 32) (p : Fin 3072), x1 (ix2 i p) = ((V i p : ℝ) : EReal)
  h2 : ∀ (i : Fin 32) (l : Fin 128), x2 (ix2 i l) = ((D i l : ℝ) : EReal)
  h3 : ∀ (i : Fin 4) (k : Fin 3072), x3 (ix2 i k) = ((W i k : ℝ) : EReal)
  h4 : ∀ k : Fin 3072, x4 (ix2 0 k) = ((cb k : ℝ) : EReal)
  h5 : ∀ l : Fin 128, x5 (ix2 0 l) = ((bi l : ℝ) : EReal)
  h6 : ∀ l : Fin 128, x6 (ix2 0 l) = ((al l : ℝ) : EReal)
  h7 : ∀ l : Fin 2048, x7 (ix2 0 l) = w7 l
  h8 : ∀ l : Fin 2048, x8 (ix2 0 l) = w8 l
  h9 : ∀ (h : Fin 128) (l : Fin 2048), x9 (ix2 h l) = (((if h.val = l.val / 64 then 1 else 0 : ℝ)) : EReal)
  h10 : ∀ (i : Fin 8) (p : Fin 3072), x10 (ix3 0 i p) = ((C i p : ℝ) : EReal)
  h11 : ∀ (p : Fin 2048) (n : Fin 128), x11 (ix3 0 p n) = H p n

/-- The convolved, activated rows. -/
def Xv (W : ℕ → ℕ → ℝ) (cb : ℕ → ℝ) (C V : ℕ → ℕ → ℝ) (i k : ℕ) : ℝ := silu (convv W cb (padv C V) i k)

section
variable {x0 : Vec Ideal S32x2048 .f32} {x1 : Vec Ideal S32x3072 .f32} {x2 : Vec Ideal S32x128 .f32} {x3 : Vec Ideal S4x3072 .f32}
    {x4 : Vec Ideal S1x3072 .f32} {x5 x6 : Vec Ideal S1x128 .f32} {x7 x8 : Vec Ideal S1x2048 .f32} {x9 : Vec Ideal S128x2048 .bf16}
    {x10 : Vec Ideal S1x8x3072 .f32} {x11 : Vec Ideal S1x2048x128 .f32}
    {Z V D C W : ℕ → ℕ → ℝ} {cb bi al : ℕ → ℝ} {w7 w8 : ℕ → EReal} {H : ℕ → ℕ → EReal}
    (o : Ops x0 x1 x2 x3 x4 x5 x6 x7 x8 x9 x10 x11 Z V D C W cb bi al w7 w8 H)
include o

theorem Ops.row (a : ℕ) (ha : a < 4) (inb) (k : Fin 3072) :
    ld (Val := Elt Ideal) (e' := .f32) x3 (Rect.unit (s := S4x3072) ![a, 0] ![1, 3072] inb) (ix2 0 k) = ((W a k : ℝ) : EReal) := by
  refine Eq.trans ?_ (o.h3 ⟨a, ha⟩ k)
  show x3 _ = x3 _
  congr 1
  funext b
  apply Fin.ext
  match b with
  | ⟨0, _⟩ => rfl
  | ⟨1, _⟩ => show 0 + 1 * k.val = k.val; omega

theorem Ops.fresh (i : Fin 32) (p : Fin 3072) : k0_pay11 (F := Ideal) x1 (ix2 i p) = ((V i p : ℝ) : EReal) := by
  refine Eq.trans ?_ (o.h1 i p)
  pointwise [k0_pay11]

theorem Ops.old (h1 h2) (i : Fin 8) (p : Fin 3072) : shapeCast S8x3072 (shapeCast S8x3072 x10 h1) h2 (ix2 i p) = ((C i p : ℝ) : EReal) := by
  refine Eq.trans ?_ (o.h10 i p)
  pointwise []

theorem Ops.steps (i : Fin 32) (p : Fin 128) : k0_pay18 (F := Ideal) x2 (ix2 i p) = ((D i p : ℝ) : EReal) := by
  refine Eq.trans ?_ (o.h2 i p)
  pointwise [k0_pay18]

theorem Ops.gate (i : Fin 32) (p : Fin 2048) : k0_pay20 (F := Ideal) x0 (ix2 i p) = ((Z i p : ℝ) : EReal) := by
  refine Eq.trans ?_ (o.h0 i p)
  pointwise [k0_pay20]

end

theorem none_0 (h) (i : Fin 136) (j : Fin 3072) : shapeCast S136x3072 (broadcast S136x3072 (FloatOps.ofBits (F := Ideal) .f32 0#32)) h (ix2 i j) = (0 : EReal) := by
  pointwise []

theorem none_1 (i j : Fin 128) : k0_pay17 (F := Ideal) (ix2 i j) = (0 : EReal) := by
  pointwise [k0_pay17]

theorem none_2 (i : Fin 128) (j : Fin 2048) : k0_pay19 (F := Ideal) (ix2 i j) = (0 : EReal) := by
  pointwise [k0_pay19]

/-- The rows. -/
theorem rows (c : Dev nD) (i : grid0.Coords) (arg2 : Memref sig .tc .vmem S32x2048 .f32) (harg2 : arg2.IsWhole) (arg3 : Memref sig .tc .vmem S32x3072 .f32) (harg3 : arg3.IsWhole) (arg4 : Memref sig .tc .vmem S32x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S1x8x3072 .f32) (harg12 : arg12.IsWhole) (arg13 : Memref sig .tc .vmem S1x2048x128 .f32) (harg13 : arg13.IsWhole) (arg14 : Memref sig .tc .vmem S32x2048 .bf16) (harg14 : arg14.IsWhole) (arg15 : Memref sig .tc .vmem S1x3x3072 .f32) (harg15 : arg15.IsWhole) (arg16 : Memref sig .tc .vmem S1x2048x128 .f32) (harg16 : arg16.IsWhole) (arg17 : Memref sig .tc .vmem S136x3072 .f32) (harg17 : arg17.IsWhole) (arg18 : Memref sig .tc .vmem S4x128x512 .f32) (harg18 : arg18.IsWhole) (arg19 : Memref sig .tc .vmem S128x2048 .f32) (harg19 : arg19.IsWhole) (arg20 : Memref sig .tc .vmem S128x3072 .f32) (harg20 : arg20.IsWhole) (arg21 : Memref sig .tc .vmem S128x2048 .f32) (harg21 : arg21.IsWhole) (arg22 : Memref sig .tc .vmem S128x2048 .bf16) (harg22 : arg22.IsWhole) (arg23 : Memref sig .tc .vmem S128x128 .f32) (harg23 : arg23.IsWhole) (arg24 : Memref sig .tc .vmem S128x2048 .f32) (harg24 : arg24.IsWhole) (hc0 : cond0_0 i) (hc1 : cond0_1 i) (hc2 : cond0_2 i)
    (x0 : Vec Ideal S32x2048 .f32) (x1 : Vec Ideal S32x3072 .f32) (x2 : Vec Ideal S32x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) (x9 : Vec Ideal S128x2048 .bf16) (x10 : Vec Ideal S1x8x3072 .f32) (x11 : Vec Ideal S1x2048x128 .f32)
    {Z V D C W : ℕ → ℕ → ℝ} {cb bi al : ℕ → ℝ} {w7 w8 : ℕ → EReal} {H : ℕ → ℕ → EReal}
    (o : Ops x0 x1 x2 x3 x4 x5 x6 x7 x8 x9 x10 x11 Z V D C W cb bi al w7 w8 H) (a : Fin 32) (p : Fin 2048) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 (ix2 a p)
      = gated (fun p' => accv (cumm (tailv D) bi al) (dtm (tailv D) bi) (Xv W cb C V) (fun g n p => H (512 * g + p) n) w7 (p.val / 512) a p')
          (fun p' => w8 (512 * (p.val / 512) + p')) (fun p' => tailv Z a (512 * (p.val / 512) + p')) (p.val % 512) := by
  frame_open
  simp (disch := decide) only [↓ View.readCov_skip, ↓ View.readCov_cons_toLoadRect, ↓ View.readCov_fill]
  frame_out
  generalize hdtb : arg23.view.readCov (Val := Elt Ideal) _ _ = dtb
  generalize ha : arg17.view.readCov (Val := Elt Ideal) _ (Rect.unit ![5, 0] ![128, 3072] _).toLoadRect = xa
  generalize hb : arg17.view.readCov (Val := Elt Ideal) _ (Rect.unit ![6, 0] ![128, 3072] _).toLoadRect = xb
  generalize hc : arg17.view.readCov (Val := Elt Ideal) _ (Rect.unit ![7, 0] ![128, 3072] _).toLoadRect = xc
  generalize hd : arg17.view.readCov (Val := Elt Ideal) _ (Rect.unit ![8, 0] ![128, 3072] _).toLoadRect = xd
  have b : Mid (k0_pay14 (F := Ideal) (k0_pay12 x4 (ld (Val := Elt Ideal) (e' := .f32) x3 (Rect.unit (s := S4x3072) ![0, 0] ![1, 3072] (by decide))) xa (ld (Val := Elt Ideal) (e' := .f32) x3 (Rect.unit (s := S4x3072) ![1, 0] ![1, 3072] (by decide))) xb
      (ld (Val := Elt Ideal) (e' := .f32) x3 (Rect.unit (s := S4x3072) ![2, 0] ![1, 3072] (by decide))) xc (ld (Val := Elt Ideal) (e' := .f32) x3 (Rect.unit (s := S4x3072) ![3, 0] ![1, 3072] (by decide))) xd) k0_pay13) dtb x5 x6 x7 x8 x9 x11
      (Xv W cb C V) (tailv D) bi al w7 w8 H := by
    refine ⟨fun i p => ?_, fun i l => ?_, o.h5, o.h6, o.h7, o.h8, o.h9, o.h11⟩
    · refine act_read (W := W) (b := cb) (V := padv C V) o.h4 (o.row 0 (by norm_num) _) (o.row 1 (by norm_num) _) (o.row 2 (by norm_num) _) (o.row 3 (by norm_num) _)
        (fun i k => ?_) (fun i k => ?_) (fun i k => ?_) (fun i k => ?_) i p
      · rw [← ha]; exact pad_read arg17.view C V 5 128 _ _ _ _ _ _ _ o.fresh (o.old _ _) (none_0 _) i k
      · rw [← hb]; exact pad_read arg17.view C V 6 128 _ _ _ _ _ _ _ o.fresh (o.old _ _) (none_0 _) i k
      · rw [← hc]; exact pad_read arg17.view C V 7 128 _ _ _ _ _ _ _ o.fresh (o.old _ _) (none_0 _) i k
      · rw [← hd]; exact pad_read arg17.view C V 8 128 _ _ _ _ _ _ _ o.fresh (o.old _ _) (none_0 _) i k
    · rw [← hdtb]
      refine (tail_read arg23.view D 0 128 _ _ _ _ _ o.steps none_1 i l).trans ?_
      rw [Nat.zero_add]
  generalize k0_pay14 (F := Ideal) _ _ = act at b ⊢
  refine out_read32 (fun g i q => gated (fun p' => accv (cumm (tailv D) bi al) (dtm (tailv D) bi) (Xv W cb C V) (fun g n p => H (512 * g + p) n) w7 g i p')
          (fun p' => w8 (512 * g + p')) (fun p' => tailv Z i (512 * g + p')) q) _ _ _ _ _ _ _ _ ?_ ?_ ?_ ?_ a p
  · refine rows_0 (y := fun i p => accv (cumm (tailv D) bi al) (dtm (tailv D) bi) (Xv W cb C V) (fun g n p => H (512 * g + p) n) w7 0 i p) (w := fun p => w8 (512 * 0 + p)) (z := fun i p => tailv Z i (512 * 0 + p)) ?_
      (fun i p => tail_read arg24.view Z 0 512 _ _ _ _ _ o.gate none_2 i p) (b.norm 0 (by norm_num) 0 rfl _)
    have p0 := Cert.KernelIdeal.Scan.pair_0 (c := cumm (tailv D) bi al) (d := dtm (tailv D) bi) (X := Xv W cb C V) (H := fun g n p => H (512 * g + p) n) (w := w7)
      b.cum b.cumT b.dtT (b.cols 2048 (by decide)) (b.cols 2560 (by decide)) (b.cols 0 (by decide)) (b.layer 0 (by norm_num) 0 rfl (by decide)) (b.spread 0 (by norm_num) 0 0 rfl rfl (by decide)) b.h7
    have p1 := Cert.KernelIdeal.Scan.pair_1 (c := cumm (tailv D) bi al) (d := dtm (tailv D) bi) (X := Xv W cb C V) (H := fun g n p => H (512 * g + p) n) (w := w7)
      b.cum b.cumT b.dtT (b.cols 2048 (by decide)) (b.cols 2560 (by decide)) (b.cols 128 (by decide)) (b.layer 0 (by norm_num) 0 rfl (by decide)) (b.spread 0 (by norm_num) 0 0 rfl rfl (by decide)) b.h7
    have p2 := Cert.KernelIdeal.Scan.pair_2 (c := cumm (tailv D) bi al) (d := dtm (tailv D) bi) (X := Xv W cb C V) (H := fun g n p => H (512 * g + p) n) (w := w7)
      b.cum b.cumT b.dtT (b.cols 2048 (by decide)) (b.cols 2560 (by decide)) (b.cols 256 (by decide)) (b.layer 0 (by norm_num) 0 rfl (by decide)) (b.spread 0 (by norm_num) 0 0 rfl rfl (by decide)) b.h7
    have p3 := Cert.KernelIdeal.Scan.pair_3 (c := cumm (tailv D) bi al) (d := dtm (tailv D) bi) (X := Xv W cb C V) (H := fun g n p => H (512 * g + p) n) (w := w7)
      b.cum b.cumT b.dtT (b.cols 2048 (by decide)) (b.cols 2560 (by decide)) (b.cols 384 (by decide)) (b.layer 0 (by norm_num) 0 rfl (by decide)) (b.spread 0 (by norm_num) 0 0 rfl rfl (by decide)) b.h7
    exact acc_read arg19.view (fun i p => accv (cumm (tailv D) bi al) (dtm (tailv D) bi) (Xv W cb C V) (fun g n p => H (512 * g + p) n) w7 0 i p) _ _ _ _ _ _ _ _ _ _ rfl rfl rfl p0 p1 p2 p3
  · refine rows_1 (y := fun i p => accv (cumm (tailv D) bi al) (dtm (tailv D) bi) (Xv W cb C V) (fun g n p => H (512 * g + p) n) w7 1 i p) (w := fun p => w8 (512 * 1 + p)) (z := fun i p => tailv Z i (512 * 1 + p)) ?_
      (fun i p => tail_read arg24.view Z 512 512 _ _ _ _ _ o.gate none_2 i p) (b.norm 1 (by norm_num) 512 rfl _)
    have p0 := Cert.KernelIdeal.Scan.pair_4 (c := cumm (tailv D) bi al) (d := dtm (tailv D) bi) (X := Xv W cb C V) (H := fun g n p => H (512 * g + p) n) (w := w7)
      b.cum b.cumT b.dtT (b.cols 2176 (by decide)) (b.cols 2688 (by decide)) (b.cols 512 (by decide)) (b.layer 1 (by norm_num) 512 rfl (by decide)) (b.spread 1 (by norm_num) 512 8 rfl rfl (by decide)) b.h7
    have p1 := Cert.KernelIdeal.Scan.pair_5 (c := cumm (tailv D) bi al) (d := dtm (tailv D) bi) (X := Xv W cb C V) (H := fun g n p => H (512 * g + p) n) (w := w7)
      b.cum b.cumT b.dtT (b.cols 2176 (by decide)) (b.cols 2688 (by decide)) (b.cols 640 (by decide)) (b.layer 1 (by norm_num) 512 rfl (by decide)) (b.spread 1 (by norm_num) 512 8 rfl rfl (by decide)) b.h7
    have p2 := Cert.KernelIdeal.Scan.pair_6 (c := cumm (tailv D) bi al) (d := dtm (tailv D) bi) (X := Xv W cb C V) (H := fun g n p => H (512 * g + p) n) (w := w7)
      b.cum b.cumT b.dtT (b.cols 2176 (by decide)) (b.cols 2688 (by decide)) (b.cols 768 (by decide)) (b.layer 1 (by norm_num) 512 rfl (by decide)) (b.spread 1 (by norm_num) 512 8 rfl rfl (by decide)) b.h7
    have p3 := Cert.KernelIdeal.Scan.pair_7 (c := cumm (tailv D) bi al) (d := dtm (tailv D) bi) (X := Xv W cb C V) (H := fun g n p => H (512 * g + p) n) (w := w7)
      b.cum b.cumT b.dtT (b.cols 2176 (by decide)) (b.cols 2688 (by decide)) (b.cols 896 (by decide)) (b.layer 1 (by norm_num) 512 rfl (by decide)) (b.spread 1 (by norm_num) 512 8 rfl rfl (by decide)) b.h7
    exact acc_read arg19.view (fun i p => accv (cumm (tailv D) bi al) (dtm (tailv D) bi) (Xv W cb C V) (fun g n p => H (512 * g + p) n) w7 1 i p) _ _ _ _ _ _ _ _ _ _ rfl rfl rfl p0 p1 p2 p3
  · refine rows_2 (y := fun i p => accv (cumm (tailv D) bi al) (dtm (tailv D) bi) (Xv W cb C V) (fun g n p => H (512 * g + p) n) w7 2 i p) (w := fun p => w8 (512 * 2 + p)) (z := fun i p => tailv Z i (512 * 2 + p)) ?_
      (fun i p => tail_read arg24.view Z 1024 512 _ _ _ _ _ o.gate none_2 i p) (b.norm 2 (by norm_num) 1024 rfl _)
    have p0 := Cert.KernelIdeal.Scan.pair_8 (c := cumm (tailv D) bi al) (d := dtm (tailv D) bi) (X := Xv W cb C V) (H := fun g n p => H (512 * g + p) n) (w := w7)
      b.cum b.cumT b.dtT (b.cols 2304 (by decide)) (b.cols 2816 (by decide)) (b.cols 1024 (by decide)) (b.layer 2 (by norm_num) 1024 rfl (by decide)) (b.spread 2 (by norm_num) 1024 16 rfl rfl (by decide)) b.h7
    have p1 := Cert.KernelIdeal.Scan.pair_9 (c := cumm (tailv D) bi al) (d := dtm (tailv D) bi) (X := Xv W cb C V) (H := fun g n p => H (512 * g + p) n) (w := w7)
      b.cum b.cumT b.dtT (b.cols 2304 (by decide)) (b.cols 2816 (by decide)) (b.cols 1152 (by decide)) (b.layer 2 (by norm_num) 1024 rfl (by decide)) (b.spread 2 (by norm_num) 1024 16 rfl rfl (by decide)) b.h7
    have p2 := Cert.KernelIdeal.Scan.pair_10 (c := cumm (tailv D) bi al) (d := dtm (tailv D) bi) (X := Xv W cb C V) (H := fun g n p => H (512 * g + p) n) (w := w7)
      b.cum b.cumT b.dtT (b.cols 2304 (by decide)) (b.cols 2816 (by decide)) (b.cols 1280 (by decide)) (b.layer 2 (by norm_num) 1024 rfl (by decide)) (b.spread 2 (by norm_num) 1024 16 rfl rfl (by decide)) b.h7
    have p3 := Cert.KernelIdeal.Scan.pair_11 (c := cumm (tailv D) bi al) (d := dtm (tailv D) bi) (X := Xv W cb C V) (H := fun g n p => H (512 * g + p) n) (w := w7)
      b.cum b.cumT b.dtT (b.cols 2304 (by decide)) (b.cols 2816 (by decide)) (b.cols 1408 (by decide)) (b.layer 2 (by norm_num) 1024 rfl (by decide)) (b.spread 2 (by norm_num) 1024 16 rfl rfl (by decide)) b.h7
    exact acc_read arg19.view (fun i p => accv (cumm (tailv D) bi al) (dtm (tailv D) bi) (Xv W cb C V) (fun g n p => H (512 * g + p) n) w7 2 i p) _ _ _ _ _ _ _ _ _ _ rfl rfl rfl p0 p1 p2 p3
  · refine rows_3 (y := fun i p => accv (cumm (tailv D) bi al) (dtm (tailv D) bi) (Xv W cb C V) (fun g n p => H (512 * g + p) n) w7 3 i p) (w := fun p => w8 (512 * 3 + p)) (z := fun i p => tailv Z i (512 * 3 + p)) ?_
      (fun i p => tail_read arg24.view Z 1536 512 _ _ _ _ _ o.gate none_2 i p) (b.norm 3 (by norm_num) 1536 rfl _)
    have p0 := Cert.KernelIdeal.Scan.pair_12 (c := cumm (tailv D) bi al) (d := dtm (tailv D) bi) (X := Xv W cb C V) (H := fun g n p => H (512 * g + p) n) (w := w7)
      b.cum b.cumT b.dtT (b.cols 2432 (by decide)) (b.cols 2944 (by decide)) (b.cols 1536 (by decide)) (b.layer 3 (by norm_num) 1536 rfl (by decide)) (b.spread 3 (by norm_num) 1536 24 rfl rfl (by decide)) b.h7
    have p1 := Cert.KernelIdeal.Scan.pair_13 (c := cumm (tailv D) bi al) (d := dtm (tailv D) bi) (X := Xv W cb C V) (H := fun g n p => H (512 * g + p) n) (w := w7)
      b.cum b.cumT b.dtT (b.cols 2432 (by decide)) (b.cols 2944 (by decide)) (b.cols 1664 (by decide)) (b.layer 3 (by norm_num) 1536 rfl (by decide)) (b.spread 3 (by norm_num) 1536 24 rfl rfl (by decide)) b.h7
    have p2 := Cert.KernelIdeal.Scan.pair_14 (c := cumm (tailv D) bi al) (d := dtm (tailv D) bi) (X := Xv W cb C V) (H := fun g n p => H (512 * g + p) n) (w := w7)
      b.cum b.cumT b.dtT (b.cols 2432 (by decide)) (b.cols 2944 (by decide)) (b.cols 1792 (by decide)) (b.layer 3 (by norm_num) 1536 rfl (by decide)) (b.spread 3 (by norm_num) 1536 24 rfl rfl (by decide)) b.h7
    have p3 := Cert.KernelIdeal.Scan.pair_15 (c := cumm (tailv D) bi al) (d := dtm (tailv D) bi) (X := Xv W cb C V) (H := fun g n p => H (512 * g + p) n) (w := w7)
      b.cum b.cumT b.dtT (b.cols 2432 (by decide)) (b.cols 2944 (by decide)) (b.cols 1920 (by decide)) (b.layer 3 (by norm_num) 1536 rfl (by decide)) (b.spread 3 (by norm_num) 1536 24 rfl rfl (by decide)) b.h7
    exact acc_read arg19.view (fun i p => accv (cumm (tailv D) bi al) (dtm (tailv D) bi) (Xv W cb C V) (fun g n p => H (512 * g + p) n) w7 3 i p) _ _ _ _ _ _ _ _ _ _ rfl rfl rfl p0 p1 p2 p3

end Cert.StepKernelIdeal.Scan

end
-- ==== Proof.StepReads.lean ====
/- What the short stretch's windows hold at a grid point, read off the arguments. -/
module

public import proofs.«01_k».proof.Proof.Gen.StepKernelIdeal.Value
public import proofs.«01_k».proof.Proof.StepPoint
public import Idealize.ShloMosaic.Lib.Claim
public import Idealize.ShloMosaic.Lib.WordCmp
public import Idealize.ShloMosaic.Lib.Pipeline.ValueKit

@[expose] public section

set_option maxRecDepth 16384

noncomputable section

namespace Cert.StepKernelIdeal.Scan

open Idealize.ShloMosaic Idealize.ShloMosaic.TcCoe Cert.StepKernelIdeal.Gen Cert.StepKernelIdeal Cert.ScanMath

variable (m : (ℓ : Loc nD τ sig) → Buf (Elt Ideal) ℓ) (c : Dev nD)

/-- The block of every window at every grid point. -/
theorem idx : ∀ t : Fin cfg0.N, win0_0.index t = ![t.val, 7] ∧ win0_1.index t = ![t.val, 2] ∧ win0_2.index t = ![t.val, 134]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0, 0] ∧ win0_11.index t = ![t.val, 0, 0]
    ∧ win0_12.index t = ![t.val, 0] ∧ win0_13.index t = ![t.val, 0, 0] ∧ win0_14.index t = ![t.val, 0, 0] ∧ t.val < 8 :=
  (by decide +kernel : ∀ t : Fin grid0.N, _)

theorem lt8 (t : Fin cfg0.N) : t.val < 8 := (idx t).2.2.2.2.2.2.2.2.2.2.2.2.2.2.2

/-- The skip weights spread over the columns. -/
theorem V11 : V m c main_v11 = shapeCast S1x2048 (shapeCast S2048 (broadcastInDim S32x64 ![0] bcast_S32_S32x64_0 (m ((c : Thread nD τ).loc main_arg7))) shapeCasts_S32x64_S2048) shapeCasts_S2048_S1x2048 := by
  show StableHlo.after _ _ _ = _
  simp only [hostOps0, hostOps0_1, hostOps0_2, List.flatten_cons, List.flatten_nil, List.cons_append, List.nil_append, List.append_nil]
  simp only [StableHlo.after_cons, StableHlo.after_nil]
  after_results_simp
  rfl

/-- The convolution's bias as one row. -/
theorem V12 : V m c main_v12 = shapeCast S1x3072 (m ((c : Thread nD τ).loc main_arg4)) shapeCasts_S3072_S1x3072 := by
  show StableHlo.after _ _ _ = _
  simp only [hostOps0, hostOps0_1, hostOps0_2, List.flatten_cons, List.flatten_nil, List.cons_append, List.nil_append, List.append_nil]
  simp only [StableHlo.after_cons, StableHlo.after_nil]
  after_results_simp
  rfl

/-- The step biases, padded with zeros. -/
theorem V15 : V m c main_v15 = shapeCast S1x128 (concatenate S128 0 [⟨S32, (m ((c : Thread nD τ).loc main_arg5))⟩, ⟨S96, broadcastInDim S96 ![] bcast_S_S96 (constant (F := Ideal) S_ .f32 0x00000000#32)⟩] concatenates_S32_S96_S128_d0) shapeCasts_S128_S1x128 := by
  show StableHlo.after _ _ _ = _
  simp only [hostOps0, hostOps0_1, hostOps0_2, List.flatten_cons, List.flatten_nil, List.cons_append, List.nil_append, List.append_nil]
  simp only [StableHlo.after_cons, StableHlo.after_nil]
  after_results_simp
  after_results_loop
  rfl

/-- The decay exponents, padded with zeros. -/
theorem V18 : V m c main_v18 = shapeCast S1x128 (concatenate S128 0 [⟨S32, (m ((c : Thread nD τ).loc main_arg6))⟩, ⟨S96, broadcastInDim S96 ![] bcast_S_S96 (constant (F := Ideal) S_ .f32 0x00000000#32)⟩] concatenates_S32_S96_S128_d0) shapeCasts_S128_S1x128 := by
  show StableHlo.after _ _ _ = _
  simp only [hostOps0, hostOps0_1, hostOps0_2, List.flatten_cons, List.flatten_nil, List.cons_append, List.nil_append, List.append_nil]
  simp only [StableHlo.after_cons, StableHlo.after_nil]
  after_results_simp
  after_results_loop
  rfl

/-- The norm weights as one row. -/
theorem V19 : V m c main_v19 = shapeCast S1x2048 (m ((c : Thread nD τ).loc main_arg8)) shapeCasts_S2048_S1x2048 := by
  show StableHlo.after _ _ _ = _
  simp only [hostOps0, hostOps0_1, hostOps0_2, List.flatten_cons, List.flatten_nil, List.cons_append, List.nil_append, List.append_nil]
  simp only [StableHlo.after_cons, StableHlo.after_nil]
  after_results_simp
  rfl

/-- The kept rows after five zero rows. -/
theorem V21 : V m c main_v21 = concatenate S8x8x3072 1 [⟨S8x5x3072, broadcastInDim S8x5x3072 ![] bcast_S_S8x5x3072 (constant (F := Ideal) S_ .f32 0x00000000#32)⟩, ⟨S8x3x3072, (m ((c : Thread nD τ).loc main_arg1))⟩] concatenates_S8x5x3072_S8x3x3072_S8x8x3072_d1 := by
  show StableHlo.after _ _ _ = _
  simp only [hostOps0, hostOps0_1, hostOps0_2, List.flatten_cons, List.flatten_nil, List.cons_append, List.nil_append, List.append_nil]
  simp only [StableHlo.after_cons, StableHlo.after_nil]
  after_results_simp
  after_results_loop
  rfl

/-- The states with heads and columns in one axis. -/
theorem V22 : V m c main_v22 = shapeCast S8x2048x128 (m ((c : Thread nD τ).loc main_arg2)) shapeCasts_S8x32x64x128_S8x2048x128 := by
  show StableHlo.after _ _ _ = _
  simp only [hostOps0, hostOps0_1, hostOps0_2, List.flatten_cons, List.flatten_nil, List.cons_append, List.nil_append, List.append_nil]
  simp only [StableHlo.after_cons, StableHlo.after_nil]
  after_results_simp
  rfl

/-- The skip weight of a column. -/
theorem r11 (l : Fin 2048) : V m c main_v11 (ix2 0 l) = m ((c : Thread nD τ).loc main_arg7) (ix1 ⟨l.val / 64, by omega⟩) := by
  rw [V11]
  pointwise

theorem r12 (l : Fin 3072) : V m c main_v12 (ix2 0 l) = m ((c : Thread nD τ).loc main_arg4) (ix1 l) := by
  rw [V12]
  pointwise

theorem r15 (l : Fin 128) : V m c main_v15 (ix2 0 l) = if h : l.val < 32 then m ((c : Thread nD τ).loc main_arg5) (ix1 ⟨l.val, h⟩) else (0 : EReal) := by
  rw [V15]
  pointwise

theorem r18 (l : Fin 128) : V m c main_v18 (ix2 0 l) = if h : l.val < 32 then m ((c : Thread nD τ).loc main_arg6) (ix1 ⟨l.val, h⟩) else (0 : EReal) := by
  rw [V18]
  pointwise

theorem r19 (l : Fin 2048) : V m c main_v19 (ix2 0 l) = m ((c : Thread nD τ).loc main_arg8) (ix1 l) := by
  rw [V19]
  pointwise

/-- A kept row. -/
theorem r21 (b : Fin 8) (i : Fin 8) (l : Fin 3072) : V m c main_v21 (ix3 b i l) = if h : i.val < 5 then (0 : EReal) else m ((c : Thread nD τ).loc main_arg1) (ix3 b ⟨i.val - 5, by omega⟩ l) := by
  rw [V21]
  pointwise

/-- A state's entry. -/
theorem r22 (b : Fin 8) (p : Fin 2048) (n : Fin 128) :
    V m c main_v22 (ix3 b p n) = m ((c : Thread nD τ).loc main_arg2) (ix4 b ⟨p.val / 64, by omega⟩ ⟨p.val % 64, Nat.mod_lt _ (by norm_num)⟩ n) := by
  rw [V22]
  refine shapeCast_apply _ _ _ _ ?_
  refine ((Shape.rowMajor_val_four _).trans ?_).trans (Shape.rowMajor_val_three _).symm
  show ((b.val * 32 + p.val / 64) * 64 + p.val % 64) * 128 + n.val = (b.val * 2048 + p.val) * 128 + n.val
  omega

/-- The head of a column, as the host computes it: the floor of the column's number by 64. -/
def headw : IVec S2048 32 :=
  let k64 : IVec S2048 32 := broadcastInDim S2048 ![] bcast_S_S2048 (constantI S_ 32 64#32)
  let q : IVec S2048 32 := Host.divsi (iotaInDim S2048 32 0) k64
  select (andi (cmpi .ne (signi (iotaInDim S2048 32 0)) (broadcastInDim S2048 ![] bcast_S_S2048 (signi (constantI S_ 32 64#32))))
      (cmpi .ne (Host.remsi (iotaInDim S2048 32 0) k64) (broadcastInDim S2048 ![] bcast_S_S2048 (constantI S_ 32 0#32))))
    (subi q (broadcastInDim S2048 ![] bcast_S_S2048 (constantI S_ 32 1#32))) q

set_option maxHeartbeats 4000000 in
/-- The table that spreads a head over its columns. -/
theorem V8 : V m c main_v8 = uitofp (F := Ideal) .bf16 (cmpi .eq (broadcastInDim S128x2048 ![0, 1] bcast_S128x1_S128x2048_0_1 (broadcastInDim S128x1 ![0] bcast_S128_S128x1_0 (iotaInDim S128 32 0)))
      (broadcastInDim S128x2048 ![0, 1] bcast_S1x2048_S128x2048_0_1 (broadcastInDim S1x2048 ![1] bcast_S2048_S1x2048_1 headw))) := by
  show StableHlo.after _ _ _ = _
  simp only [hostOps0, hostOps0_1, hostOps0_2, List.flatten_cons, List.flatten_nil, List.cons_append, List.nil_append, List.append_nil]
  simp only [StableHlo.after_cons, StableHlo.after_nil]
  after_results_simp
  rfl

/-- The head of a column. -/
theorem head_eq (l : Fin 2048) : headw (ix1 l) = BitVec.ofNat 32 (l / 64) := by
  pointwise [headw]
  revert l
  decide +kernel

/-- The table at a head and a column. -/
theorem r8 (h : Fin 128) (l : Fin 2048) : V m c main_v8 (ix2 h l) = (((if h.val = l.val / 64 then 1 else 0 : ℝ)) : EReal) := by
  rw [V8]
  pointwise
  rw [head_eq]
  have hh := h.isLt
  have hl := l.isLt
  by_cases e : h.val = l.val / 64
  · rw [e, if_pos rfl]
    show (((IntOp.cmpi _ _ _).toNat : ℝ) : EReal) = _
    rw [show IntOp.cmpi .eq (BitVec.ofNat 32 (l.val / 64)) (BitVec.ofNat 32 (l.val / 64)) = 1#1 by simp [IntOp.cmpi]]
    simp
  · rw [if_neg e]
    show (((IntOp.cmpi _ _ _).toNat : ℝ) : EReal) = _
    have : BitVec.ofNat 32 h.val ≠ BitVec.ofNat 32 (l.val / 64) := fun k => e (by
      have := congrArg BitVec.toNat k
      simp only [BitVec.toNat_ofNat] at this
      omega)
    rw [WordCmp.cmpi_eq_eq, decide_eq_false this]
    simp

/-- The step inputs of a block. -/
theorem blk2 (t : Fin cfg0.N) (i : Fin 32) (l : Fin 128) :
    iblk m c 2 t (ix2 i l) = m ((c : Thread nD τ).loc main_arg0) (ix2 ⟨32 * t + i, by have := lt8 t; omega⟩ ⟨17152 + l.val, by omega⟩) := by
  blk_point [iblk, V, idx t]

/-- The convolution's weights. -/
theorem blk3 (t : Fin cfg0.N) (i : Fin 4) (l : Fin 3072) : iblk m c 3 t (ix2 i l) = m ((c : Thread nD τ).loc main_arg3) (ix2 i l) := by
  blk_point [iblk, V, idx t]

theorem blk4 (t : Fin cfg0.N) (l : Fin 3072) : iblk m c 4 t (ix2 0 l) = m ((c : Thread nD τ).loc main_arg4) (ix1 l) := by
  refine Eq.trans ?_ (r12 m c l)
  blk_point [iblk, idx t]

theorem blk5 (t : Fin cfg0.N) (l : Fin 128) : iblk m c 5 t (ix2 0 l) = if h : l.val < 32 then m ((c : Thread nD τ).loc main_arg5) (ix1 ⟨l.val, h⟩) else (0 : EReal) := by
  refine Eq.trans ?_ (r15 m c l)
  blk_point [iblk, idx t]

theorem blk6 (t : Fin cfg0.N) (l : Fin 128) : iblk m c 6 t (ix2 0 l) = if h : l.val < 32 then m ((c : Thread nD τ).loc main_arg6) (ix1 ⟨l.val, h⟩) else (0 : EReal) := by
  refine Eq.trans ?_ (r18 m c l)
  blk_point [iblk, idx t]

theorem blk7 (t : Fin cfg0.N) (l : Fin 2048) : iblk m c 7 t (ix2 0 l) = m ((c : Thread nD τ).loc main_arg7) (ix1 ⟨l.val / 64, by omega⟩) := by
  refine Eq.trans ?_ (r11 m c l)
  blk_point [iblk, idx t]

theorem blk8 (t : Fin cfg0.N) (l : Fin 2048) : iblk m c 8 t (ix2 0 l) = m ((c : Thread nD τ).loc main_arg8) (ix1 l) := by
  refine Eq.trans ?_ (r19 m c l)
  blk_point [iblk, idx t]

theorem blk9 (t : Fin cfg0.N) (h : Fin 128) (l : Fin 2048) : iblk m c 9 t (ix2 h l) = (((if h.val = l.val / 64 then 1 else 0 : ℝ)) : EReal) := by
  refine Eq.trans ?_ (r8 m c h l)
  blk_point [iblk, idx t]

/-- The kept rows of a block. -/
theorem blk10 (t : Fin cfg0.N) (i : Fin 8) (l : Fin 3072) :
    iblk m c 10 t (ix3 0 i l) = if h : i.val < 5 then (0 : EReal) else m ((c : Thread nD τ).loc main_arg1) (ix3 ⟨t.val, lt8 t⟩ ⟨i.val - 5, by omega⟩ l) := by
  refine Eq.trans ?_ (r21 m c ⟨t.val, lt8 t⟩ i l)
  blk_point [iblk, idx t]

/-- The state a block starts from. -/
theorem blk11 (t : Fin cfg0.N) (p : Fin 2048) (n : Fin 128) :
    iblk m c 11 t (ix3 0 p n) = m ((c : Thread nD τ).loc main_arg2) (ix4 ⟨t.val, lt8 t⟩ ⟨p.val / 64, by omega⟩ ⟨p.val % 64, Nat.mod_lt _ (by norm_num)⟩ n) := by
  refine Eq.trans ?_ (r22 m c ⟨t.val, lt8 t⟩ p n)
  blk_point [iblk, idx t]

/-- The gate rows of a block. -/
theorem blk0 (t : Fin cfg0.N) (i : Fin 32) (l : Fin 2048) :
    X0_0 m c t (ix2 i l) = m ((c : Thread nD τ).loc main_arg0) (ix2 ⟨32 * t + i, by have := lt8 t; omega⟩ ⟨14336 + l.val, by omega⟩) := by
  refine (dif_pos (moved0_0 t (ix2 i l))).trans ?_
  blk_point [iblk, V, idx t]

/-- The input rows of a block. -/
theorem blk1 (t : Fin cfg0.N) (i : Fin 32) (l : Fin 3072) :
    X0_1 m c t (ix2 i l) = m ((c : Thread nD τ).loc main_arg0) (ix2 ⟨32 * t + i, by have := lt8 t; omega⟩ ⟨6144 + l.val, by omega⟩) := by
  refine (dif_pos (moved0_1 t (ix2 i l))).trans ?_
  blk_point [iblk, V, idx t]

end Cert.StepKernelIdeal.Scan

end
-- ==== Proof.StepLast.lean ====
/- The state and the last three convolution rows one block of the short stretch writes. -/
module

public import proofs.«01_k».proof.Proof.StepPoint

@[expose] public section

set_option maxRecDepth 65536
set_option maxHeartbeats 4000000

noncomputable section

namespace Cert.StepKernelIdeal.Scan

open Idealize.ShloMosaic Idealize.ShloMosaic.TcCoe Cert.StepKernelIdeal.Gen Cert.StepKernelIdeal Cert.ScanMath View
open Cert.KernelIdeal.Scan (decayv weightv turned_read)

/-- The state. -/
theorem state (c : Dev nD) (i : grid0.Coords) (arg2 : Memref sig .tc .vmem S32x2048 .f32) (harg2 : arg2.IsWhole) (arg3 : Memref sig .tc .vmem S32x3072 .f32) (harg3 : arg3.IsWhole) (arg4 : Memref sig .tc .vmem S32x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S1x8x3072 .f32) (harg12 : arg12.IsWhole) (arg13 : Memref sig .tc .vmem S1x2048x128 .f32) (harg13 : arg13.IsWhole) (arg14 : Memref sig .tc .vmem S32x2048 .bf16) (harg14 : arg14.IsWhole) (arg15 : Memref sig .tc .vmem S1x3x3072 .f32) (harg15 : arg15.IsWhole) (arg16 : Memref sig .tc .vmem S1x2048x128 .f32) (harg16 : arg16.IsWhole) (arg17 : Memref sig .tc .vmem S136x3072 .f32) (harg17 : arg17.IsWhole) (arg18 : Memref sig .tc .vmem S4x128x512 .f32) (harg18 : arg18.IsWhole) (arg19 : Memref sig .tc .vmem S128x2048 .f32) (harg19 : arg19.IsWhole) (arg20 : Memref sig .tc .vmem S128x3072 .f32) (harg20 : arg20.IsWhole) (arg21 : Memref sig .tc .vmem S128x2048 .f32) (harg21 : arg21.IsWhole) (arg22 : Memref sig .tc .vmem S128x2048 .bf16) (harg22 : arg22.IsWhole) (arg23 : Memref sig .tc .vmem S128x128 .f32) (harg23 : arg23.IsWhole) (arg24 : Memref sig .tc .vmem S128x2048 .f32) (harg24 : arg24.IsWhole) (hc0 : cond0_0 i) (hc1 : cond0_1 i) (hc2 : cond0_2 i)
    (x0 : Vec Ideal S32x2048 .f32) (x1 : Vec Ideal S32x3072 .f32) (x2 : Vec Ideal S32x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) (x9 : Vec Ideal S128x2048 .bf16) (x10 : Vec Ideal S1x8x3072 .f32) (x11 : Vec Ideal S1x2048x128 .f32)
    {Z V D C W : ℕ → ℕ → ℝ} {cb bi al : ℕ → ℝ} {w7 w8 : ℕ → EReal} {H : ℕ → ℕ → EReal}
    (o : Ops x0 x1 x2 x3 x4 x5 x6 x7 x8 x9 x10 x11 Z V D C W cb bi al w7 w8 H) (a : Fin 2048) (n : Fin 128) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 (ix3 0 a n)
      = H a n * ((decayv (cumm (tailv D) bi al) a : ℝ) : EReal)
        + ((∑ s : Fin 128, Xv W cb C V s (2048 + 128 * (a.val / 512) + n) * weightv (cumm (tailv D) bi al) (dtm (tailv D) bi) (Xv W cb C V) s a : ℝ) : EReal) := by
  frame_open
  simp (disch := decide) only [↓ View.readCov_skip, ↓ View.readCov_cons_toLoadRect, ↓ View.readCov_fill]
  frame_out
  generalize hdtb : arg23.view.readCov (Val := Elt Ideal) _ _ = dtb
  generalize ha : arg17.view.readCov (Val := Elt Ideal) _ (Rect.unit ![5, 0] ![128, 3072] _).toLoadRect = xa
  generalize hb : arg17.view.readCov (Val := Elt Ideal) _ (Rect.unit ![6, 0] ![128, 3072] _).toLoadRect = xb
  generalize hc : arg17.view.readCov (Val := Elt Ideal) _ (Rect.unit ![7, 0] ![128, 3072] _).toLoadRect = xc
  generalize hd : arg17.view.readCov (Val := Elt Ideal) _ (Rect.unit ![8, 0] ![128, 3072] _).toLoadRect = xd
  have b : Mid (k0_pay14 (F := Ideal) (k0_pay12 x4 (ld (Val := Elt Ideal) (e' := .f32) x3 (Rect.unit (s := S4x3072) ![0, 0] ![1, 3072] (by decide))) xa (ld (Val := Elt Ideal) (e' := .f32) x3 (Rect.unit (s := S4x3072) ![1, 0] ![1, 3072] (by decide))) xb
      (ld (Val := Elt Ideal) (e' := .f32) x3 (Rect.unit (s := S4x3072) ![2, 0] ![1, 3072] (by decide))) xc (ld (Val := Elt Ideal) (e' := .f32) x3 (Rect.unit (s := S4x3072) ![3, 0] ![1, 3072] (by decide))) xd) k0_pay13) dtb x5 x6 x7 x8 x9 x11
      (Xv W cb C V) (tailv D) bi al w7 w8 H := by
    refine ⟨fun i p => ?_, fun i l => ?_, o.h5, o.h6, o.h7, o.h8, o.h9, o.h11⟩
    · refine act_read (W := W) (b := cb) (V := padv C V) o.h4 (o.row 0 (by norm_num) _) (o.row 1 (by norm_num) _) (o.row 2 (by norm_num) _) (o.row 3 (by norm_num) _)
        (fun i k => ?_) (fun i k => ?_) (fun i k => ?_) (fun i k => ?_) i p
      · rw [← ha]; exact pad_read arg17.view C V 5 128 _ _ _ _ _ _ _ o.fresh (o.old _ _) (none_0 _) i k
      · rw [← hb]; exact pad_read arg17.view C V 6 128 _ _ _ _ _ _ _ o.fresh (o.old _ _) (none_0 _) i k
      · rw [← hc]; exact pad_read arg17.view C V 7 128 _ _ _ _ _ _ _ o.fresh (o.old _ _) (none_0 _) i k
      · rw [← hd]; exact pad_read arg17.view C V 8 128 _ _ _ _ _ _ _ o.fresh (o.old _ _) (none_0 _) i k
    · rw [← hdtb]
      refine (tail_read arg23.view D 0 128 _ _ _ _ _ o.steps none_1 i l).trans ?_
      rw [Nat.zero_add]
  generalize k0_pay14 (F := Ideal) _ _ = act at b ⊢
  refine turned_read (fun a n => H a n * ((decayv (cumm (tailv D) bi al) a : ℝ) : EReal)
        + ((∑ s : Fin 128, Xv W cb C V s (2048 + 128 * (a / 512) + n) * weightv (cumm (tailv D) bi al) (dtm (tailv D) bi) (Xv W cb C V) s a : ℝ) : EReal)) _ _ _ _ _ _ _ _ ?_ ?_ ?_ ?_ a n
  · intro p n
    have hp := p.isLt
    refine (last_0 (E := decayv (cumm (tailv D) bi al)) (V := weightv (cumm (tailv D) bi al) (dtm (tailv D) bi) (Xv W cb C V)) (H := fun n p => H (0 + p) n)
      b.whole (b.cols 2048 _) (b.layer 0 (by norm_num) 0 rfl _) (b.weight 0 _ _) p n).trans ?_
    rw [show (0 + p.val) / 512 = 0 by omega]
    rfl
  · intro p n
    have hp := p.isLt
    refine (last_1 (E := decayv (cumm (tailv D) bi al)) (V := weightv (cumm (tailv D) bi al) (dtm (tailv D) bi) (Xv W cb C V)) (H := fun n p => H (512 + p) n)
      b.whole (b.cols 2176 _) (b.layer 1 (by norm_num) 512 rfl _) (b.weight 512 _ _) p n).trans ?_
    rw [show (512 + p.val) / 512 = 1 by omega]
    rfl
  · intro p n
    have hp := p.isLt
    refine (last_2 (E := decayv (cumm (tailv D) bi al)) (V := weightv (cumm (tailv D) bi al) (dtm (tailv D) bi) (Xv W cb C V)) (H := fun n p => H (1024 + p) n)
      b.whole (b.cols 2304 _) (b.layer 2 (by norm_num) 1024 rfl _) (b.weight 1024 _ _) p n).trans ?_
    rw [show (1024 + p.val) / 512 = 2 by omega]
    rfl
  · intro p n
    have hp := p.isLt
    refine (last_3 (E := decayv (cumm (tailv D) bi al)) (V := weightv (cumm (tailv D) bi al) (dtm (tailv D) bi) (Xv W cb C V)) (H := fun n p => H (1536 + p) n)
      b.whole (b.cols 2432 _) (b.layer 3 (by norm_num) 1536 rfl _) (b.weight 1536 _ _) p n).trans ?_
    rw [show (1536 + p.val) / 512 = 3 by omega]
    rfl

/-- The last three convolution rows. -/
theorem tail (c : Dev nD) (i : grid0.Coords) (arg2 : Memref sig .tc .vmem S32x2048 .f32) (harg2 : arg2.IsWhole) (arg3 : Memref sig .tc .vmem S32x3072 .f32) (harg3 : arg3.IsWhole) (arg4 : Memref sig .tc .vmem S32x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S128x2048 .bf16) (harg11 : arg11.IsWhole) (arg12 : Memref sig .tc .vmem S1x8x3072 .f32) (harg12 : arg12.IsWhole) (arg13 : Memref sig .tc .vmem S1x2048x128 .f32) (harg13 : arg13.IsWhole) (arg14 : Memref sig .tc .vmem S32x2048 .bf16) (harg14 : arg14.IsWhole) (arg15 : Memref sig .tc .vmem S1x3x3072 .f32) (harg15 : arg15.IsWhole) (arg16 : Memref sig .tc .vmem S1x2048x128 .f32) (harg16 : arg16.IsWhole) (arg17 : Memref sig .tc .vmem S136x3072 .f32) (harg17 : arg17.IsWhole) (arg18 : Memref sig .tc .vmem S4x128x512 .f32) (harg18 : arg18.IsWhole) (arg19 : Memref sig .tc .vmem S128x2048 .f32) (harg19 : arg19.IsWhole) (arg20 : Memref sig .tc .vmem S128x3072 .f32) (harg20 : arg20.IsWhole) (arg21 : Memref sig .tc .vmem S128x2048 .f32) (harg21 : arg21.IsWhole) (arg22 : Memref sig .tc .vmem S128x2048 .bf16) (harg22 : arg22.IsWhole) (arg23 : Memref sig .tc .vmem S128x128 .f32) (harg23 : arg23.IsWhole) (arg24 : Memref sig .tc .vmem S128x2048 .f32) (harg24 : arg24.IsWhole) (hc0 : cond0_0 i) (hc1 : cond0_1 i) (hc2 : cond0_2 i)
    (x0 : Vec Ideal S32x2048 .f32) (x1 : Vec Ideal S32x3072 .f32) (x2 : Vec Ideal S32x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) (x9 : Vec Ideal S128x2048 .bf16) (x10 : Vec Ideal S1x8x3072 .f32) (x11 : Vec Ideal S1x2048x128 .f32)
    {Z V D C W : ℕ → ℕ → ℝ} {cb bi al : ℕ → ℝ} {w7 w8 : ℕ → EReal} {H : ℕ → ℕ → EReal}
    (o : Ops x0 x1 x2 x3 x4 x5 x6 x7 x8 x9 x10 x11 Z V D C W cb bi al w7 w8 H) (a : Fin 3) (p : Fin 3072) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 hc2 x0 x1 x2 x3 x4 x5 x6 x7 x8 x9 x10 x11 (ix3 0 a p) = ((V (29 + a) p : ℝ) : EReal) := by
  have ha := a.isLt
  frame_open
  simp (disch := decide) only [↓ View.readCov_skip, ↓ View.readCov_cons_toLoadRect, ↓ View.readCov_fill]
  frame_out
  generalize hx : arg17.view.readCov (Val := Elt Ideal) _ (Rect.unit ![37, 0] ![3, 3072] _).toLoadRect = xe
  have he : k0_pay15 (F := Ideal) xe (ix3 0 a p) = xe (ix2 a p) := by
    pointwise [k0_pay15]
  refine he.trans ?_
  rw [← hx]
  refine (pad_read arg17.view C V 37 3 _ _ _ _ _ _ _ o.fresh (o.old _ _) (none_0 _) a p).trans ?_
  unfold padv
  rw [if_neg (by omega), if_pos (by omega), show 37 + a.val - 8 = 29 + a.val by omega]

end Cert.StepKernelIdeal.Scan

end
-- ==== Proof.StepSpec.lean ====
/- The short stretch over the real numbers: convolved rows, steps, read-outs and states of one chunk of 32 rows; and that
   a block's operands give them. -/
module

public import proofs.«01_k».proof.Proof.StepPoint
public import proofs.«01_k».proof.Proof.ScanSpec
public import proofs.«01_k».proof.Proof.ScanKernel

@[expose] public section

set_option maxRecDepth 16384

noncomputable section

namespace Cert.StepMath

open Idealize.ShloMosaic Cert.ScanMath Cert.StepKernelIdeal.Scan
open Cert.KernelIdeal.Scan (decayv weightv accv diagv offv gated gated_congr)

/-- The stretch's arrays: projected rows `U`, kept rows `P`, the convolution's weights and bias, step biases, decay exponents, skip and norm
    weights, and the states `H` it starts from. -/
structure Data where
  U : ℕ → ℕ → ℝ
  P : ℕ → ℕ → ℕ → ℝ
  W : ℕ → ℕ → ℝ
  cb : ℕ → ℝ
  bi : ℕ → ℝ
  al : ℕ → ℝ
  sk : ℕ → EReal
  nw : ℕ → EReal
  H : ℕ → ℕ → ℕ → EReal

namespace Data

variable (A : Data)

/-- The three kept rows, then the stretch's. -/
def up (b j k : ℕ) : ℝ := if j < 3 then A.P b j k else A.U (32 * b + (j - 3)) (6144 + k)

/-- The convolution with its bias. -/
def conv (b i k : ℕ) : ℝ := A.W 0 k * A.up b i k + A.W 1 k * A.up b (i + 1) k + A.W 2 k * A.up b (i + 2) k + A.W 3 k * A.up b (i + 3) k + A.cb k

/-- The convolved, activated rows. -/
def x (b i k : ℕ) : ℝ := silu (A.conv b i k)

/-- The step of row `i`, head `h`. -/
def dt (b i h : ℕ) : ℝ := stepS A.U A.bi (32 * b + i) h

/-- The running sum of the log decays. -/
def cum (b i h : ℕ) : ℝ := ∑ j ∈ Finset.range (i + 1), A.dt b j h * (-Real.exp (A.al h))

/-- The chunk's own part of a read-out. -/
def diag (b i p : ℕ) : ℝ :=
  ∑ s : Fin 32, ((∑ n : Fin 128, A.x b i (2560 + 128 * (p / 512) + n) * A.x b s (2048 + 128 * (p / 512) + n))
    * (if s.val ≤ i then Real.exp (A.cum b i (p / 64) - A.cum b s (p / 64)) else 0) * A.dt b s (p / 64)) * A.x b s p

/-- The carried state's part. -/
def off (b i p : ℕ) : EReal :=
  (∑ n : Fin 128, ((A.x b i (2560 + 128 * (p / 512) + n) : ℝ) : EReal) * A.H b p n) * ((Real.exp (A.cum b i (p / 64)) : ℝ) : EReal)

/-- The read-out with the skip term. -/
def pre (b i p : ℕ) : EReal := ((A.diag b i p : ℝ) : EReal) + A.off b i p + A.sk (p / 64) * ((A.x b i p : ℝ) : EReal)

/-- The output row: gated, normalised over its group of 512 columns, weighted. -/
def row (b i p : ℕ) : EReal :=
  gated (fun q => A.pre b i (512 * (p / 512) + q)) (fun q => A.nw (512 * (p / 512) + q)) (fun q => A.U (32 * b + i) (14336 + (512 * (p / 512) + q))) (p % 512)

/-- The state after the stretch. -/
def last (b p n : ℕ) : EReal :=
  A.H b p n * ((Real.exp (A.cum b 31 (p / 64)) : ℝ) : EReal)
    + ((∑ s : Fin 32, A.x b s (2048 + 128 * (p / 512) + n) * (A.x b s p * (Real.exp (A.cum b 31 (p / 64) - A.cum b s (p / 64)) * A.dt b s (p / 64))) : ℝ) : EReal)

/-! ## A block's operands -/

/-- The step inputs. -/
abbrev D (b : ℕ) : ℕ → ℕ → ℝ := tailv fun i l => A.U (32 * b + i) (17152 + l)

/-- The kept rows, with five zero rows before them. -/
abbrev C (b : ℕ) : ℕ → ℕ → ℝ := fun q k => if q < 5 then 0 else A.P b (q - 5) k

/-- A block's convolved rows. -/
abbrev X (b : ℕ) : ℕ → ℕ → ℝ := Xv A.W A.cb (A.C b) fun i k => A.U (32 * b + i) (6144 + k)

theorem pad_eq (b q j k : ℕ) (hq : q = 5 + j) (hj : j < 35) : padv (A.C b) (fun i k => A.U (32 * b + i) (6144 + k)) q k = A.up b j k := by
  subst hq
  unfold padv up
  by_cases h : j < 3
  · rw [if_pos (by omega), if_pos h]
    unfold C
    rw [if_neg (by omega)]
    exact congrArg (fun z => A.P b z k) (by omega)
  · rw [if_neg (by omega), if_neg h, if_pos (by omega)]
    exact congrArg (fun z => A.U (32 * b + z) (6144 + k)) (by omega)

theorem X_eq (b i k : ℕ) (hi : i < 32) : A.X b i k = A.x b i k := by
  unfold X Xv x
  refine congrArg silu ?_
  unfold convv conv
  rw [pad_eq A b (5 + i) i k rfl (by omega), pad_eq A b (6 + i) (i + 1) k (by omega) (by omega), pad_eq A b (7 + i) (i + 2) k (by omega) (by omega),
    pad_eq A b (8 + i) (i + 3) k (by omega) (by omega)]
  ring

theorem d_eq (b i h : ℕ) (hi : i < 32) (hh : h < 32) : dtm (A.D b) A.bi i h = A.dt b i h := by
  unfold dtm Cert.KernelIdeal.Scan.dtv dt stepS D tailv
  rw [if_pos hi, if_pos hh, if_pos hi]

theorem d_zero (b i h : ℕ) (hi : 32 ≤ i) : dtm (A.D b) A.bi i h = 0 := by
  unfold dtm
  rw [if_neg (by omega)]

theorem cum_eq (b i h : ℕ) (hi : i < 32) (hh : h < 32) : cumm (A.D b) A.bi A.al i h = A.cum b i h := by
  unfold cumm cum wm
  refine Finset.sum_congr rfl fun j hj => ?_
  have := Finset.mem_range.mp hj
  rw [d_eq A b j h (by omega) hh]

theorem cum_last (b h : ℕ) (hh : h < 32) : cumm (A.D b) A.bi A.al 127 h = A.cum b 31 h := by
  rw [← cum_eq A b 31 h (by norm_num) hh]
  unfold cumm
  rw [show 127 + 1 = (31 + 1) + 96 by norm_num, Finset.sum_range_add]
  rw [Finset.sum_eq_zero (s := Finset.range 96) fun j _ => ?_, add_zero]
  unfold wm
  rw [d_zero A b _ h (by omega), zero_mul]

/-- Rows past the stretch count for nothing. -/
theorem sum_cut (f : ℕ → ℝ) (h : ∀ s, 32 ≤ s → f s = 0) : ∑ s : Fin 128, f s = ∑ s : Fin 32, f s := by
  rw [Fin.sum_univ_eq_sum_range f 128, Fin.sum_univ_eq_sum_range f 32, show 128 = 32 + 96 by norm_num, Finset.sum_range_add]
  rw [Finset.sum_eq_zero (s := Finset.range 96) fun j _ => h _ (by omega), add_zero]

theorem diag_eq (b g i p : ℕ) (hi : i < 32) (hp : p < 2048) (hg : g = p / 512) :
    diagv (cumm (A.D b) A.bi A.al) (dtm (A.D b) A.bi) (A.X b) g (p / 64) i p = A.diag b i p := by
  subst hg
  unfold diagv diag
  refine (sum_cut (fun s => ((∑ n : Fin 128, A.X b i (2560 + 128 * (p / 512) + n) * A.X b s (2048 + 128 * (p / 512) + n))
    * (if s ≤ i then Real.exp (cumm (A.D b) A.bi A.al i (p / 64) - cumm (A.D b) A.bi A.al s (p / 64)) else 0) * dtm (A.D b) A.bi s (p / 64)) * A.X b s p) fun s hs => ?_).trans ?_
  · rw [d_zero A b s _ hs, mul_zero, zero_mul]
  · refine Finset.sum_congr rfl fun s _ => ?_
    have hs := s.isLt
    have hh : p / 64 < 32 := by omega
    simp only [X_eq A b i _ hi, X_eq A b s _ hs, cum_eq A b i _ hi hh, cum_eq A b s _ hs hh, d_eq A b s _ hs hh]

theorem acc_eq (b g i q : ℕ) (hi : i < 32) (hq : q < 512) (hg : g < 4) :
    accv (cumm (A.D b) A.bi A.al) (dtm (A.D b) A.bi) (A.X b) (fun g n p => A.H b (512 * g + p) n) (fun l => A.sk (l / 64)) g i q = A.pre b i (512 * g + q) := by
  have hh : (512 * g + q) / 64 < 32 := by omega
  unfold accv pre
  rw [diag_eq A b g i (512 * g + q) hi (by omega) (by omega), X_eq A b i _ hi]
  have e : offv (cumm (A.D b) A.bi A.al) (A.X b) (fun g n p => A.H b (512 * g + p) n) g i q = A.off b i (512 * g + q) := by
    unfold offv off
    rw [show (512 * g + q) / 512 = g by omega, show 8 * g + q / 64 = (512 * g + q) / 64 by omega, cum_eq A b i _ hi hh]
    simp only [X_eq A b i _ hi]
  rw [e]
  ac_rfl

theorem row_eq (b i p : ℕ) (hi : i < 32) (hp : p < 2048) :
    gated (fun p' => accv (cumm (A.D b) A.bi A.al) (dtm (A.D b) A.bi) (A.X b) (fun g n p => A.H b (512 * g + p) n) (fun l => A.sk (l / 64)) (p / 512) i p')
        (fun p' => A.nw (512 * (p / 512) + p')) (fun p' => tailv (fun i p => A.U (32 * b + i) (14336 + p)) i (512 * (p / 512) + p')) (p % 512)
      = A.row b i p := by
  unfold row
  refine gated_congr _ _ _ _ _ _ _ (Nat.mod_lt _ (by norm_num)) (fun q hq => acc_eq A b (p / 512) i q hi hq (by omega)) (fun _ => rfl) fun q => ?_
  unfold tailv
  rw [if_pos hi]

theorem last_eq (b p n : ℕ) (hp : p < 2048) :
    A.H b p n * ((decayv (cumm (A.D b) A.bi A.al) p : ℝ) : EReal)
        + ((∑ s : Fin 128, A.X b s (2048 + 128 * (p / 512) + n) * weightv (cumm (A.D b) A.bi A.al) (dtm (A.D b) A.bi) (A.X b) s p : ℝ) : EReal) = A.last b p n := by
  have hh : p / 64 < 32 := by omega
  unfold last decayv
  rw [cum_last A b _ hh]
  refine congrArg (fun z : ℝ => A.H b p n * ((Real.exp (A.cum b 31 (p / 64)) : ℝ) : EReal) + ((z : ℝ) : EReal)) ?_
  refine (sum_cut (fun s => A.X b s (2048 + 128 * (p / 512) + n) * weightv (cumm (A.D b) A.bi A.al) (dtm (A.D b) A.bi) (A.X b) s p) fun s hs => ?_).trans ?_
  · unfold weightv
    rw [d_zero A b s _ hs, mul_zero, mul_zero, mul_zero]
  · refine Finset.sum_congr rfl fun s _ => ?_
    have hs := s.isLt
    unfold weightv
    rw [X_eq A b s _ hs, X_eq A b s _ hs, cum_last A b _ hh, cum_eq A b s _ hs hh, d_eq A b s _ hs hh]

end Data

/-- Arrays that are the stretch's. -/
structure Holds (A : Data) (a0 : Fin 256 → Fin 17408 → EReal) (a1 : Fin 8 → Fin 3 → Fin 3072 → EReal) (a2 : Fin 8 → Fin 32 → Fin 64 → Fin 128 → EReal)
    (a3 : Fin 4 → Fin 3072 → EReal) (a4 : Fin 3072 → EReal) (a5 a6 a7 : Fin 32 → EReal) (a8 : Fin 2048 → EReal) : Prop where
  h0 : ∀ r k, a0 r k = ((A.U r k : ℝ) : EReal)
  h1 : ∀ b j k, a1 b j k = ((A.P b j k : ℝ) : EReal)
  h2 : ∀ b h d n, a2 b h d n = A.H b (64 * h + d) n
  h3 : ∀ i k, a3 i k = ((A.W i k : ℝ) : EReal)
  h4 : ∀ k, a4 k = ((A.cb k : ℝ) : EReal)
  h5 : ∀ h, a5 h = ((A.bi h : ℝ) : EReal)
  z5 : ∀ h, 32 ≤ h → A.bi h = 0
  h6 : ∀ h, a6 h = ((A.al h : ℝ) : EReal)
  z6 : ∀ h, 32 ≤ h → A.al h = 0
  h7 : ∀ h, a7 h = A.sk h
  h8 : ∀ p, a8 p = A.nw p

/-- A real entry's number. -/
theorem real_of {x : EReal} (h : x ≠ ⊤ ∧ x ≠ ⊥) : x = ((x.toReal : ℝ) : EReal) := (EReal.coe_toReal h.1 h.2).symm

/-- Finite arrays are a stretch's. -/
theorem holds (a0 : Fin 256 → Fin 17408 → EReal) (a1 : Fin 8 → Fin 3 → Fin 3072 → EReal) (a2 : Fin 8 → Fin 32 → Fin 64 → Fin 128 → EReal)
    (a3 : Fin 4 → Fin 3072 → EReal) (a4 : Fin 3072 → EReal) (a5 a6 a7 : Fin 32 → EReal) (a8 : Fin 2048 → EReal)
    (f0 : ∀ r k, a0 r k ≠ ⊤ ∧ a0 r k ≠ ⊥) (f1 : ∀ b j k, a1 b j k ≠ ⊤ ∧ a1 b j k ≠ ⊥) (f3 : ∀ i k, a3 i k ≠ ⊤ ∧ a3 i k ≠ ⊥) (f4 : ∀ k, a4 k ≠ ⊤ ∧ a4 k ≠ ⊥)
    (f5 : ∀ h, a5 h ≠ ⊤ ∧ a5 h ≠ ⊥) (f6 : ∀ h, a6 h ≠ ⊤ ∧ a6 h ≠ ⊥) : ∃ A : Data, Holds A a0 a1 a2 a3 a4 a5 a6 a7 a8 := by
  refine ⟨⟨fun r k => if h : r < 256 ∧ k < 17408 then (a0 ⟨r, h.1⟩ ⟨k, h.2⟩).toReal else 0,
    fun b j k => if h : b < 8 ∧ j < 3 ∧ k < 3072 then (a1 ⟨b, h.1⟩ ⟨j, h.2.1⟩ ⟨k, h.2.2⟩).toReal else 0,
    fun i k => if h : i < 4 ∧ k < 3072 then (a3 ⟨i, h.1⟩ ⟨k, h.2⟩).toReal else 0,
    fun k => if h : k < 3072 then (a4 ⟨k, h⟩).toReal else 0, fun k => if h : k < 32 then (a5 ⟨k, h⟩).toReal else 0, fun k => if h : k < 32 then (a6 ⟨k, h⟩).toReal else 0,
    fun k => if h : k < 32 then a7 ⟨k, h⟩ else 0, fun k => if h : k < 2048 then a8 ⟨k, h⟩ else 0,
    fun b p n => if h : b < 8 ∧ p < 2048 ∧ n < 128 then a2 ⟨b, h.1⟩ ⟨p / 64, by omega⟩ ⟨p % 64, Nat.mod_lt _ (by norm_num)⟩ ⟨n, h.2.2⟩ else 0⟩, ?_⟩
  refine ⟨fun r k => ?_, fun b j k => ?_, fun b h d n => ?_, fun i k => ?_, fun k => ?_, fun h => ?_, fun h hh => ?_, fun h => ?_, fun h hh => ?_, fun h => ?_, fun p => ?_⟩ <;> dsimp only
  · rw [dif_pos ⟨r.isLt, k.isLt⟩]; exact real_of (f0 r k)
  · rw [dif_pos ⟨b.isLt, j.isLt, k.isLt⟩]; exact real_of (f1 b j k)
  · have hd := d.isLt
    have hh := h.isLt
    rw [dif_pos ⟨b.isLt, by omega, n.isLt⟩]
    congr 1
    · apply Fin.ext; dsimp only; omega
    · apply Fin.ext; dsimp only; omega
  · rw [dif_pos ⟨i.isLt, k.isLt⟩]; exact real_of (f3 i k)
  · rw [dif_pos k.isLt]; exact real_of (f4 k)
  · rw [dif_pos h.isLt]; exact real_of (f5 h)
  · rw [dif_neg (by omega)]
  · rw [dif_pos h.isLt]; exact real_of (f6 h)
  · rw [dif_neg (by omega)]
  · rw [dif_pos h.isLt]
  · rw [dif_pos p.isLt]

end Cert.StepMath

end
-- ==== Proof.StepRun.lean ====
/- The short stretch's kernel after its eight blocks: its three arrays as the real stretch. -/
module

public import proofs.«01_k».proof.Proof.StepReads
public import proofs.«01_k».proof.Proof.StepLast
public import proofs.«01_k».proof.Proof.StepSpec

@[expose] public section

set_option maxRecDepth 16384

noncomputable section

namespace Cert.StepKernelIdeal.Scan

open Idealize.ShloMosaic Idealize.ShloMosaic.TcCoe Cert.StepKernelIdeal.Gen Cert.StepKernelIdeal Cert.ScanMath Cert.StepMath

variable (m : (ℓ : Loc nD τ sig) → Buf (Elt Ideal) ℓ) (c : Dev nD)

/-- The arguments are the stretch's arrays. -/
abbrev Args (A : Data) : Prop :=
  Holds A (fun r k => m ((c : Thread nD τ).loc main_arg0) (ix2 r k)) (fun b j k => m ((c : Thread nD τ).loc main_arg1) (ix3 b j k))
    (fun b h d n => m ((c : Thread nD τ).loc main_arg2) (ix4 b h d n)) (fun i k => m ((c : Thread nD τ).loc main_arg3) (ix2 i k))
    (fun k => m ((c : Thread nD τ).loc main_arg4) (ix1 k)) (fun h => m ((c : Thread nD τ).loc main_arg5) (ix1 h)) (fun h => m ((c : Thread nD τ).loc main_arg6) (ix1 h))
    (fun h => m ((c : Thread nD τ).loc main_arg7) (ix1 h)) (fun p => m ((c : Thread nD τ).loc main_arg8) (ix1 p))

variable {m c} {A : Data} (B : Args m c A)

include B

/-- The operands of a block. -/
theorem ops (t : Fin cfg0.N) :
    Ops (X0_0 m c t) (X0_1 m c t) (iblk m c 2 t) (iblk m c 3 t) (iblk m c 4 t) (iblk m c 5 t) (iblk m c 6 t) (iblk m c 7 t) (iblk m c 8 t) (iblk m c 9 t) (iblk m c 10 t) (iblk m c 11 t)
      (fun i p => A.U (32 * t + i) (14336 + p)) (fun i k => A.U (32 * t + i) (6144 + k)) (fun i l => A.U (32 * t + i) (17152 + l)) (A.C t)
      A.W A.cb A.bi A.al (fun l => A.sk (l / 64)) A.nw (fun p n => A.H t p n) where
  h0 i p := (blk0 m c t i p).trans (B.h0 _ _)
  h1 i p := (blk1 m c t i p).trans (B.h0 _ _)
  h2 i l := (blk2 m c t i l).trans (B.h0 _ _)
  h3 i k := (blk3 m c t i k).trans (B.h3 _ _)
  h4 k := (blk4 m c t k).trans (B.h4 _)
  h5 l := by
    refine (blk5 m c t l).trans ?_
    by_cases h : l.val < 32
    · rw [dif_pos h]
      exact B.h5 ⟨l.val, h⟩
    · rw [dif_neg h, B.z5 l (by omega)]
      rfl
  h6 l := by
    refine (blk6 m c t l).trans ?_
    by_cases h : l.val < 32
    · rw [dif_pos h]
      exact B.h6 ⟨l.val, h⟩
    · rw [dif_neg h, B.z6 l (by omega)]
      rfl
  h7 l := (blk7 m c t l).trans (B.h7 _)
  h8 l := (blk8 m c t l).trans (B.h8 _)
  h9 h l := blk9 m c t h l
  h10 i p := by
    refine (blk10 m c t i p).trans ?_
    unfold Data.C
    by_cases h : i.val < 5
    · rw [dif_pos h, if_pos h]
      rfl
    · rw [dif_neg h, if_neg h]
      exact B.h1 _ _ _
  h11 p n := by
    refine (blk11 m c t p n).trans ((B.h2 _ _ _ _).trans ?_)
    refine congrArg (fun q => A.H t q n) ?_
    dsimp only
    omega

/-- A block's rows. -/
theorem point12 (t : Fin cfg0.N) (a : Fin 32) (p : Fin 2048) : (outsAt0 m c t).1 (ix2 a p) = A.row t a p := by
  unfold outsAt0
  dsimp only
  rw [rows (o := ops B t)]
  exact Data.row_eq A t a p a.isLt p.isLt

/-- A block's last rows. -/
theorem point13 (t : Fin cfg0.N) (a : Fin 3) (p : Fin 3072) : (outsAt0 m c t).2.1 (ix3 0 a p) = ((A.U (32 * t + (29 + a)) (6144 + p) : ℝ) : EReal) := by
  unfold outsAt0
  dsimp only
  rw [tail (o := ops B t)]

/-- A block's state. -/
theorem point14 (t : Fin cfg0.N) (p : Fin 2048) (n : Fin 128) : (outsAt0 m c t).2.2 (ix3 0 p n) = A.last t p n := by
  unfold outsAt0
  dsimp only
  rw [state (o := ops B t)]
  exact Data.last_eq A t p n p.isLt

omit B

/-- A block's index, placed in the array of rows. -/
theorem emb12 (t : Fin cfg0.N) (i : Fin 32) (p : Fin 2048) :
    ((cfg0.win 12).blk t).view.emb (ix2 i p) = ix2 ⟨32 * t.val + i.val, by have := lt8 t; omega⟩ p := by
  have e := idx t
  funext a
  apply Fin.ext
  blk_simp [idx t]
  match a with
  | ⟨0, _⟩ =>
    show t.val * 32 + i.val = 32 * t.val + i.val
    omega
  | ⟨1, _⟩ =>
    show 0 * 2048 + p.val = p.val
    omega

/-- A block's index, placed in the array of last rows. -/
theorem emb13 (t : Fin cfg0.N) (i : Fin 3) (p : Fin 3072) : ((cfg0.win 13).blk t).view.emb (ix3 0 i p) = ix3 ⟨t.val, lt8 t⟩ i p := by
  have e := idx t
  funext a
  apply Fin.ext
  blk_simp [idx t]
  match a with
  | ⟨0, _⟩ =>
    show t.val * 1 + 0 = t.val
    omega
  | ⟨1, _⟩ =>
    show 0 * 3 + i.val = i.val
    omega
  | ⟨2, _⟩ =>
    show 0 * 3072 + p.val = p.val
    omega

/-- A block's index, placed in the array of states. -/
theorem emb14 (t : Fin cfg0.N) (i : Fin 2048) (p : Fin 128) : ((cfg0.win 14).blk t).view.emb (ix3 0 i p) = ix3 ⟨t.val, lt8 t⟩ i p := by
  have e := idx t
  funext a
  apply Fin.ext
  blk_simp [idx t]
  match a with
  | ⟨0, _⟩ =>
    show t.val * 1 + 0 = t.val
    omega
  | ⟨1, _⟩ =>
    show 0 * 2048 + i.val = i.val
    omega
  | ⟨2, _⟩ =>
    show 0 * 128 + p.val = p.val
    omega

variable (A) in
/-- The rows' array. -/
def G12 : S256x2048.Idx → EReal := fun i => A.row ((i 0).val / 32) ((i 0).val % 32) (i 1).val

variable (A) in
/-- The last rows' array. -/
def G13 : S8x3x3072.Idx → EReal := fun i => ((A.U (32 * (i 0).val + (29 + (i 1).val)) (6144 + (i 2).val) : ℝ) : EReal)

variable (A) in
/-- The states' array. -/
def G14 : S8x2048x128.Idx → EReal := fun i => A.last (i 0).val (i 1).val (i 2).val

include B

/-- The rows after the run. -/
theorem final12 : (dats m 0 c).arrAt 12 cfg0.N = G12 A := by
  have hc : (cfg0.win 12).Covers := by decide +kernel
  refine (dats m 0 c).arrAt_eq_of_covers 12 _ hc (fun t hf y => ?_)
  obtain ⟨i, p, rfl⟩ : ∃ (i : Fin 32) (p : Fin 2048), y = ix2 i p := ⟨y 0, y 1, by funext a; match a with | ⟨0, _⟩ => rfl | ⟨1, _⟩ => rfl⟩
  rw [emb12, after0_12]
  have hi := i.isLt
  have h1 : (32 * t.val + i.val) / 32 = t.val := by omega
  have h2 : (32 * t.val + i.val) % 32 = i.val := by omega
  have hg : G12 A (ix2 ⟨32 * t.val + i.val, by have := lt8 t; omega⟩ p) = A.row t i p := by
    show A.row ((32 * t.val + i.val) / 32) ((32 * t.val + i.val) % 32) p = _
    rw [h1, h2]
  refine (cast_eq _ _).trans ((congrArg (outsAt0 m c t).1 ?_).trans ((point12 B t i p).trans hg.symm))
  funext a
  match a with
  | ⟨0, _⟩ => rfl
  | ⟨1, _⟩ => rfl

/-- The last rows after the run. -/
theorem final13 : (dats m 0 c).arrAt 13 cfg0.N = G13 A := by
  have hc : (cfg0.win 13).Covers := by decide +kernel
  refine (dats m 0 c).arrAt_eq_of_covers 13 _ hc (fun t hf y => ?_)
  obtain ⟨i, p, rfl⟩ : ∃ (i : Fin 3) (p : Fin 3072), y = ix3 0 i p := ⟨y 1, y 2, by funext a; match a with | ⟨0, _⟩ => exact Subsingleton.elim (α := Fin 1) _ _ | ⟨1, _⟩ => rfl | ⟨2, _⟩ => rfl⟩
  rw [emb13, after0_13]
  refine (cast_eq _ _).trans ((congrArg (outsAt0 m c t).2.1 ?_).trans (point13 B t i p))
  funext a
  match a with
  | ⟨0, _⟩ => rfl
  | ⟨1, _⟩ => rfl
  | ⟨2, _⟩ => rfl

/-- The states after the run. -/
theorem final14 : (dats m 0 c).arrAt 14 cfg0.N = G14 A := by
  have hc : (cfg0.win 14).Covers := by decide +kernel
  refine (dats m 0 c).arrAt_eq_of_covers 14 _ hc (fun t hf y => ?_)
  obtain ⟨i, p, rfl⟩ : ∃ (i : Fin 2048) (p : Fin 128), y = ix3 0 i p := ⟨y 1, y 2, by funext a; match a with | ⟨0, _⟩ => exact Subsingleton.elim (α := Fin 1) _ _ | ⟨1, _⟩ => rfl | ⟨2, _⟩ => rfl⟩
  rw [emb14, after0_14]
  refine (cast_eq _ _).trans ((congrArg (outsAt0 m c t).2.2 ?_).trans (point14 B t i p))
  funext a
  match a with
  | ⟨0, _⟩ => rfl
  | ⟨1, _⟩ => rfl
  | ⟨2, _⟩ => rfl

end Cert.StepKernelIdeal.Scan

end
-- ==== Proof.StepRef.lean ====
/- The short stretch's reference, one intermediate array after another, as the real stretch. -/
module

public import proofs.«01_k».proof.Proof.Gen.StepReferenceIdeal.Run
public import proofs.«01_k».proof.Proof.ScanLoop
public import proofs.«01_k».proof.Proof.StepSpec
public import Idealize.ShloMosaic.Lib.Claim
public import Idealize.ShloMosaic.Lib.Pointwise
public import Idealize.ShloMosaic.Lib.WordCmp

@[expose] public section

set_option maxRecDepth 16384

noncomputable section

namespace Cert.StepReferenceIdeal.Scan

open Idealize.ShloMosaic Idealize.ShloMosaic.TcCoe Cert.StepReferenceIdeal Cert.StepReferenceIdeal.Gen Cert.StepReferenceIdeal.Value Cert.ScanMath Cert.StepMath
open Cert.KernelIdeal.Scan (gated)
open Cert.ReferenceIdeal.Scan (foldl_add neg_inf)

/-- The arguments are the stretch's arrays. -/
abbrev Args (V : Valuation τ sig (Elt Ideal)) (A : Data) : Prop :=
  Holds A (fun r k => V main_arg0 (ix2 r k)) (fun b j k => V main_arg1 (ix3 b j k)) (fun b h d n => V main_arg2 (ix4 b h d n)) (fun i k => V main_arg3 (ix2 i k))
    (fun k => V main_arg4 (ix1 k)) (fun h => V main_arg5 (ix1 h)) (fun h => V main_arg6 (ix1 h)) (fun h => V main_arg7 (ix1 h)) (fun p => V main_arg8 (ix1 p))

/-- A step. -/
theorem step_at (z : ℝ) : max (z : EReal) 0 + Ideal.log1p (Ideal.exp (-FloatOps.absf (F := Ideal) (φ := .f32) (z : EReal))) = ((softplus z : ℝ) : EReal) := by
  rw [← zero_sub, softplus_coe]

variable {V : Valuation τ sig (Elt Ideal)} {A : Data} (B : Args V A)

include B

/-- The gate columns. -/
theorem z_at (b : Fin 8) (l : Fin 32) (p : Fin 2048) : res_main_v1 V (ix3 b l p) = ((A.U (32 * b + l) (14336 + p) : ℝ) : EReal) := by
  unfold res_main_v1
  pointwise
  refine (B.h0 _ _).trans ?_
  congr 2 <;> dsimp only <;> omega

/-- The kept rows and the stretch's. -/
theorem up_at (b : Fin 8) (j : Fin 35) (k : Fin 3072) : res_main_v6 V (ix3 b j k) = ((A.up b j k : ℝ) : EReal) := by
  unfold res_main_v6 Data.up
  pointwise
  by_cases h : j.val < 3
  · rw [dif_pos h, if_pos h]
    exact B.h1 _ _ _
  · rw [dif_neg h, if_neg h]
    refine (B.h0 _ _).trans ?_
    congr 2 <;> dsimp only <;> omega

/-- The convolution with its bias. -/
theorem conv_at (b : Fin 8) (l : Fin 32) (k : Fin 3072) : res_main_v37 V (ix3 b l k) = ((A.conv b l k : ℝ) : EReal) := by
  have e3 : ∀ i : Fin 4, V main_arg3 (ix2 i k) = ((A.W i k : ℝ) : EReal) := fun i => B.h3 i k
  have e4 : V main_arg4 (ix1 k) = ((A.cb k : ℝ) : EReal) := B.h4 k
  unfold res_main_v37 Data.conv
  pointwise
  simp only [up_at B, e4]
  simp only [EReal.coe_add, EReal.coe_mul]
  refine congrArg₂ _ (congrArg₂ _ (congrArg₂ _ (congrArg₂ _ (congrArg₂ _ (e3 0) ?_) (congrArg₂ _ (e3 1) ?_)) (congrArg₂ _ (e3 2) ?_)) (congrArg₂ _ (e3 3) ?_)) rfl <;> (congr 2; try omega)

/-- The convolved, activated rows. -/
theorem act_at (b : Fin 8) (l : Fin 32) (k : Fin 3072) : res_main_v38 V (ix3 b l k) = ((A.x b l k : ℝ) : EReal) := by
  unfold res_main_v38
  pointwise
  rw [conv_at B]
  exact logistic_gate _

theorem x_at (b : Fin 8) (l : Fin 32) (g : Fin 4) (r : Fin 8) (p : Fin 64) : res_main_v40 V (ix5 b l g r p) = ((A.x b l (512 * g + 64 * r + p) : ℝ) : EReal) := by
  unfold res_main_v40
  pointwise
  refine (act_at B _ _ _).trans ?_
  congr 2; dsimp only; omega

theorem b_at (b : Fin 8) (l : Fin 32) (g : Fin 4) (n : Fin 128) : res_main_v42 V (ix4 b l g n) = ((A.x b l (2048 + 128 * g + n) : ℝ) : EReal) := by
  unfold res_main_v42
  pointwise
  refine (act_at B _ _ _).trans ?_
  congr 2; dsimp only; omega

theorem c_at (b : Fin 8) (l : Fin 32) (g : Fin 4) (n : Fin 128) : res_main_v44 V (ix4 b l g n) = ((A.x b l (2560 + 128 * g + n) : ℝ) : EReal) := by
  unfold res_main_v44
  pointwise
  refine (act_at B _ _ _).trans ?_
  congr 2; dsimp only; omega

/-- The step's argument. -/
theorem raw_at (b : Fin 8) (l : Fin 32) (h : Fin 32) : res_main_v47 V (ix3 b l h) = ((A.U (32 * b + l) (17152 + h) + A.bi h : ℝ) : EReal) := by
  unfold res_main_v47
  pointwise
  rw [EReal.coe_add]
  refine congrArg₂ _ ((B.h0 _ _).trans ?_) (B.h5 _)
  congr 2 <;> dsimp only <;> omega

/-- The steps. -/
theorem dt_at (b : Fin 8) (l : Fin 32) (g : Fin 4) (r : Fin 8) : res_main_v49 V (ix4 b l g r) = ((A.dt b l (8 * g + r) : ℝ) : EReal) := by
  unfold res_main_v49 res_main_call1_v3 res_main_call1_cst
  pointwise
  rw [if_neg (fun h => h rfl)]
  rw [raw_at B]
  refine (step_at _).trans ?_
  unfold Data.dt stepS
  congr 4 <;> dsimp only <;> omega

/-- The state the stretch starts from. -/
theorem h_at (b : Fin 8) (g : Fin 4) (r : Fin 8) (p : Fin 64) (n : Fin 128) : res_main_v89 V (ix5 b g r p n) = A.H b (512 * g + 64 * r + p) n := by
  unfold res_main_v89
  pointwise
  refine (B.h2 _ _ _ _).trans ?_
  congr 1; dsimp only; omega

omit B

/-- A prefix sum written as a window of 32 padded 31 low. -/
theorem prefix_sum (l : ℕ) (hl : l < 32) (f : ℕ → ℝ) :
    ∑ w : Fin 32, (if 31 ≤ l + w.val then f (l + w.val - 31) else 0) = ∑ j ∈ Finset.range (l + 1), f j := by
  rw [Fin.sum_univ_eq_sum_range (fun w => if 31 ≤ l + w then f (l + w - 31) else 0) 32]
  rw [show 32 = (31 - l) + (l + 1) by omega, Finset.sum_range_add]
  rw [Finset.sum_eq_zero (fun j hj => ?_), zero_add]
  · refine Finset.sum_congr rfl fun j hj => ?_
    rw [if_pos (by omega)]
    congr 1
    omega
  · have := Finset.mem_range.mp hj
    rw [if_neg (by omega)]

/-- The window of 32 rows as the rows. -/
def winEquiv : (⟨4, ![1, 32, 1, 1]⟩ : Shape).Idx ≃ Fin 32 where
  toFun w := w 1
  invFun l := ix4 0 l 0 0
  left_inv w := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
  right_inv l := rfl

/-- The window's position `w` falls on a row. -/
abbrev InWin (b : Fin 8) (l : Fin 32) (g : Fin 4) (r : Fin 8) (w : (⟨4, ![1, 32, 1, 1]⟩ : Shape).Idx) : Prop :=
  ∀ (a : Fin 4), (![0, 31, 0, 0] : Fin 4 → ℕ) a ≤ (ix4 b l g r a).val * (![1, 1, 1, 1] : Fin 4 → ℕ) a + (w a).val ∧
    (ix4 b l g r a).val * (![1, 1, 1, 1] : Fin 4 → ℕ) a + (w a).val - (![0, 31, 0, 0] : Fin 4 → ℕ) a < S8x32x4x8.size a

/-- One position of the window: the padding below the first row, or the row it falls on. -/
theorem key (x : S8x32x4x8.Idx → EReal) (b : Fin 8) (l : Fin 32) (g : Fin 4) (r : Fin 8) (f : ℕ → ℝ)
    (hx : ∀ l' : Fin 32, x (ix4 b l' g r) = ((f l' : ℝ) : EReal)) (w : (⟨4, ![1, 32, 1, 1]⟩ : Shape).Idx) (inst : Decidable (InWin b l g r w)) :
    @dite EReal (InWin b l g r w) inst
        (fun hin => x (fun a => ⟨(ix4 b l g r a).val * (![1, 1, 1, 1] : Fin 4 → ℕ) a + (w a).val - (![0, 31, 0, 0] : Fin 4 → ℕ) a, (hin a).2⟩))
        (fun _ => 0) = (((if 31 ≤ l.val + (w 1).val then f (l.val + (w 1).val - 31) else 0) : ℝ) : EReal) := by
  have h0 : (w 0).val = 0 := Nat.lt_one_iff.mp (w 0).isLt
  have h1 : (w 1).val < 32 := (w 1).isLt
  have h2 : (w 2).val = 0 := Nat.lt_one_iff.mp (w 2).isLt
  have h3 : (w 3).val = 0 := Nat.lt_one_iff.mp (w 3).isLt
  have hl := l.isLt
  by_cases h : 31 ≤ l.val + (w 1).val
  · rw [dif_pos, if_pos h, ← hx ⟨l.val + (w 1).val - 31, by omega⟩]
    · refine congrArg x ?_
      funext a
      match a with
      | ⟨0, _⟩ => exact Fin.ext (by show b.val * 1 + (w 0).val - 0 = b.val; omega)
      | ⟨1, _⟩ => exact Fin.ext (by show l.val * 1 + (w 1).val - 31 = l.val + (w 1).val - 31; omega)
      | ⟨2, _⟩ => exact Fin.ext (by show g.val * 1 + (w 2).val - 0 = g.val; omega)
      | ⟨3, _⟩ => exact Fin.ext (by show r.val * 1 + (w 3).val - 0 = r.val; omega)
    · intro a
      match a with
      | ⟨0, _⟩ => exact ⟨Nat.zero_le _, by show b.val * 1 + (w 0).val - 0 < 8; omega⟩
      | ⟨1, _⟩ => exact ⟨by show 31 ≤ l.val * 1 + (w 1).val; omega, by show l.val * 1 + (w 1).val - 31 < 32; omega⟩
      | ⟨2, _⟩ => exact ⟨Nat.zero_le _, by show g.val * 1 + (w 2).val - 0 < 4; omega⟩
      | ⟨3, _⟩ => exact ⟨Nat.zero_le _, by show r.val * 1 + (w 3).val - 0 < 8; omega⟩
  · rw [dif_neg, if_neg h]
    · rfl
    · intro hin
      have := (hin 1).1
      exact h (by change 31 ≤ l.val * 1 + (w 1).val at this; omega)

/-- The running sum along 32 rows, over real entries. -/
theorem cumsum_at (x : FVec Ideal S8x32x4x8 .f32) (z : FVec Ideal S_ .f32) (hz : z (Shape.Idx.first h_S_) = (0 : EReal)) (b : Fin 8) (l : Fin 32) (g : Fin 4) (r : Fin 8) (f : ℕ → ℝ)
    (hx : ∀ l' : Fin 32, x (ix4 b l' g r) = ((f l' : ℝ) : EReal)) :
    Host.reduceWindowAdd ![1, 32, 1, 1] ![1, 1, 1, 1] ![0, 31, 0, 0] ![0, 0, 0, 0] x z
      reduceWindows_S8x32x4x8_S8x32x4x8_w1s1p0_0_w32s1p31_0_w1s1p0_0_w1s1p0_0 h_S_ (ix4 b l g r) = ((∑ j ∈ Finset.range (l.val + 1), f j : ℝ) : EReal) := by
  unfold Host.reduceWindowAdd
  rw [Ideal.hostReduceWindowAdd_def]
  unfold Ideal.hostReduceWindowAdd Host.reduceWindow
  rw [hz]
  dsimp only
  rw [foldl_add]
  rw [zero_add, ← prefix_sum l l.isLt f, ← coe_sum]
  refine Fintype.sum_equiv ((Shape.rowMajor _).symm.trans winEquiv) _ _ fun n => ?_
  exact key x b l g r f hx ((Shape.rowMajor _).symm n) _

include B

/-- The running sums of the log decays. -/
theorem cum_at (b : Fin 8) (l : Fin 32) (g : Fin 4) (r : Fin 8) : res_main_v56 V (ix4 b l g r) = ((A.cum b l (8 * g + r) : ℝ) : EReal) := by
  unfold res_main_v56 Data.cum
  refine cumsum_at _ _ ?_ b l g r (fun j => A.dt b j (8 * g + r) * (-Real.exp (A.al (8 * g + r)))) fun l' => ?_
  · exact Ideal.ofBits_zero .f32
  · pointwise
    rw [dt_at B, EReal.coe_mul]
    refine congrArg₂ _ rfl ?_
    have e := B.h6 ⟨8 * g.val + r.val, by omega⟩
    dsimp only at e
    rw [EReal.coe_neg, ← Ideal.exp_coe, ← e]
    congr 4
    apply Fin.ext; dsimp only; omega

end Cert.StepReferenceIdeal.Scan

end
-- ==== Proof.StepRefOut.lean ====
/- The short stretch's reference: its three results as the real stretch. -/
module

public import proofs.«01_k».proof.Proof.StepRef

@[expose] public section

set_option maxRecDepth 16384

noncomputable section

namespace Cert.StepReferenceIdeal.Scan

open Idealize.ShloMosaic Idealize.ShloMosaic.TcCoe Cert.StepReferenceIdeal Cert.StepReferenceIdeal.Gen Cert.StepReferenceIdeal.Value Cert.ScanMath Cert.StepMath
open Cert.KernelIdeal.Scan (gated)
open Cert.ReferenceIdeal.Scan (neg_inf)

/-- The causal mask's word. -/
theorem tri (l x : Fin 32) : Scalar.select (α := BitVec 1) (IntOp.cmpi CmpIPredicate.sge (IntOp.addi (BitVec.ofNat 32 ↑l) 0#32) (BitVec.ofNat 32 ↑x)) 1#1 0#1
    = if x.val ≤ l.val then 1#1 else 0#1 := by
  revert l x
  decide +kernel

/-- The masked decay. -/
theorem masked (l x : Fin 32) (a : ℝ) :
    Ideal.exp (Scalar.select (Scalar.select (α := BitVec 1) (IntOp.cmpi CmpIPredicate.sge (IntOp.addi (BitVec.ofNat 32 ↑l) 0#32) (BitVec.ofNat 32 ↑x)) 1#1 0#1)
      (a : EReal) (Ideal.ofBits FTy.f32 4286578688#32)) = (((if x.val ≤ l.val then Real.exp a else 0) : ℝ) : EReal) := by
  rw [tri, neg_inf]
  split
  · rfl
  · rfl

/-- The masked decay, with its constant as the program writes it. -/
theorem masked' (l x : Fin 32) (a : ℝ) :
    Ideal.exp (Scalar.select (Scalar.select (α := BitVec 1) (IntOp.cmpi CmpIPredicate.sge (IntOp.addi (BitVec.ofNat 32 ↑l) 0#32) (BitVec.ofNat 32 ↑x)) 1#1 0#1)
      (a : EReal) (id (constant (F := Ideal) S_ FTy.f32 4286578688#32) ix0)) = (((if x.val ≤ l.val then Real.exp a else 0) : ℝ) : EReal) := masked l x a

variable {V : Valuation τ sig (Elt Ideal)} {A : Data} (B : Args V A)

include B

/-- The gated read-outs. -/
theorem pre_at (b : Fin 8) (l : Fin 32) (g : Fin 4) (q : Fin 512) :
    res_main_v111 V (ix4 b l g q) = A.pre b l (512 * g + q) * ((silu (A.U (32 * b + l) (14336 + (512 * g + q))) : ℝ) : EReal) := by
  unfold res_main_v111
  pointwise
  simp only [x_at B, b_at B, c_at B, dt_at B, cum_at B, h_at B, z_at B]
  have hq := q.isLt
  have e0 : (g.val * 8 + q.val / 64) % 8 = q.val / 64 := by omega
  have e1 : 512 * g.val + 64 * (q.val / 64) + q.val % 64 = 512 * g.val + q.val := by omega
  have e2 : 8 * g.val + q.val / 64 = (512 * g.val + q.val) / 64 := by omega
  have e3 : g.val * 512 + q.val = 512 * g.val + q.val := by omega
  have e4 : (512 * g.val + q.val) / 512 = g.val := by omega
  have e7 : V main_arg7 (ix1 ⟨g.val * 8 + q.val / 64, by omega⟩) = A.sk ((512 * g.val + q.val) / 64) := (B.h7 _).trans (congrArg A.sk (by dsimp only; omega))
  simp only [e0, e1, e2, e3, e7, ← EReal.coe_sub, masked', ← EReal.coe_mul, coe_sum, Ideal.exp_coe]
  refine congrArg₂ _ ?_ (logistic_gate _)
  unfold Data.pre Data.diag Data.off
  rw [e4]
  refine congrArg₂ _ (congrArg₂ _ (congrArg _ (Finset.sum_congr rfl fun s _ => ?_)) (congrArg₂ _ (Finset.sum_congr rfl fun n _ => mul_comm _ _) rfl)) rfl
  have hs : ∑ n : Fin 128, A.x b s (2048 + 128 * g + n) * A.x b l (2560 + 128 * g + n) = ∑ n : Fin 128, A.x b l (2560 + 128 * g + n) * A.x b s (2048 + 128 * g + n) :=
    Finset.sum_congr rfl fun n _ => mul_comm _ _
  rw [hs]
  ring

/-- The rows kept for the next stretch. -/
theorem tail_eq (b : Fin 8) (i : Fin 3) (k : Fin 3072) :
    extractStridedSlice S8x3x3072 ![0, 32, 0] (res_main_v6 V) slices_S8x35x3072_S8x3x3072_0_32_0 (ix3 b i k) = ((A.U (32 * b + (29 + i)) (6144 + k) : ℝ) : EReal) := by
  pointwise
  rw [up_at B]
  unfold Data.up
  rw [if_neg (by dsimp only; omega)]
  congr 2; dsimp only; omega

/-- The state after the stretch. -/
theorem state_eq (b : Fin 8) (p : Fin 2048) (n : Fin 128) :
    shapeCast S8x2048x128 (addf (mulf (res_main_v89 V) (broadcastInDim S8x4x8x64x128 ![0, 1, 2, 3, 4] bcast_S8x4x8x1x1_S8x4x8x64x128_0_1_2_3_4 (broadcastInDim S8x4x8x1x1 ![0, 1, 2] bcast_S8x4x8_S8x4x8x1x1_0_1_2 (Host.exp (shapeCast S8x4x8 (extractStridedSlice S8x1x4x8 ![0, 31, 0, 0] (res_main_v56 V) slices_S8x32x4x8_S8x1x4x8_0_31_0_0) shapeCasts_S8x1x4x8_S8x4x8))))) (Host.dotGeneral dot_S8x32x4x8x64_S8x32x4x128_S8x4x8x64x128_1_1_34_3_02_02 (φ₂ := .f32) none (mulf (F := Ideal) (φ := .f32) (broadcastInDim S8x32x4x8x64 ![0, 1, 2, 3, 4] bcast_S8x32x4x8x1_S8x32x4x8x64_0_1_2_3_4 (broadcastInDim S8x32x4x8x1 ![0, 1, 2, 3] bcast_S8x32x4x8_S8x32x4x8x1_0_1_2_3 (mulf (Host.exp (subf (broadcastInDim S8x32x4x8 ![0, 1, 2, 3] bcast_S8x1x4x8_S8x32x4x8_0_1_2_3 (extractStridedSlice S8x1x4x8 ![0, 31, 0, 0] (res_main_v56 V) slices_S8x32x4x8_S8x1x4x8_0_31_0_0)) (res_main_v56 V))) (res_main_v49 V)))) (res_main_v40 V)) (res_main_v42 V))) shapeCasts_S8x4x8x64x128_S8x2048x128 (ix3 b p n)
      = A.last b p n := by
  pointwise
  simp only [x_at B, b_at B, c_at B, dt_at B, cum_at B, h_at B, Ideal.exp_coe]
  simp only [← EReal.coe_sub, Ideal.exp_coe, ← EReal.coe_mul, coe_sum]
  have hp := p.isLt
  have e1 : 512 * (p.val / 512) + 64 * (p.val / 64 % 8) + p.val % 64 = p.val := by omega
  have e2 : 8 * (p.val / 512) + p.val / 64 % 8 = p.val / 64 := by omega
  have e3 : ((31 : Fin 32) : ℕ) = 31 := rfl
  simp only [e1, e2, e3]
  unfold Data.last
  refine congrArg (fun z : ℝ => A.H b p n * ((Real.exp (A.cum b 31 (p / 64)) : ℝ) : EReal) + ((z : ℝ) : EReal)) (Finset.sum_congr rfl fun s _ => ?_)
  ring

/-- The output row. -/
theorem row_eq (r : Fin 256) (p : Fin 2048) :
    (truncf .bf16 (shapeCast S256x2048 (mulf (shapeCast S8x32x2048 (mulf (res_main_v111 V) (broadcastInDim S8x32x4x512 ![0, 1, 2, 3] bcast_S8x32x4x1_S8x32x4x512_0_1_2_3 (Host.rsqrt (addf (Host.divf (broadcastInDim S8x32x4x1 ![0, 1, 2] bcast_S8x32x4_S8x32x4x1_0_1_2 (Host.reduceAdd (mulf (res_main_v111 V) (res_main_v111 V)) (constant S_ .f32 0x00000000#32) reducesTo_S8x32x4x512_S8x32x4_d3 h_S_)) (broadcastInDim S8x32x4x1 ![] bcast_S_S8x32x4x1 (constant S_ .f32 0x44000000#32))) (broadcastInDim S8x32x4x1 ![] bcast_S_S8x32x4x1 (constant S_ .f32 0x358637BD#32)))))) shapeCasts_S8x32x4x512_S8x32x2048) (broadcastInDim S8x32x2048 ![0, 1, 2] bcast_S1x1x2048_S8x32x2048_0_1_2 (broadcastInDim S1x1x2048 ![2] bcast_S2048_S1x1x2048_2 (V main_arg8)))) shapeCasts_S8x32x2048_S256x2048) bitsLt_bf16_f32 : FVec Ideal S256x2048 .bf16) (ix2 r p)
      = A.row (r.val / 32) (r.val % 32) p := by
  pointwise
  simp only [pre_at B]
  have hp := p.isLt
  have hr : 32 * (r.val / 32) + r.val % 32 = r.val := by omega
  unfold Data.row gated
  refine congrArg₂ _ rfl ?_
  refine (B.h8 p).trans (congrArg A.nw ?_)
  omega

end Cert.StepReferenceIdeal.Scan

end
-- ==== Proof.StepClaim.lean ====
/- The short stretch: under finite arguments the kernel's three results are the reference's. -/
module

public import proofs.«01_k».proof.Proof.StepRun
public import proofs.«01_k».proof.Proof.StepRefOut
public import proofs.«01_k».proof.Proof.ScanClaim
public import proofs.«01_k».proof.Proof.Gen.StepKernel.Frame

@[expose] public section

set_option maxRecDepth 16384

noncomputable section

namespace Cert.StepClaim

open Idealize.ShloMosaic Idealize.ShloMosaic.TcCoe Idealize.SL.Sem Cert.StepMath

/-- What the precondition's operations state of their shapes. -/
theorem pre_facts : Cert.Pre_step_finite.Facts where
  bcast_S_S256x17408 := by decide
  reducesTo_S256x17408_S_d0_1 := by decide
  h_S_ := by decide
  bcast_S_S8x3x3072 := by decide
  reducesTo_S8x3x3072_S_d0_1_2 := by decide
  bcast_S_S4x3072 := by decide
  reducesTo_S4x3072_S_d0_1 := by decide
  bcast_S_S3072 := by decide
  reducesTo_S3072_S_d0 := by decide
  bcast_S_S32 := by decide
  reducesTo_S32_S_d0 := by decide

attribute [local instance] pre_facts

instance : Subsingleton Cert.Pre_step_finite.S_.Idx := ⟨fun a b => funext fun i => i.elim0⟩

/-- The precondition opened: the six arrays' entries are real numbers. -/
theorem pre_open (a0 : FVec Ideal Cert.Pre_step_finite.S256x17408 .f32) (a1 : FVec Ideal Cert.Pre_step_finite.S8x3x3072 .f32) (a2 : FVec Ideal Cert.Pre_step_finite.S8x32x64x128 .f32)
    (a3 : FVec Ideal Cert.Pre_step_finite.S4x3072 .f32) (a4 : FVec Ideal Cert.Pre_step_finite.S3072 .f32) (a5 a6 a7 : FVec Ideal Cert.Pre_step_finite.S32 .f32)
    (a8 : FVec Ideal Cert.Pre_step_finite.S2048 .f32) (h : Cert.Pre_step_finite.fn (F := Ideal) a0 a1 a2 a3 a4 a5 a6 a7 a8 = fun _ => 1#1) :
    (∀ i, a0 i ≠ (⊤ : EReal) ∧ a0 i ≠ (⊥ : EReal)) ∧ (∀ i, a1 i ≠ (⊤ : EReal) ∧ a1 i ≠ (⊥ : EReal)) ∧ (∀ i, a3 i ≠ (⊤ : EReal) ∧ a3 i ≠ (⊥ : EReal))
      ∧ (∀ i, a4 i ≠ (⊤ : EReal) ∧ a4 i ≠ (⊥ : EReal)) ∧ (∀ i, a5 i ≠ (⊤ : EReal) ∧ a5 i ≠ (⊥ : EReal)) ∧ (∀ i, a6 i ≠ (⊤ : EReal) ∧ a6 i ≠ (⊥ : EReal)) := by
  have h0 := congrFun h (Shape.Idx.first (by decide))
  unfold Cert.Pre_step_finite.fn Cert.Pre_step_finite.fn_part1 at h0
  obtain ⟨h1, h7⟩ := IntOp.andi_eq_one.1 h0
  obtain ⟨h1, h6⟩ := IntOp.andi_eq_one.1 h1
  obtain ⟨h1, h5⟩ := IntOp.andi_eq_one.1 h1
  obtain ⟨h1, h4⟩ := IntOp.andi_eq_one.1 h1
  obtain ⟨h2, h3⟩ := IntOp.andi_eq_one.1 h1
  refine ⟨fun i => Cert.ScanClaim.finite_of _ ?_, fun i => Cert.ScanClaim.finite_of _ ?_, fun i => Cert.ScanClaim.finite_of _ ?_,
    fun i => Cert.ScanClaim.finite_of _ ?_, fun i => Cert.ScanClaim.finite_of _ ?_, fun i => Cert.ScanClaim.finite_of _ ?_⟩
  · exact Host.reduce_andi_all _ _ _ _ _ h2 i
  · exact Host.reduce_andi_all _ _ _ _ _ h3 i
  · exact Host.reduce_andi_all _ _ _ _ _ h4 i
  · exact Host.reduce_andi_all _ _ _ _ _ h5 i
  · exact Host.reduce_andi_all _ _ _ _ _ h6 i
  · exact Host.reduce_andi_all _ _ _ _ _ h7 i

/-- The kernel's three results are the reference's. -/
theorem algebraic : Cert.algebraic_StepKernelIdeal_StepReferenceIdeal_pre_step_finite := fun m g m' g' hpre hargs => by
  have hA : ∀ c, ∃ A : Data, Cert.StepKernelIdeal.Scan.Args m c A := fun c => by
    obtain ⟨p0, p1, p3, p4, p5, p6⟩ := pre_open _ _ _ _ _ _ _ _ _ (hpre c)
    exact holds _ _ _ _ _ _ _ _ _ (fun r k => p0 _) (fun b j k => p1 _) (fun i k => p3 _) (fun k => p4 _) (fun h => p5 _) (fun h => p6 _)
  choose A B using hA
  refine ⟨fun c => Cert.StepKernelIdeal.Scan.G12 (A c), fun c => Cert.StepKernelIdeal.Scan.G13 (A c), fun c => Cert.StepKernelIdeal.Scan.G14 (A c),
    (θ_run Cert.StepKernelIdeal.defs _ _).mono (fun r h c => ⟨(h c).1.trans (Cert.StepKernelIdeal.Scan.final12 (B c)), (h c).2.1.trans (Cert.StepKernelIdeal.Scan.final13 (B c)),
      (h c).2.2.1.trans (Cert.StepKernelIdeal.Scan.final14 (B c)), (h c).2.2.2⟩) (Cert.StepKernelIdeal.Value.run_blocks m g), ?_⟩
  refine (θ_run Cert.StepReferenceIdeal.defs _ _).mono (fun r h c => ?_) (Cert.StepReferenceIdeal.Value.run (F := Ideal) m' g')
  obtain ⟨r0, r1, r2, rest⟩ := h c
  obtain ⟨e0, e1, e2, e3, e4, e5, e6, e7, e8⟩ := hargs c
  have B' : Cert.StepReferenceIdeal.Scan.Args (Idealize.ShloMosaic.StableHlo.launchContents m' c) (A c) := {
    h0 := fun r k => (congrFun e0 _).trans ((B c).h0 r k)
    h1 := fun b j k => (congrFun e1 _).trans ((B c).h1 b j k)
    h2 := fun b h d n => (congrFun e2 _).trans ((B c).h2 b h d n)
    h3 := fun i k => (congrFun e3 _).trans ((B c).h3 i k)
    h4 := fun k => (congrFun e4 _).trans ((B c).h4 k)
    h5 := fun h => (congrFun e5 _).trans ((B c).h5 h)
    z5 := (B c).z5
    h6 := fun h => (congrFun e6 _).trans ((B c).h6 h)
    z6 := (B c).z6
    h7 := fun h => (congrFun e7 _).trans ((B c).h7 h)
    h8 := fun p => (congrFun e8 _).trans ((B c).h8 p) }
  refine ⟨r0.trans ?_, r1.trans ?_, r2.trans ?_, rest⟩
  · funext i
    have ei : i = ix2 (i 0) (i 1) := by funext a; match a with | ⟨0, _⟩ => rfl | ⟨1, _⟩ => rfl
    rw [ei]
    exact Cert.StepReferenceIdeal.Scan.row_eq B' (i 0) (i 1)
  · funext i
    have ei : i = ix3 (i 0) (i 1) (i 2) := by funext a; match a with | ⟨0, _⟩ => rfl | ⟨1, _⟩ => rfl | ⟨2, _⟩ => rfl
    rw [ei]
    exact Cert.StepReferenceIdeal.Scan.tail_eq B' (i 0) (i 1) (i 2)
  · funext i
    have ei : i = ix3 (i 0) (i 1) (i 2) := by funext a; match a with | ⟨0, _⟩ => rfl | ⟨1, _⟩ => rfl | ⟨2, _⟩ => rfl
    rw [ei]
    exact Cert.StepReferenceIdeal.Scan.state_eq B' (i 0) (i 1) (i 2)

/-- The frames. -/
theorem frame_p : Cert.quiescent_StepKernel := fun m ρ _ => Cert.StepKernel.Gen.frame m ρ

theorem frame_pi : Cert.quiescent_StepKernelIdeal := fun m ρ _ => Cert.StepKernelIdeal.Gen.frame m ρ

theorem frame_pi_pre : Cert.quiescent_StepKernelIdeal_pre_step_finite := fun m ρ _ => Cert.StepKernelIdeal.Gen.frame m ρ

theorem frame_ri : Cert.quiescent_StepReferenceIdeal := fun m ρ _ =>
  (θ_run Cert.StepReferenceIdeal.defs _ _).mono (fun r h => ⟨fun c => (h c).2.2.2, Idealize.ShloMosaic.sem_eq_zero_of_no_sems (by decide) r.2⟩)
    (Cert.StepReferenceIdeal.Value.run (F := Ideal) m ρ)

theorem frame_ri_pre : Cert.quiescent_StepReferenceIdeal_pre_step_finite := fun m ρ _ =>
  (θ_run Cert.StepReferenceIdeal.defs _ _).mono (fun r h => ⟨fun c => (h c).2.2.2, Idealize.ShloMosaic.sem_eq_zero_of_no_sems (by decide) r.2⟩)
    (Cert.StepReferenceIdeal.Value.run (F := Ideal) m ρ)

/-- The two named constants agree with their printed bit patterns. -/
theorem preserves : Cert.preserves_StepKernel_StepKernelIdeal :=
  ⟨IdealRules.named_const.statement Cert.StepKernelIdeal.κ "log2e" .f32 0x3FB8AA3B#32 (((Real.log 2)⁻¹ : ℝ) : EReal) rfl,
   IdealRules.named_const.statement Cert.StepKernelIdeal.κ "mask" .f32 0xF149F2CA#32 ⊥ rfl⟩

end Cert.StepClaim

end
-- ==== Proof.lean ====
module

public import proofs.«01_k».proof.Proof.Gen.StepKernelIdeal.Value
public import proofs.«01_k».proof.Proof.Gen.StepKernel
public import proofs.«01_k».proof.Proof.Gen.StepKernel.Frame
public import proofs.«01_k».proof.Proof.Gen.StepKernelIdeal
public import proofs.«01_k».proof.Proof.Gen.StepKernelIdeal.Frame
public import proofs.«01_k».proof.Proof.Gen.StepReferenceIdeal
public import proofs.«01_k».proof.Proof.Gen.StepReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeKernelIdeal.Value
public import proofs.«01_k».proof.Proof.Gen.MergeReferenceIdeal
public import proofs.«01_k».proof.Proof.Gen.MergeReferenceIdeal.Run
public import proofs.«01_k».proof.Proof.Gen.FinalKernel
public import proofs.«01_k».proof.Proof.Gen.FinalKernel.Skeleton
public import proofs.«01_k».proof.Proof.Gen.FinalKernel.Launch
public import proofs.«01_k».proof.Proof.Gen.FinalKernel.Points
public import proofs.«01_k».proof.Proof.Gen.FinalKernel.Frame
public import proofs.«01_k».proof.Proof.Gen.FinalKernelIdeal
public import proofs.«01_k».proof.Proof.Gen.FinalKernelIdeal.Skeleton
public import proofs.«01_k».proof.Proof.Gen.FinalKernelIdeal.Launch
public import proofs.«01_k».proof.Proof.Gen.FinalKernelIdeal.Points
public import proofs.«01_k».proof.Proof.Gen.FinalKernelIdeal.Frame
public import proofs.«01_k».proof.Proof.Gen.FinalKernelIdeal.Value
public import proofs.«01_k».proof.Proof.Gen.FinalReferenceIdeal
public import proofs.«01_k».proof.Proof.Gen.FinalReferenceIdeal.Run
public import proofs.«01_k».proof.Proof.Gen.MemProjKernel
public import proofs.«01_k».proof.Proof.Gen.MemProjKernel.Skeleton
public import proofs.«01_k».proof.Proof.Gen.MemProjKernel.Launch
public import proofs.«01_k».proof.Proof.Gen.MemProjKernel.Points
public import proofs.«01_k».proof.Proof.Gen.MemProjKernel.Frame
public import proofs.«01_k».proof.Proof.Gen.MemProjKernelIdeal
public import proofs.«01_k».proof.Proof.Gen.MemProjKernelIdeal.Skeleton
public import proofs.«01_k».proof.Proof.Gen.MemProjKernelIdeal.Launch
public import proofs.«01_k».proof.Proof.Gen.MemProjKernelIdeal.Points
public import proofs.«01_k».proof.Proof.Gen.MemProjKernelIdeal.Frame
public import proofs.«01_k».proof.Proof.Gen.MemProjKernelIdeal.Value
public import proofs.«01_k».proof.Proof.Gen.MemProjReferenceIdeal
public import proofs.«01_k».proof.Proof.Gen.MemProjReferenceIdeal.Run
public import proofs.«01_k».proof.Proof.Gen.RowsProjKernel
public import proofs.«01_k».proof.Proof.Gen.RowsProjKernel.Skeleton
public import proofs.«01_k».proof.Proof.Gen.RowsProjKernel.Launch
public import proofs.«01_k».proof.Proof.Gen.RowsProjKernel.Points
public import proofs.«01_k».proof.Proof.Gen.RowsProjKernel.Frame
public import proofs.«01_k».proof.Proof.Gen.RowsProjKernelIdeal
public import proofs.«01_k».proof.Proof.Gen.RowsProjKernelIdeal.Skeleton
public import proofs.«01_k».proof.Proof.Gen.RowsProjKernelIdeal.Launch
public import proofs.«01_k».proof.Proof.Gen.RowsProjKernelIdeal.Points
public import proofs.«01_k».proof.Proof.Gen.RowsProjKernelIdeal.Frame
public import proofs.«01_k».proof.Proof.Gen.RowsProjKernelIdeal.Value
public import proofs.«01_k».proof.Proof.Gen.RowsProjReferenceIdeal
public import proofs.«01_k».proof.Proof.Gen.RowsProjReferenceIdeal.Run
public import proofs.«01_k».proof.Proof.Gen.RowsFinalKernel
public import proofs.«01_k».proof.Proof.Gen.RowsFinalKernel.Skeleton
public import proofs.«01_k».proof.Proof.Gen.RowsFinalKernel.Launch
public import proofs.«01_k».proof.Proof.Gen.RowsFinalKernel.Points
public import proofs.«01_k».proof.Proof.Gen.RowsFinalKernel.Frame
public import proofs.«01_k».proof.Proof.Gen.RowsFinalKernelIdeal
public import proofs.«01_k».proof.Proof.Gen.RowsFinalKernelIdeal.Skeleton
public import proofs.«01_k».proof.Proof.Gen.RowsFinalKernelIdeal.Launch
public import proofs.«01_k».proof.Proof.Gen.RowsFinalKernelIdeal.Points
public import proofs.«01_k».proof.Proof.Gen.RowsFinalKernelIdeal.Frame
public import proofs.«01_k».proof.Proof.Gen.RowsFinalKernelIdeal.Value
public import proofs.«01_k».proof.Proof.Gen.RowsFinalReferenceIdeal
public import proofs.«01_k».proof.Proof.Gen.RowsFinalReferenceIdeal.Run
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjKernelIdeal.Value
public import proofs.«01_k».proof.Proof.Gen.ProjReferenceIdeal
public import proofs.«01_k».proof.Proof.Gen.ProjReferenceIdeal.Run
public import proofs.«01_k».proof.Proof.Frames
public import proofs.«01_k».proof.Proof.ScanClaim
public import proofs.«01_k».proof.Proof.MergeClaim
public import proofs.«01_k».proof.Proof.FinalClaim
public import proofs.«01_k».proof.Proof.MemProjClaim
public import proofs.«01_k».proof.Proof.RowsProjClaim
public import proofs.«01_k».proof.Proof.RowsFinalClaim
public import proofs.«01_k».proof.Proof.ProjClaim
public import proofs.«01_k».proof.Proof.StepClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.MergeKernel.Gen.facts, Cert.MergeKernelIdeal.Gen.facts, Cert.MergeReferenceIdeal.Gen.facts,
  Cert.FinalKernel.Gen.facts, Cert.FinalKernelIdeal.Gen.facts, Cert.FinalReferenceIdeal.Gen.facts,
  Cert.MemProjKernel.Gen.facts, Cert.MemProjKernelIdeal.Gen.facts, Cert.MemProjReferenceIdeal.Gen.facts,
  Cert.RowsProjKernel.Gen.facts, Cert.RowsProjKernelIdeal.Gen.facts, Cert.RowsProjReferenceIdeal.Gen.facts,
  Cert.RowsFinalKernel.Gen.facts, Cert.RowsFinalKernelIdeal.Gen.facts, Cert.RowsFinalReferenceIdeal.Gen.facts,
  Cert.ProjKernel.Gen.facts, Cert.ProjKernelIdeal.Gen.facts, Cert.ProjReferenceIdeal.Gen.facts,
  Cert.StepKernel.Gen.facts, Cert.StepKernelIdeal.Gen.facts, Cert.StepReferenceIdeal.Gen.facts,
  Cert.ScanClaim.pre_facts, Cert.ProjClaim.pre_facts, Cert.StepClaim.pre_facts,
  Cert.ScanFrames.frame_p, Cert.ScanFrames.frame_pi, Cert.ScanClaim.frame_pi_pre, Cert.ScanFrames.frame_ri, Cert.ScanClaim.frame_ri_pre,
  Cert.MergeClaim.frame_p, Cert.MergeClaim.frame_pi, Cert.MergeClaim.frame_ri,
  Cert.FinalClaim.frame_p, Cert.FinalClaim.frame_pi, Cert.FinalClaim.frame_ri,
  Cert.MemProjClaim.frame_p, Cert.MemProjClaim.frame_pi, Cert.MemProjClaim.frame_ri,
  Cert.RowsProjClaim.frame_p, Cert.RowsProjClaim.frame_pi, Cert.RowsProjClaim.frame_ri,
  Cert.RowsFinalClaim.frame_p, Cert.RowsFinalClaim.frame_pi, Cert.RowsFinalClaim.frame_ri,
  Cert.ProjClaim.frame_p, Cert.ProjClaim.frame_pi, Cert.ProjClaim.frame_pi_pre, Cert.ProjClaim.frame_ri, Cert.ProjClaim.frame_ri_pre,
  Cert.StepClaim.frame_p, Cert.StepClaim.frame_pi, Cert.StepClaim.frame_pi_pre, Cert.StepClaim.frame_ri, Cert.StepClaim.frame_ri_pre,
  Cert.ScanFrames.preserves, Cert.ScanClaim.algebraic,
  Cert.MergeClaim.preserves, Cert.MergeClaim.algebraic,
  Cert.FinalClaim.preserves, Cert.FinalClaim.algebraic,
  Cert.MemProjClaim.preserves, Cert.MemProjClaim.algebraic,
  Cert.RowsProjClaim.preserves, Cert.RowsProjClaim.algebraic,
  Cert.RowsFinalClaim.preserves, Cert.RowsFinalClaim.algebraic,
  Cert.ProjClaim.preserves, Cert.ProjClaim.algebraic,
  Cert.StepClaim.preserves, Cert.StepClaim.algebraic⟩

end Cert.Proof

end
